-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_moe_tables : Cert.Pre_moe_tables.Facts] (m : (ℓ : Loc Cert.Kernel4.nD Cert.Kernel4.τ Cert.Kernel4.sig) → Buf (Elt Bits) ℓ) : Prop :=
  ∀ c : Dev Cert.Kernel4.nD,
    (Cert.Pre_moe_tables.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_moe_tables : Cert.Pre_moe_tables.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_moe_tables.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_moe_tables [hPre_moe_tables : Cert.Pre_moe_tables.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_moe_tables.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 [hPre_up_tables : Cert.Pre_up_tables.Facts] (m : (ℓ : Loc Cert.Kernel5.nD Cert.Kernel5.τ Cert.Kernel5.sig) → Buf (Elt Bits) ℓ) : Prop :=
  ∀ c : Dev Cert.Kernel5.nD,
    (Cert.Pre_up_tables.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7))) = (fun _ => 1#1)

def Pre_Kernel5Ideal [hPre_up_tables : Cert.Pre_up_tables.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_up_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_up_tables [hPre_up_tables : Cert.Pre_up_tables.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_up_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_moe_tables : Cert.Pre_moe_tables.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_moe_tables : Cert.Pre_moe_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_moe_tables [hReference4Ideal : Cert.Reference4Ideal.Facts] [hPre_moe_tables : Cert.Pre_moe_tables.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_moe_tables m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] [hPre_up_tables : Cert.Pre_up_tables.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] [hPre_up_tables : Cert.Pre_up_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_up_tables [hReference5Ideal : Cert.Reference5Ideal.Facts] [hPre_up_tables : Cert.Pre_up_tables.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_up_tables m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v3) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_moe_tables : Cert.Pre_moe_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v103) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] [hPre_up_tables : Cert.Pre_up_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v151) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_moe_tables : Cert.Pre_moe_tables.Facts) (hPre_up_tables : Cert.Pre_up_tables.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_moe_tables := hPre_moe_tables)
    ∧ quiescent_Kernel4Ideal (hKernel4Ideal := hKernel4Ideal) (hPre_moe_tables := hPre_moe_tables)
    ∧ quiescent_Reference4Ideal (hReference4Ideal := hReference4Ideal)
    ∧ quiescent_Reference4Ideal_pre_moe_tables (hReference4Ideal := hReference4Ideal) (hPre_moe_tables := hPre_moe_tables)
    ∧ quiescent_Kernel5 (hKernel5 := hKernel5) (hPre_up_tables := hPre_up_tables)
    ∧ quiescent_Kernel5Ideal (hKernel5Ideal := hKernel5Ideal) (hPre_up_tables := hPre_up_tables)
    ∧ quiescent_Reference5Ideal (hReference5Ideal := hReference5Ideal)
    ∧ quiescent_Reference5Ideal_pre_up_tables (hReference5Ideal := hReference5Ideal) (hPre_up_tables := hPre_up_tables)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_moe_tables := hPre_moe_tables)
    ∧ preserves_Kernel5_Kernel5Ideal
    ∧ algebraic_Kernel5Ideal_Reference5Ideal (hKernel5Ideal := hKernel5Ideal) (hReference5Ideal := hReference5Ideal) (hPre_up_tables := hPre_up_tables)
-- ==== Pre_moe_tables.lean ====
abbrev S18432x7168 : Shape := ⟨2, ![18432, 7168]⟩
abbrev S8x7168x2048 : Shape := ⟨3, ![8, 7168, 2048]⟩
abbrev S72 : Shape := ⟨1, ![72]⟩
abbrev S1 : Shape := ⟨1, ![1]⟩
abbrev S71 : Shape := ⟨1, ![71]⟩
abbrev S_ : Shape := ⟨0, ![]⟩

class Facts : Prop where
  slices_S72_S71_1 : S72.Slices ![1] S71
  bcast_S_S71 : S_.BroadcastsInDim S71 (![] : Fin 0 → Fin S71.rank)
  slices_S72_S71_0 : S72.Slices ![0] S71
  slices_S72_S1_0 : S72.Slices ![0] S1
  shapeCasts_S1_S_ : S1.ShapeCasts S_
  slices_S72_S1_71 : S72.Slices ![71] S1

variable [Facts]

def fn_part5 {F : FTy → Type} [FloatOps F] (main_arg3 : IVec S72 32) (main_v46 : IVec S_ 1) (main_v95 : IVec S71 1) (main_v98 : IVec S71 32) (main_v99 : IVec S71 32) : IVec S71 1 :=
  let main_v100 : IVec S71 1 := cmpi .eq main_v98 main_v99
  let main_v101 : IVec S71 32 := (extractStridedSlice S71 ![0] · slices_S72_S71_0) main_arg3
  let main_c_19 : IVec S_ 32 := constantI S_ 32 1#32
  let main_v102 : IVec S71 32 := broadcastInDim S71 ![] bcast_S_S71 main_c_19
  let main_v103 : IVec S71 32 := andi main_v101 main_v102
  let main_c_20 : IVec S_ 32 := constantI S_ 32 1#32
  let main_v104 : IVec S71 32 := broadcastInDim S71 ![] bcast_S_S71 main_c_20
  let main_v105 : IVec S71 1 := cmpi .eq main_v103 main_v104
  let main_v106 : IVec S71 1 := ori main_v100 main_v105
  let main_v107 : IVec S71 1 := andi main_v95 main_v106
  let main_v108 : IVec S71 1 := broadcastInDim S71 ![] bcast_S_S71 main_v46
  let main_v109 : IVec S71 1 := andi main_v107 main_v108
  main_v109

def fn_part4 {F : FTy → Type} [FloatOps F] (main_arg3 : IVec S72 32) (main_v14 : IVec S71 1) (main_v27 : IVec S71 1) (main_v46 : IVec S_ 1) (main_v77 : IVec S71 1) (main_v80 : IVec S71 1) : IVec S71 1 :=
  let main_v81 : IVec S71 32 := (extractStridedSlice S71 ![0] · slices_S72_S71_0) main_arg3
  let main_c_14 : IVec S_ 32 := constantI S_ 32 4#32
  let main_v82 : IVec S71 32 := broadcastInDim S71 ![] bcast_S_S71 main_c_14
  let main_v83 : IVec S71 1 := cmpi .slt main_v81 main_v82
  let main_v84 : IVec S71 1 := andi main_v80 main_v83
  let main_v85 : IVec S71 32 := (extractStridedSlice S71 ![1] · slices_S72_S71_1) main_arg3
  let main_c_15 : IVec S_ 32 := constantI S_ 32 0#32
  let main_v86 : IVec S71 32 := broadcastInDim S71 ![] bcast_S_S71 main_c_15
  let main_v87 : IVec S71 1 := cmpi .sge main_v85 main_v86
  let main_v88 : IVec S71 1 := andi main_v84 main_v87
  let main_v89 : IVec S71 32 := (extractStridedSlice S71 ![1] · slices_S72_S71_1) main_arg3
  let main_c_16 : IVec S_ 32 := constantI S_ 32 4#32
  let main_v90 : IVec S71 32 := broadcastInDim S71 ![] bcast_S_S71 main_c_16
  let main_v91 : IVec S71 1 := cmpi .slt main_v89 main_v90
  let main_v92 : IVec S71 1 := andi main_v88 main_v91
  let main_v93 : IVec S71 1 := andi main_v77 main_v92
  let main_v94 : IVec S71 1 := ori main_v14 main_v27
  let main_v95 : IVec S71 1 := andi main_v93 main_v94
  let main_v96 : IVec S71 32 := (extractStridedSlice S71 ![1] · slices_S72_S71_1) main_arg3
  let main_c_17 : IVec S_ 32 := constantI S_ 32 1#32
  let main_v97 : IVec S71 32 := broadcastInDim S71 ![] bcast_S_S71 main_c_17
  let main_v98 : IVec S71 32 := andi main_v96 main_v97
  let main_c_18 : IVec S_ 32 := constantI S_ 32 0#32
  let main_v99 : IVec S71 32 := broadcastInDim S71 ![] bcast_S_S71 main_c_18
  fn_part5 (F := F) main_arg3 main_v46 main_v95 main_v98 main_v99

def fn_part3 {F : FTy → Type} [FloatOps F] (main_arg3 : IVec S72 32) (main_arg5 : IVec S72 32) (main_v14 : IVec S71 1) (main_v27 : IVec S71 1) (main_v46 : IVec S_ 1) (main_v61 : IVec S71 1) : IVec S71 1 :=
  let main_v62 : IVec S71 32 := (extractStridedSlice S71 ![0] · slices_S72_S71_0) main_arg5
  let main_c_9 : IVec S_ 32 := constantI S_ 32 0#32
  let main_v63 : IVec S71 32 := broadcastInDim S71 ![] bcast_S_S71 main_c_9
  let main_v64 : IVec S71 1 := cmpi .sge main_v62 main_v63
  let main_v65 : IVec S71 32 := (extractStridedSlice S71 ![0] · slices_S72_S71_0) main_arg5
  let main_c_10 : IVec S_ 32 := constantI S_ 32 8#32
  let main_v66 : IVec S71 32 := broadcastInDim S71 ![] bcast_S_S71 main_c_10
  let main_v67 : IVec S71 1 := cmpi .slt main_v65 main_v66
  let main_v68 : IVec S71 1 := andi main_v64 main_v67
  let main_v69 : IVec S71 32 := (extractStridedSlice S71 ![1] · slices_S72_S71_1) main_arg5
  let main_c_11 : IVec S_ 32 := constantI S_ 32 0#32
  let main_v70 : IVec S71 32 := broadcastInDim S71 ![] bcast_S_S71 main_c_11
  let main_v71 : IVec S71 1 := cmpi .sge main_v69 main_v70
  let main_v72 : IVec S71 1 := andi main_v68 main_v71
  let main_v73 : IVec S71 32 := (extractStridedSlice S71 ![1] · slices_S72_S71_1) main_arg5
  let main_c_12 : IVec S_ 32 := constantI S_ 32 8#32
  let main_v74 : IVec S71 32 := broadcastInDim S71 ![] bcast_S_S71 main_c_12
  let main_v75 : IVec S71 1 := cmpi .slt main_v73 main_v74
  let main_v76 : IVec S71 1 := andi main_v72 main_v75
  let main_v77 : IVec S71 1 := andi main_v61 main_v76
  let main_v78 : IVec S71 32 := (extractStridedSlice S71 ![0] · slices_S72_S71_0) main_arg3
  let main_c_13 : IVec S_ 32 := constantI S_ 32 0#32
  let main_v79 : IVec S71 32 := broadcastInDim S71 ![] bcast_S_S71 main_c_13
  let main_v80 : IVec S71 1 := cmpi .sge main_v78 main_v79
  fn_part4 (F := F) main_arg3 main_v14 main_v27 main_v46 main_v77 main_v80

def fn_part2 {F : FTy → Type} [FloatOps F] (main_arg2 : IVec S72 32) (main_arg3 : IVec S72 32) (main_arg5 : IVec S72 32) (main_v14 : IVec S71 1) (main_v27 : IVec S71 1) (main_v40 : IVec S_ 1) (main_v41 : IVec S1 32) : IVec S71 1 :=
  let main_v42 : IVec S_ 32 := shapeCast S_ main_v41 shapeCasts_S1_S_
  let main_v43 : IVec S1 32 := (extractStridedSlice S1 ![0] · slices_S72_S1_0) main_arg2
  let main_v44 : IVec S_ 32 := shapeCast S_ main_v43 shapeCasts_S1_S_
  let main_v45 : IVec S_ 1 := cmpi .eq main_v42 main_v44
  let main_v46 : IVec S_ 1 := andi main_v40 main_v45
  let main_v47 : IVec S71 32 := (extractStridedSlice S71 ![0] · slices_S72_S71_0) main_arg2
  let main_c_5 : IVec S_ 32 := constantI S_ 32 0#32
  let main_v48 : IVec S71 32 := broadcastInDim S71 ![] bcast_S_S71 main_c_5
  let main_v49 : IVec S71 1 := cmpi .sge main_v47 main_v48
  let main_v50 : IVec S71 32 := (extractStridedSlice S71 ![0] · slices_S72_S71_0) main_arg2
  let main_c_6 : IVec S_ 32 := constantI S_ 32 8#32
  let main_v51 : IVec S71 32 := broadcastInDim S71 ![] bcast_S_S71 main_c_6
  let main_v52 : IVec S71 1 := cmpi .slt main_v50 main_v51
  let main_v53 : IVec S71 1 := andi main_v49 main_v52
  let main_v54 : IVec S71 32 := (extractStridedSlice S71 ![1] · slices_S72_S71_1) main_arg2
  let main_c_7 : IVec S_ 32 := constantI S_ 32 0#32
  let main_v55 : IVec S71 32 := broadcastInDim S71 ![] bcast_S_S71 main_c_7
  let main_v56 : IVec S71 1 := cmpi .sge main_v54 main_v55
  let main_v57 : IVec S71 1 := andi main_v53 main_v56
  let main_v58 : IVec S71 32 := (extractStridedSlice S71 ![1] · slices_S72_S71_1) main_arg2
  let main_c_8 : IVec S_ 32 := constantI S_ 32 8#32
  let main_v59 : IVec S71 32 := broadcastInDim S71 ![] bcast_S_S71 main_c_8
  let main_v60 : IVec S71 1 := cmpi .slt main_v58 main_v59
  let main_v61 : IVec S71 1 := andi main_v57 main_v60
  fn_part3 (F := F) main_arg3 main_arg5 main_v14 main_v27 main_v46 main_v61

def fn_part1 {F : FTy → Type} [FloatOps F] (main_arg2 : IVec S72 32) (main_arg3 : IVec S72 32) (main_arg4 : IVec S72 32) (main_arg5 : IVec S72 32) (main_arg6 : IVec S1 32) (main_v14 : IVec S71 1) (main_v17 : IVec S71 1) (main_v18 : IVec S71 32) (main_v19 : IVec S71 32) (main_v20 : IVec S71 32) : IVec S71 1 :=
  let main_v21 : IVec S71 32 := addi main_v19 main_v20
  let main_v22 : IVec S71 1 := cmpi .eq main_v18 main_v21
  let main_v23 : IVec S71 1 := andi main_v17 main_v22
  let main_v24 : IVec S71 32 := (extractStridedSlice S71 ![0] · slices_S72_S71_0) main_arg5
  let main_v25 : IVec S71 32 := (extractStridedSlice S71 ![1] · slices_S72_S71_1) main_arg2
  let main_v26 : IVec S71 1 := cmpi .eq main_v24 main_v25
  let main_v27 : IVec S71 1 := andi main_v23 main_v26
  let main_v28 : IVec S1 32 := (extractStridedSlice S1 ![0] · slices_S72_S1_0) main_arg3
  let main_v29 : IVec S_ 32 := shapeCast S_ main_v28 shapeCasts_S1_S_
  let main_c_2 : IVec S_ 32 := constantI S_ 32 2#32
  let main_v30 : IVec S_ 1 := cmpi .sge main_v29 main_c_2
  let main_v31 : IVec S1 32 := (extractStridedSlice S1 ![0] · slices_S72_S1_0) main_arg4
  let main_v32 : IVec S_ 32 := shapeCast S_ main_v31 shapeCasts_S1_S_
  let main_c_3 : IVec S_ 32 := constantI S_ 32 0#32
  let main_v33 : IVec S_ 1 := cmpi .eq main_v32 main_c_3
  let main_v34 : IVec S_ 1 := andi main_v30 main_v33
  let main_v35 : IVec S_ 32 := shapeCast S_ main_arg6 shapeCasts_S1_S_
  let main_v36 : IVec S1 32 := (extractStridedSlice S1 ![71] · slices_S72_S1_71) main_arg4
  let main_v37 : IVec S_ 32 := shapeCast S_ main_v36 shapeCasts_S1_S_
  let main_c_4 : IVec S_ 32 := constantI S_ 32 1#32
  let main_v38 : IVec S_ 32 := addi main_v37 main_c_4
  let main_v39 : IVec S_ 1 := cmpi .eq main_v35 main_v38
  let main_v40 : IVec S_ 1 := andi main_v34 main_v39
  let main_v41 : IVec S1 32 := (extractStridedSlice S1 ![71] · slices_S72_S1_71) main_arg5
  fn_part2 (F := F) main_arg2 main_arg3 main_arg5 main_v14 main_v27 main_v40 main_v41

def fn {F : FTy → Type} [FloatOps F] (main_arg0 : FVec F S18432x7168 .bf16) (main_arg1 : FVec F S8x7168x2048 .f32) (main_arg2 : IVec S72 32) (main_arg3 : IVec S72 32) (main_arg4 : IVec S72 32) (main_arg5 : IVec S72 32) (main_arg6 : IVec S1 32) : IVec S71 1 :=
  let main_v0 : IVec S71 32 := (extractStridedSlice S71 ![1] · slices_S72_S71_1) main_arg3
  let main_c : IVec S_ 32 := constantI S_ 32 2#32
  let main_v1 : IVec S71 32 := broadcastInDim S71 ![] bcast_S_S71 main_c
  let main_v2 : IVec S71 1 := cmpi .slt main_v0 main_v1
  let main_v3 : IVec S71 32 := (extractStridedSlice S71 ![1] · slices_S72_S71_1) main_arg2
  let main_v4 : IVec S71 32 := (extractStridedSlice S71 ![0] · slices_S72_S71_0) main_arg2
  let main_v5 : IVec S71 1 := cmpi .eq main_v3 main_v4
  let main_v6 : IVec S71 1 := andi main_v2 main_v5
  let main_v7 : IVec S71 32 := (extractStridedSlice S71 ![1] · slices_S72_S71_1) main_arg4
  let main_v8 : IVec S71 32 := (extractStridedSlice S71 ![0] · slices_S72_S71_0) main_arg4
  let main_v9 : IVec S71 1 := cmpi .eq main_v7 main_v8
  let main_v10 : IVec S71 1 := andi main_v6 main_v9
  let main_v11 : IVec S71 32 := (extractStridedSlice S71 ![1] · slices_S72_S71_1) main_arg5
  let main_v12 : IVec S71 32 := (extractStridedSlice S71 ![0] · slices_S72_S71_0) main_arg5
  let main_v13 : IVec S71 1 := cmpi .eq main_v11 main_v12
  let main_v14 : IVec S71 1 := andi main_v10 main_v13
  let main_v15 : IVec S71 32 := (extractStridedSlice S71 ![1] · slices_S72_S71_1) main_arg3
  let main_c_0 : IVec S_ 32 := constantI S_ 32 2#32
  let main_v16 : IVec S71 32 := broadcastInDim S71 ![] bcast_S_S71 main_c_0
  let main_v17 : IVec S71 1 := cmpi .sge main_v15 main_v16
  let main_v18 : IVec S71 32 := (extractStridedSlice S71 ![1] · slices_S72_S71_1) main_arg4
  let main_v19 : IVec S71 32 := (extractStridedSlice S71 ![0] · slices_S72_S71_0) main_arg4
  let main_c_1 : IVec S_ 32 := constantI S_ 32 1#32
  let main_v20 : IVec S71 32 := broadcastInDim S71 ![] bcast_S_S71 main_c_1
  fn_part1 (F := F) main_arg2 main_arg3 main_arg4 main_arg5 main_arg6 main_v14 main_v17 main_v18 main_v19 main_v20
-- ==== Pre_up_tables.lean ====
abbrev S18432x2048 : Shape := ⟨2, ![18432, 2048]⟩
abbrev S8x2048x7168 : Shape := ⟨3, ![8, 2048, 7168]⟩
abbrev S72 : Shape := ⟨1, ![72]⟩
abbrev S1 : Shape := ⟨1, ![1]⟩
abbrev S71 : Shape := ⟨1, ![71]⟩
abbrev S_ : Shape := ⟨0, ![]⟩

class Facts : Prop where
  slices_S72_S71_1 : S72.Slices ![1] S71
  bcast_S_S71 : S_.BroadcastsInDim S71 (![] : Fin 0 → Fin S71.rank)
  slices_S72_S71_0 : S72.Slices ![0] S71
  slices_S72_S1_0 : S72.Slices ![0] S1
  shapeCasts_S1_S_ : S1.ShapeCasts S_
  slices_S72_S1_71 : S72.Slices ![71] S1

variable [Facts]

def fn_part5 {F : FTy → Type} [FloatOps F] (main_arg4 : IVec S72 32) (main_v46 : IVec S_ 1) (main_v95 : IVec S71 1) (main_v98 : IVec S71 32) (main_v99 : IVec S71 32) : IVec S71 1 :=
  let main_v100 : IVec S71 1 := cmpi .eq main_v98 main_v99
  let main_v101 : IVec S71 32 := (extractStridedSlice S71 ![0] · slices_S72_S71_0) main_arg4
  let main_c_19 : IVec S_ 32 := constantI S_ 32 1#32
  let main_v102 : IVec S71 32 := broadcastInDim S71 ![] bcast_S_S71 main_c_19
  let main_v103 : IVec S71 32 := andi main_v101 main_v102
  let main_c_20 : IVec S_ 32 := constantI S_ 32 1#32
  let main_v104 : IVec S71 32 := broadcastInDim S71 ![] bcast_S_S71 main_c_20
  let main_v105 : IVec S71 1 := cmpi .eq main_v103 main_v104
  let main_v106 : IVec S71 1 := ori main_v100 main_v105
  let main_v107 : IVec S71 1 := andi main_v95 main_v106
  let main_v108 : IVec S71 1 := broadcastInDim S71 ![] bcast_S_S71 main_v46
  let main_v109 : IVec S71 1 := andi main_v107 main_v108
  main_v109

def fn_part4 {F : FTy → Type} [FloatOps F] (main_arg4 : IVec S72 32) (main_v14 : IVec S71 1) (main_v27 : IVec S71 1) (main_v46 : IVec S_ 1) (main_v77 : IVec S71 1) (main_v80 : IVec S71 1) : IVec S71 1 :=
  let main_v81 : IVec S71 32 := (extractStridedSlice S71 ![0] · slices_S72_S71_0) main_arg4
  let main_c_14 : IVec S_ 32 := constantI S_ 32 4#32
  let main_v82 : IVec S71 32 := broadcastInDim S71 ![] bcast_S_S71 main_c_14
  let main_v83 : IVec S71 1 := cmpi .slt main_v81 main_v82
  let main_v84 : IVec S71 1 := andi main_v80 main_v83
  let main_v85 : IVec S71 32 := (extractStridedSlice S71 ![1] · slices_S72_S71_1) main_arg4
  let main_c_15 : IVec S_ 32 := constantI S_ 32 0#32
  let main_v86 : IVec S71 32 := broadcastInDim S71 ![] bcast_S_S71 main_c_15
  let main_v87 : IVec S71 1 := cmpi .sge main_v85 main_v86
  let main_v88 : IVec S71 1 := andi main_v84 main_v87
  let main_v89 : IVec S71 32 := (extractStridedSlice S71 ![1] · slices_S72_S71_1) main_arg4
  let main_c_16 : IVec S_ 32 := constantI S_ 32 4#32
  let main_v90 : IVec S71 32 := broadcastInDim S71 ![] bcast_S_S71 main_c_16
  let main_v91 : IVec S71 1 := cmpi .slt main_v89 main_v90
  let main_v92 : IVec S71 1 := andi main_v88 main_v91
  let main_v93 : IVec S71 1 := andi main_v77 main_v92
  let main_v94 : IVec S71 1 := ori main_v14 main_v27
  let main_v95 : IVec S71 1 := andi main_v93 main_v94
  let main_v96 : IVec S71 32 := (extractStridedSlice S71 ![1] · slices_S72_S71_1) main_arg4
  let main_c_17 : IVec S_ 32 := constantI S_ 32 1#32
  let main_v97 : IVec S71 32 := broadcastInDim S71 ![] bcast_S_S71 main_c_17
  let main_v98 : IVec S71 32 := andi main_v96 main_v97
  let main_c_18 : IVec S_ 32 := constantI S_ 32 0#32
  let main_v99 : IVec S71 32 := broadcastInDim S71 ![] bcast_S_S71 main_c_18
  fn_part5 (F := F) main_arg4 main_v46 main_v95 main_v98 main_v99

def fn_part3 {F : FTy → Type} [FloatOps F] (main_arg4 : IVec S72 32) (main_arg6 : IVec S72 32) (main_v14 : IVec S71 1) (main_v27 : IVec S71 1) (main_v46 : IVec S_ 1) (main_v61 : IVec S71 1) : IVec S71 1 :=
  let main_v62 : IVec S71 32 := (extractStridedSlice S71 ![0] · slices_S72_S71_0) main_arg6
  let main_c_9 : IVec S_ 32 := constantI S_ 32 0#32
  let main_v63 : IVec S71 32 := broadcastInDim S71 ![] bcast_S_S71 main_c_9
  let main_v64 : IVec S71 1 := cmpi .sge main_v62 main_v63
  let main_v65 : IVec S71 32 := (extractStridedSlice S71 ![0] · slices_S72_S71_0) main_arg6
  let main_c_10 : IVec S_ 32 := constantI S_ 32 8#32
  let main_v66 : IVec S71 32 := broadcastInDim S71 ![] bcast_S_S71 main_c_10
  let main_v67 : IVec S71 1 := cmpi .slt main_v65 main_v66
  let main_v68 : IVec S71 1 := andi main_v64 main_v67
  let main_v69 : IVec S71 32 := (extractStridedSlice S71 ![1] · slices_S72_S71_1) main_arg6
  let main_c_11 : IVec S_ 32 := constantI S_ 32 0#32
  let main_v70 : IVec S71 32 := broadcastInDim S71 ![] bcast_S_S71 main_c_11
  let main_v71 : IVec S71 1 := cmpi .sge main_v69 main_v70
  let main_v72 : IVec S71 1 := andi main_v68 main_v71
  let main_v73 : IVec S71 32 := (extractStridedSlice S71 ![1] · slices_S72_S71_1) main_arg6
  let main_c_12 : IVec S_ 32 := constantI S_ 32 8#32
  let main_v74 : IVec S71 32 := broadcastInDim S71 ![] bcast_S_S71 main_c_12
  let main_v75 : IVec S71 1 := cmpi .slt main_v73 main_v74
  let main_v76 : IVec S71 1 := andi main_v72 main_v75
  let main_v77 : IVec S71 1 := andi main_v61 main_v76
  let main_v78 : IVec S71 32 := (extractStridedSlice S71 ![0] · slices_S72_S71_0) main_arg4
  let main_c_13 : IVec S_ 32 := constantI S_ 32 0#32
  let main_v79 : IVec S71 32 := broadcastInDim S71 ![] bcast_S_S71 main_c_13
  let main_v80 : IVec S71 1 := cmpi .sge main_v78 main_v79
  fn_part4 (F := F) main_arg4 main_v14 main_v27 main_v46 main_v77 main_v80

def fn_part2 {F : FTy → Type} [FloatOps F] (main_arg3 : IVec S72 32) (main_arg4 : IVec S72 32) (main_arg6 : IVec S72 32) (main_v14 : IVec S71 1) (main_v27 : IVec S71 1) (main_v40 : IVec S_ 1) (main_v41 : IVec S1 32) : IVec S71 1 :=
  let main_v42 : IVec S_ 32 := shapeCast S_ main_v41 shapeCasts_S1_S_
  let main_v43 : IVec S1 32 := (extractStridedSlice S1 ![0] · slices_S72_S1_0) main_arg3
  let main_v44 : IVec S_ 32 := shapeCast S_ main_v43 shapeCasts_S1_S_
  let main_v45 : IVec S_ 1 := cmpi .eq main_v42 main_v44
  let main_v46 : IVec S_ 1 := andi main_v40 main_v45
  let main_v47 : IVec S71 32 := (extractStridedSlice S71 ![0] · slices_S72_S71_0) main_arg3
  let main_c_5 : IVec S_ 32 := constantI S_ 32 0#32
  let main_v48 : IVec S71 32 := broadcastInDim S71 ![] bcast_S_S71 main_c_5
  let main_v49 : IVec S71 1 := cmpi .sge main_v47 main_v48
  let main_v50 : IVec S71 32 := (extractStridedSlice S71 ![0] · slices_S72_S71_0) main_arg3
  let main_c_6 : IVec S_ 32 := constantI S_ 32 8#32
  let main_v51 : IVec S71 32 := broadcastInDim S71 ![] bcast_S_S71 main_c_6
  let main_v52 : IVec S71 1 := cmpi .slt main_v50 main_v51
  let main_v53 : IVec S71 1 := andi main_v49 main_v52
  let main_v54 : IVec S71 32 := (extractStridedSlice S71 ![1] · slices_S72_S71_1) main_arg3
  let main_c_7 : IVec S_ 32 := constantI S_ 32 0#32
  let main_v55 : IVec S71 32 := broadcastInDim S71 ![] bcast_S_S71 main_c_7
  let main_v56 : IVec S71 1 := cmpi .sge main_v54 main_v55
  let main_v57 : IVec S71 1 := andi main_v53 main_v56
  let main_v58 : IVec S71 32 := (extractStridedSlice S71 ![1] · slices_S72_S71_1) main_arg3
  let main_c_8 : IVec S_ 32 := constantI S_ 32 8#32
  let main_v59 : IVec S71 32 := broadcastInDim S71 ![] bcast_S_S71 main_c_8
  let main_v60 : IVec S71 1 := cmpi .slt main_v58 main_v59
  let main_v61 : IVec S71 1 := andi main_v57 main_v60
  fn_part3 (F := F) main_arg4 main_arg6 main_v14 main_v27 main_v46 main_v61

def fn_part1 {F : FTy → Type} [FloatOps F] (main_arg3 : IVec S72 32) (main_arg4 : IVec S72 32) (main_arg5 : IVec S72 32) (main_arg6 : IVec S72 32) (main_arg7 : IVec S1 32) (main_v14 : IVec S71 1) (main_v17 : IVec S71 1) (main_v18 : IVec S71 32) (main_v19 : IVec S71 32) (main_v20 : IVec S71 32) : IVec S71 1 :=
  let main_v21 : IVec S71 32 := addi main_v19 main_v20
  let main_v22 : IVec S71 1 := cmpi .eq main_v18 main_v21
  let main_v23 : IVec S71 1 := andi main_v17 main_v22
  let main_v24 : IVec S71 32 := (extractStridedSlice S71 ![0] · slices_S72_S71_0) main_arg6
  let main_v25 : IVec S71 32 := (extractStridedSlice S71 ![1] · slices_S72_S71_1) main_arg3
  let main_v26 : IVec S71 1 := cmpi .eq main_v24 main_v25
  let main_v27 : IVec S71 1 := andi main_v23 main_v26
  let main_v28 : IVec S1 32 := (extractStridedSlice S1 ![0] · slices_S72_S1_0) main_arg4
  let main_v29 : IVec S_ 32 := shapeCast S_ main_v28 shapeCasts_S1_S_
  let main_c_2 : IVec S_ 32 := constantI S_ 32 2#32
  let main_v30 : IVec S_ 1 := cmpi .sge main_v29 main_c_2
  let main_v31 : IVec S1 32 := (extractStridedSlice S1 ![0] · slices_S72_S1_0) main_arg5
  let main_v32 : IVec S_ 32 := shapeCast S_ main_v31 shapeCasts_S1_S_
  let main_c_3 : IVec S_ 32 := constantI S_ 32 0#32
  let main_v33 : IVec S_ 1 := cmpi .eq main_v32 main_c_3
  let main_v34 : IVec S_ 1 := andi main_v30 main_v33
  let main_v35 : IVec S_ 32 := shapeCast S_ main_arg7 shapeCasts_S1_S_
  let main_v36 : IVec S1 32 := (extractStridedSlice S1 ![71] · slices_S72_S1_71) main_arg5
  let main_v37 : IVec S_ 32 := shapeCast S_ main_v36 shapeCasts_S1_S_
  let main_c_4 : IVec S_ 32 := constantI S_ 32 1#32
  let main_v38 : IVec S_ 32 := addi main_v37 main_c_4
  let main_v39 : IVec S_ 1 := cmpi .eq main_v35 main_v38
  let main_v40 : IVec S_ 1 := andi main_v34 main_v39
  let main_v41 : IVec S1 32 := (extractStridedSlice S1 ![71] · slices_S72_S1_71) main_arg6
  fn_part2 (F := F) main_arg3 main_arg4 main_arg6 main_v14 main_v27 main_v40 main_v41

def fn {F : FTy → Type} [FloatOps F] (main_arg0 : FVec F S18432x2048 .bf16) (main_arg1 : FVec F S8x2048x7168 .f32) (main_arg2 : FVec F S8x2048x7168 .f32) (main_arg3 : IVec S72 32) (main_arg4 : IVec S72 32) (main_arg5 : IVec S72 32) (main_arg6 : IVec S72 32) (main_arg7 : IVec S1 32) : IVec S71 1 :=
  let main_v0 : IVec S71 32 := (extractStridedSlice S71 ![1] · slices_S72_S71_1) main_arg4
  let main_c : IVec S_ 32 := constantI S_ 32 2#32
  let main_v1 : IVec S71 32 := broadcastInDim S71 ![] bcast_S_S71 main_c
  let main_v2 : IVec S71 1 := cmpi .slt main_v0 main_v1
  let main_v3 : IVec S71 32 := (extractStridedSlice S71 ![1] · slices_S72_S71_1) main_arg3
  let main_v4 : IVec S71 32 := (extractStridedSlice S71 ![0] · slices_S72_S71_0) main_arg3
  let main_v5 : IVec S71 1 := cmpi .eq main_v3 main_v4
  let main_v6 : IVec S71 1 := andi main_v2 main_v5
  let main_v7 : IVec S71 32 := (extractStridedSlice S71 ![1] · slices_S72_S71_1) main_arg5
  let main_v8 : IVec S71 32 := (extractStridedSlice S71 ![0] · slices_S72_S71_0) main_arg5
  let main_v9 : IVec S71 1 := cmpi .eq main_v7 main_v8
  let main_v10 : IVec S71 1 := andi main_v6 main_v9
  let main_v11 : IVec S71 32 := (extractStridedSlice S71 ![1] · slices_S72_S71_1) main_arg6
  let main_v12 : IVec S71 32 := (extractStridedSlice S71 ![0] · slices_S72_S71_0) main_arg6
  let main_v13 : IVec S71 1 := cmpi .eq main_v11 main_v12
  let main_v14 : IVec S71 1 := andi main_v10 main_v13
  let main_v15 : IVec S71 32 := (extractStridedSlice S71 ![1] · slices_S72_S71_1) main_arg4
  let main_c_0 : IVec S_ 32 := constantI S_ 32 2#32
  let main_v16 : IVec S71 32 := broadcastInDim S71 ![] bcast_S_S71 main_c_0
  let main_v17 : IVec S71 1 := cmpi .sge main_v15 main_v16
  let main_v18 : IVec S71 32 := (extractStridedSlice S71 ![1] · slices_S72_S71_1) main_arg5
  let main_v19 : IVec S71 32 := (extractStridedSlice S71 ![0] · slices_S72_S71_0) main_arg5
  let main_c_1 : IVec S_ 32 := constantI S_ 32 1#32
  let main_v20 : IVec S71 32 := broadcastInDim S71 ![] bcast_S_S71 main_c_1
  fn_part1 (F := F) main_arg3 main_arg4 main_arg5 main_arg6 main_arg7 main_v14 main_v17 main_v18 main_v19 main_v20
-- ==== Kernel.lean ====
abbrev S8192x5760 : Shape := ⟨2, ![8192, 5760]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S128x1024 : Shape := ⟨2, ![128, 1024]⟩
abbrev S4x1024 : Shape := ⟨2, ![4, 1024]⟩
abbrev S4x512 : Shape := ⟨2, ![4, 512]⟩
abbrev S512 : Shape := ⟨1, ![512]⟩
abbrev S1x512 : Shape := ⟨2, ![1, 512]⟩
abbrev S1x128 : Shape := ⟨2, ![1, 128]⟩
abbrev S16x64 : Shape := ⟨2, ![16, 64]⟩
abbrev S8192x1024 : Shape := ⟨2, ![8192, 1024]⟩
abbrev S256x1024 : Shape := ⟨2, ![256, 1024]⟩
abbrev S256x512 : Shape := ⟨2, ![256, 512]⟩
abbrev S256x128 : Shape := ⟨2, ![256, 128]⟩
abbrev S8x1024 : Shape := ⟨2, ![8, 1024]⟩
abbrev S8x512 : Shape := ⟨2, ![8, 512]⟩
abbrev S2x128x512 : Shape := ⟨3, ![2, 128, 512]⟩
abbrev S248x1024 : Shape := ⟨2, ![248, 1024]⟩
abbrev S248x512 : Shape := ⟨2, ![248, 512]⟩
abbrev S256x256 : Shape := ⟨2, ![256, 256]⟩
abbrev S8x128 : Shape := ⟨2, ![8, 128]⟩
abbrev S776x128 : Shape := ⟨2, ![776, 128]⟩
abbrev S776x1024 : Shape := ⟨2, ![776, 1024]⟩
abbrev S128x256 : Shape := ⟨2, ![128, 256]⟩
abbrev S1x128x512 : Shape := ⟨3, ![1, 128, 512]⟩
abbrev S128x512 : Shape := ⟨2, ![128, 512]⟩
abbrev S256x1 : Shape := ⟨2, ![256, 1]⟩
abbrev S1x256 : Shape := ⟨2, ![1, 256]⟩
abbrev S256x64 : Shape := ⟨2, ![256, 64]⟩
abbrev S256 : Shape := ⟨1, ![256]⟩

abbrev nBuf : Space → Nat
  | .hbm => 52
  | .vmem => 23
  | .smem => 0
  | _ => 0

abbrev bufTy : (tb : Table) → Fin (tcTables nBuf tb) → BufTy
  | .hbm, ⟨0, _⟩ => ⟨S8192x5760, .f32⟩
  | .hbm, ⟨1, _⟩ => ⟨S4x1536, .f32⟩
  | .hbm, ⟨2, _⟩ => ⟨S1536, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S1024, .i32⟩
  | .hbm, ⟨8, _⟩ => ⟨S1x1024, .i32⟩
  | .hbm, ⟨9, _⟩ => ⟨S_, .i32⟩
  | .hbm, ⟨10, _⟩ => ⟨S_, .i32⟩
  | .hbm, ⟨11, _⟩ => ⟨S1x1024, .i32⟩
  | .hbm, ⟨12, _⟩ => ⟨S1x1024, .i32⟩
  | .hbm, ⟨13, _⟩ => ⟨S1x1024, .i32⟩
  | .hbm, ⟨14, _⟩ => ⟨S_, .i32⟩
  | .hbm, ⟨15, _⟩ => ⟨S1x1024, .i32⟩
  | .hbm, ⟨16, _⟩ => ⟨S1x1024, .i1⟩
  | .hbm, ⟨17, _⟩ => ⟨S1x1024, .i32⟩
  | .hbm, ⟨18, _⟩ => ⟨S1x1024, .i32⟩
  | .hbm, ⟨19, _⟩ => ⟨S_, .i32⟩
  | .hbm, ⟨20, _⟩ => ⟨S1x1024, .i32⟩
  | .hbm, ⟨21, _⟩ => ⟨S1x1024, .i1⟩
  | .hbm, ⟨22, _⟩ => ⟨S1x1024, .i1⟩
  | .hbm, ⟨23, _⟩ => ⟨S_, .i32⟩
  | .hbm, ⟨24, _⟩ => ⟨S1x1024, .i32⟩
  | .hbm, ⟨25, _⟩ => ⟨S1x1024, .i32⟩
  | .hbm, ⟨26, _⟩ => ⟨S1x1024, .i32⟩
  | .hbm, ⟨27, _⟩ => ⟨S128, .i32⟩
  | .hbm, ⟨28, _⟩ => ⟨S128x1, .i32⟩
  | .hbm, ⟨29, _⟩ => ⟨S128x1024, .i32⟩
  | .hbm, ⟨30, _⟩ => ⟨S128x1024, .i32⟩
  | .hbm, ⟨31, _⟩ => ⟨S128x1024, .i1⟩
  | .hbm, ⟨32, _⟩ => ⟨S128x1024, .bf16⟩
  | .hbm, ⟨33, _⟩ => ⟨S4x1024, .f32⟩
  | .hbm, ⟨34, _⟩ => ⟨S4x512, .f32⟩
  | .hbm, ⟨35, _⟩ => ⟨S1024, .f32⟩
  | .hbm, ⟨36, _⟩ => ⟨S1x1024, .f32⟩
  | .hbm, ⟨37, _⟩ => ⟨S512, .f32⟩
  | .hbm, ⟨38, _⟩ => ⟨S1x512, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S16x64, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S4x1024, .f32⟩
  | .local _ .vmem, ⟨9, _⟩ => ⟨S4x512, .f32⟩
  | .local _ .vmem, ⟨10, _⟩ => ⟨S1x1024, .f32⟩
  | .local _ .vmem, ⟨11, _⟩ => ⟨S1x512, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S128x1024, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | .local _ .vmem, ⟨20, _⟩ => ⟨S8x512, .f32⟩
  | .local _ .vmem, ⟨21, _⟩ => ⟨S2x128x512, .f32⟩
  | .local _ .vmem, ⟨22, _⟩ => ⟨S256x1024, .f32⟩
  | _, _ => ⟨S8192x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_call1_v0 : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_call2_v0 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S8192x5760 : Shape := ⟨2, ![8192, 5760]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S8192x1024 : Shape := ⟨2, ![8192, 1024]⟩
abbrev S8192x1536 : Shape := ⟨2, ![8192, 1536]⟩
abbrev S8192x16 : Shape := ⟨2, ![8192, 16]⟩
abbrev S_ : Shape := ⟨0, ![]⟩
abbrev S8195x1536 : Shape := ⟨2, ![8195, 1536]⟩
abbrev S1x1536 : Shape := ⟨2, ![1, 1536]⟩
abbrev S32x256x2x8x64 : Shape := ⟨5, ![32, 256, 2, 8, 64]⟩
abbrev S8192x256 : Shape := ⟨2, ![8192, 256]⟩
abbrev S32x256x2x128 : Shape := ⟨4, ![32, 256, 2, 128]⟩
abbrev S1x16 : Shape := ⟨2, ![1, 16]⟩
abbrev S32x256x2x8 : Shape := ⟨4, ![32, 256, 2, 8]⟩
abbrev S2x8 : Shape := ⟨2, ![2, 8]⟩
abbrev S1x1x2x8 : Shape := ⟨4, ![1, 1, 2, 8]⟩
abbrev S32x2x8x256 : Shape := ⟨4, ![32, 2, 8, 256]⟩
abbrev S32x256x2x8x1 : Shape := ⟨5, ![32, 256, 2, 8, 1]⟩
abbrev S256x256 : Shape := ⟨2, ![256, 256]⟩
abbrev S32x2x8x256x1 : Shape := ⟨5, ![32, 2, 8, 256, 1]⟩
abbrev S32x2x8x1x256 : Shape := ⟨5, ![32, 2, 8, 1, 256]⟩
abbrev S32x2x8x256x256 : Shape := ⟨5, ![32, 2, 8, 256, 256]⟩
abbrev S32x2x256x256 : Shape := ⟨4, ![32, 2, 256, 256]⟩
abbrev S32x2x1x256x256 : Shape := ⟨5, ![32, 2, 1, 256, 256]⟩
abbrev S32x2x8x64x256 : Shape := ⟨5, ![32, 2, 8, 64, 256]⟩
abbrev S32x2x8x1 : Shape := ⟨4, ![32, 2, 8, 1]⟩
abbrev S32x2x8x64x128 : Shape := ⟨5, ![32, 2, 8, 64, 128]⟩
abbrev S32x2x8 : Shape := ⟨3, ![32, 2, 8]⟩
abbrev S2x8x64x128 : Shape := ⟨4, ![2, 8, 64, 128]⟩
abbrev S1x2x8x64x128 : Shape := ⟨5, ![1, 2, 8, 64, 128]⟩
abbrev S1x2x8 : Shape := ⟨3, ![1, 2, 8]⟩
abbrev S2x8x1x1 : Shape := ⟨4, ![2, 8, 1, 1]⟩
abbrev S2x8x1 : Shape := ⟨3, ![2, 8, 1]⟩
abbrev S1x1x2x8x1 : Shape := ⟨5, ![1, 1, 2, 8, 1]⟩
abbrev S8192x2x512 : Shape := ⟨3, ![8192, 2, 512]⟩
abbrev S8192x2 : Shape := ⟨2, ![8192, 2]⟩
abbrev S8192x2x1 : Shape := ⟨3, ![8192, 2, 1]⟩
abbrev S1x1024 : Shape := ⟨2, ![1, 1024]⟩

abbrev nBuf : Space → Nat
  | .hbm => 207
  | .vmem => 0
  | .smem => 0
  | _ => 0

abbrev hbmTy0_0 (i : Nat) : BufTy := match i % 128 with
  | 0 => ⟨S8192x5760, .f32⟩
  | 1 => ⟨S4x1536, .f32⟩
  | 2 => ⟨S1536, .f32⟩
  | 3 => ⟨S16, .f32⟩
  | 4 => ⟨S16, .f32⟩
  | 5 => ⟨S16, .f32⟩
  | 6 => ⟨S1024, .f32⟩
  | 7 => ⟨S8192x1024, .f32⟩
  | 8 => ⟨S8192x1536, .f32⟩
  | 9 => ⟨S8192x16, .f32⟩
  | 10 => ⟨S_, .i32⟩
  | 11 => ⟨S_, .f32⟩
  | 12 => ⟨S8195x1536, .f32⟩
  | 13 => ⟨S8192x1536, .f32⟩
  | 14 => ⟨S1x1536, .f32⟩
  | 15 => ⟨S1536, .f32⟩
  | 16 => ⟨S1x1536, .f32⟩
  | 17 => ⟨S8192x1536, .f32⟩
  | 18 => ⟨S8192x1536, .f32⟩
  | 19 => ⟨S8192x1536, .f32⟩
  | 20 => ⟨S1x1536, .f32⟩
  | 21 => ⟨S1536, .f32⟩
  | 22 => ⟨S1x1536, .f32⟩
  | 23 => ⟨S8192x1536, .f32⟩
  | 24 => ⟨S8192x1536, .f32⟩
  | 25 => ⟨S8192x1536, .f32⟩
  | 26 => ⟨S8192x1536, .f32⟩
  | 27 => ⟨S1x1536, .f32⟩
  | 28 => ⟨S1536, .f32⟩
  | 29 => ⟨S1x1536, .f32⟩
  | 30 => ⟨S8192x1536, .f32⟩
  | 31 => ⟨S8192x1536, .f32⟩
  | 32 => ⟨S8192x1536, .f32⟩
  | 33 => ⟨S8192x1536, .f32⟩
  | 34 => ⟨S1x1536, .f32⟩
  | 35 => ⟨S1536, .f32⟩
  | 36 => ⟨S1x1536, .f32⟩
  | 37 => ⟨S8192x1536, .f32⟩
  | 38 => ⟨S8192x1536, .f32⟩
  | 39 => ⟨S8192x1536, .f32⟩
  | 40 => ⟨S1x1536, .f32⟩
  | 41 => ⟨S8192x1536, .f32⟩
  | 42 => ⟨S8192x1536, .f32⟩
  | 43 => ⟨S8192x1536, .f32⟩
  | 44 => ⟨S8192x1536, .f32⟩
  | 45 => ⟨S_, .f32⟩
  | 46 => ⟨S8192x1536, .f32⟩
  | 47 => ⟨S8192x1536, .f32⟩
  | 48 => ⟨S_, .f32⟩
  | 49 => ⟨S8192x1536, .f32⟩
  | 50 => ⟨S8192x1536, .f32⟩
  | 51 => ⟨S8192x1536, .f32⟩
  | 52 => ⟨S8192x1024, .f32⟩
  | 53 => ⟨S32x256x2x8x64, .f32⟩
  | 54 => ⟨S8192x256, .f32⟩
  | 55 => ⟨S32x256x2x128, .f32⟩
  | 56 => ⟨S8192x256, .f32⟩
  | 57 => ⟨S32x256x2x128, .f32⟩
  | 58 => ⟨S1x16, .f32⟩
  | 59 => ⟨S8192x16, .f32⟩
  | 60 => ⟨S8192x16, .f32⟩
  | 61 => ⟨S_, .f32⟩
  | 62 => ⟨S8192x16, .f32⟩
  | 63 => ⟨S8192x16, .f32⟩
  | 64 => ⟨S8192x16, .f32⟩
  | 65 => ⟨S8192x16, .f32⟩
  | 66 => ⟨S8192x16, .i1⟩
  | 67 => ⟨S8192x16, .f32⟩
  | 68 => ⟨S8192x16, .f32⟩
  | 69 => ⟨S8192x16, .f32⟩
  | 70 => ⟨S8192x16, .f32⟩
  | 71 => ⟨S8192x16, .f32⟩
  | 72 => ⟨S8192x16, .f32⟩
  | 73 => ⟨S8192x16, .f32⟩
  | 74 => ⟨S8192x16, .f32⟩
  | 75 => ⟨S32x256x2x8, .f32⟩
  | 76 => ⟨S16, .f32⟩
  | 77 => ⟨S2x8, .f32⟩
  | 78 => ⟨S2x8, .f32⟩
  | 79 => ⟨S1x1x2x8, .f32⟩
  | 80 => ⟨S32x256x2x8, .f32⟩
  | 81 => ⟨S32x256x2x8, .f32⟩
  | 82 => ⟨S32x2x8x256, .f32⟩
  | 83 => ⟨S_, .f32⟩
  | 84 => ⟨S_, .f32⟩
  | 85 => ⟨S32x2x8x256, .f32⟩
  | 86 => ⟨S32x256x2x8x1, .f32⟩
  | 87 => ⟨S32x256x2x8x64, .f32⟩
  | 88 => ⟨S32x256x2x8x64, .f32⟩
  | 89 => ⟨S_, .i1⟩
  | 90 => ⟨S256x256, .i1⟩
  | 91 => ⟨S256x256, .i32⟩
  | 92 => ⟨S_, .i32⟩
  | 93 => ⟨S256x256, .i32⟩
  | 94 => ⟨S256x256, .i32⟩
  | 95 => ⟨S256x256, .i32⟩
  | 96 => ⟨S256x256, .i1⟩
  | 97 => ⟨S_, .i1⟩
  | 98 => ⟨S256x256, .i1⟩
  | 99 => ⟨S256x256, .i1⟩
  | 100 => ⟨S32x2x8x256x1, .f32⟩
  | 101 => ⟨S32x2x8x1x256, .f32⟩
  | 102 => ⟨S32x2x8x256x256, .f32⟩
  | 103 => ⟨S32x2x8x256x256, .f32⟩
  | 104 => ⟨S32x2x8x256x256, .f32⟩
  | 105 => ⟨S_, .f32⟩
  | 106 => ⟨S_, .f32⟩
  | 107 => ⟨S32x2x8x256x256, .i1⟩
  | 108 => ⟨S32x2x8x256x256, .f32⟩
  | 109 => ⟨S32x2x8x256x256, .f32⟩
  | 110 => ⟨S32x2x8x256x256, .f32⟩
  | 111 => ⟨S32x2x256x256, .f32⟩
  | 112 => ⟨S32x2x1x256x256, .f32⟩
  | 113 => ⟨S32x2x8x256x256, .f32⟩
  | 114 => ⟨S32x2x8x256x256, .f32⟩
  | 115 => ⟨S32x2x8x64x256, .f32⟩
  | 116 => ⟨S32x256x2x8x64, .f32⟩
  | 117 => ⟨S32x2x8x1, .f32⟩
  | 118 => ⟨S32x2x8x256, .f32⟩
  | 119 => ⟨S32x2x8x256, .f32⟩
  | 120 => ⟨S32x2x8x256, .f32⟩
  | 121 => ⟨S32x256x2x8, .f32⟩
  | 122 => ⟨S32x256x2x8x1, .f32⟩
  | 123 => ⟨S32x256x2x8x64, .f32⟩
  | 124 => ⟨S32x256x2x8x64, .f32⟩
  | 125 => ⟨S32x2x8x64x128, .f32⟩
  | 126 => ⟨S32x2x8x1, .f32⟩
  | 127 => ⟨S32x2x8, .f32⟩
  | _ => ⟨S8192x5760, .f32⟩

abbrev hbmTy0_1 (i : Nat) : BufTy := match i % 128 with
  | 0 => ⟨S32x2x8, .f32⟩
  | 1 => ⟨S_, .f32⟩
  | 2 => ⟨S2x8x64x128, .f32⟩
  | 3 => ⟨S_, .f32⟩
  | 4 => ⟨S32x2x8x64x128, .f32⟩
  | 5 => ⟨S_, .i32⟩
  | 6 => ⟨S32x2x8x64x128, .f32⟩
  | 7 => ⟨S32x2x8, .f32⟩
  | 8 => ⟨S_, .i32⟩
  | 9 => ⟨S2x8x64x128, .f32⟩
  | 10 => ⟨S32x2x8x64x128, .f32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S1x2x8x64x128, .f32⟩
  | 18 => ⟨S2x8x64x128, .f32⟩
  | 19 => ⟨S_, .i32⟩
  | 20 => ⟨S_, .i32⟩
  | 21 => ⟨S1x2x8, .f32⟩
  | 22 => ⟨S2x8, .f32⟩
  | 23 => ⟨S2x8x1x1, .f32⟩
  | 24 => ⟨S2x8x64x128, .f32⟩
  | 25 => ⟨S2x8x64x128, .f32⟩
  | 26 => ⟨S2x8x64x128, .f32⟩
  | 27 => ⟨S1x2x8x64x128, .f32⟩
  | 28 => ⟨S_, .i32⟩
  | 29 => ⟨S_, .i32⟩
  | 30 => ⟨S_, .i32⟩
  | 31 => ⟨S_, .i32⟩
  | 32 => ⟨S32x2x8x64x128, .f32⟩
  | 33 => ⟨S_, .i32⟩
  | 34 => ⟨S_, .i32⟩
  | 35 => ⟨S32x2x8x64x256, .f32⟩
  | 36 => ⟨S32x256x2x8x64, .f32⟩
  | 37 => ⟨S32x2x8x256, .f32⟩
  | 38 => ⟨S32x256x2x8, .f32⟩
  | 39 => ⟨S32x256x2x8x1, .f32⟩
  | 40 => ⟨S32x256x2x8x64, .f32⟩
  | 41 => ⟨S32x256x2x8x64, .f32⟩
  | 42 => ⟨S32x256x2x8x64, .f32⟩
  | 43 => ⟨S2x8, .f32⟩
  | 44 => ⟨S2x8x1, .f32⟩
  | 45 => ⟨S1x1x2x8x1, .f32⟩
  | 46 => ⟨S32x256x2x8x64, .f32⟩
  | 47 => ⟨S32x256x2x8x64, .f32⟩
  | 48 => ⟨S32x256x2x8x64, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S8192x1024, .f32⟩
  | 60 => ⟨S8192x2x512, .f32⟩
  | 61 => ⟨S8192x2x512, .f32⟩
  | 62 => ⟨S_, .f32⟩
  | 63 => ⟨S8192x2, .f32⟩
  | 64 => ⟨S8192x2x1, .f32⟩
  | 65 => ⟨S_, .f32⟩
  | 66 => ⟨S8192x2x1, .f32⟩
  | 67 => ⟨S8192x2x1, .f32⟩
  | 68 => ⟨S_, .f32⟩
  | 69 => ⟨S8192x2x1, .f32⟩
  | 70 => ⟨S8192x2x1, .f32⟩
  | 71 => ⟨S8192x2x1, .f32⟩
  | 72 => ⟨S8192x2x512, .f32⟩
  | 73 => ⟨S8192x2x512, .f32⟩
  | 74 => ⟨S8192x1024, .f32⟩
  | 75 => ⟨S1x1024, .f32⟩
  | 76 => ⟨S8192x1024, .f32⟩
  | 77 => ⟨S8192x1024, .f32⟩
  | 78 => ⟨S8192x1024, .bf16⟩
  | _ => ⟨S8192x5760, .f32⟩

abbrev hbmTy (i : Nat) : BufTy := match i / 128 with
  | 0 => hbmTy0_0 i
  | 1 => hbmTy0_1 i
  | _ => ⟨S8192x5760, .f32⟩

abbrev bufTy : (tb : Table) → Fin (tcTables nBuf tb) → BufTy
  | .hbm, ⟨i, _⟩ => hbmTy i
  | _, _ => ⟨S8192x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call3_call0_cst : Ref sig .tc := ⟨.hbm, 83, rfl⟩
abbrev main_call3_call0_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_0 : Ref sig .tc := ⟨.hbm, 89, rfl⟩
abbrev main_v57 : Ref sig .tc := ⟨.hbm, 90, rfl⟩
abbrev main_call4_v0 : Ref sig .tc := ⟨.hbm, 91, rfl⟩
abbrev main_call4_c : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_c_0 : Ref sig .tc := ⟨.hbm, 97, rfl⟩
abbrev main_call4_v5 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_1 : Ref sig .tc := ⟨.hbm, 129, rfl⟩
abbrev main_v84 : Ref sig .tc := ⟨.hbm, 130, rfl⟩
abbrev main_cst_2 : Ref sig .tc := ⟨.hbm, 131, rfl⟩
abbrev main_v85 : Ref sig .tc := ⟨.hbm, 132, rfl⟩
abbrev main_c_3 : Ref sig .tc := ⟨.hbm, 133, rfl⟩
abbrev main_v86_0 : Ref sig .tc := ⟨.hbm, 134, rfl⟩
abbrev main_v86_1 : Ref sig .tc := ⟨.hbm, 135, rfl⟩
abbrev main_v86_2 : Ref sig .tc := ⟨.hbm, 136, rfl⟩
abbrev main_v86_3 : Ref sig .tc := ⟨.hbm, 137, rfl⟩
abbrev main_v86_4 : Ref sig .tc := ⟨.hbm, 138, rfl⟩
abbrev main_while0c_c_11 : Ref sig .tc := ⟨.hbm, 139, rfl⟩
abbrev main_while0c_v120 : Ref sig .tc := ⟨.hbm, 140, rfl⟩
abbrev main_while0b_call6_c : Ref sig .tc := ⟨.hbm, 141, rfl⟩
abbrev main_while0b_call6_c_0 : Ref sig .tc := ⟨.hbm, 142, rfl⟩
abbrev main_while0b_call6_c_1 : Ref sig .tc := ⟨.hbm, 143, rfl⟩
abbrev main_while0b_call6_c_2 : Ref sig .tc := ⟨.hbm, 144, rfl⟩
abbrev main_while0b_call6_v0 : Ref sig .tc := ⟨.hbm, 145, rfl⟩
abbrev main_while0b_v120 : Ref sig .tc := ⟨.hbm, 146, rfl⟩
abbrev main_while0b_call7_c : Ref sig .tc := ⟨.hbm, 147, rfl⟩
abbrev main_while0b_call7_c_0 : Ref sig .tc := ⟨.hbm, 148, rfl⟩
abbrev main_while0b_call7_v0 : Ref sig .tc := ⟨.hbm, 149, rfl⟩
abbrev main_while0b_v121 : Ref sig .tc := ⟨.hbm, 150, rfl⟩
abbrev main_while0b_v122 : Ref sig .tc := ⟨.hbm, 151, rfl⟩
abbrev main_while0b_v123 : Ref sig .tc := ⟨.hbm, 152, rfl⟩
abbrev main_while0b_v124 : Ref sig .tc := ⟨.hbm, 153, rfl⟩
abbrev main_while0b_v125 : Ref sig .tc := ⟨.hbm, 154, rfl⟩
abbrev main_while0b_call8_v0 : Ref sig .tc := ⟨.hbm, 155, rfl⟩
abbrev main_while0b_call8_c : Ref sig .tc := ⟨.hbm, 156, rfl⟩
abbrev main_while0b_call8_c_0 : Ref sig .tc := ⟨.hbm, 157, rfl⟩
abbrev main_while0b_call8_c_1 : Ref sig .tc := ⟨.hbm, 158, rfl⟩
abbrev main_while0b_call8_c_2 : Ref sig .tc := ⟨.hbm, 159, rfl⟩
abbrev main_while0b_v126 : Ref sig .tc := ⟨.hbm, 160, rfl⟩
abbrev main_while0b_c_11 : Ref sig .tc := ⟨.hbm, 161, rfl⟩
abbrev main_while0b_v127 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_call9_v0 : Ref sig .tc := ⟨.hbm, 178, rfl⟩
abbrev main_call9_v1 : Ref sig .tc := ⟨.hbm, 179, rfl⟩
abbrev main_call9_cst : Ref sig .tc := ⟨.hbm, 180, rfl⟩
abbrev main_call9_v2 : Ref sig .tc := ⟨.hbm, 181, rfl⟩
abbrev main_call9_v3 : Ref sig .tc := ⟨.hbm, 182, rfl⟩
abbrev main_call9_cst_0 : Ref sig .tc := ⟨.hbm, 183, rfl⟩
abbrev main_call9_v4 : Ref sig .tc := ⟨.hbm, 184, rfl⟩
abbrev main_call9_v5 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_cst_4 : Ref sig .tc := ⟨.hbm, 190, rfl⟩
abbrev main_v106 : Ref sig .tc := ⟨.hbm, 191, rfl⟩
abbrev main_v107 : Ref sig .tc := ⟨.hbm, 192, rfl⟩
abbrev main_cst_5 : Ref sig .tc := ⟨.hbm, 193, rfl⟩
abbrev main_v108 : Ref sig .tc := ⟨.hbm, 194, rfl⟩
abbrev main_v109 : Ref sig .tc := ⟨.hbm, 195, rfl⟩
abbrev main_cst_6 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x2048 : Shape := ⟨2, ![8192, 2048]⟩
abbrev S5760x2048 : Shape := ⟨2, ![5760, 2048]⟩
abbrev S8192x5760 : Shape := ⟨2, ![8192, 5760]⟩
abbrev S1024x2048 : Shape := ⟨2, ![1024, 2048]⟩
abbrev S1920x2048 : Shape := ⟨2, ![1920, 2048]⟩
abbrev S1024x1920 : Shape := ⟨2, ![1024, 1920]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S5760x2048, .bf16⟩
  | .hbm, ⟨2, _⟩ => ⟨S8192x5760, .f32⟩
  | .hbm, ⟨3, _⟩ => ⟨S8192x5760, .bf16⟩
  | .local _ .vmem, ⟨0, _⟩ => ⟨S1024x2048, .bf16⟩
  | .local _ .vmem, ⟨1, _⟩ => ⟨S1024x2048, .bf16⟩
  | .local _ .vmem, ⟨2, _⟩ => ⟨S1920x2048, .bf16⟩
  | .local _ .vmem, ⟨3, _⟩ => ⟨S1920x2048, .bf16⟩
  | .local _ .vmem, ⟨4, _⟩ => ⟨S1024x1920, .f32⟩
  | .local _ .vmem, ⟨5, _⟩ => ⟨S1024x1920, .f32⟩
  | .local _ .vmem, ⟨6, _⟩ => ⟨S1024x1920, .bf16⟩
  | .local _ .vmem, ⟨7, _⟩ => ⟨S1024x1920, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1920x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1920 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S5760x2048 : Shape := ⟨2, ![5760, 2048]⟩
abbrev S8192x5760 : Shape := ⟨2, ![8192, 5760]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5760x2048, .bf16⟩
  | .hbm, ⟨2, _⟩ => ⟨S8192x2048, .f32⟩
  | .hbm, ⟨3, _⟩ => ⟨S5760x2048, .f32⟩
  | .hbm, ⟨4, _⟩ => ⟨S8192x5760, .f32⟩
  | .hbm, ⟨5, _⟩ => ⟨S8192x5760, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8192x1024 : Shape := ⟨2, ![8192, 1024]⟩
abbrev S8192x512 : Shape := ⟨2, ![8192, 512]⟩
abbrev S2x2048x2048 : Shape := ⟨3, ![2, 2048, 2048]⟩
abbrev S8192x2048 : Shape := ⟨2, ![8192, 2048]⟩
abbrev S1x2048 : Shape := ⟨2, ![1, 2048]⟩
abbrev S512x1024 : Shape := ⟨2, ![512, 1024]⟩
abbrev S512x512 : Shape := ⟨2, ![512, 512]⟩
abbrev S1x1024x1024 : Shape := ⟨3, ![1, 1024, 1024]⟩
abbrev S1x512x1024 : Shape := ⟨3, ![1, 512, 1024]⟩
abbrev S1x1024 : Shape := ⟨2, ![1, 1024]⟩
abbrev S2048x1024 : Shape := ⟨2, ![2048, 1024]⟩
abbrev S1024x1024 : Shape := ⟨2, ![1024, 1024]⟩

abbrev nBuf : Space → Nat
  | .hbm => 7
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S2x2048x2048, .f32⟩
  | .hbm, ⟨4, _⟩ => ⟨S8192x2048, .f32⟩
  | .hbm, ⟨5, _⟩ => ⟨S1x2048, .f32⟩
  | .hbm, ⟨6, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8192x1024 : Shape := ⟨2, ![8192, 1024]⟩
abbrev S8192x512 : Shape := ⟨2, ![8192, 512]⟩
abbrev S2x2048x2048 : Shape := ⟨3, ![2, 2048, 2048]⟩
abbrev S8192x2048 : Shape := ⟨2, ![8192, 2048]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S2x2048x2048, .f32⟩
  | .hbm, ⟨4, _⟩ => ⟨S8192x2048, .f32⟩
  | .hbm, ⟨5, _⟩ => ⟨S1x2048, .f32⟩
  | .hbm, ⟨6, _⟩ => ⟨S8192x2048, .bf16⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel4.lean ====
abbrev S18432x7168 : Shape := ⟨2, ![18432, 7168]⟩
abbrev S8x7168x2048 : Shape := ⟨3, ![8, 7168, 2048]⟩
abbrev S72 : Shape := ⟨1, ![72]⟩
abbrev S1 : Shape := ⟨1, ![1]⟩
abbrev S18432x2048 : Shape := ⟨2, ![18432, 2048]⟩
abbrev S256x7168 : Shape := ⟨2, ![256, 7168]⟩
abbrev S256x1024 : Shape := ⟨2, ![256, 1024]⟩
abbrev S1x1x7168x1024 : Shape := ⟨4, ![1, 1, 7168, 1024]⟩
abbrev S1x7168x1024 : Shape := ⟨3, ![1, 7168, 1024]⟩
abbrev S1x1 : Shape := ⟨2, ![1, 1]⟩
abbrev S_ : Shape := ⟨0, ![]⟩
abbrev S7168x1024 : Shape := ⟨2, ![7168, 1024]⟩
abbrev S1x1x7168x256 : Shape := ⟨4, ![1, 1, 7168, 256]⟩
abbrev S7168x256 : Shape := ⟨2, ![7168, 256]⟩
abbrev S1x7168x256 : Shape := ⟨3, ![1, 7168, 256]⟩
abbrev S256x256 : Shape := ⟨2, ![256, 256]⟩

abbrev nBuf : Space → Nat
  | .hbm => 3
  | .vmem => 6
  | .smem => 5
  | _ => 0

abbrev bufTy : (tb : Table) → Fin (tcTables nBuf tb) → BufTy
  | .hbm, ⟨0, _⟩ => ⟨S18432x7168, .bf16⟩
  | .hbm, ⟨1, _⟩ => ⟨S8x7168x2048, .f32⟩
  | .hbm, ⟨2, _⟩ => ⟨S18432x2048, .bf16⟩
  | .local _ .vmem, ⟨0, _⟩ => ⟨S256x7168, .bf16⟩
  | .local _ .vmem, ⟨1, _⟩ => ⟨S256x7168, .bf16⟩
  | .local _ .vmem, ⟨2, _⟩ => ⟨S256x1024, .bf16⟩
  | .local _ .vmem, ⟨3, _⟩ => ⟨S256x1024, .bf16⟩
  | .local _ .vmem, ⟨4, _⟩ => ⟨S1x1x7168x1024, .f32⟩
  | .local _ .vmem, ⟨5, _⟩ => ⟨S1x7168x1024, .bf16⟩
  | .local _ .smem, ⟨0, _⟩ => ⟨S72, .i32⟩
  | .local _ .smem, ⟨1, _⟩ => ⟨S72, .i32⟩
  | .local _ .smem, ⟨2, _⟩ => ⟨S72, .i32⟩
  | .local _ .smem, ⟨3, _⟩ => ⟨S72, .i32⟩
  | .local _ .smem, ⟨4, _⟩ => ⟨S1, .i32⟩
  | _, _ => ⟨S18432x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev main_arg6 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 72], ![false, false]⟩

abbrev pre0 : Pipeline.Prefetch sig := ⟨5, ![main_arg2.idx, main_arg3.idx, main_arg4.idx, main_arg5.idx, main_arg6.idx], fun | 0 => main_arg2.names | 1 => main_arg3.names | 2 => main_arg4.names | 3 => main_arg5.names | 4 => main_arg6.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v55 : Index := Scalar.indexCast arg1
  ![v55.toNat]
def k0_mult1 (i : grid0.Coords) : BitVec 32 :=
  let arg0 : BitVec 32 := BitVec.ofNat 32 (i 0).val
  let c1024_i32_23 : BitVec 32 := 1024#32
  let v57 : BitVec 32 := Scalar.muli arg0 c1024_i32_23
  v57
def k0_off3 (i : grid0.Coords) (v4 : BitVec 32) (v7 : BitVec 32) : Fin 2 → Nat :=
  let arg0 : BitVec 32 := BitVec.ofNat 32 (i 0).val
  let v5 : BitVec 32 := Scalar.muli arg0 v4
  let v8 : BitVec 32 := Scalar.addi v5 v7
  let c1_i32 : BitVec 32 := 1#32
  let c0_i32_0 : BitVec 32 := 0#32
  let v9 : BitVec 1 := Scalar.cmpi .eq c1_i32 c0_i32_0
  let c1_i32_1 : BitVec 32 := 1#32
  let v10 : BitVec 32 := Scalar.select v9 c1_i32_1 c1_i32
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c0_i32_25 : BitVec 32 := 0#32
  ![v18.toNat, 0]
def k0_cond1 (v1 : BitVec 32) : BitVec 1 :=
  let c2_i32 : BitVec 32 := 2#32
  let v2 : BitVec 32 := Scalar.andi v1 c2_i32
  let c0_i32 : BitVec 32 := 0#32
  let v3 : BitVec 1 := Scalar.cmpi .ne v2 c0_i32
  let v27 : BitVec 32 := Scalar.extui v3
  let c0_i32_8 : BitVec 32 := 0#32
  let v28 : BitVec 1 := Scalar.cmpi .ne v27 c0_i32_8
  v28

def k0_cond2 (i : grid0.Coords) (v4 : BitVec 32) (v7 : BitVec 32) : BitVec 1 :=
  let arg0 : BitVec 32 := BitVec.ofNat 32 (i 0).val
  let v5 : BitVec 32 := Scalar.muli arg0 v4
  let v8 : BitVec 32 := Scalar.addi v5 v7
  let c0_i32_16 : BitVec 32 := 0#32
  let v42 : BitVec 1 := Scalar.cmpi .eq v8 c0_i32_16
  let v43 : BitVec 32 := Scalar.extui v42
  let c0_i32_17 : BitVec 32 := 0#32
  let v44 : BitVec 1 := Scalar.cmpi .ne v43 c0_i32_17
  v44

def k0_off4 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32 : BitVec 32 := 1#32
  let c0_i32_0 : BitVec 32 := 0#32
  let v9 : BitVec 1 := Scalar.cmpi .eq c1_i32 c0_i32_0
  let c1_i32_1 : BitVec 32 := 1#32
  let v10 : BitVec 32 := Scalar.select v9 c1_i32_1 c1_i32
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c0_i32_24 : BitVec 32 := 0#32
  let c0_i32_26 : BitVec 32 := 0#32
  let c0_i32_27 : BitVec 32 := 0#32
  ![v18.toNat, 0, 0, 0]
def k0_off5 (i : grid0.Coords) (v56 : BitVec 32) : Fin 3 → Nat :=
  let c0_i32_28 : BitVec 32 := 0#32
  let arg0 : BitVec 32 := BitVec.ofNat 32 (i 0).val
  let c1024_i32_23 : BitVec 32 := 1024#32
  let v57 : BitVec 32 := Scalar.muli arg0 c1024_i32_23
  let v58 : BitVec 32 := v57
  ![v56.toNat, 0, v58.toNat]

def k0_chk2 (i : grid0.Coords) (v1 : BitVec 32) (v4 : BitVec 32) (v7 : BitVec 32) (v56 : BitVec 32) : Prop :=
  (∀ (k0_h1 : k0_cond1 v1 = 1#1), ∀ (k0_h2 : k0_cond2 i v4 v7 = 1#1), ∀ a, (k0_off5 i v56) a + S1x7168x1024.size a ≤ S8x7168x2048.size a)
theorem k0_off5_inb : ∀ (i : grid0.Coords) (v1 : BitVec 32) (v4 : BitVec 32) (v7 : BitVec 32) (v56 : BitVec 32) (k0_hw2 : k0_chk2 i v1 v4 v7 v56), ∀ (k0_h1 : k0_cond1 v1 = 1#1), ∀ (k0_h2 : k0_cond2 i v4 v7 = 1#1), ∀ a, (k0_off5 i v56) a + S1x7168x1024.size a ≤ S8x7168x2048.size a := fun i v1 v4 v7 v56 k0_hw2 k0_h1 k0_h2 => k0_hw2 k0_h1 k0_h2

def k0_off6 (i : grid0.Coords) : Fin 1 → Nat :=
  let arg1 : BitVec 32 := BitVec.ofNat 32 (i 1).val
  let v45 : Index := Scalar.indexCast arg1
  ![v45.toNat]
def k0_mult2 (i : grid0.Coords) : BitVec 32 :=
  let arg0 : BitVec 32 := BitVec.ofNat 32 (i 0).val
  let c1024_i32 : BitVec 32 := 1024#32
  let v47 : BitVec 32 := Scalar.muli arg0 c1024_i32
  v47
def k0_off7 (i : grid0.Coords) (v4 : BitVec 32) (v7 : BitVec 32) : Fin 2 → Nat :=
  let arg0 : BitVec 32 := BitVec.ofNat 32 (i 0).val
  let v5 : BitVec 32 := Scalar.muli arg0 v4
  let v8 : BitVec 32 := Scalar.addi v5 v7
  let c1_i32 : BitVec 32 := 1#32
  let c0_i32_0 : BitVec 32 := 0#32
  let v9 : BitVec 1 := Scalar.cmpi .eq c1_i32 c0_i32_0
  let c1_i32_1 : BitVec 32 := 1#32
  let v10 : BitVec 32 := Scalar.select v9 c1_i32_1 c1_i32
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c0_i32_19 : BitVec 32 := 0#32
  ![v18.toNat, 0]
def k0_off8 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32 : BitVec 32 := 1#32
  let c0_i32_0 : BitVec 32 := 0#32
  let v9 : BitVec 1 := Scalar.cmpi .eq c1_i32 c0_i32_0
  let c1_i32_1 : BitVec 32 := 1#32
  let v10 : BitVec 32 := Scalar.select v9 c1_i32_1 c1_i32
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c0_i32_18 : BitVec 32 := 0#32
  let c0_i32_20 : BitVec 32 := 0#32
  let c0_i32_21 : BitVec 32 := 0#32
  ![v18.toNat, 0, 0, 0]
def k0_off9 (i : grid0.Coords) (v46 : BitVec 32) : Fin 3 → Nat :=
  let c0_i32_22 : BitVec 32 := 0#32
  let arg0 : BitVec 32 := BitVec.ofNat 32 (i 0).val
  let c1024_i32 : BitVec 32 := 1024#32
  let v47 : BitVec 32 := Scalar.muli arg0 c1024_i32
  let v48 : BitVec 32 := v47
  ![v46.toNat, 0, v48.toNat]

def k0_chk3 (i : grid0.Coords) (v1 : BitVec 32) (v46 : BitVec 32) : Prop :=
  (∀ (k0_h1 : k0_cond1 v1 = 1#1), ∀ a, (k0_off9 i v46) a + S1x7168x1024.size a ≤ S8x7168x2048.size a)
theorem k0_off9_inb : ∀ (i : grid0.Coords) (v1 : BitVec 32) (v46 : BitVec 32) (k0_hw3 : k0_chk3 i v1 v46), ∀ (k0_h1 : k0_cond1 v1 = 1#1), ∀ a, (k0_off9 i v46) a + S1x7168x1024.size a ≤ S8x7168x2048.size a := fun i v1 v46 k0_hw3 k0_h1 => k0_hw3 k0_h1

def k0_off10 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32 : BitVec 32 := 1#32
  let c0_i32_0 : BitVec 32 := 0#32
  let v9 : BitVec 1 := Scalar.cmpi .eq c1_i32 c0_i32_0
  let c1_i32_1 : BitVec 32 := 1#32
  let v10 : BitVec 32 := Scalar.select v9 c1_i32_1 c1_i32
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v43 : Index := Scalar.indexCast v18
  let c0_18 : Index := 0#32
  let c0_19 : Index := 0#32
  let c0_20 : Index := 0#32
  ![v43.toNat, 0, 0, 0]
def k0_cond3 (v1 : BitVec 32) : BitVec 1 :=
  let c3_i32 : BitVec 32 := 3#32
  let v29 : BitVec 1 := Scalar.cmpi .eq v1 c3_i32
  let v30 : BitVec 32 := Scalar.extui v29
  let c0_i32_9 : BitVec 32 := 0#32
  let v31 : BitVec 1 := Scalar.cmpi .ne v30 c0_i32_9
  v31

def k0_off11 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32 : BitVec 32 := 1#32
  let c0_i32_0 : BitVec 32 := 0#32
  let v9 : BitVec 1 := Scalar.cmpi .eq c1_i32 c0_i32_0
  let c1_i32_1 : BitVec 32 := 1#32
  let v10 : BitVec 32 := Scalar.select v9 c1_i32_1 c1_i32
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v53 : Index := Scalar.indexCast v18
  let c0_26 : Index := 0#32
  let c0_27 : Index := 0#32
  let c256 : Index := 256#32
  ![v53.toNat, 0, 0, 256]
def k0_off12 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32 : BitVec 32 := 1#32
  let c0_i32_0 : BitVec 32 := 0#32
  let v9 : BitVec 1 := Scalar.cmpi .eq c1_i32 c0_i32_0
  let c1_i32_1 : BitVec 32 := 1#32
  let v10 : BitVec 32 := Scalar.select v9 c1_i32_1 c1_i32
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v63 : Index := Scalar.indexCast v18
  let c0_34 : Index := 0#32
  let c0_35 : Index := 0#32
  let c512 : Index := 512#32
  ![v63.toNat, 0, 0, 512]
def k0_off13 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32 : BitVec 32 := 1#32
  let c0_i32_0 : BitVec 32 := 0#32
  let v9 : BitVec 1 := Scalar.cmpi .eq c1_i32 c0_i32_0
  let c1_i32_1 : BitVec 32 := 1#32
  let v10 : BitVec 32 := Scalar.select v9 c1_i32_1 c1_i32
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v73 : Index := Scalar.indexCast v18
  let c0_42 : Index := 0#32
  let c0_43 : Index := 0#32
  let c768 : Index := 768#32
  ![v73.toNat, 0, 0, 768]

def k0_chk1 (i : grid0.Coords) (v1 : BitVec 32) (v4 : BitVec 32) (v7 : BitVec 32) : Prop :=
  (∀ (k0_h1 : k0_cond1 v1 = 1#1), ∀ (k0_h2 : k0_cond2 i v4 v7 = 1#1), ∀ a, (k0_off3 i v4 v7) a + S1x1.size a ≤ S1x1.size a) ∧
  (∀ (k0_h1 : k0_cond1 v1 = 1#1), ∀ (k0_h2 : k0_cond2 i v4 v7 = 1#1), ∀ a, (k0_off4 i v4 v7) a + S1x1x7168x1024.size a ≤ S1x1x7168x1024.size a) ∧
  (∀ (k0_h1 : k0_cond1 v1 = 1#1), ∀ a, (k0_off7 i v4 v7) a + S1x1.size a ≤ S1x1.size a) ∧
  (∀ (k0_h1 : k0_cond1 v1 = 1#1), ∀ a, (k0_off8 i v4 v7) a + S1x1x7168x1024.size a ≤ S1x1x7168x1024.size a) ∧
  (∀ (k0_h3 : k0_cond3 v1 = 1#1), ∀ a, (k0_off10 i v4 v7) a + S1x1x7168x256.size a ≤ S1x1x7168x1024.size a) ∧
  (∀ (k0_h3 : k0_cond3 v1 = 1#1), ∀ a, (k0_off11 i v4 v7) a + S1x1x7168x256.size a ≤ S1x1x7168x1024.size a) ∧
  (∀ (k0_h3 : k0_cond3 v1 = 1#1), ∀ a, (k0_off12 i v4 v7) a + S1x1x7168x256.size a ≤ S1x1x7168x1024.size a) ∧
  (∀ (k0_h3 : k0_cond3 v1 = 1#1), ∀ a, (k0_off13 i v4 v7) a + S1x1x7168x256.size a ≤ S1x1x7168x1024.size a)
theorem k0_off3_inb : ∀ (i : grid0.Coords) (v1 : BitVec 32) (v4 : BitVec 32) (v7 : BitVec 32) (k0_hw1 : k0_chk1 i v1 v4 v7), ∀ (k0_h1 : k0_cond1 v1 = 1#1), ∀ (k0_h2 : k0_cond2 i v4 v7 = 1#1), ∀ a, (k0_off3 i v4 v7) a + S1x1.size a ≤ S1x1.size a := fun i v1 v4 v7 k0_hw1 k0_h1 k0_h2 => k0_hw1.1 k0_h1 k0_h2
theorem k0_off4_inb : ∀ (i : grid0.Coords) (v1 : BitVec 32) (v4 : BitVec 32) (v7 : BitVec 32) (k0_hw1 : k0_chk1 i v1 v4 v7), ∀ (k0_h1 : k0_cond1 v1 = 1#1), ∀ (k0_h2 : k0_cond2 i v4 v7 = 1#1), ∀ a, (k0_off4 i v4 v7) a + S1x1x7168x1024.size a ≤ S1x1x7168x1024.size a := fun i v1 v4 v7 k0_hw1 k0_h1 k0_h2 => k0_hw1.2.1 k0_h1 k0_h2
theorem k0_off7_inb : ∀ (i : grid0.Coords) (v1 : BitVec 32) (v4 : BitVec 32) (v7 : BitVec 32) (k0_hw1 : k0_chk1 i v1 v4 v7), ∀ (k0_h1 : k0_cond1 v1 = 1#1), ∀ a, (k0_off7 i v4 v7) a + S1x1.size a ≤ S1x1.size a := fun i v1 v4 v7 k0_hw1 k0_h1 => k0_hw1.2.2.1 k0_h1
theorem k0_off8_inb : ∀ (i : grid0.Coords) (v1 : BitVec 32) (v4 : BitVec 32) (v7 : BitVec 32) (k0_hw1 : k0_chk1 i v1 v4 v7), ∀ (k0_h1 : k0_cond1 v1 = 1#1), ∀ a, (k0_off8 i v4 v7) a + S1x1x7168x1024.size a ≤ S1x1x7168x1024.size a := fun i v1 v4 v7 k0_hw1 k0_h1 => k0_hw1.2.2.2.1 k0_h1
theorem k0_off10_inb : ∀ (i : grid0.Coords) (v1 : BitVec 32) (v4 : BitVec 32) (v7 : BitVec 32) (k0_hw1 : k0_chk1 i v1 v4 v7), ∀ (k0_h3 : k0_cond3 v1 = 1#1), ∀ a, (k0_off10 i v4 v7) a + S1x1x7168x256.size a ≤ S1x1x7168x1024.size a := fun i v1 v4 v7 k0_hw1 k0_h3 => k0_hw1.2.2.2.2.1 k0_h3
theorem k0_off11_inb : ∀ (i : grid0.Coords) (v1 : BitVec 32) (v4 : BitVec 32) (v7 : BitVec 32) (k0_hw1 : k0_chk1 i v1 v4 v7), ∀ (k0_h3 : k0_cond3 v1 = 1#1), ∀ a, (k0_off11 i v4 v7) a + S1x1x7168x256.size a ≤ S1x1x7168x1024.size a := fun i v1 v4 v7 k0_hw1 k0_h3 => k0_hw1.2.2.2.2.2.1 k0_h3
theorem k0_off12_inb : ∀ (i : grid0.Coords) (v1 : BitVec 32) (v4 : BitVec 32) (v7 : BitVec 32) (k0_hw1 : k0_chk1 i v1 v4 v7), ∀ (k0_h3 : k0_cond3 v1 = 1#1), ∀ a, (k0_off12 i v4 v7) a + S1x1x7168x256.size a ≤ S1x1x7168x1024.size a := fun i v1 v4 v7 k0_hw1 k0_h3 => k0_hw1.2.2.2.2.2.2.1 k0_h3
theorem k0_off13_inb : ∀ (i : grid0.Coords) (v1 : BitVec 32) (v4 : BitVec 32) (v7 : BitVec 32) (k0_hw1 : k0_chk1 i v1 v4 v7), ∀ (k0_h3 : k0_cond3 v1 = 1#1), ∀ a, (k0_off13 i v4 v7) a + S1x1x7168x256.size a ≤ S1x1x7168x1024.size a := fun i v1 v4 v7 k0_hw1 k0_h3 => k0_hw1.2.2.2.2.2.2.2 k0_h3

def k0_off14 (i : grid0.Coords) : Fin 1 → Nat :=
  let arg1 : BitVec 32 := BitVec.ofNat 32 (i 1).val
  let v42 : Index := Scalar.indexCast arg1
  ![v42.toNat]
def k0_mult3 (i : grid0.Coords) (v20 : BitVec 32) (v21 : BitVec 32) : BitVec 32 :=
  let arg0 : BitVec 32 := BitVec.ofNat 32 (i 0).val
  let c1_i32_6 : BitVec 32 := 1#32
  let v22 : BitVec 32 := Scalar.subi v21 c1_i32_6
  let v23 : BitVec 1 := Scalar.cmpi .eq v20 v22
  let v44 : BitVec 32 := Scalar.extui v23
  let v45 : BitVec 32 := Scalar.addi arg0 v44
  let c1024_i32 : BitVec 32 := 1024#32
  let v57 : BitVec 32 := Scalar.muli v45 c1024_i32
  v57
def k0_cond6 (i : grid0.Coords) (v1 : BitVec 32) (v20 : BitVec 32) (v21 : BitVec 32) : BitVec 1 :=
  let c2_i32 : BitVec 32 := 2#32
  let v2 : BitVec 32 := Scalar.andi v1 c2_i32
  let c0_i32 : BitVec 32 := 0#32
  let v3 : BitVec 1 := Scalar.cmpi .ne v2 c0_i32
  let c1_i32_6 : BitVec 32 := 1#32
  let v22 : BitVec 32 := Scalar.subi v21 c1_i32_6
  let v23 : BitVec 1 := Scalar.cmpi .eq v20 v22
  let arg0 : BitVec 32 := BitVec.ofNat 32 (i 0).val
  let c1_i32_7 : BitVec 32 := 1#32
  let v24 : BitVec 1 := Scalar.cmpi .eq arg0 c1_i32_7
  let v25 : BitVec 1 := Scalar.andi v23 v24
  let v_true : BitVec 1 := 1#1
  let v26 : BitVec 1 := Scalar.xori v25 v_true
  let v39 : BitVec 1 := Scalar.andi v3 v26
  let v40 : BitVec 32 := Scalar.extui v39
  let c0_i32_15 : BitVec 32 := 0#32
  let v41 : BitVec 1 := Scalar.cmpi .ne v40 c0_i32_15
  v41

def k0_off15 (i : grid0.Coords) (v4 : BitVec 32) (v7 : BitVec 32) : Fin 2 → Nat :=
  let arg0 : BitVec 32 := BitVec.ofNat 32 (i 0).val
  let v5 : BitVec 32 := Scalar.muli arg0 v4
  let v8 : BitVec 32 := Scalar.addi v5 v7
  let c1_i32_16 : BitVec 32 := 1#32
  let v46 : BitVec 32 := Scalar.addi v8 c1_i32_16
  let c1_i32_17 : BitVec 32 := 1#32
  let c0_i32_18 : BitVec 32 := 0#32
  let v47 : BitVec 1 := Scalar.cmpi .eq c1_i32_17 c0_i32_18
  let c1_i32_19 : BitVec 32 := 1#32
  let v48 : BitVec 32 := Scalar.select v47 c1_i32_19 c1_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  ![v56.toNat, 0]
def k0_off16 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32_16 : BitVec 32 := 1#32
  let v46 : BitVec 32 := Scalar.addi v8 c1_i32_16
  let c1_i32_17 : BitVec 32 := 1#32
  let c0_i32_18 : BitVec 32 := 0#32
  let v47 : BitVec 1 := Scalar.cmpi .eq c1_i32_17 c0_i32_18
  let c1_i32_19 : BitVec 32 := 1#32
  let v48 : BitVec 32 := Scalar.select v47 c1_i32_19 c1_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let c0_i32_25 : BitVec 32 := 0#32
  let c0_i32_26 : BitVec 32 := 0#32
  ![v56.toNat, 0, 0, 0]

def k0_chk4 (i : grid0.Coords) (v1 : BitVec 32) (v4 : BitVec 32) (v7 : BitVec 32) (v20 : BitVec 32) (v21 : BitVec 32) : Prop :=
  (∀ (k0_h6 : k0_cond6 i v1 v20 v21 = 1#1), 1024 ∣ (k0_mult3 i v20 v21).toNat) ∧
  (∀ (k0_h6 : k0_cond6 i v1 v20 v21 = 1#1), ∀ a, (k0_off15 i v4 v7) a + S1x1.size a ≤ S1x1.size a) ∧
  (∀ (k0_h6 : k0_cond6 i v1 v20 v21 = 1#1), ∀ a, (k0_off16 i v4 v7) a + S1x1x7168x1024.size a ≤ S1x1x7168x1024.size a)
theorem k0_mult3_dvd : ∀ (i : grid0.Coords) (v1 : BitVec 32) (v4 : BitVec 32) (v7 : BitVec 32) (v20 : BitVec 32) (v21 : BitVec 32) (k0_hw4 : k0_chk4 i v1 v4 v7 v20 v21), ∀ (k0_h6 : k0_cond6 i v1 v20 v21 = 1#1), 1024 ∣ (k0_mult3 i v20 v21).toNat := fun i v1 v4 v7 v20 v21 k0_hw4 k0_h6 => k0_hw4.1 k0_h6
theorem k0_off15_inb : ∀ (i : grid0.Coords) (v1 : BitVec 32) (v4 : BitVec 32) (v7 : BitVec 32) (v20 : BitVec 32) (v21 : BitVec 32) (k0_hw4 : k0_chk4 i v1 v4 v7 v20 v21), ∀ (k0_h6 : k0_cond6 i v1 v20 v21 = 1#1), ∀ a, (k0_off15 i v4 v7) a + S1x1.size a ≤ S1x1.size a := fun i v1 v4 v7 v20 v21 k0_hw4 k0_h6 => k0_hw4.2.1 k0_h6
theorem k0_off16_inb : ∀ (i : grid0.Coords) (v1 : BitVec 32) (v4 : BitVec 32) (v7 : BitVec 32) (v20 : BitVec 32) (v21 : BitVec 32) (k0_hw4 : k0_chk4 i v1 v4 v7 v20 v21), ∀ (k0_h6 : k0_cond6 i v1 v20 v21 = 1#1), ∀ a, (k0_off16 i v4 v7) a + S1x1x7168x1024.size a ≤ S1x1x7168x1024.size a := fun i v1 v4 v7 v20 v21 k0_hw4 k0_h6 => k0_hw4.2.2 k0_h6

def k0_off17 (i : grid0.Coords) (v20 : BitVec 32) (v21 : BitVec 32) (v43 : BitVec 32) : Fin 3 → Nat :=
  let c0_i32_27 : BitVec 32 := 0#32
  let arg0 : BitVec 32 := BitVec.ofNat 32 (i 0).val
  let c1_i32_6 : BitVec 32 := 1#32
  let v22 : BitVec 32 := Scalar.subi v21 c1_i32_6
  let v23 : BitVec 1 := Scalar.cmpi .eq v20 v22
  let v44 : BitVec 32 := Scalar.extui v23
  let v45 : BitVec 32 := Scalar.addi arg0 v44
  let c1024_i32 : BitVec 32 := 1024#32
  let v57 : BitVec 32 := Scalar.muli v45 c1024_i32
  let v58 : BitVec 32 := v57
  ![v43.toNat, 0, v58.toNat]

def k0_chk5 (i : grid0.Coords) (v1 : BitVec 32) (v20 : BitVec 32) (v21 : BitVec 32) (v43 : BitVec 32) : Prop :=
  (∀ (k0_h6 : k0_cond6 i v1 v20 v21 = 1#1), ∀ a, (k0_off17 i v20 v21 v43) a + S1x7168x1024.size a ≤ S8x7168x2048.size a)
theorem k0_off17_inb : ∀ (i : grid0.Coords) (v1 : BitVec 32) (v20 : BitVec 32) (v21 : BitVec 32) (v43 : BitVec 32) (k0_hw5 : k0_chk5 i v1 v20 v21 v43), ∀ (k0_h6 : k0_cond6 i v1 v20 v21 = 1#1), ∀ a, (k0_off17 i v20 v21 v43) a + S1x7168x1024.size a ≤ S8x7168x2048.size a := fun i v1 v20 v21 v43 k0_hw5 k0_h6 => k0_hw5 k0_h6

def k0_cond4 (v1 : BitVec 32) : BitVec 1 :=
  let c1_i32_10 : BitVec 32 := 1#32
  let v32 : BitVec 1 := Scalar.cmpi .eq v1 c1_i32_10
  let v33 : BitVec 32 := Scalar.extui v32
  let c0_i32_11 : BitVec 32 := 0#32
  let v34 : BitVec 1 := Scalar.cmpi .ne v33 c0_i32_11
  v34

def k0_cond5 (v1 : BitVec 32) : BitVec 1 :=
  let c1_i32_12 : BitVec 32 := 1#32
  let v35 : BitVec 32 := Scalar.andi v1 c1_i32_12
  let c0_i32_13 : BitVec 32 := 0#32
  let v36 : BitVec 1 := Scalar.cmpi .eq v35 c0_i32_13
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S18432x7168 : Shape := ⟨2, ![18432, 7168]⟩
abbrev S8x7168x2048 : Shape := ⟨3, ![8, 7168, 2048]⟩
abbrev S72 : Shape := ⟨1, ![72]⟩
abbrev S1 : Shape := ⟨1, ![1]⟩
abbrev S72x256 : Shape := ⟨2, ![72, 256]⟩
abbrev S18432 : Shape := ⟨1, ![18432]⟩
abbrev S_ : Shape := ⟨0, ![]⟩
abbrev S18432x2048 : Shape := ⟨2, ![18432, 2048]⟩
abbrev S1x7168x2048 : Shape := ⟨3, ![1, 7168, 2048]⟩
abbrev S7168x2048 : Shape := ⟨2, ![7168, 2048]⟩
abbrev S18432x1 : Shape := ⟨2, ![18432, 1]⟩

abbrev nBuf : Space → Nat
  | .hbm => 161
  | .vmem => 0
  | .smem => 0
  | _ => 0

abbrev hbmTy0_0 (i : Nat) : BufTy := match i % 128 with
  | 0 => ⟨S18432x7168, .bf16⟩
  | 1 => ⟨S8x7168x2048, .f32⟩
  | 2 => ⟨S72, .i32⟩
  | 3 => ⟨S72, .i32⟩
  | 4 => ⟨S72, .i32⟩
  | 5 => ⟨S72, .i32⟩
  | 6 => ⟨S1, .i32⟩
  | 7 => ⟨S72x256, .i32⟩
  | 8 => ⟨S18432, .i32⟩
  | 9 => ⟨S_, .i32⟩
  | 10 => ⟨S72, .i32⟩
  | 11 => ⟨S72, .i32⟩
  | 12 => ⟨S72x256, .i32⟩
  | 13 => ⟨S18432, .i32⟩
  | 14 => ⟨S_, .f32⟩
  | 15 => ⟨S18432x2048, .f32⟩
  | 16 => ⟨S18432x7168, .f32⟩
  | 17 => ⟨S1x7168x2048, .f32⟩
  | 18 => ⟨S7168x2048, .f32⟩
  | 19 => ⟨S18432x2048, .f32⟩
  | 20 => ⟨S_, .i32⟩
  | 21 => ⟨S18432, .i32⟩
  | 22 => ⟨S18432, .i1⟩
  | 23 => ⟨S_, .i32⟩
  | 24 => ⟨S18432, .i32⟩
  | 25 => ⟨S18432, .i1⟩
  | 26 => ⟨S18432, .i1⟩
  | 27 => ⟨S18432x1, .i1⟩
  | 28 => ⟨S_, .f32⟩
  | 29 => ⟨S_, .f32⟩
  | 30 => ⟨S18432x2048, .i1⟩
  | 31 => ⟨S18432x2048, .f32⟩
  | 32 => ⟨S18432x2048, .f32⟩
  | 33 => ⟨S18432x2048, .f32⟩
  | 34 => ⟨S18432x7168, .f32⟩
  | 35 => ⟨S1x7168x2048, .f32⟩
  | 36 => ⟨S7168x2048, .f32⟩
  | 37 => ⟨S18432x2048, .f32⟩
  | 38 => ⟨S_, .i32⟩
  | 39 => ⟨S18432, .i32⟩
  | 40 => ⟨S18432, .i1⟩
  | 41 => ⟨S_, .i32⟩
  | 42 => ⟨S18432, .i32⟩
  | 43 => ⟨S18432, .i1⟩
  | 44 => ⟨S18432, .i1⟩
  | 45 => ⟨S18432x1, .i1⟩
  | 46 => ⟨S_, .f32⟩
  | 47 => ⟨S_, .f32⟩
  | 48 => ⟨S18432x2048, .i1⟩
  | 49 => ⟨S18432x2048, .f32⟩
  | 50 => ⟨S18432x2048, .f32⟩
  | 51 => ⟨S18432x2048, .f32⟩
  | 52 => ⟨S18432x7168, .f32⟩
  | 53 => ⟨S1x7168x2048, .f32⟩
  | 54 => ⟨S7168x2048, .f32⟩
  | 55 => ⟨S18432x2048, .f32⟩
  | 56 => ⟨S_, .i32⟩
  | 57 => ⟨S18432, .i32⟩
  | 58 => ⟨S18432, .i1⟩
  | 59 => ⟨S_, .i32⟩
  | 60 => ⟨S18432, .i32⟩
  | 61 => ⟨S18432, .i1⟩
  | 62 => ⟨S18432, .i1⟩
  | 63 => ⟨S18432x1, .i1⟩
  | 64 => ⟨S_, .f32⟩
  | 65 => ⟨S_, .f32⟩
  | 66 => ⟨S18432x2048, .i1⟩
  | 67 => ⟨S18432x2048, .f32⟩
  | 68 => ⟨S18432x2048, .f32⟩
  | 69 => ⟨S18432x2048, .f32⟩
  | 70 => ⟨S18432x7168, .f32⟩
  | 71 => ⟨S1x7168x2048, .f32⟩
  | 72 => ⟨S7168x2048, .f32⟩
  | 73 => ⟨S18432x2048, .f32⟩
  | 74 => ⟨S_, .i32⟩
  | 75 => ⟨S18432, .i32⟩
  | 76 => ⟨S18432, .i1⟩
  | 77 => ⟨S_, .i32⟩
  | 78 => ⟨S18432, .i32⟩
  | 79 => ⟨S18432, .i1⟩
  | 80 => ⟨S18432, .i1⟩
  | 81 => ⟨S18432x1, .i1⟩
  | 82 => ⟨S_, .f32⟩
  | 83 => ⟨S_, .f32⟩
  | 84 => ⟨S18432x2048, .i1⟩
  | 85 => ⟨S18432x2048, .f32⟩
  | 86 => ⟨S18432x2048, .f32⟩
  | 87 => ⟨S18432x2048, .f32⟩
  | 88 => ⟨S18432x7168, .f32⟩
  | 89 => ⟨S1x7168x2048, .f32⟩
  | 90 => ⟨S7168x2048, .f32⟩
  | 91 => ⟨S18432x2048, .f32⟩
  | 92 => ⟨S_, .i32⟩
  | 93 => ⟨S18432, .i32⟩
  | 94 => ⟨S18432, .i1⟩
  | 95 => ⟨S_, .i32⟩
  | 96 => ⟨S18432, .i32⟩
  | 97 => ⟨S18432, .i1⟩
  | 98 => ⟨S18432, .i1⟩
  | 99 => ⟨S18432x1, .i1⟩
  | 100 => ⟨S_, .f32⟩
  | 101 => ⟨S_, .f32⟩
  | 102 => ⟨S18432x2048, .i1⟩
  | 103 => ⟨S18432x2048, .f32⟩
  | 104 => ⟨S18432x2048, .f32⟩
  | 105 => ⟨S18432x2048, .f32⟩
  | 106 => ⟨S18432x7168, .f32⟩
  | 107 => ⟨S1x7168x2048, .f32⟩
  | 108 => ⟨S7168x2048, .f32⟩
  | 109 => ⟨S18432x2048, .f32⟩
  | 110 => ⟨S_, .i32⟩
  | 111 => ⟨S18432, .i32⟩
  | 112 => ⟨S18432, .i1⟩
  | 113 => ⟨S_, .i32⟩
  | 114 => ⟨S18432, .i32⟩
  | 115 => ⟨S18432, .i1⟩
  | 116 => ⟨S18432, .i1⟩
  | 117 => ⟨S18432x1, .i1⟩
  | 118 => ⟨S_, .f32⟩
  | 119 => ⟨S_, .f32⟩
  | 120 => ⟨S18432x2048, .i1⟩
  | 121 => ⟨S18432x2048, .f32⟩
  | 122 => ⟨S18432x2048, .f32⟩
  | 123 => ⟨S18432x2048, .f32⟩
  | 124 => ⟨S18432x7168, .f32⟩
  | 125 => ⟨S1x7168x2048, .f32⟩
  | 126 => ⟨S7168x2048, .f32⟩
  | 127 => ⟨S18432x2048, .f32⟩
  | _ => ⟨S18432x7168, .bf16⟩

abbrev hbmTy0_1 (i : Nat) : BufTy := match i % 128 with
  | 0 => ⟨S_, .i32⟩
  | 1 => ⟨S18432, .i32⟩
  | 2 => ⟨S18432, .i1⟩
  | 3 => ⟨S_, .i32⟩
  | 4 => ⟨S18432, .i32⟩
  | 5 => ⟨S18432, .i1⟩
  | 6 => ⟨S18432, .i1⟩
  | 7 => ⟨S18432x1, .i1⟩
  | 8 => ⟨S_, .f32⟩
  | 9 => ⟨S_, .f32⟩
  | 10 => ⟨S18432x2048, .i1⟩
  | 11 => ⟨S18432x2048, .f32⟩
  | 12 => ⟨S18432x2048, .f32⟩
  | 13 => ⟨S18432x2048, .f32⟩
  | 14 => ⟨S18432x7168, .f32⟩
  | 15 => ⟨S1x7168x2048, .f32⟩
  | 16 => ⟨S7168x2048, .f32⟩
  | 17 => ⟨S18432x2048, .f32⟩
  | 18 => ⟨S_, .i32⟩
  | 19 => ⟨S18432, .i32⟩
  | 20 => ⟨S18432, .i1⟩
  | 21 => ⟨S_, .i32⟩
  | 22 => ⟨S18432, .i32⟩
  | 23 => ⟨S18432, .i1⟩
  | 24 => ⟨S18432, .i1⟩
  | 25 => ⟨S18432x1, .i1⟩
  | 26 => ⟨S_, .f32⟩
  | 27 => ⟨S_, .f32⟩
  | 28 => ⟨S18432x2048, .i1⟩
  | 29 => ⟨S18432x2048, .f32⟩
  | 30 => ⟨S18432x2048, .f32⟩
  | 31 => ⟨S18432x2048, .f32⟩
  | 32 => ⟨S18432x2048, .bf16⟩
  | _ => ⟨S18432x7168, .bf16⟩

abbrev hbmTy (i : Nat) : BufTy := match i / 128 with
  | 0 => hbmTy0_0 i
  | 1 => hbmTy0_1 i
  | _ => ⟨S18432x7168, .bf16⟩

abbrev bufTy : (tb : Table) → Fin (tcTables nBuf tb) → BufTy
  | .hbm, ⟨i, _⟩ => hbmTy i
  | _, _ => ⟨S18432x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_12 : Ref sig .tc := ⟨.hbm, 92, rfl⟩
abbrev main_v59 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_15 : Ref sig .tc := ⟨.hbm, 110, rfl⟩
abbrev main_v71 : Ref sig .tc := ⟨.hbm, 111, rfl⟩
abbrev main_v72 : Ref sig .tc := ⟨.hbm, 112, rfl⟩
abbrev main_c_16 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_17 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_18 : Ref sig .tc := ⟨.hbm, 128, rfl⟩
abbrev main_v83 : Ref sig .tc := ⟨.hbm, 129, rfl⟩
abbrev main_v84 : Ref sig .tc := ⟨.hbm, 130, rfl⟩
abbrev main_c_19 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_20 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_21 : Ref sig .tc := ⟨.hbm, 146, rfl⟩
abbrev main_v95 : Ref sig .tc := ⟨.hbm, 147, rfl⟩
abbrev main_v96 : Ref sig .tc := ⟨.hbm, 148, rfl⟩
abbrev main_c_22 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_23 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩

abbrev nD : Nat := 1
abbrev τ : Topo := Topo.v7x

variable {F : FTy → Type} [FloatOps F]
-- ==== Kernel5.lean ====
abbrev S18432x2048 : Shape := ⟨2, ![18432, 2048]⟩
abbrev S8x2048x7168 : Shape := ⟨3, ![8, 2048, 7168]⟩
abbrev S72 : Shape := ⟨1, ![72]⟩
abbrev S1 : Shape := ⟨1, ![1]⟩
abbrev S18432x7168 : Shape := ⟨2, ![18432, 7168]⟩
abbrev S256x2048 : Shape := ⟨2, ![256, 2048]⟩
abbrev S256x1024 : Shape := ⟨2, ![256, 1024]⟩
abbrev S2x2x2048x1024 : Shape := ⟨4, ![2, 2, 2048, 1024]⟩
abbrev S2x2048x1024 : Shape := ⟨3, ![2, 2048, 1024]⟩
abbrev S2x2 : Shape := ⟨2, ![2, 2]⟩
abbrev S1x1 : Shape := ⟨2, ![1, 1]⟩
abbrev S_ : Shape := ⟨0, ![]⟩
abbrev S1x1x2048x1024 : Shape := ⟨4, ![1, 1, 2048, 1024]⟩
abbrev S2048x1024 : Shape := ⟨2, ![2048, 1024]⟩
abbrev S1x2048x1024 : Shape := ⟨3, ![1, 2048, 1024]⟩
abbrev S1x1x2048x256 : Shape := ⟨4, ![1, 1, 2048, 256]⟩
abbrev S2048x256 : Shape := ⟨2, ![2048, 256]⟩
abbrev S1x2048x256 : Shape := ⟨3, ![1, 2048, 256]⟩
abbrev S256x256 : Shape := ⟨2, ![256, 256]⟩

abbrev nBuf : Space → Nat
  | .hbm => 4
  | .vmem => 6
  | .smem => 5
  | _ => 0

abbrev bufTy : (tb : Table) → Fin (tcTables nBuf tb) → BufTy
  | .hbm, ⟨0, _⟩ => ⟨S18432x2048, .bf16⟩
  | .hbm, ⟨1, _⟩ => ⟨S8x2048x7168, .f32⟩
  | .hbm, ⟨2, _⟩ => ⟨S8x2048x7168, .f32⟩
  | .hbm, ⟨3, _⟩ => ⟨S18432x7168, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S2x2x2048x1024, .f32⟩
  | .local _ .vmem, ⟨5, _⟩ => ⟨S2x2048x1024, .bf16⟩
  | .local _ .smem, ⟨0, _⟩ => ⟨S72, .i32⟩
  | .local _ .smem, ⟨1, _⟩ => ⟨S72, .i32⟩
  | .local _ .smem, ⟨2, _⟩ => ⟨S72, .i32⟩
  | .local _ .smem, ⟨3, _⟩ => ⟨S72, .i32⟩
  | .local _ .smem, ⟨4, _⟩ => ⟨S1, .i32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev main_arg6 : Ref sig .tc := ⟨.smem, 3, rfl⟩
abbrev main_arg7 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![7, 72], ![false, false]⟩

abbrev pre0 : Pipeline.Prefetch sig := ⟨5, ![main_arg3.idx, main_arg4.idx, main_arg5.idx, main_arg6.idx, main_arg7.idx], fun | 0 => main_arg3.names | 1 => main_arg4.names | 2 => main_arg5.names | 3 => main_arg6.names | 4 => main_arg7.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v60 : Index := Scalar.indexCast arg1
  ![v60.toNat]
def k0_mult1 (i : grid0.Coords) : BitVec 32 :=
  let arg0 : BitVec 32 := BitVec.ofNat 32 (i 0).val
  let c1024_i32_27 : BitVec 32 := 1024#32
  let v62 : BitVec 32 := Scalar.muli arg0 c1024_i32_27
  v62
def k0_off3 (i : grid0.Coords) (v4 : BitVec 32) (v7 : BitVec 32) : Fin 2 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c0_i32_29 : BitVec 32 := 0#32
  ![v18.toNat, 0]
def k0_cond1 (v1 : BitVec 32) : BitVec 1 :=
  let c2_i32 : BitVec 32 := 2#32
  let v2 : BitVec 32 := Scalar.andi v1 c2_i32
  let c0_i32 : BitVec 32 := 0#32
  let v3 : BitVec 1 := Scalar.cmpi .ne v2 c0_i32
  let v27 : BitVec 32 := Scalar.extui v3
  let c0_i32_7 : BitVec 32 := 0#32
  let v28 : BitVec 1 := Scalar.cmpi .ne v27 c0_i32_7
  v28

def k0_cond2 (i : grid0.Coords) (v4 : BitVec 32) (v7 : BitVec 32) : BitVec 1 :=
  let arg0 : BitVec 32 := BitVec.ofNat 32 (i 0).val
  let v5 : BitVec 32 := Scalar.muli arg0 v4
  let v8 : BitVec 32 := Scalar.addi v5 v7
  let c0_i32_14 : BitVec 32 := 0#32
  let v39 : BitVec 1 := Scalar.cmpi .eq v8 c0_i32_14
  let v40 : BitVec 32 := Scalar.extui v39
  let c0_i32_15 : BitVec 32 := 0#32
  let v41 : BitVec 1 := Scalar.cmpi .ne v40 c0_i32_15
  v41

def k0_off4 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c0_i32_28 : BitVec 32 := 0#32
  let c0_i32_30 : BitVec 32 := 0#32
  let c0_i32_31 : BitVec 32 := 0#32
  ![v18.toNat, 0, 0, 0]
def k0_off5 (i : grid0.Coords) (v61 : BitVec 32) : Fin 3 → Nat :=
  let c0_i32_32 : BitVec 32 := 0#32
  let arg0 : BitVec 32 := BitVec.ofNat 32 (i 0).val
  let c1024_i32_27 : BitVec 32 := 1024#32
  let v62 : BitVec 32 := Scalar.muli arg0 c1024_i32_27
  let v63 : BitVec 32 := v62
  ![v61.toNat, 0, v63.toNat]

def k0_chk2 (i : grid0.Coords) (v1 : BitVec 32) (v4 : BitVec 32) (v7 : BitVec 32) (v61 : BitVec 32) : Prop :=
  (∀ (k0_h1 : k0_cond1 v1 = 1#1), ∀ (k0_h2 : k0_cond2 i v4 v7 = 1#1), ∀ a, (k0_off5 i v61) a + S1x2048x1024.size a ≤ S8x2048x7168.size a)
theorem k0_off5_inb : ∀ (i : grid0.Coords) (v1 : BitVec 32) (v4 : BitVec 32) (v7 : BitVec 32) (v61 : BitVec 32) (k0_hw2 : k0_chk2 i v1 v4 v7 v61), ∀ (k0_h1 : k0_cond1 v1 = 1#1), ∀ (k0_h2 : k0_cond2 i v4 v7 = 1#1), ∀ a, (k0_off5 i v61) a + S1x2048x1024.size a ≤ S8x2048x7168.size a := fun i v1 v4 v7 v61 k0_hw2 k0_h1 k0_h2 => k0_hw2 k0_h1 k0_h2

def k0_off6 (i : grid0.Coords) (v4 : BitVec 32) (v7 : BitVec 32) : Fin 2 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c1_i32_34 : BitVec 32 := 1#32
  ![v18.toNat, 1]
def k0_off7 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c1_i32_33 : BitVec 32 := 1#32
  let c0_i32_35 : BitVec 32 := 0#32
  let c0_i32_36 : BitVec 32 := 0#32
  ![v18.toNat, 1, 0, 0]
def k0_off8 (i : grid0.Coords) : Fin 1 → Nat :=
  let arg1 : BitVec 32 := BitVec.ofNat 32 (i 1).val
  let v60 : Index := Scalar.indexCast arg1
  ![v60.toNat]
def k0_mult2 (i : grid0.Coords) (v20 : BitVec 32) (v21 : BitVec 32) : BitVec 32 :=
  let arg0 : BitVec 32 := BitVec.ofNat 32 (i 0).val
  let c1_i32_6 : BitVec 32 := 1#32
  let v22 : BitVec 32 := Scalar.subi v21 c1_i32_6
  let v23 : BitVec 1 := Scalar.cmpi .eq v20 v22
  let v62 : BitVec 32 := Scalar.extui v23
  let v63 : BitVec 32 := Scalar.addi arg0 v62
  let c1024_i32_34 : BitVec 32 := 1024#32
  let v75 : BitVec 32 := Scalar.muli v63 c1024_i32_34
  v75
def k0_cond3 (i : grid0.Coords) (v20 : BitVec 32) (v21 : BitVec 32) : BitVec 1 :=
  let c1_i32_6 : BitVec 32 := 1#32
  let v22 : BitVec 32 := Scalar.subi v21 c1_i32_6
  let v23 : BitVec 1 := Scalar.cmpi .eq v20 v22
  let arg0 : BitVec 32 := BitVec.ofNat 32 (i 0).val
  let c6_i32 : BitVec 32 := 6#32
  let v24 : BitVec 1 := Scalar.cmpi .eq arg0 c6_i32
  let v25 : BitVec 1 := Scalar.andi v23 v24
  let v_true : BitVec 1 := 1#1
  let v26 : BitVec 1 := Scalar.xori v25 v_true
  let v42 : BitVec 32 := Scalar.extui v26
  let c0_i32_16 : BitVec 32 := 0#32
  let v43 : BitVec 1 := Scalar.cmpi .ne v42 c0_i32_16
  v43

def k0_off9 (i : grid0.Coords) (v4 : BitVec 32) (v7 : BitVec 32) : Fin 2 → Nat :=
  let arg0 : BitVec 32 := BitVec.ofNat 32 (i 0).val
  let v5 : BitVec 32 := Scalar.muli arg0 v4
  let v8 : BitVec 32 := Scalar.addi v5 v7
  let c1_i32_27 : BitVec 32 := 1#32
  let v64 : BitVec 32 := Scalar.addi v8 c1_i32_27
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi v64 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c0_i32_36 : BitVec 32 := 0#32
  ![v74.toNat, 0]
def k0_off10 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32_27 : BitVec 32 := 1#32
  let v64 : BitVec 32 := Scalar.addi v8 c1_i32_27
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi v64 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c0_i32_35 : BitVec 32 := 0#32
  let c0_i32_37 : BitVec 32 := 0#32
  let c0_i32_38 : BitVec 32 := 0#32
  ![v74.toNat, 0, 0, 0]
def k0_off11 (i : grid0.Coords) (v20 : BitVec 32) (v21 : BitVec 32) (v61 : BitVec 32) : Fin 3 → Nat :=
  let c0_i32_39 : BitVec 32 := 0#32
  let arg0 : BitVec 32 := BitVec.ofNat 32 (i 0).val
  let c1_i32_6 : BitVec 32 := 1#32
  let v22 : BitVec 32 := Scalar.subi v21 c1_i32_6
  let v23 : BitVec 1 := Scalar.cmpi .eq v20 v22
  let v62 : BitVec 32 := Scalar.extui v23
  let v63 : BitVec 32 := Scalar.addi arg0 v62
  let c1024_i32_34 : BitVec 32 := 1024#32
  let v75 : BitVec 32 := Scalar.muli v63 c1024_i32_34
  let v76 : BitVec 32 := v75
  ![v61.toNat, 0, v76.toNat]

def k0_chk4 (i : grid0.Coords) (v1 : BitVec 32) (v20 : BitVec 32) (v21 : BitVec 32) (v61 : BitVec 32) : Prop :=
  (∀ (k0_h1 : k0_cond1 v1 = 1#1), ∀ (k0_h3 : k0_cond3 i v20 v21 = 1#1), ∀ a, (k0_off11 i v20 v21 v61) a + S1x2048x1024.size a ≤ S8x2048x7168.size a)
theorem k0_off11_inb : ∀ (i : grid0.Coords) (v1 : BitVec 32) (v20 : BitVec 32) (v21 : BitVec 32) (v61 : BitVec 32) (k0_hw4 : k0_chk4 i v1 v20 v21 v61), ∀ (k0_h1 : k0_cond1 v1 = 1#1), ∀ (k0_h3 : k0_cond3 i v20 v21 = 1#1), ∀ a, (k0_off11 i v20 v21 v61) a + S1x2048x1024.size a ≤ S8x2048x7168.size a := fun i v1 v20 v21 v61 k0_hw4 k0_h1 k0_h3 => k0_hw4 k0_h1 k0_h3

def k0_off12 (i : grid0.Coords) (v4 : BitVec 32) (v7 : BitVec 32) : Fin 2 → Nat :=
  let arg0 : BitVec 32 := BitVec.ofNat 32 (i 0).val
  let v5 : BitVec 32 := Scalar.muli arg0 v4
  let v8 : BitVec 32 := Scalar.addi v5 v7
  let c1_i32_27 : BitVec 32 := 1#32
  let v64 : BitVec 32 := Scalar.addi v8 c1_i32_27
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi v64 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c1_i32_41 : BitVec 32 := 1#32
  ![v74.toNat, 1]
def k0_off13 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32_27 : BitVec 32 := 1#32
  let v64 : BitVec 32 := Scalar.addi v8 c1_i32_27
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi v64 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c1_i32_40 : BitVec 32 := 1#32
  let c0_i32_42 : BitVec 32 := 0#32
  let c0_i32_43 : BitVec 32 := 0#32
  ![v74.toNat, 1, 0, 0]

def k0_chk3 (i : grid0.Coords) (v1 : BitVec 32) (v4 : BitVec 32) (v7 : BitVec 32) (v20 : BitVec 32) (v21 : BitVec 32) : Prop :=
  (∀ (k0_h1 : k0_cond1 v1 = 1#1), ∀ (k0_h3 : k0_cond3 i v20 v21 = 1#1), 1024 ∣ (k0_mult2 i v20 v21).toNat) ∧
  (∀ (k0_h1 : k0_cond1 v1 = 1#1), ∀ (k0_h3 : k0_cond3 i v20 v21 = 1#1), ∀ a, (k0_off9 i v4 v7) a + S1x1.size a ≤ S2x2.size a) ∧
  (∀ (k0_h1 : k0_cond1 v1 = 1#1), ∀ (k0_h3 : k0_cond3 i v20 v21 = 1#1), ∀ a, (k0_off10 i v4 v7) a + S1x1x2048x1024.size a ≤ S2x2x2048x1024.size a) ∧
  (∀ (k0_h1 : k0_cond1 v1 = 1#1), ∀ (k0_h3 : k0_cond3 i v20 v21 = 1#1), ∀ a, (k0_off12 i v4 v7) a + S1x1.size a ≤ S2x2.size a) ∧
  (∀ (k0_h1 : k0_cond1 v1 = 1#1), ∀ (k0_h3 : k0_cond3 i v20 v21 = 1#1), ∀ a, (k0_off13 i v4 v7) a + S1x1x2048x1024.size a ≤ S2x2x2048x1024.size a)
theorem k0_mult2_dvd : ∀ (i : grid0.Coords) (v1 : BitVec 32) (v4 : BitVec 32) (v7 : BitVec 32) (v20 : BitVec 32) (v21 : BitVec 32) (k0_hw3 : k0_chk3 i v1 v4 v7 v20 v21), ∀ (k0_h1 : k0_cond1 v1 = 1#1), ∀ (k0_h3 : k0_cond3 i v20 v21 = 1#1), 1024 ∣ (k0_mult2 i v20 v21).toNat := fun i v1 v4 v7 v20 v21 k0_hw3 k0_h1 k0_h3 => k0_hw3.1 k0_h1 k0_h3
theorem k0_off9_inb : ∀ (i : grid0.Coords) (v1 : BitVec 32) (v4 : BitVec 32) (v7 : BitVec 32) (v20 : BitVec 32) (v21 : BitVec 32) (k0_hw3 : k0_chk3 i v1 v4 v7 v20 v21), ∀ (k0_h1 : k0_cond1 v1 = 1#1), ∀ (k0_h3 : k0_cond3 i v20 v21 = 1#1), ∀ a, (k0_off9 i v4 v7) a + S1x1.size a ≤ S2x2.size a := fun i v1 v4 v7 v20 v21 k0_hw3 k0_h1 k0_h3 => k0_hw3.2.1 k0_h1 k0_h3
theorem k0_off10_inb : ∀ (i : grid0.Coords) (v1 : BitVec 32) (v4 : BitVec 32) (v7 : BitVec 32) (v20 : BitVec 32) (v21 : BitVec 32) (k0_hw3 : k0_chk3 i v1 v4 v7 v20 v21), ∀ (k0_h1 : k0_cond1 v1 = 1#1), ∀ (k0_h3 : k0_cond3 i v20 v21 = 1#1), ∀ a, (k0_off10 i v4 v7) a + S1x1x2048x1024.size a ≤ S2x2x2048x1024.size a := fun i v1 v4 v7 v20 v21 k0_hw3 k0_h1 k0_h3 => k0_hw3.2.2.1 k0_h1 k0_h3
theorem k0_off12_inb : ∀ (i : grid0.Coords) (v1 : BitVec 32) (v4 : BitVec 32) (v7 : BitVec 32) (v20 : BitVec 32) (v21 : BitVec 32) (k0_hw3 : k0_chk3 i v1 v4 v7 v20 v21), ∀ (k0_h1 : k0_cond1 v1 = 1#1), ∀ (k0_h3 : k0_cond3 i v20 v21 = 1#1), ∀ a, (k0_off12 i v4 v7) a + S1x1.size a ≤ S2x2.size a := fun i v1 v4 v7 v20 v21 k0_hw3 k0_h1 k0_h3 => k0_hw3.2.2.2.1 k0_h1 k0_h3
theorem k0_off13_inb : ∀ (i : grid0.Coords) (v1 : BitVec 32) (v4 : BitVec 32) (v7 : BitVec 32) (v20 : BitVec 32) (v21 : BitVec 32) (k0_hw3 : k0_chk3 i v1 v4 v7 v20 v21), ∀ (k0_h1 : k0_cond1 v1 = 1#1), ∀ (k0_h3 : k0_cond3 i v20 v21 = 1#1), ∀ a, (k0_off13 i v4 v7) a + S1x1x2048x1024.size a ≤ S2x2x2048x1024.size a := fun i v1 v4 v7 v20 v21 k0_hw3 k0_h1 k0_h3 => k0_hw3.2.2.2.2 k0_h1 k0_h3

def k0_off14 (i : grid0.Coords) : Fin 1 → Nat :=
  let arg1 : BitVec 32 := BitVec.ofNat 32 (i 1).val
  let v44 : Index := Scalar.indexCast arg1
  ![v44.toNat]
def k0_mult3 (i : grid0.Coords) : BitVec 32 :=
  let arg0 : BitVec 32 := BitVec.ofNat 32 (i 0).val
  let c1024_i32 : BitVec 32 := 1024#32
  let v46 : BitVec 32 := Scalar.muli arg0 c1024_i32
  v46
def k0_off15 (i : grid0.Coords) (v4 : BitVec 32) (v7 : BitVec 32) : Fin 2 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c0_i32_18 : BitVec 32 := 0#32
  ![v18.toNat, 0]
def k0_off16 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c0_i32_17 : BitVec 32 := 0#32
  let c0_i32_19 : BitVec 32 := 0#32
  let c0_i32_20 : BitVec 32 := 0#32
  ![v18.toNat, 0, 0, 0]
def k0_off17 (i : grid0.Coords) (v45 : BitVec 32) : Fin 3 → Nat :=
  let c0_i32_21 : BitVec 32 := 0#32
  let arg0 : BitVec 32 := BitVec.ofNat 32 (i 0).val
  let c1024_i32 : BitVec 32 := 1024#32
  let v46 : BitVec 32 := Scalar.muli arg0 c1024_i32
  let v47 : BitVec 32 := v46
  ![v45.toNat, 0, v47.toNat]

def k0_chk5 (i : grid0.Coords) (v1 : BitVec 32) (v45 : BitVec 32) : Prop :=
  (∀ (k0_h1 : k0_cond1 v1 = 1#1), ∀ a, (k0_off17 i v45) a + S1x2048x1024.size a ≤ S8x2048x7168.size a)
theorem k0_off17_inb : ∀ (i : grid0.Coords) (v1 : BitVec 32) (v45 : BitVec 32) (k0_hw5 : k0_chk5 i v1 v45), ∀ (k0_h1 : k0_cond1 v1 = 1#1), ∀ a, (k0_off17 i v45) a + S1x2048x1024.size a ≤ S8x2048x7168.size a := fun i v1 v45 k0_hw5 k0_h1 => k0_hw5 k0_h1

def k0_off18 (i : grid0.Coords) (v4 : BitVec 32) (v7 : BitVec 32) : Fin 2 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c1_i32_23 : BitVec 32 := 1#32
  ![v18.toNat, 1]
def k0_off19 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c1_i32_22 : BitVec 32 := 1#32
  let c0_i32_24 : BitVec 32 := 0#32
  let c0_i32_25 : BitVec 32 := 0#32
  ![v18.toNat, 1, 0, 0]
def k0_off20 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v40 : Index := Scalar.indexCast v18
  let c0_16 : Index := 0#32
  let c0_17 : Index := 0#32
  let c0_18 : Index := 0#32
  ![v40.toNat, 0, 0, 0]
def k0_cond4 (v1 : BitVec 32) : BitVec 1 :=
  let c3_i32 : BitVec 32 := 3#32
  let v29 : BitVec 1 := Scalar.cmpi .eq v1 c3_i32
  let v30 : BitVec 32 := Scalar.extui v29
  let c0_i32_8 : BitVec 32 := 0#32
  let v31 : BitVec 1 := Scalar.cmpi .ne v30 c0_i32_8
  v31

def k0_off21 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v48 : Index := Scalar.indexCast v18
  let c1 : Index := 1#32
  let c0_22 : Index := 0#32
  let c0_23 : Index := 0#32
  ![v48.toNat, 1, 0, 0]
def k0_off22 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v67 : Index := Scalar.indexCast v18
  let c0_33 : Index := 0#32
  let c0_34 : Index := 0#32
  let c256 : Index := 256#32
  ![v67.toNat, 0, 0, 256]
def k0_off23 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v75 : Index := Scalar.indexCast v18
  let c1_39 : Index := 1#32
  let c0_40 : Index := 0#32
  let c256_41 : Index := 256#32
  ![v75.toNat, 1, 0, 256]
def k0_off24 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v94 : Index := Scalar.indexCast v18
  let c0_51 : Index := 0#32
  let c0_52 : Index := 0#32
  let c512 : Index := 512#32
  ![v94.toNat, 0, 0, 512]
def k0_off25 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v102 : Index := Scalar.indexCast v18
  let c1_57 : Index := 1#32
  let c0_58 : Index := 0#32
  let c512_59 : Index := 512#32
  ![v102.toNat, 1, 0, 512]
def k0_off26 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v121 : Index := Scalar.indexCast v18
  let c0_69 : Index := 0#32
  let c0_70 : Index := 0#32
  let c768 : Index := 768#32
  ![v121.toNat, 0, 0, 768]
def k0_off27 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c2_i32_0 : BitVec 32 := 2#32
  let c0_i32_1 : BitVec 32 := 0#32
  let v9 : BitVec 1 := Scalar.cmpi .eq c2_i32_0 c0_i32_1
  let c1_i32 : BitVec 32 := 1#32
  let v10 : BitVec 32 := Scalar.select v9 c1_i32 c2_i32_0
  let v11 : BitVec 32 := Scalar.remsi v8 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let v129 : Index := Scalar.indexCast v18
  let c1_75 : Index := 1#32
  let c0_76 : Index := 0#32
  let c768_77 : Index := 768#32
  ![v129.toNat, 1, 0, 768]

def k0_chk1 (i : grid0.Coords) (v1 : BitVec 32) (v4 : BitVec 32) (v7 : BitVec 32) : Prop :=
  (∀ (k0_h1 : k0_cond1 v1 = 1#1), ∀ (k0_h2 : k0_cond2 i v4 v7 = 1#1), ∀ a, (k0_off3 i v4 v7) a + S1x1.size a ≤ S2x2.size a) ∧
  (∀ (k0_h1 : k0_cond1 v1 = 1#1), ∀ (k0_h2 : k0_cond2 i v4 v7 = 1#1), ∀ a, (k0_off4 i v4 v7) a + S1x1x2048x1024.size a ≤ S2x2x2048x1024.size a) ∧
  (∀ (k0_h1 : k0_cond1 v1 = 1#1), ∀ (k0_h2 : k0_cond2 i v4 v7 = 1#1), ∀ a, (k0_off6 i v4 v7) a + S1x1.size a ≤ S2x2.size a) ∧
  (∀ (k0_h1 : k0_cond1 v1 = 1#1), ∀ (k0_h2 : k0_cond2 i v4 v7 = 1#1), ∀ a, (k0_off7 i v4 v7) a + S1x1x2048x1024.size a ≤ S2x2x2048x1024.size a) ∧
  (∀ (k0_h1 : k0_cond1 v1 = 1#1), ∀ a, (k0_off15 i v4 v7) a + S1x1.size a ≤ S2x2.size a) ∧
  (∀ (k0_h1 : k0_cond1 v1 = 1#1), ∀ a, (k0_off16 i v4 v7) a + S1x1x2048x1024.size a ≤ S2x2x2048x1024.size a) ∧
  (∀ (k0_h1 : k0_cond1 v1 = 1#1), ∀ a, (k0_off18 i v4 v7) a + S1x1.size a ≤ S2x2.size a) ∧
  (∀ (k0_h1 : k0_cond1 v1 = 1#1), ∀ a, (k0_off19 i v4 v7) a + S1x1x2048x1024.size a ≤ S2x2x2048x1024.size a) ∧
  (∀ (k0_h4 : k0_cond4 v1 = 1#1), ∀ a, (k0_off20 i v4 v7) a + S1x1x2048x256.size a ≤ S2x2x2048x1024.size a) ∧
  (∀ (k0_h4 : k0_cond4 v1 = 1#1), ∀ a, (k0_off21 i v4 v7) a + S1x1x2048x256.size a ≤ S2x2x2048x1024.size a) ∧
  (∀ (k0_h4 : k0_cond4 v1 = 1#1), ∀ a, (k0_off22 i v4 v7) a + S1x1x2048x256.size a ≤ S2x2x2048x1024.size a) ∧
  (∀ (k0_h4 : k0_cond4 v1 = 1#1), ∀ a, (k0_off23 i v4 v7) a + S1x1x2048x256.size a ≤ S2x2x2048x1024.size a) ∧
  (∀ (k0_h4 : k0_cond4 v1 = 1#1), ∀ a, (k0_off24 i v4 v7) a + S1x1x2048x256.size a ≤ S2x2x2048x1024.size a) ∧
  (∀ (k0_h4 : k0_cond4 v1 = 1#1), ∀ a, (k0_off25 i v4 v7) a + S1x1x2048x256.size a ≤ S2x2x2048x1024.size a) ∧
  (∀ (k0_h4 : k0_cond4 v1 = 1#1), ∀ a, (k0_off26 i v4 v7) a + S1x1x2048x256.size a ≤ S2x2x2048x1024.size a) ∧
  (∀ (k0_h4 : k0_cond4 v1 = 1#1), ∀ a, (k0_off27 i v4 v7) a + S1x1x2048x256.size a ≤ S2x2x2048x1024.size a)
theorem k0_off3_inb : ∀ (i : grid0.Coords) (v1 : BitVec 32) (v4 : BitVec 32) (v7 : BitVec 32) (k0_hw1 : k0_chk1 i v1 v4 v7), ∀ (k0_h1 : k0_cond1 v1 = 1#1), ∀ (k0_h2 : k0_cond2 i v4 v7 = 1#1), ∀ a, (k0_off3 i v4 v7) a + S1x1.size a ≤ S2x2.size a := fun i v1 v4 v7 k0_hw1 k0_h1 k0_h2 => k0_hw1.1 k0_h1 k0_h2
theorem k0_off4_inb : ∀ (i : grid0.Coords) (v1 : BitVec 32) (v4 : BitVec 32) (v7 : BitVec 32) (k0_hw1 : k0_chk1 i v1 v4 v7), ∀ (k0_h1 : k0_cond1 v1 = 1#1), ∀ (k0_h2 : k0_cond2 i v4 v7 = 1#1), ∀ a, (k0_off4 i v4 v7) a + S1x1x2048x1024.size a ≤ S2x2x2048x1024.size a := fun i v1 v4 v7 k0_hw1 k0_h1 k0_h2 => k0_hw1.2.1 k0_h1 k0_h2
theorem k0_off6_inb : ∀ (i : grid0.Coords) (v1 : BitVec 32) (v4 : BitVec 32) (v7 : BitVec 32) (k0_hw1 : k0_chk1 i v1 v4 v7), ∀ (k0_h1 : k0_cond1 v1 = 1#1), ∀ (k0_h2 : k0_cond2 i v4 v7 = 1#1), ∀ a, (k0_off6 i v4 v7) a + S1x1.size a ≤ S2x2.size a := fun i v1 v4 v7 k0_hw1 k0_h1 k0_h2 => k0_hw1.2.2.1 k0_h1 k0_h2
theorem k0_off7_inb : ∀ (i : grid0.Coords) (v1 : BitVec 32) (v4 : BitVec 32) (v7 : BitVec 32) (k0_hw1 : k0_chk1 i v1 v4 v7), ∀ (k0_h1 : k0_cond1 v1 = 1#1), ∀ (k0_h2 : k0_cond2 i v4 v7 = 1#1), ∀ a, (k0_off7 i v4 v7) a + S1x1x2048x1024.size a ≤ S2x2x2048x1024.size a := fun i v1 v4 v7 k0_hw1 k0_h1 k0_h2 => k0_hw1.2.2.2.1 k0_h1 k0_h2
theorem k0_off15_inb : ∀ (i : grid0.Coords) (v1 : BitVec 32) (v4 : BitVec 32) (v7 : BitVec 32) (k0_hw1 : k0_chk1 i v1 v4 v7), ∀ (k0_h1 : k0_cond1 v1 = 1#1), ∀ a, (k0_off15 i v4 v7) a + S1x1.size a ≤ S2x2.size a := fun i v1 v4 v7 k0_hw1 k0_h1 => k0_hw1.2.2.2.2.1 k0_h1
theorem k0_off16_inb : ∀ (i : grid0.Coords) (v1 : BitVec 32) (v4 : BitVec 32) (v7 : BitVec 32) (k0_hw1 : k0_chk1 i v1 v4 v7), ∀ (k0_h1 : k0_cond1 v1 = 1#1), ∀ a, (k0_off16 i v4 v7) a + S1x1x2048x1024.size a ≤ S2x2x2048x1024.size a := fun i v1 v4 v7 k0_hw1 k0_h1 => k0_hw1.2.2.2.2.2.1 k0_h1
theorem k0_off18_inb : ∀ (i : grid0.Coords) (v1 : BitVec 32) (v4 : BitVec 32) (v7 : BitVec 32) (k0_hw1 : k0_chk1 i v1 v4 v7), ∀ (k0_h1 : k0_cond1 v1 = 1#1), ∀ a, (k0_off18 i v4 v7) a + S1x1.size a ≤ S2x2.size a := fun i v1 v4 v7 k0_hw1 k0_h1 => k0_hw1.2.2.2.2.2.2.1 k0_h1
theorem k0_off19_inb : ∀ (i : grid0.Coords) (v1 : BitVec 32) (v4 : BitVec 32) (v7 : BitVec 32) (k0_hw1 : k0_chk1 i v1 v4 v7), ∀ (k0_h1 : k0_cond1 v1 = 1#1), ∀ a, (k0_off19 i v4 v7) a + S1x1x2048x1024.size a ≤ S2x2x2048x1024.size a := fun i v1 v4 v7 k0_hw1 k0_h1 => k0_hw1.2.2.2.2.2.2.2.1 k0_h1
theorem k0_off20_inb : ∀ (i : grid0.Coords) (v1 : BitVec 32) (v4 : BitVec 32) (v7 : BitVec 32) (k0_hw1 : k0_chk1 i v1 v4 v7), ∀ (k0_h4 : k0_cond4 v1 = 1#1), ∀ a, (k0_off20 i v4 v7) a + S1x1x2048x256.size a ≤ S2x2x2048x1024.size a := fun i v1 v4 v7 k0_hw1 k0_h4 => k0_hw1.2.2.2.2.2.2.2.2.1 k0_h4
theorem k0_off21_inb : ∀ (i : grid0.Coords) (v1 : BitVec 32) (v4 : BitVec 32) (v7 : BitVec 32) (k0_hw1 : k0_chk1 i v1 v4 v7), ∀ (k0_h4 : k0_cond4 v1 = 1#1), ∀ a, (k0_off21 i v4 v7) a + S1x1x2048x256.size a ≤ S2x2x2048x1024.size a := fun i v1 v4 v7 k0_hw1 k0_h4 => k0_hw1.2.2.2.2.2.2.2.2.2.1 k0_h4
theorem k0_off22_inb : ∀ (i : grid0.Coords) (v1 : BitVec 32) (v4 : BitVec 32) (v7 : BitVec 32) (k0_hw1 : k0_chk1 i v1 v4 v7), ∀ (k0_h4 : k0_cond4 v1 = 1#1), ∀ a, (k0_off22 i v4 v7) a + S1x1x2048x256.size a ≤ S2x2x2048x1024.size a := fun i v1 v4 v7 k0_hw1 k0_h4 => k0_hw1.2.2.2.2.2.2.2.2.2.2.1 k0_h4
theorem k0_off23_inb : ∀ (i : grid0.Coords) (v1 : BitVec 32) (v4 : BitVec 32) (v7 : BitVec 32) (k0_hw1 : k0_chk1 i v1 v4 v7), ∀ (k0_h4 : k0_cond4 v1 = 1#1), ∀ a, (k0_off23 i v4 v7) a + S1x1x2048x256.size a ≤ S2x2x2048x1024.size a := fun i v1 v4 v7 k0_hw1 k0_h4 => k0_hw1.2.2.2.2.2.2.2.2.2.2.2.1 k0_h4
theorem k0_off24_inb : ∀ (i : grid0.Coords) (v1 : BitVec 32) (v4 : BitVec 32) (v7 : BitVec 32) (k0_hw1 : k0_chk1 i v1 v4 v7), ∀ (k0_h4 : k0_cond4 v1 = 1#1), ∀ a, (k0_off24 i v4 v7) a + S1x1x2048x256.size a ≤ S2x2x2048x1024.size a := fun i v1 v4 v7 k0_hw1 k0_h4 => k0_hw1.2.2.2.2.2.2.2.2.2.2.2.2.1 k0_h4
theorem k0_off25_inb : ∀ (i : grid0.Coords) (v1 : BitVec 32) (v4 : BitVec 32) (v7 : BitVec 32) (k0_hw1 : k0_chk1 i v1 v4 v7), ∀ (k0_h4 : k0_cond4 v1 = 1#1), ∀ a, (k0_off25 i v4 v7) a + S1x1x2048x256.size a ≤ S2x2x2048x1024.size a := fun i v1 v4 v7 k0_hw1 k0_h4 => k0_hw1.2.2.2.2.2.2.2.2.2.2.2.2.2.1 k0_h4
theorem k0_off26_inb : ∀ (i : grid0.Coords) (v1 : BitVec 32) (v4 : BitVec 32) (v7 : BitVec 32) (k0_hw1 : k0_chk1 i v1 v4 v7), ∀ (k0_h4 : k0_cond4 v1 = 1#1), ∀ a, (k0_off26 i v4 v7) a + S1x1x2048x256.size a ≤ S2x2x2048x1024.size a := fun i v1 v4 v7 k0_hw1 k0_h4 => k0_hw1.2.2.2.2.2.2.2.2.2.2.2.2.2.2.1 k0_h4
theorem k0_off27_inb : ∀ (i : grid0.Coords) (v1 : BitVec 32) (v4 : BitVec 32) (v7 : BitVec 32) (k0_hw1 : k0_chk1 i v1 v4 v7), ∀ (k0_h4 : k0_cond4 v1 = 1#1), ∀ a, (k0_off27 i v4 v7) a + S1x1x2048x256.size a ≤ S2x2x2048x1024.size a := fun i v1 v4 v7 k0_hw1 k0_h4 => k0_hw1.2.2.2.2.2.2.2.2.2.2.2.2.2.2.2 k0_h4

def k0_cond5 (v1 : BitVec 32) : BitVec 1 :=
  let c1_i32_9 : BitVec 32 := 1#32
  let v32 : BitVec 1 := Scalar.cmpi .eq v1 c1_i32_9
  let v33 : BitVec 32 := Scalar.extui v32
  let c0_i32_10 : BitVec 32 := 0#32
  let v34 : BitVec 1 := Scalar.cmpi .ne v33 c0_i32_10
  v34

def k0_cond6 (v1 : BitVec 32) : BitVec 1 :=
  let c1_i32_11 : BitVec 32 := 1#32
  let v35 : BitVec 32 := Scalar.andi v1 c1_i32_11
  let c0_i32_12 : BitVec 32 := 0#32
  let v36 : BitVec 1 := Scalar.cmpi .eq v35 c0_i32_12
  let v37 : BitVec 32 := Scalar.extui v36
  let c0_i32_13 : BitVec 32 := 0#32
  let v38 : BitVec 1 := Scalar.cmpi .ne v37 c0_i32_13
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference5Ideal.lean ====
abbrev S18432x2048 : Shape := ⟨2, ![18432, 2048]⟩
abbrev S8x2048x7168 : Shape := ⟨3, ![8, 2048, 7168]⟩
abbrev S72 : Shape := ⟨1, ![72]⟩
abbrev S1 : Shape := ⟨1, ![1]⟩
abbrev S72x256 : Shape := ⟨2, ![72, 256]⟩
abbrev S18432 : Shape := ⟨1, ![18432]⟩
abbrev S_ : Shape := ⟨0, ![]⟩
abbrev S18432x7168 : Shape := ⟨2, ![18432, 7168]⟩
abbrev S1x2048x7168 : Shape := ⟨3, ![1, 2048, 7168]⟩
abbrev S2048x7168 : Shape := ⟨2, ![2048, 7168]⟩
abbrev S18432x1 : Shape := ⟨2, ![18432, 1]⟩

abbrev nBuf : Space → Nat
  | .hbm => 274
  | .vmem => 0
  | .smem => 0
  | _ => 0

abbrev hbmTy0_0 (i : Nat) : BufTy := match i % 128 with
  | 0 => ⟨S18432x2048, .bf16⟩
  | 1 => ⟨S8x2048x7168, .f32⟩
  | 2 => ⟨S8x2048x7168, .f32⟩
  | 3 => ⟨S72, .i32⟩
  | 4 => ⟨S72, .i32⟩
  | 5 => ⟨S72, .i32⟩
  | 6 => ⟨S72, .i32⟩
  | 7 => ⟨S1, .i32⟩
  | 8 => ⟨S72x256, .i32⟩
  | 9 => ⟨S18432, .i32⟩
  | 10 => ⟨S_, .i32⟩
  | 11 => ⟨S72, .i32⟩
  | 12 => ⟨S72, .i32⟩
  | 13 => ⟨S72x256, .i32⟩
  | 14 => ⟨S18432, .i32⟩
  | 15 => ⟨S_, .f32⟩
  | 16 => ⟨S18432x7168, .f32⟩
  | 17 => ⟨S18432x2048, .f32⟩
  | 18 => ⟨S1x2048x7168, .f32⟩
  | 19 => ⟨S2048x7168, .f32⟩
  | 20 => ⟨S18432x7168, .f32⟩
  | 21 => ⟨S18432x2048, .f32⟩
  | 22 => ⟨S1x2048x7168, .f32⟩
  | 23 => ⟨S2048x7168, .f32⟩
  | 24 => ⟨S18432x7168, .f32⟩
  | 25 => ⟨S_, .i32⟩
  | 26 => ⟨S18432, .i32⟩
  | 27 => ⟨S18432, .i1⟩
  | 28 => ⟨S_, .i32⟩
  | 29 => ⟨S18432, .i32⟩
  | 30 => ⟨S18432, .i1⟩
  | 31 => ⟨S18432, .i1⟩
  | 32 => ⟨S18432x1, .i1⟩
  | 33 => ⟨S18432x7168, .f32⟩
  | 34 => ⟨S18432x7168, .f32⟩
  | 35 => ⟨S_, .f32⟩
  | 36 => ⟨S18432x7168, .f32⟩
  | 37 => ⟨S18432x7168, .f32⟩
  | 38 => ⟨S_, .f32⟩
  | 39 => ⟨S18432x7168, .f32⟩
  | 40 => ⟨S18432x7168, .f32⟩
  | 41 => ⟨S18432x7168, .f32⟩
  | 42 => ⟨S18432x7168, .f32⟩
  | 43 => ⟨S_, .f32⟩
  | 44 => ⟨S_, .f32⟩
  | 45 => ⟨S18432x7168, .i1⟩
  | 46 => ⟨S18432x7168, .f32⟩
  | 47 => ⟨S18432x7168, .f32⟩
  | 48 => ⟨S18432x7168, .f32⟩
  | 49 => ⟨S18432x2048, .f32⟩
  | 50 => ⟨S1x2048x7168, .f32⟩
  | 51 => ⟨S2048x7168, .f32⟩
  | 52 => ⟨S18432x7168, .f32⟩
  | 53 => ⟨S18432x2048, .f32⟩
  | 54 => ⟨S1x2048x7168, .f32⟩
  | 55 => ⟨S2048x7168, .f32⟩
  | 56 => ⟨S18432x7168, .f32⟩
  | 57 => ⟨S_, .i32⟩
  | 58 => ⟨S18432, .i32⟩
  | 59 => ⟨S18432, .i1⟩
  | 60 => ⟨S_, .i32⟩
  | 61 => ⟨S18432, .i32⟩
  | 62 => ⟨S18432, .i1⟩
  | 63 => ⟨S18432, .i1⟩
  | 64 => ⟨S18432x1, .i1⟩
  | 65 => ⟨S18432x7168, .f32⟩
  | 66 => ⟨S18432x7168, .f32⟩
  | 67 => ⟨S_, .f32⟩
  | 68 => ⟨S18432x7168, .f32⟩
  | 69 => ⟨S18432x7168, .f32⟩
  | 70 => ⟨S_, .f32⟩
  | 71 => ⟨S18432x7168, .f32⟩
  | 72 => ⟨S18432x7168, .f32⟩
  | 73 => ⟨S18432x7168, .f32⟩
  | 74 => ⟨S18432x7168, .f32⟩
  | 75 => ⟨S_, .f32⟩
  | 76 => ⟨S_, .f32⟩
  | 77 => ⟨S18432x7168, .i1⟩
  | 78 => ⟨S18432x7168, .f32⟩
  | 79 => ⟨S18432x7168, .f32⟩
  | 80 => ⟨S18432x7168, .f32⟩
  | 81 => ⟨S18432x2048, .f32⟩
  | 82 => ⟨S1x2048x7168, .f32⟩
  | 83 => ⟨S2048x7168, .f32⟩
  | 84 => ⟨S18432x7168, .f32⟩
  | 85 => ⟨S18432x2048, .f32⟩
  | 86 => ⟨S1x2048x7168, .f32⟩
  | 87 => ⟨S2048x7168, .f32⟩
  | 88 => ⟨S18432x7168, .f32⟩
  | 89 => ⟨S_, .i32⟩
  | 90 => ⟨S18432, .i32⟩
  | 91 => ⟨S18432, .i1⟩
  | 92 => ⟨S_, .i32⟩
  | 93 => ⟨S18432, .i32⟩
  | 94 => ⟨S18432, .i1⟩
  | 95 => ⟨S18432, .i1⟩
  | 96 => ⟨S18432x1, .i1⟩
  | 97 => ⟨S18432x7168, .f32⟩
  | 98 => ⟨S18432x7168, .f32⟩
  | 99 => ⟨S_, .f32⟩
  | 100 => ⟨S18432x7168, .f32⟩
  | 101 => ⟨S18432x7168, .f32⟩
  | 102 => ⟨S_, .f32⟩
  | 103 => ⟨S18432x7168, .f32⟩
  | 104 => ⟨S18432x7168, .f32⟩
  | 105 => ⟨S18432x7168, .f32⟩
  | 106 => ⟨S18432x7168, .f32⟩
  | 107 => ⟨S_, .f32⟩
  | 108 => ⟨S_, .f32⟩
  | 109 => ⟨S18432x7168, .i1⟩
  | 110 => ⟨S18432x7168, .f32⟩
  | 111 => ⟨S18432x7168, .f32⟩
  | 112 => ⟨S18432x7168, .f32⟩
  | 113 => ⟨S18432x2048, .f32⟩
  | 114 => ⟨S1x2048x7168, .f32⟩
  | 115 => ⟨S2048x7168, .f32⟩
  | 116 => ⟨S18432x7168, .f32⟩
  | 117 => ⟨S18432x2048, .f32⟩
  | 118 => ⟨S1x2048x7168, .f32⟩
  | 119 => ⟨S2048x7168, .f32⟩
  | 120 => ⟨S18432x7168, .f32⟩
  | 121 => ⟨S_, .i32⟩
  | 122 => ⟨S18432, .i32⟩
  | 123 => ⟨S18432, .i1⟩
  | 124 => ⟨S_, .i32⟩
  | 125 => ⟨S18432, .i32⟩
  | 126 => ⟨S18432, .i1⟩
  | 127 => ⟨S18432, .i1⟩
  | _ => ⟨S18432x2048, .bf16⟩

abbrev hbmTy0_1 (i : Nat) : BufTy := match i % 128 with
  | 0 => ⟨S18432x1, .i1⟩
  | 1 => ⟨S18432x7168, .f32⟩
  | 2 => ⟨S18432x7168, .f32⟩
  | 3 => ⟨S_, .f32⟩
  | 4 => ⟨S18432x7168, .f32⟩
  | 5 => ⟨S18432x7168, .f32⟩
  | 6 => ⟨S_, .f32⟩
  | 7 => ⟨S18432x7168, .f32⟩
  | 8 => ⟨S18432x7168, .f32⟩
  | 9 => ⟨S18432x7168, .f32⟩
  | 10 => ⟨S18432x7168, .f32⟩
  | 11 => ⟨S_, .f32⟩
  | 12 => ⟨S_, .f32⟩
  | 13 => ⟨S18432x7168, .i1⟩
  | 14 => ⟨S18432x7168, .f32⟩
  | 15 => ⟨S18432x7168, .f32⟩
  | 16 => ⟨S18432x7168, .f32⟩
  | 17 => ⟨S18432x2048, .f32⟩
  | 18 => ⟨S1x2048x7168, .f32⟩
  | 19 => ⟨S2048x7168, .f32⟩
  | 20 => ⟨S18432x7168, .f32⟩
  | 21 => ⟨S18432x2048, .f32⟩
  | 22 => ⟨S1x2048x7168, .f32⟩
  | 23 => ⟨S2048x7168, .f32⟩
  | 24 => ⟨S18432x7168, .f32⟩
  | 25 => ⟨S_, .i32⟩
  | 26 => ⟨S18432, .i32⟩
  | 27 => ⟨S18432, .i1⟩
  | 28 => ⟨S_, .i32⟩
  | 29 => ⟨S18432, .i32⟩
  | 30 => ⟨S18432, .i1⟩
  | 31 => ⟨S18432, .i1⟩
  | 32 => ⟨S18432x1, .i1⟩
  | 33 => ⟨S18432x7168, .f32⟩
  | 34 => ⟨S18432x7168, .f32⟩
  | 35 => ⟨S_, .f32⟩
  | 36 => ⟨S18432x7168, .f32⟩
  | 37 => ⟨S18432x7168, .f32⟩
  | 38 => ⟨S_, .f32⟩
  | 39 => ⟨S18432x7168, .f32⟩
  | 40 => ⟨S18432x7168, .f32⟩
  | 41 => ⟨S18432x7168, .f32⟩
  | 42 => ⟨S18432x7168, .f32⟩
  | 43 => ⟨S_, .f32⟩
  | 44 => ⟨S_, .f32⟩
  | 45 => ⟨S18432x7168, .i1⟩
  | 46 => ⟨S18432x7168, .f32⟩
  | 47 => ⟨S18432x7168, .f32⟩
  | 48 => ⟨S18432x7168, .f32⟩
  | 49 => ⟨S18432x2048, .f32⟩
  | 50 => ⟨S1x2048x7168, .f32⟩
  | 51 => ⟨S2048x7168, .f32⟩
  | 52 => ⟨S18432x7168, .f32⟩
  | 53 => ⟨S18432x2048, .f32⟩
  | 54 => ⟨S1x2048x7168, .f32⟩
  | 55 => ⟨S2048x7168, .f32⟩
  | 56 => ⟨S18432x7168, .f32⟩
  | 57 => ⟨S_, .i32⟩
  | 58 => ⟨S18432, .i32⟩
  | 59 => ⟨S18432, .i1⟩
  | 60 => ⟨S_, .i32⟩
  | 61 => ⟨S18432, .i32⟩
  | 62 => ⟨S18432, .i1⟩
  | 63 => ⟨S18432, .i1⟩
  | 64 => ⟨S18432x1, .i1⟩
  | 65 => ⟨S18432x7168, .f32⟩
  | 66 => ⟨S18432x7168, .f32⟩
  | 67 => ⟨S_, .f32⟩
  | 68 => ⟨S18432x7168, .f32⟩
  | 69 => ⟨S18432x7168, .f32⟩
  | 70 => ⟨S_, .f32⟩
  | 71 => ⟨S18432x7168, .f32⟩
  | 72 => ⟨S18432x7168, .f32⟩
  | 73 => ⟨S18432x7168, .f32⟩
  | 74 => ⟨S18432x7168, .f32⟩
  | 75 => ⟨S_, .f32⟩
  | 76 => ⟨S_, .f32⟩
  | 77 => ⟨S18432x7168, .i1⟩
  | 78 => ⟨S18432x7168, .f32⟩
  | 79 => ⟨S18432x7168, .f32⟩
  | 80 => ⟨S18432x7168, .f32⟩
  | 81 => ⟨S18432x2048, .f32⟩
  | 82 => ⟨S1x2048x7168, .f32⟩
  | 83 => ⟨S2048x7168, .f32⟩
  | 84 => ⟨S18432x7168, .f32⟩
  | 85 => ⟨S18432x2048, .f32⟩
  | 86 => ⟨S1x2048x7168, .f32⟩
  | 87 => ⟨S2048x7168, .f32⟩
  | 88 => ⟨S18432x7168, .f32⟩
  | 89 => ⟨S_, .i32⟩
  | 90 => ⟨S18432, .i32⟩
  | 91 => ⟨S18432, .i1⟩
  | 92 => ⟨S_, .i32⟩
  | 93 => ⟨S18432, .i32⟩
  | 94 => ⟨S18432, .i1⟩
  | 95 => ⟨S18432, .i1⟩
  | 96 => ⟨S18432x1, .i1⟩
  | 97 => ⟨S18432x7168, .f32⟩
  | 98 => ⟨S18432x7168, .f32⟩
  | 99 => ⟨S_, .f32⟩
  | 100 => ⟨S18432x7168, .f32⟩
  | 101 => ⟨S18432x7168, .f32⟩
  | 102 => ⟨S_, .f32⟩
  | 103 => ⟨S18432x7168, .f32⟩
  | 104 => ⟨S18432x7168, .f32⟩
  | 105 => ⟨S18432x7168, .f32⟩
  | 106 => ⟨S18432x7168, .f32⟩
  | 107 => ⟨S_, .f32⟩
  | 108 => ⟨S_, .f32⟩
  | 109 => ⟨S18432x7168, .i1⟩
  | 110 => ⟨S18432x7168, .f32⟩
  | 111 => ⟨S18432x7168, .f32⟩
  | 112 => ⟨S18432x7168, .f32⟩
  | 113 => ⟨S18432x2048, .f32⟩
  | 114 => ⟨S1x2048x7168, .f32⟩
  | 115 => ⟨S2048x7168, .f32⟩
  | 116 => ⟨S18432x7168, .f32⟩
  | 117 => ⟨S18432x2048, .f32⟩
  | 118 => ⟨S1x2048x7168, .f32⟩
  | 119 => ⟨S2048x7168, .f32⟩
  | 120 => ⟨S18432x7168, .f32⟩
  | 121 => ⟨S_, .i32⟩
  | 122 => ⟨S18432, .i32⟩
  | 123 => ⟨S18432, .i1⟩
  | 124 => ⟨S_, .i32⟩
  | 125 => ⟨S18432, .i32⟩
  | 126 => ⟨S18432, .i1⟩
  | 127 => ⟨S18432, .i1⟩
  | _ => ⟨S18432x2048, .bf16⟩

abbrev hbmTy0_2 (i : Nat) : BufTy := match i % 128 with
  | 0 => ⟨S18432x1, .i1⟩
  | 1 => ⟨S18432x7168, .f32⟩
  | 2 => ⟨S18432x7168, .f32⟩
  | 3 => ⟨S_, .f32⟩
  | 4 => ⟨S18432x7168, .f32⟩
  | 5 => ⟨S18432x7168, .f32⟩
  | 6 => ⟨S_, .f32⟩
  | 7 => ⟨S18432x7168, .f32⟩
  | 8 => ⟨S18432x7168, .f32⟩
  | 9 => ⟨S18432x7168, .f32⟩
  | 10 => ⟨S18432x7168, .f32⟩
  | 11 => ⟨S_, .f32⟩
  | 12 => ⟨S_, .f32⟩
  | 13 => ⟨S18432x7168, .i1⟩
  | 14 => ⟨S18432x7168, .f32⟩
  | 15 => ⟨S18432x7168, .f32⟩
  | 16 => ⟨S18432x7168, .f32⟩
  | 17 => ⟨S18432x7168, .bf16⟩
  | _ => ⟨S18432x2048, .bf16⟩

abbrev hbmTy (i : Nat) : BufTy := match i / 128 with
  | 0 => hbmTy0_0 i
  | 1 => hbmTy0_1 i
  | 2 => hbmTy0_2 i
  | _ => ⟨S18432x2048, .bf16⟩

abbrev bufTy : (tb : Table) → Fin (tcTables nBuf tb) → BufTy
  | .hbm, ⟨i, _⟩ => hbmTy i
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_3 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v39 : Ref sig .tc := ⟨.hbm, 73, rfl⟩
abbrev main_v40 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_6 : Ref sig .tc := ⟨.hbm, 89, rfl⟩
abbrev main_v51 : Ref sig .tc := ⟨.hbm, 90, rfl⟩
abbrev main_v52 : Ref sig .tc := ⟨.hbm, 91, rfl⟩
abbrev main_c_7 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call4_v0 : Ref sig .tc := ⟨.hbm, 97, rfl⟩
abbrev main_call4_v1 : Ref sig .tc := ⟨.hbm, 98, rfl⟩
abbrev main_call4_cst : Ref sig .tc := ⟨.hbm, 99, rfl⟩
abbrev main_call4_v2 : Ref sig .tc := ⟨.hbm, 100, rfl⟩
abbrev main_call4_v3 : Ref sig .tc := ⟨.hbm, 101, rfl⟩
abbrev main_call4_cst_0 : Ref sig .tc := ⟨.hbm, 102, rfl⟩
abbrev main_call4_v4 : Ref sig .tc := ⟨.hbm, 103, rfl⟩
abbrev main_call4_v5 : Ref sig .tc := ⟨.hbm, 104, rfl⟩
abbrev main_v57 : Ref sig .tc := ⟨.hbm, 105, rfl⟩
abbrev main_v58 : Ref sig .tc := ⟨.hbm, 106, rfl⟩
abbrev main_cst_8 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_9 : Ref sig .tc := ⟨.hbm, 121, rfl⟩
abbrev main_v69 : Ref sig .tc := ⟨.hbm, 122, rfl⟩
abbrev main_v70 : Ref sig .tc := ⟨.hbm, 123, rfl⟩
abbrev main_c_10 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_call6_v0 : Ref sig .tc := ⟨.hbm, 129, rfl⟩
abbrev main_call6_v1 : Ref sig .tc := ⟨.hbm, 130, rfl⟩
abbrev main_call6_cst : Ref sig .tc := ⟨.hbm, 131, rfl⟩
abbrev main_call6_v2 : Ref sig .tc := ⟨.hbm, 132, rfl⟩
abbrev main_call6_v3 : Ref sig .tc := ⟨.hbm, 133, rfl⟩
abbrev main_call6_cst_0 : Ref sig .tc := ⟨.hbm, 134, rfl⟩
abbrev main_call6_v4 : Ref sig .tc := ⟨.hbm, 135, rfl⟩
abbrev main_call6_v5 : Ref sig .tc := ⟨.hbm, 136, rfl⟩
abbrev main_v75 : Ref sig .tc := ⟨.hbm, 137, rfl⟩
abbrev main_v76 : Ref sig .tc := ⟨.hbm, 138, rfl⟩
abbrev main_cst_11 : Ref sig .tc := ⟨.hbm, 139, rfl⟩
abbrev main_call7_v0 : Ref sig .tc := ⟨.hbm, 140, rfl⟩
abbrev main_call7_v1 : Ref sig .tc := ⟨.hbm, 141, rfl⟩
abbrev main_call7_v2 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_c_12 : Ref sig .tc := ⟨.hbm, 153, rfl⟩
abbrev main_v87 : Ref sig .tc := ⟨.hbm, 154, rfl⟩
abbrev main_v88 : Ref sig .tc := ⟨.hbm, 155, rfl⟩
abbrev main_c_13 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v93 : Ref sig .tc := ⟨.hbm, 169, rfl⟩
abbrev main_v94 : Ref sig .tc := ⟨.hbm, 170, rfl⟩
abbrev main_cst_14 : Ref sig .tc := ⟨.hbm, 171, rfl⟩
abbrev main_call9_v0 : Ref sig .tc := ⟨.hbm, 172, rfl⟩
abbrev main_call9_v1 : Ref sig .tc := ⟨.hbm, 173, rfl⟩
abbrev main_call9_v2 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_c_15 : Ref sig .tc := ⟨.hbm, 185, rfl⟩
abbrev main_v105 : Ref sig .tc := ⟨.hbm, 186, rfl⟩
abbrev main_v106 : Ref sig .tc := ⟨.hbm, 187, rfl⟩
abbrev main_c_16 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_call10_v0 : Ref sig .tc := ⟨.hbm, 193, rfl⟩
abbrev main_call10_v1 : Ref sig .tc := ⟨.hbm, 194, rfl⟩
abbrev main_call10_cst : Ref sig .tc := ⟨.hbm, 195, rfl⟩
abbrev main_call10_v2 : Ref sig .tc := ⟨.hbm, 196, rfl⟩
abbrev main_call10_v3 : Ref sig .tc := ⟨.hbm, 197, rfl⟩
abbrev main_call10_cst_0 : Ref sig .tc := ⟨.hbm, 198, rfl⟩
abbrev main_call10_v4 : Ref sig .tc := ⟨.hbm, 199, rfl⟩
abbrev main_call10_v5 : Ref sig .tc := ⟨.hbm, 200, rfl⟩
abbrev main_v111 : Ref sig .tc := ⟨.hbm, 201, rfl⟩
abbrev main_v112 : Ref sig .tc := ⟨.hbm, 202, rfl⟩
abbrev main_cst_17 : Ref sig .tc := ⟨.hbm, 203, rfl⟩
abbrev main_call11_v0 : Ref sig .tc := ⟨.hbm, 204, rfl⟩
abbrev main_call11_v1 : Ref sig .tc := ⟨.hbm, 205, rfl⟩
abbrev main_call11_v2 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_c_18 : Ref sig .tc := ⟨.hbm, 217, rfl⟩
abbrev main_v123 : Ref sig .tc := ⟨.hbm, 218, rfl⟩
abbrev main_v124 : Ref sig .tc := ⟨.hbm, 219, rfl⟩
abbrev main_c_19 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_call12_v0 : Ref sig .tc := ⟨.hbm, 225, rfl⟩
abbrev main_call12_v1 : Ref sig .tc := ⟨.hbm, 226, rfl⟩
abbrev main_call12_cst : Ref sig .tc := ⟨.hbm, 227, rfl⟩
abbrev main_call12_v2 : Ref sig .tc := ⟨.hbm, 228, rfl⟩
abbrev main_call12_v3 : Ref sig .tc := ⟨.hbm, 229, rfl⟩
abbrev main_call12_cst_0 : Ref sig .tc := ⟨.hbm, 230, rfl⟩
abbrev main_call12_v4 : Ref sig .tc := ⟨.hbm, 231, rfl⟩
abbrev main_call12_v5 : Ref sig .tc := ⟨.hbm, 232, rfl⟩
abbrev main_v129 : Ref sig .tc := ⟨.hbm, 233, rfl⟩
abbrev main_v130 : Ref sig .tc := ⟨.hbm, 234, rfl⟩
abbrev main_cst_20 : Ref sig .tc := ⟨.hbm, 235, rfl⟩
abbrev main_call13_v0 : Ref sig .tc := ⟨.hbm, 236, rfl⟩
abbrev main_call13_v1 : Ref sig .tc := ⟨.hbm, 237, rfl⟩
abbrev main_call13_v2 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_c_21 : Ref sig .tc := ⟨.hbm, 249, rfl⟩
abbrev main_v141 : Ref sig .tc := ⟨.hbm, 250, rfl⟩
abbrev main_v142 : Ref sig .tc := ⟨.hbm, 251, rfl⟩
abbrev main_c_22 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_call14_v0 : Ref sig .tc := ⟨.hbm, 257, rfl⟩
abbrev main_call14_v1 : Ref sig .tc := ⟨.hbm, 258, rfl⟩
abbrev main_call14_cst : Ref sig .tc := ⟨.hbm, 259, rfl⟩
abbrev main_call14_v2 : Ref sig .tc := ⟨.hbm, 260, rfl⟩
abbrev main_call14_v3 : Ref sig .tc := ⟨.hbm, 261, rfl⟩
abbrev main_call14_cst_0 : Ref sig .tc := ⟨.hbm, 262, rfl⟩
abbrev main_call14_v4 : Ref sig .tc := ⟨.hbm, 263, rfl⟩
abbrev main_call14_v5 : Ref sig .tc := ⟨.hbm, 264, rfl⟩
abbrev main_v147 : Ref sig .tc := ⟨.hbm, 265, rfl⟩
abbrev main_v148 : Ref sig .tc := ⟨.hbm, 266, rfl⟩
abbrev main_cst_23 : Ref sig .tc := ⟨.hbm, 267, rfl⟩
abbrev main_call15_v0 : Ref sig .tc := ⟨.hbm, 268, rfl⟩
abbrev main_call15_v1 : Ref sig .tc := ⟨.hbm, 269, rfl⟩
abbrev main_call15_v2 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩

abbrev nD : Nat := 1
abbrev τ : Topo := Topo.v7x

variable {F : FTy → Type} [FloatOps F]
-- ==== Proof.Spec.lean ====
/- The mathematics of the scan layer at extended reals, independent of both programs: every value is a function of natural-number
   coordinates (row `256 * c + l`, column `512 * g + 64 * r + p`, head `8 * g + r`), and the few facts about extended reals the two
   readings need (what a three-part split of a finite value adds up to, and that the step sizes and decays are finite). -/
module

public import Idealize.ShloMosaic.Lib.Pointwise
public import Idealize.ShloMosaic.Lib.WordCmp

@[expose] public section

noncomputable section

namespace Cert.Ssd

open Idealize.ShloMosaic

/-- The arguments of the layer as functions of natural-number coordinates. -/
structure Args where
  /-- the projection, row and column -/
  pj : ℕ → ℕ → EReal
  /-- the convolution's taps -/
  cw : ℕ → ℕ → EReal
  /-- the convolution's bias -/
  cb : ℕ → EReal
  /-- the step sizes' bias -/
  db : ℕ → EReal
  /-- the decays' logarithms -/
  al : ℕ → EReal
  /-- the skip's factor -/
  ds : ℕ → EReal
  /-- the norm's gain -/
  ng : ℕ → EReal
  /-- the step size as the product with the input takes it -/
  sp : EReal → EReal

/-- A matrix as a function of natural-number coordinates. -/
def nat2 {a b : ℕ} (x : FVec Ideal ⟨2, ![a, b]⟩ .f32) (r q : ℕ) : EReal :=
  if h : r < a ∧ q < b then x (ix2 ⟨r, h.1⟩ ⟨q, h.2⟩) else 0
/-- A vector as a function of a natural number. -/
def nat1 {a : ℕ} (x : FVec Ideal ⟨1, ![a]⟩ .f32) (r : ℕ) : EReal := if h : r < a then x (ix1 (⟨r, h⟩ : Fin a)) else 0

theorem nat2_eq {a b : ℕ} (x : FVec Ideal ⟨2, ![a, b]⟩ .f32) {r q : ℕ} (hr : r < a) (hq : q < b) :
    x (ix2 ⟨r, hr⟩ ⟨q, hq⟩) = nat2 x r q := by rw [nat2, dif_pos ⟨hr, hq⟩]
theorem nat1_eq {a : ℕ} (x : FVec Ideal ⟨1, ![a]⟩ .f32) {r : ℕ} (hr : r < a) : x (ix1 (⟨r, hr⟩ : Fin a)) = nat1 x r := by rw [nat1, dif_pos hr]

/-- The layer's arguments from the arrays. -/
def argsOf (pj : FVec Ideal ⟨2, ![8192, 5760]⟩ .f32) (cw : FVec Ideal ⟨2, ![4, 1536]⟩ .f32) (cb : FVec Ideal ⟨1, ![1536]⟩ .f32)
    (db al ds : FVec Ideal ⟨1, ![16]⟩ .f32) (ng : FVec Ideal ⟨1, ![1024]⟩ .f32) : Args :=
  ⟨nat2 pj, nat2 cw, nat1 cb, nat1 db, nat1 al, nat1 ds, nat1 ng, id⟩

variable (A : Args)

/-- The convolution's input `s` rows up, zero above the first row. -/
def xsh (s r q : ℕ) : EReal := if r < s then 0 else A.pj (r - s) (1024 + q)
/-- The convolution of four taps, with its bias. -/
def conv (r q : ℕ) : EReal :=
  xsh A 3 r q * A.cw 0 q + xsh A 2 r q * A.cw 1 q + xsh A 1 r q * A.cw 2 q + xsh A 0 r q * A.cw 3 q + A.cb q
/-- `x` times its logistic. -/
def silu (x : EReal) : EReal := x * Ideal.div 1 (1 + Ideal.exp (-x))
/-- The activated convolution. -/
def act (r q : ℕ) : EReal := silu (conv A r q)
/-- The logarithm of one plus the exponential, as both programs compute it. -/
def softplus (d : EReal) : EReal := max d 0 + Ideal.log1p (Ideal.exp (-(max d (-d))))
/-- The step size of head `h` at row `r`. -/
def dt (r h : ℕ) : EReal := softplus (A.pj r (5632 + h) + A.db h)
/-- The logarithm of the decay of one step. -/
def dA (r h : ℕ) : EReal := dt A r h * (-(Ideal.exp (A.al h)))
/-- The logarithm of the decay from the chunk's head up to its row `l`. -/
def acs (c l h : ℕ) : EReal := ∑ k : Fin 256, if k.val ≤ l then dA A (256 * c + k.val) h else 0
/-- The input times its step size. -/
def xdt (r q : ℕ) : EReal := act A r q * A.sp (dt A r (q / 64))
/-- The product of the output map at row `l` and the input map at row `s` of chunk `c`, group `g`. -/
def cbp (c g l s : ℕ) : EReal :=
  ∑ n : Fin 128, act A (256 * c + l) (1280 + 128 * g + n.val) * act A (256 * c + s) (1024 + 128 * g + n.val)
/-- The decay from row `s` to row `l`, zero for a later `s`. -/
def dec (c l s h : ℕ) : EReal := if s ≤ l then Ideal.exp (acs A c l h - acs A c s h) else 0
/-- The part of the output that comes from the chunk itself. -/
def ydiag (c l q : ℕ) : EReal :=
  ∑ s : Fin 256, cbp A c (q / 512) l s.val * dec A c l s.val (q / 64) * xdt A (256 * c + s.val) q
/-- What chunk `c` adds to the state. -/
def cst (c n q : ℕ) : EReal :=
  ∑ l : Fin 256, act A (256 * c + l.val) (1024 + 128 * (q / 512) + n)
    * (xdt A (256 * c + l.val) q * Ideal.exp (acs A c 255 (q / 64) - acs A c l.val (q / 64)))
/-- The state before chunk `c`. -/
def st : ℕ → ℕ → ℕ → EReal
  | 0, _, _ => 0
  | c + 1, n, q => st c n q * Ideal.exp (acs A c 255 (q / 64)) + cst A c n q
/-- The part of the output that comes from the state. -/
def yoff (c l q : ℕ) : EReal :=
  (∑ n : Fin 128, act A (256 * c + l) (1280 + 128 * (q / 512) + n.val) * st A c n.val q) * Ideal.exp (acs A c l (q / 64))
/-- The output before the norm. -/
def yv (c l q : ℕ) : EReal :=
  (ydiag A c l q + yoff A c l q + act A (256 * c + l) q * A.ds (q / 64)) * silu (A.pj (256 * c + l) q)
/-- The reciprocal root of the group's mean square. -/
def rms (c l g : ℕ) : EReal :=
  Ideal.rsqrt (Ideal.div (∑ p : Fin 512, yv A c l (512 * g + p.val) * yv A c l (512 * g + p.val)) (Ideal.ofBits .f32 1140850688#32)
    + Ideal.ofBits .f32 897988541#32)
/-- The layer's output. -/
def out (c l q : ℕ) : EReal := yv A c l q * rms A c l (q / 512) * A.ng q

/-! Finite values. -/

/-- An extended real that is a real. -/
def IsFin (x : EReal) : Prop := ∃ r : ℝ, x = (r : EReal)

theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.sub {x y : EReal} (hx : IsFin x) (hy : IsFin y) : IsFin (x - y) := by
  obtain ⟨a, rfl⟩ := hx; obtain ⟨b, rfl⟩ := hy; exact ⟨a - b, (EReal.coe_sub a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.neg {x : EReal} (hx : IsFin x) : IsFin (-x) := by
  obtain ⟨a, rfl⟩ := hx; exact ⟨-a, (EReal.coe_neg a).symm⟩
theorem IsFin.zero : IsFin 0 := ⟨0, EReal.coe_zero.symm⟩
theorem IsFin.max {x y : EReal} (hx : IsFin x) (hy : IsFin y) : IsFin (max x y) := by
  rcases max_choice x y with h | h <;> rw [h] <;> assumption
theorem IsFin.exp {x : EReal} (hx : IsFin x) : IsFin (Ideal.exp x) := by
  obtain ⟨a, rfl⟩ := hx; exact ⟨Real.exp a, Ideal.exp_coe a⟩
theorem IsFin.sum {n : ℕ} {f : Fin n → EReal} (h : ∀ k, IsFin (f k)) : IsFin (∑ k, f k) :=
  Finset.sum_induction f IsFin (fun _ _ => IsFin.add) IsFin.zero fun k _ => h k
theorem IsFin.sub_self {x : EReal} (hx : IsFin x) : x - x = 0 := by
  obtain ⟨a, rfl⟩ := hx; rw [← EReal.coe_sub, _root_.sub_self, EReal.coe_zero]

/-- The sum of the three parts that a value is split into, its format changes being the identity. -/
def parts (x : EReal) : EReal := x + (x - x) + (x - x - (x - x))

/-- The parts of a value make it up, unless it is the greatest. -/
theorem parts_eq {x : EReal} (hx : x ≠ ⊤) : parts x = x := by
  induction x using EReal.rec with
  | bot => simp [parts]
  | coe a =>
    have h : IsFin (a : EReal) := ⟨a, rfl⟩
    rw [parts, h.sub_self, IsFin.zero.sub_self, add_zero, add_zero]
  | top => exact absurd rfl hx

/-- The arguments, the product taking the step size in its three parts. -/
abbrev Args.split (A : Args) : Args := { A with sp := parts }

theorem exp_nonneg (x : EReal) : 0 ≤ Ideal.exp x := by
  induction x using EReal.rec with
  | bot => simp
  | coe a => rw [Ideal.exp_coe]; exact EReal.coe_nonneg.2 (Real.exp_pos a).le
  | top => simp

theorem exp_ne_top {x : EReal} (hx : x ≠ ⊤) : Ideal.exp x ≠ ⊤ := by
  induction x using EReal.rec with
  | bot => simp
  | coe a => rw [Ideal.exp_coe]; exact EReal.coe_ne_top _
  | top => exact absurd rfl hx

theorem log1p_exp_nonneg {x : EReal} (hx : x ≠ ⊤) : 0 ≤ Ideal.log1p (Ideal.exp x) := by
  have key (r : ℝ) (hr : 0 ≤ r) : 0 ≤ Ideal.log1p (r : EReal) := by
    have e : (1 : EReal) + ((r : ℝ) : EReal) = ((1 + r : ℝ) : EReal) := by rw [EReal.coe_add, EReal.coe_one]
    rw [Ideal.log1p, e]
    refine le_of_le_of_eq ?_ (if_neg (not_le.2 (by linarith : 0 < 1 + r))).symm
    exact EReal.coe_nonneg.2 (Real.log_nonneg (by linarith))
  induction x using EReal.rec with
  | bot => exact key 0 le_rfl
  | coe a => exact key _ (Real.exp_pos a).le
  | top => exact absurd rfl hx

theorem softplus_nonneg (d : EReal) : 0 ≤ softplus d := by
  refine add_nonneg (le_max_right _ _) (log1p_exp_nonneg ?_)
  induction d using EReal.rec with
  | bot => simp
  | coe a =>
    obtain ⟨b, hb⟩ := (IsFin.max ⟨a, rfl⟩ (IsFin.neg ⟨a, rfl⟩)).neg
    rw [hb]; exact EReal.coe_ne_top _
  | top => simp

theorem dA_nonpos (r h : ℕ) : dA A r h ≤ 0 := by
  rw [dA, mul_neg, EReal.neg_le, neg_zero]
  exact mul_nonneg (softplus_nonneg _) (exp_nonneg _)

theorem acs_nonpos (c l h : ℕ) : acs A c l h ≤ 0 :=
  Finset.sum_nonpos fun k _ => by
    split
    · exact dA_nonpos A _ _
    · exact le_rfl

theorem acs_last (c h : ℕ) (l : ℕ) : acs A c 255 h ≤ acs A c l h :=
  Finset.sum_le_sum fun k _ => by
    have hk : k.val ≤ 255 := by omega
    rw [if_pos hk]
    split
    · exact le_rfl
    · exact dA_nonpos A _ _

theorem exp_acs_ne_top (c l h : ℕ) : Ideal.exp (acs A c l h) ≠ ⊤ :=
  exp_ne_top (lt_of_le_of_lt (acs_nonpos A c l h) EReal.zero_lt_top).ne

theorem sub_ne_top {x y : EReal} (hxy : x ≤ y) (hx : x ≠ ⊤) : x - y ≠ ⊤ := by
  induction x using EReal.rec with
  | bot => simp
  | coe a =>
    induction y using EReal.rec with
    | bot => exact absurd hxy (by simp)
    | coe b => rw [← EReal.coe_sub]; exact EReal.coe_ne_top _
    | top => simp
  | top => exact absurd rfl hx

theorem exp_last_ne_top (c l h : ℕ) : Ideal.exp (acs A c 255 h - acs A c l h) ≠ ⊤ :=
  exp_ne_top (sub_ne_top (acs_last A c h l) (lt_of_le_of_lt (acs_nonpos A c 255 h) EReal.zero_lt_top).ne)

variable {A}

/-- The three parts of a split value times zeros and ones but at one place: the parts of the value there. -/
theorem split_expand {n : ℕ} (v e : Fin n → EReal) (j : Fin n) (hj : e j = 1) (h0 : ∀ k, k ≠ j → e k = 0) :
    ∑ k, v k * e k + ∑ k, (v k - v k) * e k + ∑ k, (v k - v k - (v k - v k)) * e k = parts (v j) := by
  have S (w : Fin n → EReal) : ∑ k, w k * e k = w j := by
    rw [Finset.sum_eq_single j (fun k _ hk => by rw [h0 k hk, mul_zero]) fun h => absurd (Finset.mem_univ j) h, hj, mul_one]
  rw [S, S, S, parts]

/-- A select by a comparison of two small words is a conditional. -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (w := 32) ha hb]
  by_cases h : a < b <;> simp [Scalar.select, h]

theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat (w := 32) ha hb]
  by_cases h : b ≤ a <;> simp [Scalar.select, h]

theorem ofBits_bot : Ideal.ofBits .f32 4286578688#32 = ⊥ := by
  simp [Ideal.ofBits, Ideal.ieee]

end Cert.Ssd

end
-- ==== Proof.Chunk.lean ====
/- What one grid point of the kernel computes, read at an index: each payload over abstract blocks that hold the layer's arguments at
   chunk `c` is the layer's mathematics (`Cert.Ssd`) at the chunk's rows. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Chunk

open Idealize.ShloMosaic Idealize.ShloMosaic.TcCoe Idealize.SL.Sem
open Cert.KernelIdeal Cert.KernelIdeal.Gen Cert.Ssd

variable {A : Args} {c : ℕ}

theorem xrot {s l q : ℕ} (hl : l < 256) (hs : s ≤ 3) (h : ¬ l < s) :
    A.pj (256 * c + (l + 256 - s) % 256) (1024 + q) = xsh A s (256 * c + l) q := by
  rw [xsh, if_neg (by omega)]; congr 1; omega
theorem xtail {s l q : ℕ} (hl : l < s) (hs : s ≤ 3) : xsh A 8 (256 * c + (l + 8 - s) % 8) q = xsh A s (256 * c + l) q := by
  unfold xsh
  by_cases h : 256 * c + l < s
  · rw [if_pos h, if_pos (by omega)]
  · rw [if_neg h, if_neg (by omega)]; congr 1; omega
theorem xcur {r q : ℕ} : A.pj r (1024 + q) = xsh A 0 r q := by rw [xsh, if_neg (by omega)]; rfl

/-- The tap `s` rows up, as the kernel's first eight rows take it. -/
theorem xsel {s l q : ℕ} (hl : l < 256) (hs : s ≤ 3) :
    (if l < s then xsh A 8 (256 * c + (l + 8 - s) % 8) q else A.pj (256 * c + (l + 256 - s) % 256) (1024 + q))
      = xsh A s (256 * c + l) q := by
  by_cases h : l < s
  · rw [if_pos h, xtail h hs]
  · rw [if_neg h, xrot hl hs h]

/-- The kernel adds the taps from the current row up. -/
theorem act_of_kernel (r q : ℕ) :
    (xsh A 0 r q * A.cw 3 q + xsh A 1 r q * A.cw 2 q + xsh A 2 r q * A.cw 1 q + xsh A 3 r q * A.cw 0 q + A.cb q)
      * Ideal.div 1 (1 + Ideal.exp (-(xsh A 0 r q * A.cw 3 q + xsh A 1 r q * A.cw 2 q + xsh A 2 r q * A.cw 1 q
        + xsh A 3 r q * A.cw 0 q + A.cb q))) = act A r q := by
  have e : xsh A 0 r q * A.cw 3 q + xsh A 1 r q * A.cw 2 q + xsh A 2 r q * A.cw 1 q + xsh A 3 r q * A.cw 0 q + A.cb q
      = conv A r q := by rw [conv]; ac_rfl
  rw [e, act, silu]

/-- The activated convolution of the kernel's x columns. -/
def actX (x : FVec Ideal S256x1024 .f32) (tl : FVec Ideal S8x1024 .f32) (w : FVec Ideal S4x1024 .f32) (b : FVec Ideal S1x1024 .f32) :
    FVec Ideal S256x1024 .f32 :=
  k0_pay15 tl (iota .tc S8x1024 32 [0] iota_S8x1024_d0_w32) (k0_pay10 x w) (k0_pay11 x tl w) (k0_pay12 w) (k0_pay13 x) b

theorem actX_at (x : FVec Ideal S256x1024 .f32) (tl : FVec Ideal S8x1024 .f32) (w : FVec Ideal S4x1024 .f32) (b : FVec Ideal S1x1024 .f32)
    (hx : ∀ (l : Fin 256) (q : Fin 1024), x (ix2 l q) = A.pj (256 * c + l.val) (1024 + q.val))
    (ht : ∀ (i : Fin 8) (q : Fin 1024), tl (ix2 i q) = xsh A 8 (256 * c + i.val) q.val)
    (hw : ∀ (i : Fin 4) (q : Fin 1024), w (ix2 i q) = A.cw i.val q.val) (hb : ∀ q : Fin 1024, b (ix2 0 q) = A.cb q.val)
    (l : Fin 256) (q : Fin 1024) : actX x tl w b (ix2 l q) = act A (256 * c + l.val) q.val := by
  have hl := l.isLt
  pointwise [actX, k0_pay15, k0_pay10, k0_pay11, k0_pay12, k0_pay13, k0_pay9, k0_pay8, k0_pay7, k0_pay6, k0_pay5]
  by_cases h : l.val < 8
  · simp only [dif_pos h, hx, ht, hw, hb]
    rw [select_slt _ 1 (by omega) (by omega), select_slt _ 2 (by omega) (by omega), select_slt _ 3 (by omega) (by omega),
      xsel hl (by omega), xsel hl (by omega), xsel hl (by omega), xcur, zero_sub]
    exact act_of_kernel _ _
  · simp only [dif_neg h, hx, hw, hb]
    have e : 8 + (l.val - 8) = l.val := by omega
    simp only [e]
    rw [xrot hl (by omega) (by omega), xrot hl (by omega) (by omega), xrot hl (by omega) (by omega), xcur, zero_sub]
    exact act_of_kernel _ _

/-- The activated convolution of the kernel's columns of the input and output maps. -/
def actB (x : FVec Ideal S256x512 .f32) (tl : FVec Ideal S8x512 .f32) (w : FVec Ideal S4x512 .f32) (b : FVec Ideal S1x512 .f32) :
    FVec Ideal S256x512 .f32 :=
  k0_pay23 (k0_pay22 x tl (k0_pay16 w) (iota .tc S8x512 32 [0] iota_S8x512_d0_w32) (k0_pay17 x w) (k0_pay18 x w) (k0_pay19 w)
    (k0_pay20 x) b)

theorem actB_at (x : FVec Ideal S256x512 .f32) (tl : FVec Ideal S8x512 .f32) (w : FVec Ideal S4x512 .f32) (b : FVec Ideal S1x512 .f32)
    (hx : ∀ (l : Fin 256) (q : Fin 512), x (ix2 l q) = A.pj (256 * c + l.val) (1024 + (1024 + q.val)))
    (ht : ∀ (i : Fin 8) (q : Fin 512), tl (ix2 i q) = xsh A 8 (256 * c + i.val) (1024 + q.val))
    (hw : ∀ (i : Fin 4) (q : Fin 512), w (ix2 i q) = A.cw i.val (1024 + q.val))
    (hb : ∀ q : Fin 512, b (ix2 0 q) = A.cb (1024 + q.val))
    (l : Fin 256) (q : Fin 512) : actB x tl w b (ix2 l q) = act A (256 * c + l.val) (1024 + q.val) := by
  have hl := l.isLt
  pointwise [actB, k0_pay23, k0_pay22, k0_pay16, k0_pay17, k0_pay18, k0_pay19, k0_pay20]
  by_cases h : l.val < 8
  · simp only [dif_pos h, hx, ht, hw, hb]
    rw [select_slt _ 1 (by omega) (by omega), select_slt _ 2 (by omega) (by omega), select_slt _ 3 (by omega) (by omega),
      xsel hl (by omega), xsel hl (by omega), xsel hl (by omega), xcur, zero_sub]
    exact act_of_kernel _ _
  · simp only [dif_neg h, hx, hw, hb]
    have e : 8 + (l.val - 8) = l.val := by omega
    simp only [e]
    rw [xrot hl (by omega) (by omega), xrot hl (by omega) (by omega), xrot hl (by omega) (by omega), xcur, zero_sub]
    exact act_of_kernel _ _

theorem pay24_at (r : FVec Ideal S256x128 .f32) (b : FVec Ideal S1x128 .f32)
    (hr : ∀ (l : Fin 256) (h : Fin 128), h.val < 16 → r (ix2 l h) = A.pj (256 * c + l.val) (5632 + h.val))
    (hb : ∀ h : Fin 128, h.val < 16 → b (ix2 0 h) = A.db h.val) (l : Fin 256) (h : Fin 128) (hh : h.val < 16) :
    k0_pay24 (F := Ideal) r b (ix2 l h) = dt A (256 * c + l.val) h.val := by
  pointwise [k0_pay24]
  rw [hr l h hh, hb h hh, zero_sub, dt, softplus, Ideal.absf_def]

/-- The kernel's running sums of the decays' logarithms. -/
def acsB (r : FVec Ideal S256x128 .f32) (b al : FVec Ideal S1x128 .f32) : FVec Ideal S256x128 .f32 :=
  k0_pay34 (k0_pay26 (F := Ideal)) (k0_pay30 r b al) (k0_pay31 r b al) (k0_pay32 r b al) (k0_pay33 (F := Ideal))

theorem acsB_at (r : FVec Ideal S256x128 .f32) (b al : FVec Ideal S1x128 .f32)
    (hr : ∀ (l : Fin 256) (h : Fin 128), h.val < 16 → r (ix2 l h) = A.pj (256 * c + l.val) (5632 + h.val))
    (hb : ∀ h : Fin 128, h.val < 16 → b (ix2 0 h) = A.db h.val) (ha : ∀ h : Fin 128, h.val < 16 → al (ix2 0 h) = A.al h.val)
    (l : Fin 256) (h : Fin 128) (hh : h.val < 16) : acsB r b al (ix2 l h) = acs A c l.val h.val := by
  have hl := l.isLt
  pointwise [acsB, k0_pay34, k0_pay26, k0_pay25, k0_pay30, k0_pay31, k0_pay32, k0_pay33, k0_pay29, k0_pay28, k0_pay27]
  have e (k : Fin 256) : k0_pay24 (F := Ideal) r b (ix2 k h) * (0 - Ideal.exp (al (ix2 0 h))) = dA A (256 * c + k.val) h.val := by
    rw [pay24_at r b hr hb k h hh, ha h hh, zero_sub, dA]
  simp only [e]
  rw [← Finset.sum_add_distrib, ← Finset.sum_add_distrib, acs]
  refine Finset.sum_congr rfl fun k _ => ?_
  rw [select_sge _ _ (by omega) (by have := k.isLt; omega), select_sge _ _ (by omega) (by have := k.isLt; omega),
    select_sge _ _ (by omega) (by have := k.isLt; omega)]
  split
  · exact parts_eq (lt_of_le_of_lt (dA_nonpos A _ _) EReal.zero_lt_top).ne
  · rw [add_zero, add_zero]

section expand

variable (v153 : FVec Ideal S256x128 .f32) (v165 : FVec Ideal S256x256 .bf16) (v171 v174 : FVec Ideal S256x128 .bf16)
  (v175 v176 : FVec Ideal S256x128 .f32) (E : FVec Ideal S128x1024 .bf16)

theorem pay36_at
    (hE : ∀ (k : Fin 128) (q : Fin 1024), E (ix2 k q) = if k.val = q.val / 64 then 1 else 0)
    (ha : ∀ (l : Fin 256) (h : Fin 128), h.val < 16 → k0_pay34 v165 v171 v174 v175 v176 (ix2 l h) = acs A c l.val h.val)
    (l : Fin 256) (q : Fin 1024) :
    k0_pay36 (F := Ideal) v153 v165 v171 v174 v175 v176 E (ix2 l q) = Ideal.exp (acs A c l.val (q.val / 64)) := by
  have hl := l.isLt
  have hq := q.isLt
  pointwise [k0_pay36, k0_pay35]
  have h1 : ¬ 512 + l.val < 256 := by omega
  have h2 : ¬ 512 + l.val - 256 < 256 := by omega
  have h3 : 512 + l.val - 256 - 256 < 256 := by omega
  have e : 512 + l.val - 256 - 256 = l.val := by omega
  simp only [dif_neg h1, dif_neg h2, e, dif_pos hl]
  have hj : q.val / 64 < 16 := by omega
  rw [split_expand _ _ ⟨q.val / 64, by omega⟩ (by rw [hE, if_pos rfl])
    (fun k hk => by rw [hE, if_neg fun h => hk (Fin.ext h)])]
  rw [ha _ _ hj]
  exact parts_eq (exp_acs_ne_top A _ _ _)

theorem pay37_at
    (hE : ∀ (k : Fin 128) (q : Fin 1024), E (ix2 k q) = if k.val = q.val / 64 then 1 else 0)
    (ha : ∀ (l : Fin 256) (h : Fin 128), h.val < 16 → k0_pay34 v165 v171 v174 v175 v176 (ix2 l h) = acs A c l.val h.val)
    (q : Fin 1024) :
    k0_pay37 (F := Ideal) v153 v165 v171 v174 v175 v176 E (ix2 0 q) = Ideal.exp (acs A c 255 (q.val / 64)) := by
  have hq := q.isLt
  pointwise [k0_pay37, k0_pay35]
  have hj : q.val / 64 < 16 := by omega
  rw [split_expand _ _ ⟨q.val / 64, by omega⟩ (by rw [hE, if_pos rfl])
    (fun k hk => by rw [hE, if_neg fun h => hk (Fin.ext h)])]
  rw [ha _ _ hj]
  exact parts_eq (exp_acs_ne_top A _ _ _)

theorem pay38_at (H : A.sp = parts) (v71 : FVec Ideal S256x1024 .f32)
    (hE : ∀ (k : Fin 128) (q : Fin 1024), E (ix2 k q) = if k.val = q.val / 64 then 1 else 0)
    (hx : ∀ (l : Fin 256) (q : Fin 1024), v71 (ix2 l q) = act A (256 * c + l.val) q.val)
    (hd : ∀ (l : Fin 256) (h : Fin 128), h.val < 16 → v153 (ix2 l h) = dt A (256 * c + l.val) h.val)
    (l : Fin 256) (q : Fin 1024) :
    k0_pay38 (F := Ideal) v71 v153 v165 v171 v174 v175 v176 E (ix2 l q) = xdt A (256 * c + l.val) q.val := by
  have hl := l.isLt
  have hq := q.isLt
  pointwise [k0_pay38, k0_pay35]
  have hj : q.val / 64 < 16 := by omega
  rw [split_expand _ _ ⟨q.val / 64, by omega⟩ (by rw [hE, if_pos rfl])
    (fun k hk => by rw [hE, if_neg fun h => hk (Fin.ext h)])]
  rw [hd _ _ hj, hx, xdt, H]

theorem pay39_at (H : A.sp = parts) (v71 : FVec Ideal S256x1024 .f32)
    (hE : ∀ (k : Fin 128) (q : Fin 1024), E (ix2 k q) = if k.val = q.val / 64 then 1 else 0)
    (hx : ∀ (l : Fin 256) (q : Fin 1024), v71 (ix2 l q) = act A (256 * c + l.val) q.val)
    (hd : ∀ (l : Fin 256) (h : Fin 128), h.val < 16 → v153 (ix2 l h) = dt A (256 * c + l.val) h.val)
    (l : Fin 256) (q : Fin 1024) :
    k0_pay39 (F := Ideal) v71 v153 v165 v171 v174 v175 v176 E (ix2 l q) = xdt A (256 * c + l.val) q.val := by
  pointwise [k0_pay39]
  exact pay38_at v153 v165 v171 v174 v175 v176 E H v71 hE hx hd l q

theorem pay40_at (H : A.sp = parts) (v71 : FVec Ideal S256x1024 .f32)
    (hE : ∀ (k : Fin 128) (q : Fin 1024), E (ix2 k q) = if k.val = q.val / 64 then 1 else 0)
    (ha : ∀ (l : Fin 256) (h : Fin 128), h.val < 16 → k0_pay34 v165 v171 v174 v175 v176 (ix2 l h) = acs A c l.val h.val)
    (hx : ∀ (l : Fin 256) (q : Fin 1024), v71 (ix2 l q) = act A (256 * c + l.val) q.val)
    (hd : ∀ (l : Fin 256) (h : Fin 128), h.val < 16 → v153 (ix2 l h) = dt A (256 * c + l.val) h.val)
    (l : Fin 256) (q : Fin 1024) :
    k0_pay40 (F := Ideal) v71 v153 v165 v171 v174 v175 v176 E (ix2 l q)
      = xdt A (256 * c + l.val) q.val * Ideal.exp (acs A c 255 (q.val / 64) - acs A c l.val (q.val / 64)) := by
  have hl := l.isLt
  have hq := q.isLt
  pointwise [k0_pay40, k0_pay35]
  rw [pay38_at v153 v165 v171 v174 v175 v176 E H v71 hE hx hd l q]
  have hj : q.val / 64 < 16 := by omega
  rw [split_expand _ _ ⟨q.val / 64, by omega⟩ (by rw [hE, if_pos rfl])
    (fun k hk => by rw [hE, if_neg fun h => hk (Fin.ext h)])]
  rw [ha _ _ hj, ha _ _ hj]
  exact congrArg _ (parts_eq (exp_last_ne_top A _ _ _))

end expand

section products

variable (v140 : FVec Ideal S256x512 .f32)
  (hB : ∀ (l : Fin 256) (q : Fin 512), v140 (ix2 l q) = act A (256 * c + l.val) (1024 + q.val))
include hB

theorem pay42_at (l : Fin 256) (n : Fin 128) :
    k0_pay42 (F := Ideal) v140 (ix2 l n) = act A (256 * c + l.val) (1024 + 128 * 0 + n.val) := by
  pointwise [k0_pay42]
  rw [hB]

theorem pay43_at (l : Fin 256) (n : Fin 128) :
    k0_pay43 (F := Ideal) v140 (ix2 l n) = act A (256 * c + l.val) (1280 + 128 * 0 + n.val) := by
  pointwise [k0_pay43]
  rw [hB]
  congr 1
  show 1024 + (256 + n.val) = _
  omega

theorem pay55_at (l : Fin 256) (n : Fin 128) :
    k0_pay55 (F := Ideal) v140 (ix2 l n) = act A (256 * c + l.val) (1024 + 128 * 1 + n.val) := by
  pointwise [k0_pay55]
  rw [hB]
  congr 1
  show 1024 + (128 + n.val) = _
  omega

theorem pay56_at (l : Fin 256) (n : Fin 128) :
    k0_pay56 (F := Ideal) v140 (ix2 l n) = act A (256 * c + l.val) (1280 + 128 * 1 + n.val) := by
  pointwise [k0_pay56]
  rw [hB]
  congr 1
  show 1024 + (384 + n.val) = _
  omega

theorem pay44_at (l s : Fin 256) : k0_pay44 (F := Ideal) v140 (ix2 l s) = cbp A c 0 l.val s.val := by
  pointwise [k0_pay44]
  rw [cbp]
  exact Finset.sum_congr rfl fun n _ => by rw [pay42_at v140 hB, pay43_at v140 hB]

theorem pay57_at (l s : Fin 256) : k0_pay57 (F := Ideal) v140 (ix2 l s) = cbp A c 1 l.val s.val := by
  pointwise [k0_pay57]
  rw [cbp]
  exact Finset.sum_congr rfl fun n _ => by rw [pay55_at v140 hB, pay56_at v140 hB]

theorem pay47_at (v209 : FVec Ideal S256x1024 .f32) (h : FVec Ideal S1x128x512 .f32)
    (he : ∀ (l : Fin 256) (q : Fin 1024), v209 (ix2 l q) = Ideal.exp (acs A c l.val (q.val / 64)))
    (hs : ∀ (n : Fin 128) (q : Fin 512), h (ix3 0 n q) = st A c n.val q.val) (l : Fin 256) (q : Fin 512) :
    k0_pay47 (F := Ideal) v209 (k0_pay43 v140) (k0_pay46 h) (constant S256x512 .f32 0x00000000#32) (ix2 l q)
      = yoff A c l.val q.val := by
  have hq := q.isLt
  pointwise [k0_pay47, k0_pay46, k0_pay45]
  rw [he, yoff, show q.val / 512 = 0 by omega]
  refine congrArg (· * _) (Finset.sum_congr rfl fun n _ => ?_)
  rw [hs, pay43_at v140 hB]

theorem pay59_at (v209 : FVec Ideal S256x1024 .f32) (h : FVec Ideal S1x128x512 .f32)
    (he : ∀ (l : Fin 256) (q : Fin 1024), v209 (ix2 l q) = Ideal.exp (acs A c l.val (q.val / 64)))
    (hs : ∀ (n : Fin 128) (q : Fin 512), h (ix3 0 n q) = st A c n.val (512 + q.val)) (l : Fin 256) (q : Fin 512) :
    k0_pay59 (F := Ideal) v140 v209 h (ix2 l q) = yoff A c l.val (512 + q.val) := by
  have hq := q.isLt
  pointwise [k0_pay59, k0_pay58]
  rw [he, yoff, show (512 + q.val) / 512 = 1 by omega]
  refine congrArg (· * _) (Finset.sum_congr rfl fun n _ => ?_)
  rw [hs, pay56_at v140 hB]

theorem pay48_at (v210 : FVec Ideal S1x1024 .f32) (v214 : FVec Ideal S256x1024 .bf16) (h : FVec Ideal S1x128x512 .f32)
    (he : ∀ q : Fin 1024, v210 (ix2 0 q) = Ideal.exp (acs A c 255 (q.val / 64)))
    (hx : ∀ (l : Fin 256) (q : Fin 1024), v214 (ix2 l q)
      = xdt A (256 * c + l.val) q.val * Ideal.exp (acs A c 255 (q.val / 64) - acs A c l.val (q.val / 64)))
    (hs : ∀ (n : Fin 128) (q : Fin 512), h (ix3 0 n q) = st A c n.val q.val) (a : Fin 1) (n : Fin 128) (q : Fin 512) :
    k0_pay48 (F := Ideal) v210 v214 (k0_pay42 v140) (k0_pay45 h) (ix3 a n q) = st A (c + 1) n.val q.val := by
  have hq := q.isLt
  pointwise [k0_pay48, k0_pay45]
  rw [hs, he, st, cst, show q.val / 512 = 0 by omega]
  refine congrArg (_ + ·) (Finset.sum_congr rfl fun l _ => ?_)
  rw [hx, pay42_at v140 hB]

theorem pay61_at (v210 : FVec Ideal S1x1024 .f32) (v214 : FVec Ideal S256x1024 .bf16) (h : FVec Ideal S1x128x512 .f32)
    (he : ∀ q : Fin 1024, v210 (ix2 0 q) = Ideal.exp (acs A c 255 (q.val / 64)))
    (hx : ∀ (l : Fin 256) (q : Fin 1024), v214 (ix2 l q)
      = xdt A (256 * c + l.val) q.val * Ideal.exp (acs A c 255 (q.val / 64) - acs A c l.val (q.val / 64)))
    (hs : ∀ (n : Fin 128) (q : Fin 512), h (ix3 0 n q) = st A c n.val (512 + q.val)) (a : Fin 1) (n : Fin 128) (q : Fin 512) :
    k0_pay61 (F := Ideal) v210 (k0_pay58 h) (k0_pay60 v140 v214) (ix3 a n q) = st A (c + 1) n.val (512 + q.val) := by
  have hq := q.isLt
  pointwise [k0_pay61, k0_pay58, k0_pay60]
  rw [hs, he, st, cst, show (512 + q.val) / 512 = 1 by omega]
  refine congrArg (_ + ·) (Finset.sum_congr rfl fun l _ => ?_)
  rw [hx, pay55_at v140 hB]

end products

section diag

variable (v181 : FVec Ideal S256x128 .f32) (v212 : FVec Ideal S256x1024 .bf16) (v215 : FVec Ideal S128x256 .f32)
  (ha : ∀ (l : Fin 256) (h : Fin 128), h.val < 16 → v181 (ix2 l h) = acs A c l.val h.val)
  (hT : ∀ (h : Fin 128) (l : Fin 256), h.val < 16 → v215 (ix2 h l) = acs A c l.val h.val)
  (hx : ∀ (l : Fin 256) (q : Fin 1024), v212 (ix2 l q) = xdt A (256 * c + l.val) q.val)
include ha hT hx

/-- One head's masked product is the chunk's own part of the output at that head's columns. -/
theorem head_at (g : ℕ) (cb : FVec Ideal S256x256 .f32) (hcb : ∀ l s : Fin 256, cb (ix2 l s) = cbp A c g l.val s.val)
    (h : Fin 128) (l : Fin 256) (Q : Fin 1024) (hh : Q.val / 64 = h.val) (hg : Q.val / 512 = g) :
    ∑ x : Fin 256, cb (ix2 l x) * Ideal.exp (Scalar.select (IntOp.cmpi .sge (BitVec.ofNat 32 l.val) (BitVec.ofNat 32 x.val))
      (v181 (ix2 l h) - v215 (ix2 h x)) (Ideal.ofBits .f32 4286578688#32)) * v212 (ix2 x Q) = ydiag A c l.val Q.val := by
  have hl := l.isLt
  have hQ := Q.isLt
  rw [ydiag]
  refine Finset.sum_congr rfl fun x _ => ?_
  have hx' := x.isLt
  rw [hcb, hx, ha l h (by omega), hT h x (by omega), select_sge _ _ (by omega) (by omega), hh, hg, dec, ofBits_bot]
  by_cases h : x.val ≤ l.val
  · rw [if_pos h, if_pos h]
  · rw [if_neg h, if_neg h, Ideal.exp_bot]

variable (cb : FVec Ideal S256x256 .f32)

variable (g : ℕ) (hcb : ∀ l s : Fin 256, cb (ix2 l s) = cbp A c g l.val s.val)
include hcb

theorem pay49_at (hg : g = 0) (l : Fin 256) (q : Fin 128) :
    k0_pay49 (F := Ideal) k0_pay25 v181 v212 v215 cb (ix2 l q) = ydiag A c l.val q.val := by
  have hq := q.isLt
  pointwise [k0_pay49, k0_pay25]
  by_cases h : q.val < 64
  · rw [dif_pos h]
    refine (head_at v181 v212 v215 ha hT hx g cb hcb 0 l ⟨q.val, by omega⟩ ?_ ?_).trans
      (congrArg (ydiag A c l.val) ?_)
    · show q.val / 64 = 0; omega
    · show q.val / 512 = g; omega
    · rfl
  · rw [dif_neg h]
    refine (head_at v181 v212 v215 ha hT hx g cb hcb 1 l ⟨64 + (q.val - 64), by omega⟩ ?_ ?_).trans
      (congrArg (ydiag A c l.val) ?_)
    · show (64 + (q.val - 64)) / 64 = 1; omega
    · show (64 + (q.val - 64)) / 512 = g; omega
    · show 64 + (q.val - 64) = q.val; omega

theorem pay51_at (hg : g = 0) (l : Fin 256) (q : Fin 128) :
    k0_pay51 (F := Ideal) k0_pay25 v181 v212 v215 cb (k0_pay50 v181 v215) (Scalar.ofBits .f32 0xFF800000#32) (ix2 l q) = ydiag A c l.val (128 + q.val) := by
  have hq := q.isLt
  pointwise [k0_pay51, k0_pay50, k0_pay25]
  by_cases h : q.val < 64
  · rw [dif_pos h]
    refine (head_at v181 v212 v215 ha hT hx g cb hcb 2 l ⟨128 + q.val, by omega⟩ ?_ ?_).trans
      (congrArg (ydiag A c l.val) ?_)
    · show (128 + q.val) / 64 = 2; omega
    · show (128 + q.val) / 512 = g; omega
    · show 128 + q.val = 128 + q.val; rfl
  · rw [dif_neg h]
    refine (head_at v181 v212 v215 ha hT hx g cb hcb 3 l ⟨192 + (q.val - 64), by omega⟩ ?_ ?_).trans
      (congrArg (ydiag A c l.val) ?_)
    · show (192 + (q.val - 64)) / 64 = 3; omega
    · show (192 + (q.val - 64)) / 512 = g; omega
    · show 192 + (q.val - 64) = 128 + q.val; omega

theorem pay53_at (hg : g = 0) (l : Fin 256) (q : Fin 128) :
    k0_pay53 (F := Ideal) (k0_pay52 k0_pay25 v181 v212 v215 cb) (ix2 l q) = ydiag A c l.val (256 + q.val) := by
  have hq := q.isLt
  pointwise [k0_pay53, k0_pay52, k0_pay25]
  by_cases h : q.val < 64
  · rw [dif_pos h]
    refine (head_at v181 v212 v215 ha hT hx g cb hcb 4 l ⟨256 + q.val, by omega⟩ ?_ ?_).trans
      (congrArg (ydiag A c l.val) ?_)
    · show (256 + q.val) / 64 = 4; omega
    · show (256 + q.val) / 512 = g; omega
    · show 256 + q.val = 256 + q.val; rfl
  · rw [dif_neg h]
    refine (head_at v181 v212 v215 ha hT hx g cb hcb 5 l ⟨320 + (q.val - 64), by omega⟩ ?_ ?_).trans
      (congrArg (ydiag A c l.val) ?_)
    · show (320 + (q.val - 64)) / 64 = 5; omega
    · show (320 + (q.val - 64)) / 512 = g; omega
    · show 320 + (q.val - 64) = 256 + q.val; omega

theorem pay54_at (hg : g = 0) (l : Fin 256) (q : Fin 128) :
    k0_pay54 (F := Ideal) k0_pay25 v181 v212 v215 cb (ix2 l q) = ydiag A c l.val (384 + q.val) := by
  have hq := q.isLt
  pointwise [k0_pay54, k0_pay25]
  by_cases h : q.val < 64
  · rw [dif_pos h]
    refine (head_at v181 v212 v215 ha hT hx g cb hcb 6 l ⟨384 + q.val, by omega⟩ ?_ ?_).trans
      (congrArg (ydiag A c l.val) ?_)
    · show (384 + q.val) / 64 = 6; omega
    · show (384 + q.val) / 512 = g; omega
    · show 384 + q.val = 384 + q.val; rfl
  · rw [dif_neg h]
    refine (head_at v181 v212 v215 ha hT hx g cb hcb 7 l ⟨448 + (q.val - 64), by omega⟩ ?_ ?_).trans
      (congrArg (ydiag A c l.val) ?_)
    · show (448 + (q.val - 64)) / 64 = 7; omega
    · show (448 + (q.val - 64)) / 512 = g; omega
    · show 448 + (q.val - 64) = 384 + q.val; omega

theorem pay62_at (hg : g = 1) (l : Fin 256) (q : Fin 128) :
    k0_pay62 (F := Ideal) k0_pay25 v181 v212 v215 cb (ix2 l q) = ydiag A c l.val (512 + q.val) := by
  have hq := q.isLt
  pointwise [k0_pay62, k0_pay25]
  by_cases h : q.val < 64
  · rw [dif_pos h]
    refine (head_at v181 v212 v215 ha hT hx g cb hcb 8 l ⟨512 + q.val, by omega⟩ ?_ ?_).trans
      (congrArg (ydiag A c l.val) ?_)
    · show (512 + q.val) / 64 = 8; omega
    · show (512 + q.val) / 512 = g; omega
    · show 512 + q.val = 512 + q.val; rfl
  · rw [dif_neg h]
    refine (head_at v181 v212 v215 ha hT hx g cb hcb 9 l ⟨576 + (q.val - 64), by omega⟩ ?_ ?_).trans
      (congrArg (ydiag A c l.val) ?_)
    · show (576 + (q.val - 64)) / 64 = 9; omega
    · show (576 + (q.val - 64)) / 512 = g; omega
    · show 576 + (q.val - 64) = 512 + q.val; omega

theorem pay64_at (hg : g = 1) (l : Fin 256) (q : Fin 128) :
    k0_pay64 (F := Ideal) k0_pay25 v181 v212 v215 cb (k0_pay63 k0_pay25 v181 v212 v215 cb) (ix2 l q) = ydiag A c l.val (640 + q.val) := by
  have hq := q.isLt
  pointwise [k0_pay64, k0_pay63, k0_pay25]
  by_cases h : q.val < 64
  · rw [dif_pos h]
    refine (head_at v181 v212 v215 ha hT hx g cb hcb 10 l ⟨640 + q.val, by omega⟩ ?_ ?_).trans
      (congrArg (ydiag A c l.val) ?_)
    · show (640 + q.val) / 64 = 10; omega
    · show (640 + q.val) / 512 = g; omega
    · show 640 + q.val = 640 + q.val; rfl
  · rw [dif_neg h]
    refine (head_at v181 v212 v215 ha hT hx g cb hcb 11 l ⟨704 + (q.val - 64), by omega⟩ ?_ ?_).trans
      (congrArg (ydiag A c l.val) ?_)
    · show (704 + (q.val - 64)) / 64 = 11; omega
    · show (704 + (q.val - 64)) / 512 = g; omega
    · show 704 + (q.val - 64) = 640 + q.val; omega

theorem pay65_at (hg : g = 1) (l : Fin 256) (q : Fin 128) :
    k0_pay65 (F := Ideal) k0_pay25 v181 v212 v215 cb (ix2 l q) = ydiag A c l.val (768 + q.val) := by
  have hq := q.isLt
  pointwise [k0_pay65, k0_pay25]
  by_cases h : q.val < 64
  · rw [dif_pos h]
    refine (head_at v181 v212 v215 ha hT hx g cb hcb 12 l ⟨768 + q.val, by omega⟩ ?_ ?_).trans
      (congrArg (ydiag A c l.val) ?_)
    · show (768 + q.val) / 64 = 12; omega
    · show (768 + q.val) / 512 = g; omega
    · show 768 + q.val = 768 + q.val; rfl
  · rw [dif_neg h]
    refine (head_at v181 v212 v215 ha hT hx g cb hcb 13 l ⟨832 + (q.val - 64), by omega⟩ ?_ ?_).trans
      (congrArg (ydiag A c l.val) ?_)
    · show (832 + (q.val - 64)) / 64 = 13; omega
    · show (832 + (q.val - 64)) / 512 = g; omega
    · show 832 + (q.val - 64) = 768 + q.val; omega

theorem pay68_at (hg : g = 1) (l : Fin 256) (q : Fin 128) :
    k0_pay68 (F := Ideal) k0_pay25 v181 v212 v215 cb (k0_pay66 v181) (k0_pay67 v215) (ix2 l q) = ydiag A c l.val (896 + q.val) := by
  have hq := q.isLt
  pointwise [k0_pay68, k0_pay66, k0_pay67, k0_pay25]
  by_cases h : q.val < 64
  · rw [dif_pos h]
    refine (head_at v181 v212 v215 ha hT hx g cb hcb 14 l ⟨896 + q.val, by omega⟩ ?_ ?_).trans
      (congrArg (ydiag A c l.val) ?_)
    · show (896 + q.val) / 64 = 14; omega
    · show (896 + q.val) / 512 = g; omega
    · show 896 + q.val = 896 + q.val; rfl
  · rw [dif_neg h]
    refine (head_at v181 v212 v215 ha hT hx g cb hcb 15 l ⟨960 + (q.val - 64), by omega⟩ ?_ ?_).trans
      (congrArg (ydiag A c l.val) ?_)
    · show (960 + (q.val - 64)) / 64 = 15; omega
    · show (960 + (q.val - 64)) / 512 = g; omega
    · show 960 + (q.val - 64) = 896 + q.val; omega

end diag

theorem pay69_at (v71 : FVec Ideal S256x1024 .f32) (v226 v360 : FVec Ideal S256x512 .f32) (v484 : FVec Ideal S256x1024 .f32)
    (v487 : FVec Ideal S1x1024 .f32) (v492 : FVec Ideal S256x1024 .f32)
    (hx : ∀ (l : Fin 256) (q : Fin 1024), v71 (ix2 l q) = act A (256 * c + l.val) q.val)
    (h0 : ∀ (l : Fin 256) (q : Fin 512), v226 (ix2 l q) = yoff A c l.val q.val)
    (h1 : ∀ (l : Fin 256) (q : Fin 512), v360 (ix2 l q) = yoff A c l.val (512 + q.val))
    (hd : ∀ (l : Fin 256) (q : Fin 1024), v484 (ix2 l q) = ydiag A c l.val q.val)
    (hk : ∀ q : Fin 1024, v487 (ix2 0 q) = A.ds (q.val / 64))
    (hz : ∀ (l : Fin 256) (q : Fin 1024), v492 (ix2 l q) = A.pj (256 * c + l.val) q.val)
    (l : Fin 256) (q : Fin 1024) : k0_pay69 (F := Ideal) v71 v226 v360 v484 v487 v492 (ix2 l q) = yv A c l.val q.val := by
  have hq := q.isLt
  pointwise [k0_pay69]
  rw [hd, hx, hk, hz, zero_sub, yv, silu]
  by_cases h : q.val < 512
  · rw [dif_pos h, h0]
  · rw [dif_neg h, h1, show 512 + (⟨q.val - 512, by omega⟩ : Fin 512).val = q.val from by show 512 + (q.val - 512) = _; omega]

/-- The output block from the value before the norm. -/
theorem pay1_at (v501 : FVec Ideal S256x1024 .f32) (v502 v503 : FVec Ideal S256x512 .f32) (v525 : FVec Ideal S1x1024 .f32)
    (hy : ∀ (l : Fin 256) (q : Fin 1024), v501 (ix2 l q) = yv A c l.val q.val)
    (h2 : ∀ (l : Fin 256) (q : Fin 512), v502 (ix2 l q) = yv A c l.val q.val)
    (h3 : ∀ (l : Fin 256) (q : Fin 512), v503 (ix2 l q) = yv A c l.val q.val * yv A c l.val q.val)
    (hn : ∀ q : Fin 1024, v525 (ix2 0 q) = A.ng q.val)
    (l : Fin 256) (q : Fin 1024) : k0_pay1 (F := Ideal) v501 v502 v503 v525 (ix2 l q) = out A c l.val q.val := by
  have hq := q.isLt
  pointwise [k0_pay1]
  rw [hn, out]
  by_cases h : q.val < 512
  · rw [dif_pos h, h2, show q.val / 512 = 0 by omega, rms]
    simp only [h3, Nat.mul_zero, Nat.zero_add]
  · have e : 512 + (q.val - 512) = q.val := by omega
    simp only [dif_neg h, hy, e]
    rw [show q.val / 512 = 1 by omega, rms]

end Cert.KernelIdeal.Chunk

end
-- ==== Proof.Blocks.lean ====
module
public import proofs.«01_k».proof.Proof.Gen.KernelIdeal.Value
public import proofs.«01_k».proof.Proof.Chunk
public import Idealize.ShloMosaic.Lib.Pipeline.ValueKit
public import Idealize.ShloMosaic.Lib.Claim
@[expose] public section
set_option maxRecDepth 16384
noncomputable section
/-! The blocks the kernel reads at a grid point, as values of the layer's arguments. -/
namespace Cert.KernelIdeal.Chunk
open Idealize.ShloMosaic Idealize.ShloMosaic.TcCoe Idealize.SL.Sem
open Cert.KernelIdeal Cert.KernelIdeal.Gen Cert.Ssd
variable (m : (ℓ : Loc nD τ sig) → Buf (Elt Ideal) ℓ)

/-- The layer's arguments as the launch memory holds them. -/
abbrev argsK (c : Dev nD) : Args :=
  Args.split <| argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The block index of every window. -/
theorem idx : ∀ t : Fin cfg0.N, win0_0.index t = ![t.val, 0] ∧ win0_1.index t = ![t.val, 1] ∧ win0_2.index t = ![t.val, 4]
    ∧ win0_3.index t = ![t.val, 44] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ t.val < 32 :=
  (by decide +kernel : ∀ t : Fin grid0.N, _)

theorem v9_at (c : Dev nD) (l : Fin 4) (q : Fin 1024) :
    (V m c main_v9 : FVec Ideal S4x1024 .f32) (ix2 l q) = (argsK m c).cw l.val q.val := by
  refine Eq.trans ?_ (nat2_eq _ (by omega) (by omega))
  unfold V
  simp only [hostOps0, hostOps0_1, hostOps0_2, hostOps0_3, hostOps0_4, hostOps0_5, hostOps0_6, List.flatten_cons, List.flatten_nil, List.append_nil, List.cons_append, List.nil_append]
  after_results
  pointwise
theorem v10_at (c : Dev nD) (l : Fin 4) (q : Fin 512) :
    (V m c main_v10 : FVec Ideal S4x512 .f32) (ix2 l q) = (argsK m c).cw l.val (1024 + q.val) := by
  refine Eq.trans ?_ (nat2_eq _ (by omega) (by omega))
  unfold V
  simp only [hostOps0, hostOps0_1, hostOps0_2, hostOps0_3, hostOps0_4, hostOps0_5, hostOps0_6, List.flatten_cons, List.flatten_nil, List.append_nil, List.cons_append, List.nil_append]
  after_results
  pointwise
theorem v12_at (c : Dev nD) (q : Fin 1024) :
    (V m c main_v12 : FVec Ideal S1x1024 .f32) (ix2 0 q) = (argsK m c).cb q.val := by
  refine Eq.trans ?_ (nat1_eq _ (by omega))
  unfold V
  simp only [hostOps0, hostOps0_1, hostOps0_2, hostOps0_3, hostOps0_4, hostOps0_5, hostOps0_6, List.flatten_cons, List.flatten_nil, List.append_nil, List.cons_append, List.nil_append]
  after_results
  pointwise
theorem v14_at (c : Dev nD) (q : Fin 512) :
    (V m c main_v14 : FVec Ideal S1x512 .f32) (ix2 0 q) = (argsK m c).cb (1024 + q.val) := by
  refine Eq.trans ?_ (nat1_eq _ (by omega))
  unfold V
  simp only [hostOps0, hostOps0_1, hostOps0_2, hostOps0_3, hostOps0_4, hostOps0_5, hostOps0_6, List.flatten_cons, List.flatten_nil, List.append_nil, List.cons_append, List.nil_append]
  after_results
  pointwise
theorem v16_at (c : Dev nD) (h : Fin 128) (hh : h.val < 16) :
    (V m c main_v16 : FVec Ideal S1x128 .f32) (ix2 0 h) = (argsK m c).db h.val := by
  refine Eq.trans ?_ (nat1_eq _ hh)
  unfold V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq, id_eq]
  pointwise
  rw [dif_pos hh]
theorem v18_at (c : Dev nD) (h : Fin 128) (hh : h.val < 16) :
    (V m c main_v18 : FVec Ideal S1x128 .f32) (ix2 0 h) = (argsK m c).al h.val := by
  refine Eq.trans ?_ (nat1_eq _ hh)
  unfold V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq, id_eq]
  pointwise
  rw [dif_pos hh]
theorem v21_at (c : Dev nD) (q : Fin 1024) :
    (V m c main_v21 : FVec Ideal S1x1024 .f32) (ix2 0 q) = (argsK m c).ds (q.val / 64) := by
  refine Eq.trans ?_ (nat1_eq _ (by omega))
  unfold V
  simp only [hostOps0, hostOps0_1, hostOps0_2, hostOps0_3, hostOps0_4, hostOps0_5, hostOps0_6, List.flatten_cons, List.flatten_nil, List.append_nil, List.cons_append, List.nil_append]
  after_results
  pointwise
theorem v22_at (c : Dev nD) (q : Fin 1024) :
    (V m c main_v22 : FVec Ideal S1x1024 .f32) (ix2 0 q) = (argsK m c).ng q.val := by
  refine Eq.trans ?_ (nat1_eq _ (by omega))
  unfold V
  simp only [hostOps0, hostOps0_1, hostOps0_2, hostOps0_3, hostOps0_4, hostOps0_5, hostOps0_6, List.flatten_cons, List.flatten_nil, List.append_nil, List.cons_append, List.nil_append]
  after_results
  pointwise

/-- Dividing a word below 1024 by 64, as the host spells it. -/
def fdiv (x : BitVec 32) : BitVec 32 :=
  Scalar.select
          (IntOp.andi
            (IntOp.cmpi CmpIPredicate.ne
              (if x = 0 then 0 else if x.msb = true then -1 else 1 : BitVec 32)
              (if 64#32 = 0 then 0 else if (64#32).msb = true then -1 else 1 : BitVec 32))
            (IntOp.cmpi CmpIPredicate.ne (IntOp.remsi ArithUnit.host x 64#32) 0#32))
          (IntOp.subi (IntOp.divsi ArithUnit.host x 64#32) 1#32)
          (IntOp.divsi ArithUnit.host x 64#32)
theorem fdiv_eq : ∀ q : Fin 1024, fdiv (BitVec.ofNat 32 q.val) = BitVec.ofNat 32 (q.val / 64) := by decide +kernel
theorem head_word : ∀ (g : Fin 16) (h : Fin 128), IntOp.cmpi CmpIPredicate.eq (BitVec.ofNat 32 g.val) (BitVec.ofNat 32 h.val)
    = if h.val = g.val then 1#1 else 0#1 := by decide +kernel
theorem v8_at (c : Dev nD) (h : Fin 128) (q : Fin 1024) :
    (V m c main_v8 : FVec Ideal S128x1024 .bf16) (ix2 h q) = if h.val = q.val / 64 then (1 : EReal) else 0 := by
  unfold V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq, id_eq]
  pointwise
  change FloatOps.uitofp (F := Ideal) FTy.bf16 (IntOp.cmpi CmpIPredicate.eq (fdiv (BitVec.ofNat 32 q.val)) (BitVec.ofNat 32 h.val)) = _
  rw [fdiv_eq, head_word ⟨q.val / 64, by omega⟩ h]
  by_cases e : h.val = q.val / 64
  · rw [if_pos e, if_pos e]
    simp [FloatOps.uitofp]
  · rw [if_neg e, if_neg e]
    simp [FloatOps.uitofp]
theorem x0 (c : Dev nD) (t : Fin cfg0.N) (l : Fin 256) (q : Fin 1024) :
    (X0_0 m c t : FVec Ideal S256x1024 .f32) (ix2 l q) = (argsK m c).pj (256 * t.val + l.val) q.val := by
  have ht := (idx t).2.2.2.2.2.2.2.2.2.2.2.2.2.2
  refine Eq.trans ?_ (nat2_eq _ (by omega) (by omega))
  unfold X0_0 Pipeline.Window.fill
  rw [dif_pos (moved0_0 t _)]
  blk_ext [iblk, V, idx t]
theorem x1 (c : Dev nD) (t : Fin cfg0.N) (l : Fin 256) (q : Fin 1024) :
    (X0_1 m c t : FVec Ideal S256x1024 .f32) (ix2 l q) = (argsK m c).pj (256 * t.val + l.val) (1024 + q.val) := by
  have ht := (idx t).2.2.2.2.2.2.2.2.2.2.2.2.2.2
  refine Eq.trans ?_ (nat2_eq _ (by omega) (by omega))
  unfold X0_1 Pipeline.Window.fill
  rw [dif_pos (moved0_1 t _)]
  blk_ext [iblk, V, idx t]
theorem x2 (c : Dev nD) (t : Fin cfg0.N) (l : Fin 256) (q : Fin 512) :
    (X0_2 m c t : FVec Ideal S256x512 .f32) (ix2 l q) = (argsK m c).pj (256 * t.val + l.val) (1024 + (1024 + q.val)) := by
  have ht := (idx t).2.2.2.2.2.2.2.2.2.2.2.2.2.2
  refine Eq.trans ?_ (nat2_eq _ (by omega) (by omega))
  unfold X0_2 Pipeline.Window.fill
  rw [dif_pos (moved0_2 t _)]
  blk_ext [iblk, V, idx t]
theorem x3 (c : Dev nD) (t : Fin cfg0.N) (l : Fin 256) (q : Fin 128) :
    (iblk m c 3 t : FVec Ideal S256x128 .f32) (ix2 l q) = (argsK m c).pj (256 * t.val + l.val) (5632 + q.val) := by
  have ht := (idx t).2.2.2.2.2.2.2.2.2.2.2.2.2.2
  refine Eq.trans ?_ (nat2_eq _ (by omega) (by omega))
  blk_ext [iblk, V, idx t]
theorem x4 (c : Dev nD) (t : Fin cfg0.N) (l : Fin 4) (q : Fin 1024) :
    (iblk m c 4 t : FVec Ideal S4x1024 .f32) (ix2 l q) = (argsK m c).cw l.val q.val := by
  have ht := (idx t).2.2.2.2.2.2.2.2.2.2.2.2.2.2
  refine Eq.trans ?_ (v9_at m c l q)
  blk_ext [iblk, idx t]
theorem x5 (c : Dev nD) (t : Fin cfg0.N) (l : Fin 4) (q : Fin 512) :
    (iblk m c 5 t : FVec Ideal S4x512 .f32) (ix2 l q) = (argsK m c).cw l.val (1024 + q.val) := by
  have ht := (idx t).2.2.2.2.2.2.2.2.2.2.2.2.2.2
  refine Eq.trans ?_ (v10_at m c l q)
  blk_ext [iblk, idx t]
theorem x6 (c : Dev nD) (t : Fin cfg0.N) (q : Fin 1024) :
    (iblk m c 6 t : FVec Ideal S1x1024 .f32) (ix2 0 q) = (argsK m c).cb q.val := by
  have ht := (idx t).2.2.2.2.2.2.2.2.2.2.2.2.2.2
  refine Eq.trans ?_ (v12_at m c q)
  blk_ext [iblk, idx t]
theorem x7 (c : Dev nD) (t : Fin cfg0.N) (q : Fin 512) :
    (iblk m c 7 t : FVec Ideal S1x512 .f32) (ix2 0 q) = (argsK m c).cb (1024 + q.val) := by
  have ht := (idx t).2.2.2.2.2.2.2.2.2.2.2.2.2.2
  refine Eq.trans ?_ (v14_at m c q)
  blk_ext [iblk, idx t]
theorem x8 (c : Dev nD) (t : Fin cfg0.N) (h : Fin 128) (hh : h.val < 16) :
    (iblk m c 8 t : FVec Ideal S1x128 .f32) (ix2 0 h) = (argsK m c).db h.val := by
  have ht := (idx t).2.2.2.2.2.2.2.2.2.2.2.2.2.2
  refine Eq.trans ?_ (v16_at m c h hh)
  blk_ext [iblk, idx t]
theorem x9 (c : Dev nD) (t : Fin cfg0.N) (h : Fin 128) (hh : h.val < 16) :
    (iblk m c 9 t : FVec Ideal S1x128 .f32) (ix2 0 h) = (argsK m c).al h.val := by
  have ht := (idx t).2.2.2.2.2.2.2.2.2.2.2.2.2.2
  refine Eq.trans ?_ (v18_at m c h hh)
  blk_ext [iblk, idx t]
theorem x10 (c : Dev nD) (t : Fin cfg0.N) (q : Fin 1024) :
    (iblk m c 10 t : FVec Ideal S1x1024 .f32) (ix2 0 q) = (argsK m c).ds (q.val / 64) := by
  have ht := (idx t).2.2.2.2.2.2.2.2.2.2.2.2.2.2
  refine Eq.trans ?_ (v21_at m c q)
  blk_ext [iblk, idx t]
theorem x11 (c : Dev nD) (t : Fin cfg0.N) (q : Fin 1024) :
    (iblk m c 11 t : FVec Ideal S1x1024 .f32) (ix2 0 q) = (argsK m c).ng q.val := by
  have ht := (idx t).2.2.2.2.2.2.2.2.2.2.2.2.2.2
  refine Eq.trans ?_ (v22_at m c q)
  blk_ext [iblk, idx t]
theorem x12 (c : Dev nD) (t : Fin cfg0.N) (h : Fin 128) (q : Fin 1024) :
    (iblk m c 12 t : FVec Ideal S128x1024 .bf16) (ix2 h q) = if h.val = q.val / 64 then (1 : EReal) else 0 := by
  have ht := (idx t).2.2.2.2.2.2.2.2.2.2.2.2.2.2
  refine Eq.trans ?_ (v8_at m c h q)
  blk_ext [iblk, idx t]
end Cert.KernelIdeal.Chunk
-- ==== Proof.Point.lean ====
/- One grid point of the kernel over the carried tails and state: its stored state and its stored block. -/
module
public import proofs.«01_k».proof.Proof.Blocks
public import Idealize.ShloMosaic.Lib.Pipeline.ReadBack
@[expose] public section
set_option maxRecDepth 16384
noncomputable section
namespace Cert.KernelIdeal.Chunk
open Idealize.ShloMosaic Idealize.ShloMosaic.TcCoe Idealize.SL.Sem
open Cert.KernelIdeal Cert.KernelIdeal.Gen Cert.Ssd

theorem pay41_at {A : Args} {c : ℕ} (v165 : FVec Ideal S256x256 .bf16) (v171 v174 : FVec Ideal S256x128 .bf16)
    (v175 v176 : FVec Ideal S256x128 .f32)
    (ha : ∀ (l : Fin 256) (h : Fin 128), h.val < 16 → k0_pay34 v165 v171 v174 v175 v176 (ix2 l h) = acs A c l.val h.val)
    (h : Fin 128) (l : Fin 256) (hh : h.val < 16) :
    k0_pay41 (F := Ideal) v165 v171 v174 v175 v176 (ix2 h l) = acs A c l.val h.val := by
  pointwise [k0_pay41]
  exact ha l h hh

/-- The block of products the kernel gathers tile by tile. -/
def tiles (a : FVec Ideal S256x128 .f32) (x : FVec Ideal S256x1024 .bf16) (T : FVec Ideal S128x256 .f32)
    (c0 c1 : FVec Ideal S256x256 .f32) : FVec Ideal S256x1024 .f32 :=
  (View.whole cc0_scratch3).readCov (Val := Elt Ideal)
    [⟨Rect.unit ![0, 896] ![256, 128] inb_S256x1024_S256x128_0_896, k0_pay68 (F := Ideal) k0_pay25 a x T c1 (k0_pay66 a) (k0_pay67 T)⟩,
     ⟨Rect.unit ![0, 768] ![256, 128] inb_S256x1024_S256x128_0_768, k0_pay65 (F := Ideal) k0_pay25 a x T c1⟩,
     ⟨Rect.unit ![0, 640] ![256, 128] inb_S256x1024_S256x128_0_640, k0_pay64 (F := Ideal) k0_pay25 a x T c1 (k0_pay63 k0_pay25 a x T c1)⟩,
     ⟨Rect.unit ![0, 512] ![256, 128] inb_S256x1024_S256x128_0_512, k0_pay62 (F := Ideal) k0_pay25 a x T c1⟩,
     ⟨Rect.unit ![0, 384] ![256, 128] inb_S256x1024_S256x128_0_384, k0_pay54 (F := Ideal) k0_pay25 a x T c0⟩,
     ⟨Rect.unit ![0, 256] ![256, 128] inb_S256x1024_S256x128_0_256, k0_pay53 (F := Ideal) (k0_pay52 k0_pay25 a x T c0)⟩,
     ⟨Rect.unit ![0, 128] ![256, 128] inb_S256x1024_S256x128_0_128,
       k0_pay51 (F := Ideal) k0_pay25 a x T c0 (k0_pay50 a T) (Scalar.ofBits .f32 0xFF800000#32)⟩,
     ⟨Rect.unit ![0, 0] ![256, 128] inb_S256x1024_S256x128_0_0, k0_pay49 (F := Ideal) k0_pay25 a x T c0⟩]
    (Rect.unit (s := S256x1024) ![0, 0] ![256, 1024] inb_S256x1024_S256x1024_0_0).toLoadRect

theorem piece {A : Args} {c o : ℕ} {f : FVec Ideal S256x128 .f32}
    (hf : ∀ (l : Fin 256) (q : Fin 128), f (ix2 l q) = ydiag A c l.val (o + q.val)) (x : S256x128.Idx) {l q : ℕ}
    (h0 : l = (x 0).val) (h1 : q = o + (x 1).val) : f x = ydiag A c l q := by
  have e : x = ix2 (x 0) (x 1) := by funext a; fin_cases a <;> rfl
  subst h0 h1
  exact (congrArg f e).trans (hf _ _)

theorem tiles_at {A : Args} {c : ℕ} (a : FVec Ideal S256x128 .f32) (x : FVec Ideal S256x1024 .bf16) (T : FVec Ideal S128x256 .f32)
    (ha : ∀ (l : Fin 256) (h : Fin 128), h.val < 16 → a (ix2 l h) = acs A c l.val h.val)
    (hT : ∀ (h : Fin 128) (l : Fin 256), h.val < 16 → T (ix2 h l) = acs A c l.val h.val)
    (hx : ∀ (l : Fin 256) (q : Fin 1024), x (ix2 l q) = xdt A (256 * c + l.val) q.val)
    (c0 c1 : FVec Ideal S256x256 .f32) (h0 : ∀ l s : Fin 256, c0 (ix2 l s) = cbp A c 0 l.val s.val)
    (h1 : ∀ l s : Fin 256, c1 (ix2 l s) = cbp A c 1 l.val s.val) (l : Fin 256) (q : Fin 1024) :
    tiles a x T c0 c1 (ix2 l q) = ydiag A c l.val q.val := by
  unfold tiles
  rw [View.readCov_eq_canon']
  have e0 : ((Rect.unit (s := S256x1024) ![0, 0] ![256, 1024] inb_S256x1024_S256x1024_0_0).idx (ix2 l q) 0).val = l.val := by
    show 0 + 1 * l.val = l.val
    omega
  have e1 : ((Rect.unit (s := S256x1024) ![0, 0] ![256, 1024] inb_S256x1024_S256x1024_0_0).idx (ix2 l q) 1).val = q.val := by
    show 0 + 1 * q.val = q.val
    omega
  canon_tiles y t
  · exact piece (o := 896) (pay68_at a x T ha hT hx c1 1 h1 rfl) y (e0.symm.trans t0) (e1.symm.trans (t1))
  · exact piece (o := 768) (pay65_at a x T ha hT hx c1 1 h1 rfl) y (e0.symm.trans t0) (e1.symm.trans (t1))
  · exact piece (o := 640) (pay64_at a x T ha hT hx c1 1 h1 rfl) y (e0.symm.trans t0) (e1.symm.trans (t1))
  · exact piece (o := 512) (pay62_at a x T ha hT hx c1 1 h1 rfl) y (e0.symm.trans t0) (e1.symm.trans (t1))
  · exact piece (o := 384) (pay54_at a x T ha hT hx c0 0 h0 rfl) y (e0.symm.trans t0) (e1.symm.trans (t1))
  · exact piece (o := 256) (pay53_at a x T ha hT hx c0 0 h0 rfl) y (e0.symm.trans t0) (e1.symm.trans (t1))
  · exact piece (o := 128) (pay51_at a x T ha hT hx c0 0 h0 rfl) y (e0.symm.trans t0) (e1.symm.trans (t1))
  · exact piece (o := 0) ((fun l q => by rw [Nat.zero_add]; exact pay49_at a x T ha hT hx c0 0 h0 rfl l q)) y (e0.symm.trans t0) (e1.symm.trans (by rw [Nat.zero_add]; exact t1))

section point

variable (m : (ℓ : Loc nD τ sig) → Buf (Elt Ideal) ℓ) (c : Dev nD) (t : Fin cfg0.N)
variable (tx : FVec Ideal S8x1024 .f32) (tb : FVec Ideal S8x512 .f32) (h0 h1 : FVec Ideal S1x128x512 .f32)

/-- The step sizes of the point. -/
abbrev pD : FVec Ideal S256x128 .f32 := k0_pay24 (F := Ideal) (iblk m c 3 t) (iblk m c 8 t)
/-- The three parts of the decays' logarithms. -/
abbrev pP : FVec Ideal S256x128 .bf16 := k0_pay30 (F := Ideal) (iblk m c 3 t) (iblk m c 8 t) (iblk m c 9 t)
abbrev pQ : FVec Ideal S256x128 .bf16 := k0_pay31 (F := Ideal) (iblk m c 3 t) (iblk m c 8 t) (iblk m c 9 t)
abbrev pR : FVec Ideal S256x128 .f32 := k0_pay32 (F := Ideal) (iblk m c 3 t) (iblk m c 8 t) (iblk m c 9 t)
/-- The activated convolution of the point's x rows. -/
abbrev pX : FVec Ideal S256x1024 .f32 := actX (X0_1 m c t) tx (iblk m c 4 t) (iblk m c 6 t)
/-- The activated convolution of the point's B and C rows. -/
abbrev pB : FVec Ideal S256x512 .f32 := actB (X0_2 m c t) tb (iblk m c 5 t) (iblk m c 7 t)

/-- The first group's stored state. -/
def newG0 : FVec Ideal S1x128x512 .f32 :=
  k0_pay48 (k0_pay37 (pD m c t) k0_pay26 (pP m c t) (pQ m c t) (pR m c t) k0_pay33 (iblk m c 12 t))
    (k0_pay40 (pX m c t tx) (pD m c t) k0_pay26 (pP m c t) (pQ m c t) (pR m c t) k0_pay33 (iblk m c 12 t))
    (k0_pay42 (pB m c t tb)) (k0_pay45 h0)
/-- The second group's stored state. -/
def newG1 : FVec Ideal S1x128x512 .f32 :=
  k0_pay61 (k0_pay37 (pD m c t) k0_pay26 (pP m c t) (pQ m c t) (pR m c t) k0_pay33 (iblk m c 12 t)) (k0_pay58 h1)
    (k0_pay60 (pB m c t tb)
      (k0_pay40 (pX m c t tx) (pD m c t) k0_pay26 (pP m c t) (pQ m c t) (pR m c t) k0_pay33 (iblk m c 12 t)))
/-- The running sums of the decays' logarithms. -/
abbrev pS : FVec Ideal S256x128 .f32 := k0_pay34 k0_pay26 (pP m c t) (pQ m c t) (pR m c t) k0_pay33
abbrev pE : FVec Ideal S256x1024 .f32 := k0_pay36 (pD m c t) k0_pay26 (pP m c t) (pQ m c t) (pR m c t) k0_pay33 (iblk m c 12 t)
abbrev pY0 : FVec Ideal S256x512 .f32 :=
  k0_pay47 (pE m c t) (k0_pay43 (pB m c t tb)) (k0_pay46 h0) (constant S256x512 .f32 0x00000000#32)
abbrev pY1 : FVec Ideal S256x512 .f32 := k0_pay59 (pB m c t tb) (pE m c t) h1
abbrev pT : FVec Ideal S256x1024 .f32 :=
  tiles (pS m c t) (k0_pay39 (pX m c t tx) (pD m c t) k0_pay26 (pP m c t) (pQ m c t) (pR m c t) k0_pay33 (iblk m c 12 t))
    (k0_pay41 k0_pay26 (pP m c t) (pQ m c t) (pR m c t) k0_pay33) (k0_pay44 (pB m c t tb)) (k0_pay57 (pB m c t tb))
/-- The point's stored block. -/
def newOut : FVec Ideal S256x1024 .bf16 :=
  k0_pay1 (k0_pay69 (pX m c t tx) (pY0 m c t tb h0) (pY1 m c t tb h1) (pT m c t tx tb) (iblk m c 10 t) (X0_0 m c t))
    (k0_pay70 (pX m c t tx) (pY0 m c t tb h0) (pY1 m c t tb h1) (pT m c t tx tb) (iblk m c 10 t) (X0_0 m c t))
    (k0_pay71 (pX m c t tx) (pY0 m c t tb h0) (pY1 m c t tb h1) (pT m c t tx tb) (iblk m c 10 t) (X0_0 m c t))
    (iblk m c 11 t)

variable (htx : ∀ (i : Fin 8) (q : Fin 1024), tx (ix2 i q) = xsh (argsK m c) 8 (256 * t.val + i.val) q.val)
  (htb : ∀ (i : Fin 8) (q : Fin 512), tb (ix2 i q) = xsh (argsK m c) 8 (256 * t.val + i.val) (1024 + q.val))
  (hh0 : ∀ (n : Fin 128) (q : Fin 512), h0 (ix3 0 n q) = st (argsK m c) t.val n.val q.val)
  (hh1 : ∀ (n : Fin 128) (q : Fin 512), h1 (ix3 0 n q) = st (argsK m c) t.val n.val (512 + q.val))

theorem lt_grid : t.val < 32 := (idx t).2.2.2.2.2.2.2.2.2.2.2.2.2.2

include htx in
theorem pX_at (l : Fin 256) (q : Fin 1024) : pX m c t tx (ix2 l q) = act (argsK m c) (256 * t.val + l.val) q.val :=
  actX_at _ _ _ _ (x1 m c t) htx (x4 m c t) (x6 m c t) l q
include htb in
theorem pB_at (l : Fin 256) (q : Fin 512) : pB m c t tb (ix2 l q) = act (argsK m c) (256 * t.val + l.val) (1024 + q.val) :=
  actB_at _ _ _ _ (x2 m c t) htb (x5 m c t) (x7 m c t) l q
theorem pD_at (l : Fin 256) (h : Fin 128) (hh : h.val < 16) :
    pD m c t (ix2 l h) = dt (argsK m c) (256 * t.val + l.val) h.val :=
  pay24_at _ _ (fun l h _ => x3 m c t l h) (x8 m c t) l h hh
theorem pS_at (l : Fin 256) (h : Fin 128) (hh : h.val < 16) : pS m c t (ix2 l h) = acs (argsK m c) t.val l.val h.val :=
  acsB_at _ _ _ (fun l h _ => x3 m c t l h) (x8 m c t) (x9 m c t) l h hh
theorem pE_at (l : Fin 256) (q : Fin 1024) : pE m c t (ix2 l q) = Ideal.exp (acs (argsK m c) t.val l.val (q.val / 64)) :=
  pay36_at _ _ _ _ _ _ _ (x12 m c t) (pS_at m c t) l q

include htx htb hh0 in
theorem newG0_at (a : Fin 1) (n : Fin 128) (q : Fin 512) :
    newG0 m c t tx tb h0 (ix3 a n q) = st (argsK m c) (t.val + 1) n.val q.val :=
  pay48_at _ (pB_at m c t tb htb) _ _ _ (pay37_at _ _ _ _ _ _ _ (x12 m c t) (pS_at m c t))
    (pay40_at _ _ _ _ _ _ _ rfl _ (x12 m c t) (pS_at m c t) (pX_at m c t tx htx) (pD_at m c t)) hh0 a n q
include htx htb hh1 in
theorem newG1_at (a : Fin 1) (n : Fin 128) (q : Fin 512) :
    newG1 m c t tx tb h1 (ix3 a n q) = st (argsK m c) (t.val + 1) n.val (512 + q.val) :=
  pay61_at _ (pB_at m c t tb htb) _ _ _ (pay37_at _ _ _ _ _ _ _ (x12 m c t) (pS_at m c t))
    (pay40_at _ _ _ _ _ _ _ rfl _ (x12 m c t) (pS_at m c t) (pX_at m c t tx htx) (pD_at m c t)) hh1 a n q

include htx htb in
theorem pT_at (l : Fin 256) (q : Fin 1024) : pT m c t tx tb (ix2 l q) = ydiag (argsK m c) t.val l.val q.val :=
  tiles_at _ _ _ (pS_at m c t) (pay41_at _ _ _ _ _ (pS_at m c t))
    (pay39_at _ _ _ _ _ _ _ rfl _ (x12 m c t) (pX_at m c t tx htx) (pD_at m c t)) _ _
    (pay44_at _ (pB_at m c t tb htb)) (pay57_at _ (pB_at m c t tb htb)) l q

include htx htb hh0 hh1 in
theorem pYv_at (l : Fin 256) (q : Fin 1024) :
    k0_pay69 (F := Ideal) (pX m c t tx) (pY0 m c t tb h0) (pY1 m c t tb h1) (pT m c t tx tb) (iblk m c 10 t) (X0_0 m c t) (ix2 l q)
      = yv (argsK m c) t.val l.val q.val :=
  pay69_at _ _ _ _ _ _ (pX_at m c t tx htx)
    (pay47_at _ (pB_at m c t tb htb) _ _ (pE_at m c t) hh0) (pay59_at _ (pB_at m c t tb htb) _ _ (pE_at m c t) hh1)
    (pT_at m c t tx tb htx htb) (x10 m c t) (x0 m c t) l q

include htx htb hh0 hh1 in
theorem newOut_at (l : Fin 256) (q : Fin 1024) :
    newOut m c t tx tb h0 h1 (ix2 l q) = out (argsK m c) t.val l.val q.val := by
  have h2 (l : Fin 256) (q : Fin 512) :
      k0_pay70 (F := Ideal) (pX m c t tx) (pY0 m c t tb h0) (pY1 m c t tb h1) (pT m c t tx tb) (iblk m c 10 t) (X0_0 m c t) (ix2 l q)
        = yv (argsK m c) t.val l.val q.val := by
    pointwise [k0_pay70]
    exact pYv_at m c t tx tb h0 h1 htx htb hh0 hh1 l ⟨q.val, by omega⟩
  refine pay1_at _ _ _ _ (pYv_at m c t tx tb h0 h1 htx htb hh0 hh1) h2 (fun l q => ?_) (x11 m c t) l q
  pointwise [k0_pay71]
  exact congrArg₂ (· * ·) (h2 l q) (h2 l q)

end point
end Cert.KernelIdeal.Chunk
-- ==== Proof.Steps.lean ====
/- The kernel's grid, point by point: what the tails, the state and the stored block hold after every chunk. -/
module
public import proofs.«01_k».proof.Proof.Point
public import proofs.«01_k».proof.Proof.Gen.KernelIdeal.Value
@[expose] public section
set_option maxRecDepth 16384
noncomputable section
namespace Cert.KernelIdeal.Chunk
open Idealize.ShloMosaic Idealize.ShloMosaic.TcCoe Idealize.SL.Sem
open Cert.KernelIdeal Cert.KernelIdeal.Gen Cert.KernelIdeal.Value Cert.Ssd

/-- The state's buffer after the two groups' stores, over anything. -/
theorem groups (w1 w0 : FVec Ideal S1x128x512 .f32) (L : List (View.Piece (Elt Ideal) S2x128x512 .f32)) (g : Fin 2) (n : Fin 128) (q : Fin 512) :
    View.canon (Val := Elt Ideal) (⟨Rect.unit ![1, 0, 0] ![1, 128, 512] inb_S2x128x512_S1x128x512_1_0_0, w1⟩ ::
      ⟨Rect.unit ![0, 0, 0] ![1, 128, 512] inb_S2x128x512_S1x128x512_0_0_0, w0⟩ :: L) (ix3 g n q)
      = if g.val = 0 then w0 (ix3 0 n q) else w1 (ix3 0 n q) := by
  have e0 : (ix3 (0 : Fin 2) n q : S2x128x512.Idx)
      = (Rect.unit (s := S2x128x512) ![0, 0, 0] ![1, 128, 512] inb_S2x128x512_S1x128x512_0_0_0).emb (ix3 0 n q) := by
    funext a; fin_cases a <;> refine Fin.ext ?_
    · rfl
    · show n.val = 0 + 1 * n.val; omega
    · show q.val = 0 + 1 * q.val; omega
  have e1 : (ix3 (1 : Fin 2) n q : S2x128x512.Idx)
      = (Rect.unit (s := S2x128x512) ![1, 0, 0] ![1, 128, 512] inb_S2x128x512_S1x128x512_1_0_0).emb (ix3 0 n q) := by
    funext a; fin_cases a <;> refine Fin.ext ?_
    · rfl
    · show n.val = 0 + 1 * n.val; omega
    · show q.val = 0 + 1 * q.val; omega
  match g with
  | ⟨0, _⟩ =>
    refine Eq.trans ?_ (if_pos rfl).symm
    refine (View.canon_cons_of_not_mem _ _ ?_).trans ((congrArg _ e0).trans (View.canon_cons_emb _ _ _ _))
    intro h
    obtain ⟨j, -, hj⟩ := (LoadRect.mem_set _).mp h 0
    have h2 : 0 = 1 + 1 * j := hj
    omega
  | ⟨1, _⟩ =>
    refine Eq.trans ?_ (if_neg (show ¬ (1 : ℕ) = 0 by decide)).symm
    exact (congrArg _ e1).trans (View.canon_cons_emb _ _ _ _)

theorem ld0 (X : FVec Ideal S2x128x512 .f32) (n : Fin 128) (q : Fin 512) :
    View.ld (Val := Elt Ideal) (e' := .f32) X (Rect.unit (s := S2x128x512) ![0, 0, 0] ![1, 128, 512] inb_S2x128x512_S1x128x512_0_0_0) (ix3 0 n q)
      = X (ix3 0 n q) := by
  refine congrArg X ?_
  funext a; fin_cases a <;> refine Fin.ext ?_
  · rfl
  · show 0 + 1 * n.val = n.val; omega
  · show 0 + 1 * q.val = q.val; omega
theorem ld1 (X : FVec Ideal S2x128x512 .f32) (n : Fin 128) (q : Fin 512) :
    View.ld (Val := Elt Ideal) (e' := .f32) X (Rect.unit (s := S2x128x512) ![1, 0, 0] ![1, 128, 512] inb_S2x128x512_S1x128x512_1_0_0) (ix3 0 n q)
      = X (ix3 1 n q) := by
  refine congrArg X ?_
  funext a; fin_cases a <;> refine Fin.ext ?_
  · rfl
  · show 0 + 1 * n.val = n.val; omega
  · show 0 + 1 * q.val = q.val; omega

variable (m : (ℓ : Loc nD τ sig) → Buf (Elt Ideal) ℓ) (c : Dev nD)

/-- The last eight rows of the chunk's x rows. -/
theorem tailX (t : Fin cfg0.N) (i : Fin 8) (q : Fin 1024) :
    ((outsAt0 m c t.val t.isLt).2.1 : FVec Ideal S8x1024 .f32) (ix2 i q) = xsh (argsK m c) 8 (256 * (t.val + 1) + i.val) q.val := by
  have e : (k0_pay14 (F := Ideal) (X0_1 m c t)) (ix2 i q) = xsh (argsK m c) 8 (256 * (t.val + 1) + i.val) q.val := by
    pointwise [k0_pay14]
    refine (x1 m c t _ q).trans ?_
    rw [xsh, if_neg (by omega)]
    congr 1
    show 256 * t.val + (248 + i.val) = _
    omega
  by_cases h : t.val % 32 = 0
  · rw [outsAt0_A m c t h]; frame_out; exact e
  · rw [outsAt0_B m c t h]; frame_out; exact e
theorem tailB (t : Fin cfg0.N) (i : Fin 8) (q : Fin 512) :
    ((outsAt0 m c t.val t.isLt).2.2.1 : FVec Ideal S8x512 .f32) (ix2 i q)
      = xsh (argsK m c) 8 (256 * (t.val + 1) + i.val) (1024 + q.val) := by
  have e : (k0_pay21 (F := Ideal) (X0_2 m c t)) (ix2 i q) = xsh (argsK m c) 8 (256 * (t.val + 1) + i.val) (1024 + q.val) := by
    pointwise [k0_pay21]
    refine (x2 m c t _ q).trans ?_
    rw [xsh, if_neg (by omega)]
    congr 1
    show 256 * t.val + (248 + i.val) = _
    omega
  by_cases h : t.val % 32 = 0
  · rw [outsAt0_A m c t h]; frame_out; exact e
  · rw [outsAt0_B m c t h]; frame_out; exact e

theorem zX (i : Fin 8) (q : Fin 1024) (k : ℕ) (hk : k = 0) : k0_pay2 (F := Ideal) (ix2 i q) = xsh (argsK m c) 8 (256 * k + i.val) q.val := by
  pointwise [k0_pay2]
  rw [xsh, if_pos (by omega)]
theorem zB (i : Fin 8) (q : Fin 512) (k : ℕ) (hk : k = 0) :
    k0_pay3 (F := Ideal) (ix2 i q) = xsh (argsK m c) 8 (256 * k + i.val) (1024 + q.val) := by
  pointwise [k0_pay3]
  rw [xsh, if_pos (by omega)]
theorem zS (g : Fin 2) (n : Fin 128) (q : Fin 512) (k j : ℕ) (hk : k = 0) : k0_pay4 (F := Ideal) (ix3 g n q) = st (argsK m c) k n.val j := by
  subst hk
  pointwise [k0_pay4]
  rw [st]

theorem groups_at {A : Args} {k : ℕ} {w1 w0 : FVec Ideal S1x128x512 .f32} (L : List (View.Piece (Elt Ideal) S2x128x512 .f32))
    (h0 : ∀ (n : Fin 128) (q : Fin 512), w0 (ix3 0 n q) = st A k n.val q.val)
    (h1 : ∀ (n : Fin 128) (q : Fin 512), w1 (ix3 0 n q) = st A k n.val (512 + q.val)) (g : Fin 2) (n : Fin 128) (q : Fin 512) :
    View.canon (Val := Elt Ideal) (⟨Rect.unit ![1, 0, 0] ![1, 128, 512] inb_S2x128x512_S1x128x512_1_0_0, w1⟩ ::
      ⟨Rect.unit ![0, 0, 0] ![1, 128, 512] inb_S2x128x512_S1x128x512_0_0_0, w0⟩ :: L) (ix3 g n q) = st A k n.val (512 * g.val + q.val) := by
  rw [groups]
  by_cases h : g.val = 0
  · rw [if_pos h, h0, h]; congr 1; omega
  · rw [if_neg h, h1]; congr 1; omega

theorem st_A (t : Fin cfg0.N) (h : t.val % 32 = 0) (g : Fin 2) (n : Fin 128) (q : Fin 512) :
    ((outsAt0 m c t.val t.isLt).2.2.2 : FVec Ideal S2x128x512 .f32) (ix3 g n q) = st (argsK m c) (t.val + 1) n.val (512 * g.val + q.val) := by
  have ht : t.val = 0 := by have := lt_grid t; omega
  rw [outsAt0_A m c t h]
  frame_out
  simp (discharger := first | decide | (intro a; fin_cases a <;> rfl)) only [↓View.readCov_skip, View.readCov_fill]
  refine groups_at _ (fun n q => ?_) (fun n q => ?_) g n q
  · exact newG0_at m c t _ _ _ (fun i q => zX m c i q _ ht) (fun i q => zB m c i q _ ht)
      (fun n q => (ld0 _ n q).trans (zS m c 0 n q _ _ ht)) 0 n q
  · exact newG1_at m c t _ _ _ (fun i q => zX m c i q _ ht) (fun i q => zB m c i q _ ht)
      (fun n q => (ld1 _ n q).trans (zS m c 1 n q _ _ ht)) 0 n q

theorem out_A (t : Fin cfg0.N) (h : t.val % 32 = 0) (l : Fin 256) (q : Fin 1024) :
    ((outsAt0 m c t.val t.isLt).1 : FVec Ideal S256x1024 .bf16) (ix2 l q) = out (argsK m c) t.val l.val q.val := by
  have ht : t.val = 0 := by have := lt_grid t; omega
  rw [outsAt0_A m c t h]
  frame_out
  simp (discharger := first | decide | (intro a; fin_cases a <;> rfl)) only [↓View.readCov_skip, View.readCov_fill]
  exact newOut_at m c t _ _ _ _ (fun i q => zX m c i q _ ht) (fun i q => zB m c i q _ ht)
      (fun n q => (ld0 _ n q).trans (zS m c 0 n q _ _ ht)) (fun n q => (ld1 _ n q).trans (zS m c 1 n q _ _ ht)) l q

section later
variable (t : Fin cfg0.N) (h : ¬ t.val % 32 = 0) (hp : t.val - 1 < cfg0.N)
  (hs : ∀ (g : Fin 2) (n : Fin 128) (q : Fin 512), ((outsAt0 m c (t.val - 1) hp).2.2.2 : FVec Ideal S2x128x512 .f32) (ix3 g n q)
    = st (argsK m c) t.val n.val (512 * g.val + q.val))
include h
theorem tlX (i : Fin 8) (q : Fin 1024) : ((outsAt0 m c (t.val - 1) hp).2.1 : FVec Ideal S8x1024 .f32) (ix2 i q)
    = xsh (argsK m c) 8 (256 * t.val + i.val) q.val := by
  have e : t.val - 1 + 1 = t.val := by omega
  have := tailX m c ⟨t.val - 1, hp⟩ i q
  rwa [show (⟨t.val - 1, hp⟩ : Fin cfg0.N).val + 1 = t.val from e] at this
theorem tlB (i : Fin 8) (q : Fin 512) : ((outsAt0 m c (t.val - 1) hp).2.2.1 : FVec Ideal S8x512 .f32) (ix2 i q)
    = xsh (argsK m c) 8 (256 * t.val + i.val) (1024 + q.val) := by
  have e : t.val - 1 + 1 = t.val := by omega
  have := tailB m c ⟨t.val - 1, hp⟩ i q
  rwa [show (⟨t.val - 1, hp⟩ : Fin cfg0.N).val + 1 = t.val from e] at this
include hs
theorem st_B (g : Fin 2) (n : Fin 128) (q : Fin 512) :
    ((outsAt0 m c t.val t.isLt).2.2.2 : FVec Ideal S2x128x512 .f32) (ix3 g n q) = st (argsK m c) (t.val + 1) n.val (512 * g.val + q.val) := by
  rw [outsAt0_B m c t h]
  frame_out
  simp only [read_unread_whole]
  refine groups_at _ (fun n q => ?_) (fun n q => ?_) g n q
  · exact newG0_at m c t _ _ _ (tlX m c t h hp) (tlB m c t h hp)
      (fun n q => (ld0 _ n q).trans ((hs 0 n q).trans (congrArg _ (by show 512 * 0 + q.val = _; omega)))) 0 n q
  · exact newG1_at m c t _ _ _ (tlX m c t h hp) (tlB m c t h hp)
      (fun n q => (ld1 _ n q).trans ((hs 1 n q).trans (congrArg _ (by show 512 * 1 + q.val = _; omega)))) 0 n q
theorem out_B (l : Fin 256) (q : Fin 1024) :
    ((outsAt0 m c t.val t.isLt).1 : FVec Ideal S256x1024 .bf16) (ix2 l q) = out (argsK m c) t.val l.val q.val := by
  rw [outsAt0_B m c t h]
  frame_out
  simp only [read_unread_whole]
  exact newOut_at m c t _ _ _ _ (tlX m c t h hp) (tlB m c t h hp)
      (fun n q => (ld0 _ n q).trans ((hs 0 n q).trans (congrArg _ (by show 512 * 0 + q.val = _; omega))))
      (fun n q => (ld1 _ n q).trans ((hs 1 n q).trans (congrArg _ (by show 512 * 1 + q.val = _; omega)))) l q
end later

/-- After chunk `k` the state's buffer holds the recurrence's state. -/
theorem state_at : ∀ (k : ℕ) (hk : k < cfg0.N) (g : Fin 2) (n : Fin 128) (q : Fin 512),
    ((outsAt0 m c k hk).2.2.2 : FVec Ideal S2x128x512 .f32) (ix3 g n q) = st (argsK m c) (k + 1) n.val (512 * g.val + q.val)
  | 0, hk, g, n, q => st_A m c ⟨0, hk⟩ rfl g n q
  | k + 1, hk, g, n, q => by
    have hl : k + 1 < 32 := lt_grid ⟨k + 1, hk⟩
    exact st_B m c ⟨k + 1, hk⟩ (by show ¬ (k + 1) % 32 = 0; omega) (by show k + 1 - 1 < _; omega)
      (fun g n q => state_at k (by omega) g n q) g n q

/-- The block chunk `t` stores. -/
theorem out_at (t : Fin cfg0.N) (l : Fin 256) (q : Fin 1024) :
    ((outsAt0 m c t.val t.isLt).1 : FVec Ideal S256x1024 .bf16) (ix2 l q) = out (argsK m c) t.val l.val q.val := by
  by_cases h : t.val % 32 = 0
  · exact out_A m c t h l q
  · have hp : t.val - 1 < cfg0.N := by have := t.isLt; omega
    refine out_B m c t h hp (fun g n q => ?_) l q
    have e : t.val - 1 + 1 = t.val := by omega
    have := state_at m c (t.val - 1) hp g n q
    rwa [e] at this

/-- The array the kernel leaves, at an index. -/
theorem G13_at (r : Fin 8192) (q : Fin 1024) :
    (G13 m c : FVec Ideal S8192x1024 .bf16) (ix2 r q) = out (argsK m c) (r.val / 256) (r.val % 256) q.val := by
  have hr := r.isLt
  have hq := q.isLt
  have hN : cfg0.N = 32 := N_0
  have ep : pt13Of (ix2 r q) = r.val / 256 := by
    show 1 * (r.val / 256 - 0) + 1 * (q.val / 1024 - 0) = _
    omega
  have hp : pt13Of (ix2 r q) < cfg0.N := by omega
  have el : loc13Of (ix2 r q) = ix2 (⟨r.val % 256, Nat.mod_lt _ (by decide)⟩ : Fin 256) q := by
    funext a; fin_cases a <;> refine Fin.ext ?_
    · rfl
    · show q.val % 1024 = q.val; omega
  unfold G13
  rw [dif_pos hp, ← outsAt0_sweep m c _ hp]
  refine (congrArg _ el).trans ((out_at m c ⟨_, hp⟩ _ q).trans ?_)
  exact congrArg (fun k => out (argsK m c) k (r.val % 256) q.val) ep
end Cert.KernelIdeal.Chunk
-- ==== Proof.RefPre.lean ====
module
public import proofs.«01_k».proof.Proof.Gen.ReferenceIdeal.Run
public import proofs.«01_k».proof.Proof.Spec
public import Idealize.ShloMosaic.Lib.Pipeline.ValueKit
public import Idealize.ShloMosaic.Lib.Pointwise
public import Idealize.ShloMosaic.Lib.Claim
@[expose] public section
set_option maxRecDepth 16384
noncomputable section
/-! What each stretch of the reference before its loop leaves, at an index, from the contents before the stretch. -/
namespace Cert.ReferenceIdeal.Read
open Idealize.ShloMosaic Idealize.ShloMosaic.TcCoe Idealize.SL.Sem Idealize.ShloMosaic.StableHlo
open Cert.ReferenceIdeal Cert.ReferenceIdeal.Gen Cert.Ssd
/-- An array of extended reals at an index. -/
abbrev ev (s : Shape) (x : FVec Ideal s .f32) (i : s.Idx) : EReal := x i
variable (V : Valuation τ sig (Elt Ideal))

theorem v0_at (r : Fin 8192) (q : Fin 1024) : (after hostOps0 V (Proc.devRef .tc main_v0) : FVec Ideal S8192x1024 .f32) (ix2 r q)
    = ev S8192x5760 (V (Proc.devRef .tc main_arg0)) (ix2 r ⟨q.val, by omega⟩) := by
  unfold hostOps0
  after_results
  pointwise
theorem v1_at (r : Fin 8192) (q : Fin 1536) : (after hostOps0 V (Proc.devRef .tc main_v1) : FVec Ideal S8192x1536 .f32) (ix2 r q)
    = ev S8192x5760 (V (Proc.devRef .tc main_arg0)) (ix2 r ⟨1024 + q.val, by omega⟩) := by
  unfold hostOps0
  after_results
  pointwise
theorem v2_at (r : Fin 8192) (q : Fin 16) : (after hostOps0 V (Proc.devRef .tc main_v2) : FVec Ideal S8192x16 .f32) (ix2 r q)
    = ev S8192x5760 (V (Proc.devRef .tc main_arg0)) (ix2 r ⟨5632 + q.val, by omega⟩) := by
  unfold hostOps0
  after_results
  pointwise
theorem c_at : (after hostOps0 V (Proc.devRef .tc main_c) : IVec S_ 32) = fun _ => 0#32 := by
  unfold hostOps0
  after_results
  funext i
  pointwise
theorem v3_at (hc : (V (Proc.devRef .tc main_c) : IVec S_ 32) = fun _ => 0#32) (r : Fin 8195) (q : Fin 1536) :
    (after hostOps0_1 V (Proc.devRef .tc main_v3) : FVec Ideal S8195x1536 .f32) (ix2 r q)
    = if h : 3 ≤ r.val then ev S8192x1536 (V (Proc.devRef .tc main_v1)) (ix2 ⟨r.val - 3, by omega⟩ q) else 0 := by
  unfold hostOps0_1
  after_results
  simp -implicitDefEqProofs only [StableHlo.TRef.toBuf, StableHlo.TRef.ofBuf, cast_cast, cast_eq, id_eq]
  pointwise
  by_cases h : 3 ≤ r.val
  · rw [dif_pos ⟨h, by omega⟩, dif_pos h]
  · rw [dif_neg fun k => h k.1, dif_neg h, hc]
    simp [FloatOps.sitofp]
theorem v33_at (X : FVec Ideal S8195x1536 .f32) (W : FVec Ideal S4x1536 .f32) (B : FVec Ideal S1536 .f32) (hX : (V (Proc.devRef .tc main_v3) : FVec Ideal S8195x1536 .f32) = X)
    (hW : (V (Proc.devRef .tc main_arg1) : FVec Ideal S4x1536 .f32) = W) (hB : (V (Proc.devRef .tc main_arg2) : FVec Ideal S1536 .f32) = B)
    (r : Fin 8192) (q : Fin 1536) :
    (after hostOps0_2 V (Proc.devRef .tc main_v33) : FVec Ideal S8192x1536 .f32) (ix2 r q)
    = X (ix2 ⟨r.val, by omega⟩ q) * W (ix2 0 q) + X (ix2 ⟨1 + r.val, by omega⟩ q) * W (ix2 1 q)
      + X (ix2 ⟨2 + r.val, by omega⟩ q) * W (ix2 2 q) + X (ix2 ⟨3 + r.val, by omega⟩ q) * W (ix2 3 q) + B (ix1 q) := by
  unfold hostOps0_2
  after_results
  rw [hX, hW, hB]
  pointwise
theorem v34_at (r : Fin 8192) (q : Fin 1536) :
    (after hostOps0_3 V (Proc.devRef .tc main_v34) : FVec Ideal S8192x1536 .f32) (ix2 r q)
    = silu (ev S8192x1536 (V (Proc.devRef .tc main_v33)) (ix2 r q)) := by
  unfold hostOps0_3
  after_results
  simp -implicitDefEqProofs only [StableHlo.TRef.toBuf, StableHlo.TRef.ofBuf, cast_cast, cast_eq, id_eq]
  pointwise
  rfl
theorem v36_at (f : ℕ → ℕ → EReal) (hf : ∀ r q, ev S8192x1536 (V (Proc.devRef .tc main_v34)) (ix2 r q) = f r.val q.val) (c : Fin 32) (l : Fin 256) (g : Fin 2) (h : Fin 8) (p : Fin 64) :
    (after hostOps0_4 V (Proc.devRef .tc main_v36) : FVec Ideal S32x256x2x8x64 .f32) (ix5 c l g h p)
    = f (256 * c.val + l.val) (512 * g.val + 64 * h.val + p.val) := by
  unfold hostOps0_4
  after_results
  pointwise
  refine (hf _ _).trans ?_
  congr 1 <;> dsimp only <;> omega
theorem v38_at (f : ℕ → ℕ → EReal) (hf : ∀ r q, ev S8192x1536 (V (Proc.devRef .tc main_v34)) (ix2 r q) = f r.val q.val) (c : Fin 32) (l : Fin 256) (g : Fin 2) (n : Fin 128) :
    (after hostOps0_4 V (Proc.devRef .tc main_v38) : FVec Ideal S32x256x2x128 .f32) (ix4 c l g n)
    = f (256 * c.val + l.val) (1024 + 128 * g.val + n.val) := by
  unfold hostOps0_4
  after_results
  pointwise
  refine (hf _ _).trans ?_
  congr 1 <;> dsimp only <;> omega
theorem v40_at (f : ℕ → ℕ → EReal) (hf : ∀ r q, ev S8192x1536 (V (Proc.devRef .tc main_v34)) (ix2 r q) = f r.val q.val) (c : Fin 32) (l : Fin 256) (g : Fin 2) (n : Fin 128) :
    (after hostOps0_4 V (Proc.devRef .tc main_v40) : FVec Ideal S32x256x2x128 .f32) (ix4 c l g n)
    = f (256 * c.val + l.val) (1280 + 128 * g.val + n.val) := by
  unfold hostOps0_4
  after_results
  pointwise
  refine (hf _ _).trans ?_
  congr 1 <;> dsimp only <;> omega
theorem v43_at (r : Fin 8192) (h : Fin 16) :
    (after hostOps0_4 V (Proc.devRef .tc main_v43) : FVec Ideal S8192x16 .f32) (ix2 r h)
    = ev S8192x16 (V (Proc.devRef .tc main_v2)) (ix2 r h) + ev S16 (V (Proc.devRef .tc main_arg3)) (ix1 h) := by
  unfold hostOps0_4
  after_results
  pointwise
theorem v44_at (r : Fin 8192) (h : Fin 16) :
    (after hostOps0_5 V (Proc.devRef .tc main_v44) : FVec Ideal S8192x16 .f32) (ix2 r h)
    = softplus (ev S8192x16 (V (Proc.devRef .tc main_v43)) (ix2 r h)) := by
  unfold hostOps0_5
  after_results
  simp -implicitDefEqProofs only [StableHlo.TRef.toBuf, StableHlo.TRef.ofBuf, cast_cast, cast_eq, id_eq]
  pointwise
  rw [if_neg (fun h => h rfl), Ideal.absf_def, softplus]
theorem v45_at (f : ℕ → ℕ → EReal) (hf : ∀ r q, ev S8192x16 (V (Proc.devRef .tc main_v44)) (ix2 r q) = f r.val q.val) (c : Fin 32) (l : Fin 256) (g : Fin 2) (h : Fin 8) :
    (after hostOps0_6 V (Proc.devRef .tc main_v45) : FVec Ideal S32x256x2x8 .f32) (ix4 c l g h)
    = f (256 * c.val + l.val) (8 * g.val + h.val) := by
  unfold hostOps0_6
  after_results
  pointwise
  refine (hf _ _).trans ?_
  congr 1 <;> dsimp only <;> omega
theorem v52_at (f : ℕ → ℕ → EReal) (hf : ∀ r q, ev S8192x16 (V (Proc.devRef .tc main_v44)) (ix2 r q) = f r.val q.val) (a : ℕ → EReal) (ha : ∀ h, ev S16 (V (Proc.devRef .tc main_arg4)) (ix1 h) = a h.val) (c : Fin 32) (l : Fin 256) (g : Fin 2) (h : Fin 8) :
    (after hostOps0_6 V (Proc.devRef .tc main_v52) : FVec Ideal S32x2x8x256 .f32) (ix4 c g h l)
    = f (256 * c.val + l.val) (8 * g.val + h.val) * -(Ideal.exp (a (8 * g.val + h.val))) := by
  unfold hostOps0_6
  after_results
  pointwise
  have e1 := hf ⟨c.val * 256 + l.val, by omega⟩ ⟨g.val * 8 + h.val, by omega⟩
  have e2 := ha ⟨g.val * 8 + h.val, by omega⟩
  rw [Nat.mul_comm 256, Nat.mul_comm 8, ← e1, ← e2]
theorem v56_at (c : Fin 32) (l : Fin 256) (g : Fin 2) (h : Fin 8) (p : Fin 64) :
    (after hostOps0_8 V (Proc.devRef .tc main_v56) : FVec Ideal S32x256x2x8x64 .f32) (ix5 c l g h p)
    = ev S32x256x2x8x64 (V (Proc.devRef .tc main_v36)) (ix5 c l g h p)
      * ev S32x256x2x8 (V (Proc.devRef .tc main_v45)) (ix4 c l g h) := by
  unfold hostOps0_8
  after_results
  pointwise
theorem v57_at : (after hostOps0_8 V (Proc.devRef .tc main_v57) : IVec S256x256 1) = fun _ => 1#1 := by
  unfold hostOps0_8
  after_results
  funext i
  pointwise
theorem v58_at (hv : (V (Proc.devRef .tc main_v57) : IVec S256x256 1) = fun _ => 1#1) (l s : Fin 256) :
    (after hostOps0_9 V (Proc.devRef .tc main_v58) : IVec S256x256 1) (ix2 l s) = if s.val ≤ l.val then 1#1 else 0#1 := by
  unfold hostOps0_9
  after_results
  simp -implicitDefEqProofs only [StableHlo.TRef.toBuf, StableHlo.TRef.ofBuf, cast_cast, cast_eq, id_eq]
  pointwise
  rw [hv]
  simp only [IntOp.addi, BitVec.add_zero]
  exact select_sge l.val s.val (by omega) (by omega) _ _
theorem v63_at (c : Fin 32) (g : Fin 2) (h : Fin 8) (l s : Fin 256) :
    (after hostOps0_10 V (Proc.devRef .tc main_v63) : FVec Ideal S32x2x8x256x256 .f32) (ix5 c g h l s)
    = ev S32x2x8x256 (V (Proc.devRef .tc main_v53)) (ix4 c g h l) - ev S32x2x8x256 (V (Proc.devRef .tc main_v53)) (ix4 c g h s) := by
  unfold hostOps0_10
  after_results
  pointwise
theorem cst_at : (after hostOps0_10 V (Proc.devRef .tc main_cst) : FVec Ideal S_ .f32) = fun _ => (⊥ : EReal) := by
  unfold hostOps0_10
  after_results
  funext i
  pointwise
  exact ofBits_bot
theorem v64_at (hc : (V (Proc.devRef .tc main_cst) : FVec Ideal S_ .f32) = fun _ => (⊥ : EReal)) (c : Fin 32) (g : Fin 2) (h : Fin 8) (l s : Fin 256) :
    (after hostOps0_11 V (Proc.devRef .tc main_v64) : FVec Ideal S32x2x8x256x256 .f32) (ix5 c g h l s)
    = Scalar.select ((V (Proc.devRef .tc main_v58) : IVec S256x256 1) (ix2 l s)) (ev S32x2x8x256x256 (V (Proc.devRef .tc main_v63)) (ix5 c g h l s)) ⊥ := by
  unfold hostOps0_11
  after_results
  simp -implicitDefEqProofs only [StableHlo.TRef.toBuf, StableHlo.TRef.ofBuf, cast_cast, cast_eq, id_eq]
  pointwise
  rw [hc]
end Cert.ReferenceIdeal.Read
-- ==== Proof.RefCum.lean ====
module
public import proofs.«01_k».proof.Proof.RefPre
@[expose] public section
set_option maxRecDepth 16384
noncomputable section
/-! The running sum along a chunk's rows. -/
namespace Cert.ReferenceIdeal.Read
open Idealize.ShloMosaic Idealize.ShloMosaic.TcCoe Idealize.SL.Sem Idealize.ShloMosaic.StableHlo
open Cert.ReferenceIdeal Cert.ReferenceIdeal.Gen Cert.Ssd

/-- A left fold of additions is a sum. -/
theorem foldl_add {n : ℕ} (f : Fin n → EReal) : (List.finRange n).foldl (fun r k => r + f k) 0 = ∑ k, f k := by
  rw [Fin.sum_univ_def, List.sum_eq_foldl, List.foldl_map]

/-- The window's shape. -/
abbrev Win : Shape := ⟨4, ![1, 1, 1, 256]⟩

/-- The window's positions are its last coordinates. -/
def winEquiv : Win.Idx ≃ Fin 256 where
  toFun i := i 3
  invFun k := ix4 0 0 0 k
  left_inv i := by
    funext a
    fin_cases a
    · exact Subsingleton.elim (α := Fin 1) _ _
    · exact Subsingleton.elim (α := Fin 1) _ _
    · exact Subsingleton.elim (α := Fin 1) _ _
    · rfl
  right_inv k := rfl

/-- One position's term of the windowed sum. -/
theorem win_term (x : FVec Ideal S32x2x8x256 .f32) (c : Fin 32) (g : Fin 2) (h : Fin 8) (l : Fin 256) (w : Win.Idx)
    (_dec : Decidable (∀ a : Fin 4, (![0, 0, 0, 255] : Fin 4 → ℕ) a ≤ (ix4 c g h l a).val * (![1, 1, 1, 1] : Fin 4 → ℕ) a + (w a).val
        ∧ (ix4 c g h l a).val * (![1, 1, 1, 1] : Fin 4 → ℕ) a + (w a).val - (![0, 0, 0, 255] : Fin 4 → ℕ) a < S32x2x8x256.size a)) :
    (if hin : ∀ a : Fin 4, (![0, 0, 0, 255] : Fin 4 → ℕ) a ≤ (ix4 c g h l a).val * (![1, 1, 1, 1] : Fin 4 → ℕ) a + (w a).val
        ∧ (ix4 c g h l a).val * (![1, 1, 1, 1] : Fin 4 → ℕ) a + (w a).val - (![0, 0, 0, 255] : Fin 4 → ℕ) a < S32x2x8x256.size a then
      ev S32x2x8x256 x (fun a => ⟨(ix4 c g h l a).val * (![1, 1, 1, 1] : Fin 4 → ℕ) a + (w a).val - (![0, 0, 0, 255] : Fin 4 → ℕ) a, (hin a).2⟩) else 0)
    = if hk : 255 ≤ l.val + (winEquiv w).val then ev S32x2x8x256 x (ix4 c g h ⟨l.val + (winEquiv w).val - 255, by omega⟩) else 0 := by
  obtain ⟨k, rfl⟩ : ∃ k, w = winEquiv.symm k := ⟨winEquiv w, (winEquiv.left_inv w).symm⟩
  change _ = if hk : 255 ≤ l.val + k.val then ev S32x2x8x256 x (ix4 c g h ⟨l.val + k.val - 255, by omega⟩) else 0
  by_cases hl : 255 ≤ l.val + k.val
  · have H : ∀ a : Fin 4, (![0, 0, 0, 255] : Fin 4 → ℕ) a ≤ (ix4 c g h l a).val * (![1, 1, 1, 1] : Fin 4 → ℕ) a + (winEquiv.symm k a).val
        ∧ (ix4 c g h l a).val * (![1, 1, 1, 1] : Fin 4 → ℕ) a + (winEquiv.symm k a).val - (![0, 0, 0, 255] : Fin 4 → ℕ) a < S32x2x8x256.size a := by
      intro a
      fin_cases a
      · show 0 ≤ c.val * 1 + 0 ∧ c.val * 1 + 0 - 0 < 32; omega
      · show 0 ≤ g.val * 1 + 0 ∧ g.val * 1 + 0 - 0 < 2; omega
      · show 0 ≤ h.val * 1 + 0 ∧ h.val * 1 + 0 - 0 < 8; omega
      · show 255 ≤ l.val * 1 + k.val ∧ l.val * 1 + k.val - 255 < 256; omega
    rw [dif_pos hl, dif_pos H]
    refine congrArg x (funext fun a => Fin.ext ?_)
    fin_cases a
    · show c.val * 1 + 0 - 0 = c.val; omega
    · show g.val * 1 + 0 - 0 = g.val; omega
    · show h.val * 1 + 0 - 0 = h.val; omega
    · show l.val * 1 + k.val - 255 = l.val + k.val - 255; omega
  · rw [dif_neg hl, dif_neg]
    intro hn
    have h3 : 255 ≤ l.val * 1 + k.val := (hn 3).1
    omega

/-- The windowed sum is the sum over the rows up to the one at hand. -/
theorem cumsum_at (x : FVec Ideal S32x2x8x256 .f32) (z : FVec Ideal S_ .f32) (hz : z = fun _ => (0 : EReal)) (c : Fin 32) (g : Fin 2) (h : Fin 8) (l : Fin 256) :
    (Host.reduceWindowAdd ![1, 1, 1, 256] ![1, 1, 1, 1] ![0, 0, 0, 255] ![0, 0, 0, 0] x z reduceWindows_S32x2x8x256_S32x2x8x256_w1s1p0_0_w1s1p0_0_w1s1p0_0_w256s1p255_0 h_S_ : FVec Ideal S32x2x8x256 .f32) (ix4 c g h l)
    = ∑ k : Fin 256, if k.val ≤ l.val then ev S32x2x8x256 x (ix4 c g h k) else 0 := by
  subst hz
  show List.foldl _ (0 : EReal) _ = _
  refine (foldl_add _).trans ?_
  refine (Finset.sum_congr rfl fun n _ => ?_).trans ((Equiv.sum_comp (Win.rowMajor.symm.trans winEquiv) (fun k : Fin 256 => if hk : 255 ≤ l.val + k.val then ev S32x2x8x256 x (ix4 c g h ⟨l.val + k.val - 255, by omega⟩) else 0)).trans ?_)
  · exact win_term x c g h l (Win.rowMajor.symm n) _
  · refine Fintype.sum_equiv (Equiv.addRight (⟨(l.val + 1) % 256, Nat.mod_lt _ (by omega)⟩ : Fin 256)) _ _ fun k => ?_
    have e : ((Equiv.addRight (⟨(l.val + 1) % 256, Nat.mod_lt _ (by omega)⟩ : Fin 256)) k).val = (k.val + (l.val + 1)) % 256 := by
      show (k + _ : Fin 256).val = _
      rw [Fin.val_add]
      show (k.val + (l.val + 1) % 256) % 256 = _
      omega
    by_cases hl : 255 ≤ l.val + k.val
    · rw [dif_pos hl, if_pos (by omega)]
      refine congrArg (ev S32x2x8x256 x) (congrArg (ix4 c g h) (Fin.ext ?_))
      rw [e]
      show l.val + k.val - 255 = _
      omega
    · rw [dif_neg hl, if_neg (by omega)]

theorem v53_at (V : Valuation τ sig (Elt Ideal)) (c : Fin 32) (g : Fin 2) (h : Fin 8) (l : Fin 256) :
    ev S32x2x8x256 (after hostOps0_7 V (Proc.devRef .tc main_v53)) (ix4 c g h l)
    = ∑ k : Fin 256, if k.val ≤ l.val then ev S32x2x8x256 (V (Proc.devRef .tc main_v52)) (ix4 c g h k) else 0 := by
  unfold hostOps0_7
  after_results
  simp -implicitDefEqProofs only [StableHlo.TRef.toBuf, StableHlo.TRef.ofBuf, cast_cast, cast_eq, id_eq]
  refine cumsum_at _ _ ?_ c g h l
  funext i
  pointwise
end Cert.ReferenceIdeal.Read
-- ==== Proof.RefMid.lean ====
module
public import proofs.«01_k».proof.Proof.RefCum
@[expose] public section
set_option maxRecDepth 16384
noncomputable section
/-! The last stretch before the reference's loop, the loop's trip, and the stretches after it. -/
namespace Cert.ReferenceIdeal.Read
open Idealize.ShloMosaic Idealize.ShloMosaic.TcCoe Idealize.SL.Sem Idealize.ShloMosaic.StableHlo
open Cert.ReferenceIdeal Cert.ReferenceIdeal.Gen Cert.ReferenceIdeal.Value Cert.Ssd
variable (V : Valuation τ sig (Elt Ideal))

theorem v71_at (c : Fin 32) (l : Fin 256) (g : Fin 2) (h : Fin 8) (p : Fin 64) :
    ev S32x256x2x8x64 (after hostOps0_12 V (Proc.devRef .tc main_v71)) (ix5 c l g h p)
    = ∑ s : Fin 256, ev S32x256x2x8x64 (V (Proc.devRef .tc main_v56)) (ix5 c s g h p)
      * ((∑ n : Fin 128, ev S32x256x2x128 (V (Proc.devRef .tc main_v40)) (ix4 c l g n) * ev S32x256x2x128 (V (Proc.devRef .tc main_v38)) (ix4 c s g n))
        * Ideal.exp (ev S32x2x8x256x256 (V (Proc.devRef .tc main_v64)) (ix5 c g h l s))) := by
  unfold hostOps0_12
  after_results
  pointwise
theorem v86_0_at (c : Fin 32) (g : Fin 2) (h : Fin 8) (p : Fin 64) (n : Fin 128) :
    ev S32x2x8x64x128 (after hostOps0_12 V (Proc.devRef .tc main_v86_0)) (ix5 c g h p n)
    = ∑ l : Fin 256, ev S32x256x2x8x64 (V (Proc.devRef .tc main_v56)) (ix5 c l g h p)
      * Ideal.exp (ev S32x2x8x256 (V (Proc.devRef .tc main_v53)) (ix4 c g h 255) - ev S32x2x8x256 (V (Proc.devRef .tc main_v53)) (ix4 c g h l))
      * ev S32x256x2x128 (V (Proc.devRef .tc main_v38)) (ix4 c l g n) := by
  show (after hostOps0_12 V (Proc.devRef .tc main_v86_0) : FVec Ideal S32x2x8x64x128 .f32) (ix5 c g h p n) = _
  unfold hostOps0_12
  after_results
  simp only [id_eq]
  pointwise
theorem v86_1_at (c : Fin 32) (g : Fin 2) (h : Fin 8) :
    (after hostOps0_12 V (Proc.devRef .tc main_v86_1) : FVec Ideal S32x2x8 .f32) (ix3 c g h)
    = Ideal.exp (ev S32x2x8x256 (V (Proc.devRef .tc main_v53)) (ix4 c g h 255)) := by
  unfold hostOps0_12
  after_results
  simp only [id_eq]
  pointwise
theorem v86_3_at (g : Fin 2) (h : Fin 8) (p : Fin 64) (n : Fin 128) :
    (after hostOps0_12 V (Proc.devRef .tc main_v86_3) : FVec Ideal S2x8x64x128 .f32) (ix4 g h p n) = (0 : EReal) := by
  unfold hostOps0_12
  after_results
  simp only [id_eq]
  pointwise

theorem slices3 (k : Fin 32) : S32x2x8.Slices ![k.val, 0, 0] S1x2x8 :=
  ⟨rfl, fun a => by have := k.isLt; fin_cases a <;> [show k.val + 1 ≤ 32; show 0 + 2 ≤ 2; show 0 + 8 ≤ 8] <;> omega⟩
theorem slices5 (k : Fin 32) : S32x2x8x64x128.Slices ![k.val, 0, 0, 0, 0] S1x2x8x64x128 :=
  ⟨rfl, fun a => by
    have := k.isLt
    fin_cases a <;> [show k.val + 1 ≤ 32; show 0 + 2 ≤ 2; show 0 + 8 ≤ 8; show 0 + 64 ≤ 64; show 0 + 128 ≤ 128] <;> omega⟩
theorem start3 (k : Fin 32) (a : Fin 3) : BitVec.toInt ((![fun _ => BitVec.ofNat 32 k.val, constantI S_ 32 0#32, constantI S_ 32 0#32] : Fin 3 → IVec S_ 32) a (Shape.Idx.first h_S_))
    = (((![k.val, 0, 0] : Fin 3 → ℕ) a : ℕ) : Int) := by
  fin_cases a
  · exact WordCmp.toInt_ofNat_of_lt (by have := k.isLt; omega)
  · rfl
  · rfl
theorem start5 (k : Fin 32) (a : Fin 5) : BitVec.toInt ((![fun _ => BitVec.ofNat 32 k.val, constantI S_ 32 0#32, constantI S_ 32 0#32, constantI S_ 32 0#32,
      constantI S_ 32 0#32] : Fin 5 → IVec S_ 32) a (Shape.Idx.first h_S_)) = (((![k.val, 0, 0, 0, 0] : Fin 5 → ℕ) a : ℕ) : Int) := by
  fin_cases a
  · exact WordCmp.toInt_ofNat_of_lt (by have := k.isLt; omega)
  · rfl
  · rfl
  · rfl
  · rfl
/-- One trip's new state. -/
theorem step_3_at (k : Fin 32) (hk : (V (Proc.devRef .tc main_v86_2) : IVec S_ 32) = fun _ => BitVec.ofNat 32 k.val)
    (g : Fin 2) (h : Fin 8) (p : Fin 64) (n : Fin 128) :
    (step_main_v86_3 V : FVec Ideal S2x8x64x128 .f32) (ix4 g h p n)
    = ev S2x8x64x128 (V (Proc.devRef .tc main_v86_3)) (ix4 g h p n) * ev S32x2x8 (V (Proc.devRef .tc main_v86_1)) (ix3 k g h)
      + ev S32x2x8x64x128 (V (Proc.devRef .tc main_v86_0)) (ix5 k g h p n) := by
  unfold step_main_v86_3
  rw [hk]
  rw [WordCmp.dynamicSlice_eq_extract (k := ![k.val, 0, 0]) (hk := slices3 k) (e := start3 k),
    WordCmp.dynamicSlice_eq_extract (k := ![k.val, 0, 0, 0, 0]) (hk := slices5 k) (e := start5 k)]
  simp only [id_eq]
  pointwise
/-- One trip's stacked states. -/
theorem step_4_at (k : Fin 32) (hk : (V (Proc.devRef .tc main_v86_2) : IVec S_ 32) = fun _ => BitVec.ofNat 32 k.val)
    (c : Fin 32) (g : Fin 2) (h' : Fin 8) (p : Fin 64) (n : Fin 128) :
    (step_main_v86_4 V : FVec Ideal S32x2x8x64x128 .f32) (ix5 c g h' p n)
    = if c.val = k.val then ev S2x8x64x128 (V (Proc.devRef .tc main_v86_3)) (ix4 g h' p n)
      else ev S32x2x8x64x128 (V (Proc.devRef .tc main_v86_4)) (ix5 c g h' p n) := by
  unfold step_main_v86_4
  rw [hk]
  rw [WordCmp.dynamicUpdateSlice_eq_update (k := ![k.val, 0, 0, 0, 0]) (hk := slices5 k) (e := start5 k)]
  simp only [id_eq]
  pointwise
  by_cases h : c.val = k.val
  · rw [if_pos h]
    refine dif_pos fun a => ?_
    have := g.isLt; have := h'.isLt; have := p.isLt; have := n.isLt
    fin_cases a
    · show k.val ≤ c.val ∧ c.val < k.val + 1; omega
    · show 0 ≤ g.val ∧ g.val < 0 + 2; omega
    · show 0 ≤ h'.val ∧ h'.val < 0 + 8; omega
    · show 0 ≤ p.val ∧ p.val < 0 + 64; omega
    · show 0 ≤ n.val ∧ n.val < 0 + 128; omega
  · rw [if_neg h]
    refine dif_neg fun H => h ?_
    have h0 : k.val ≤ c.val ∧ c.val < k.val + 1 := H 0
    omega

theorem v101_at (A : Args)
    (h71 : ∀ c l g h p, ev S32x256x2x8x64 (V (Proc.devRef .tc main_v71)) (ix5 c l g h p) = ydiag A c.val l.val (512 * g.val + 64 * h.val + p.val))
    (h86 : ∀ c g h p n, ev S32x2x8x64x128 (V (Proc.devRef .tc main_v86_4)) (ix5 c g h p n) = st A c.val n.val (512 * g.val + 64 * h.val + p.val))
    (h40 : ∀ c l g n, ev S32x256x2x128 (V (Proc.devRef .tc main_v40)) (ix4 c l g n) = act A (256 * c.val + l.val) (1280 + 128 * g.val + n.val))
    (h53 : ∀ c g h l, ev S32x2x8x256 (V (Proc.devRef .tc main_v53)) (ix4 c g h l) = acs A c.val l.val (8 * g.val + h.val))
    (h36 : ∀ c l g h p, ev S32x256x2x8x64 (V (Proc.devRef .tc main_v36)) (ix5 c l g h p) = act A (256 * c.val + l.val) (512 * g.val + 64 * h.val + p.val))
    (h5 : ∀ h, ev S16 (V (Proc.devRef .tc main_arg5)) (ix1 h) = A.ds h.val) (r : Fin 8192) (q : Fin 1024) :
    (after hostOps0_13 V (Proc.devRef .tc main_v101) : FVec Ideal S8192x1024 .f32) (ix2 r q)
    = ydiag A (r.val / 256) (r.val % 256) q.val + yoff A (r.val / 256) (r.val % 256) q.val
      + act A (256 * (r.val / 256) + r.val % 256) q.val * A.ds (q.val / 64) := by
  unfold hostOps0_13
  after_results
  pointwise
  have e1 : 512 * (q.val / 512) + 64 * (q.val / 64 % 8) + q.val % 64 = q.val := by omega
  have e2 : 8 * (q.val / 512) + q.val / 64 % 8 = q.val / 64 := by omega
  have e3 : q.val / 512 * 8 + q.val / 64 % 8 = q.val / 64 := by omega
  refine congrArg₂ (· + ·) (congrArg₂ (· + ·) ?_ (congrArg₂ (· * ·) (Finset.sum_congr rfl fun n _ => ?_) ?_)) (congrArg₂ (· * ·) ?_ ?_)
  · refine (h71 _ _ _ _ _).trans ?_
    dsimp only; rw [e1]
  · rw [mul_comm]
    refine congrArg₂ (· * ·) ((h40 _ _ _ _).trans rfl) ((h86 _ _ _ _ _).trans ?_)
    dsimp only; rw [e1]
  · refine congrArg Ideal.exp ((h53 _ _ _ _).trans ?_)
    dsimp only; rw [e2]
  · refine (h36 _ _ _ _ _).trans ?_
    dsimp only; rw [e1]
  · refine (h5 _).trans ?_
    dsimp only; rw [e3]
theorem v102_at (r : Fin 8192) (q : Fin 1024) :
    (after hostOps0_14 V (Proc.devRef .tc main_v102) : FVec Ideal S8192x1024 .f32) (ix2 r q)
    = silu (ev S8192x1024 (V (Proc.devRef .tc main_v0)) (ix2 r q)) := by
  unfold hostOps0_14
  after_results
  simp -implicitDefEqProofs only [StableHlo.TRef.toBuf, StableHlo.TRef.ofBuf, cast_cast, cast_eq, id_eq]
  pointwise
  rfl
theorem v119_at (A : Args) (y z : ℕ → ℕ → EReal)
    (hy : ∀ r q, ev S8192x1024 (V (Proc.devRef .tc main_v101)) (ix2 r q) = y r.val q.val)
    (hz : ∀ r q, ev S8192x1024 (V (Proc.devRef .tc main_v102)) (ix2 r q) = z r.val q.val)
    (h6 : ∀ q, ev S1024 (V (Proc.devRef .tc main_arg6)) (ix1 q) = A.ng q.val)
    (hv : ∀ r q, r < 8192 → q < 1024 → y r q * z r q = yv A (r / 256) (r % 256) q) (r : Fin 8192) (q : Fin 1024) :
    (after hostOps0_15 V (Proc.devRef .tc main_v119) : FVec Ideal S8192x1024 .bf16) (ix2 r q)
    = out A (r.val / 256) (r.val % 256) q.val := by
  unfold hostOps0_15
  after_results
  pointwise
  have E (p : Fin 1024) : ev S8192x1024 (V (Proc.devRef .tc main_v101)) (ix2 r p) * ev S8192x1024 (V (Proc.devRef .tc main_v102)) (ix2 r p)
      = yv A (r.val / 256) (r.val % 256) p.val := by
    refine Eq.trans ?_ (hv r.val p.val r.isLt p.isLt)
    exact congrArg₂ (· * ·) (hy r p) (hz r p)
  refine congrArg₂ (· * ·) (congrArg₂ (· * ·) ?_ ?_) (h6 q)
  · refine (E _).trans ?_
    dsimp only
    rw [show q.val / 512 * 512 + q.val % 512 = q.val by omega]
  · refine congrArg Ideal.rsqrt (congrArg (· + _) (congrArg (Ideal.div · _) (Finset.sum_congr rfl fun x _ => ?_)))
    refine (congrArg₂ (· * ·) (E _) (E _)).trans ?_
    dsimp only
    rw [Nat.mul_comm 512]
end Cert.ReferenceIdeal.Read
-- ==== Proof.RefOut.lean ====
module
public import proofs.«01_k».proof.Proof.RefMid
@[expose] public section
set_option maxRecDepth 16384
noncomputable section
/-! The reference's result as a value of the layer's arguments. -/
namespace Cert.ReferenceIdeal.Read
open Idealize.ShloMosaic Idealize.ShloMosaic.TcCoe Idealize.SL.Sem Idealize.ShloMosaic.StableHlo
open Cert.ReferenceIdeal Cert.ReferenceIdeal.Gen Cert.ReferenceIdeal.Value Cert.Ssd
variable (m : (ℓ : Loc nD τ sig) → Buf (Elt Ideal) ℓ) (d : Dev nD)

/-- The layer's arguments as the launch memory holds them. -/
abbrev argsR : Args :=
  argsOf (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6))

/-- The buffers at the launch. -/
def U0 : Valuation τ sig (Elt Ideal) := launchContents m d

/-- The buffers after stretch 0. -/
def U1 : Valuation τ sig (Elt Ideal) := after hostOps0 (U0 m d)
theorem U1_keep (r : Ref sig .tc) (h : r ∉ hostOps0_W) : U1 m d (Proc.devRef .tc r) = U0 m d (Proc.devRef .tc r) :=
  after_of_writes_sub _ _ hostOps0_writes h
/-- The buffers after stretch 1. -/
def U2 : Valuation τ sig (Elt Ideal) := after hostOps0_1 (U1 m d)
theorem U2_keep (r : Ref sig .tc) (h : r ∉ hostOps0_1_W) : U2 m d (Proc.devRef .tc r) = U1 m d (Proc.devRef .tc r) :=
  after_of_writes_sub _ _ hostOps0_1_writes h
/-- The buffers after stretch 2. -/
def U3 : Valuation τ sig (Elt Ideal) := after hostOps0_2 (U2 m d)
theorem U3_keep (r : Ref sig .tc) (h : r ∉ hostOps0_2_W) : U3 m d (Proc.devRef .tc r) = U2 m d (Proc.devRef .tc r) :=
  after_of_writes_sub _ _ hostOps0_2_writes h
/-- The buffers after stretch 3. -/
def U4 : Valuation τ sig (Elt Ideal) := after hostOps0_3 (U3 m d)
theorem U4_keep (r : Ref sig .tc) (h : r ∉ hostOps0_3_W) : U4 m d (Proc.devRef .tc r) = U3 m d (Proc.devRef .tc r) :=
  after_of_writes_sub _ _ hostOps0_3_writes h
/-- The buffers after stretch 4. -/
def U5 : Valuation τ sig (Elt Ideal) := after hostOps0_4 (U4 m d)
theorem U5_keep (r : Ref sig .tc) (h : r ∉ hostOps0_4_W) : U5 m d (Proc.devRef .tc r) = U4 m d (Proc.devRef .tc r) :=
  after_of_writes_sub _ _ hostOps0_4_writes h
/-- The buffers after stretch 5. -/
def U6 : Valuation τ sig (Elt Ideal) := after hostOps0_5 (U5 m d)
theorem U6_keep (r : Ref sig .tc) (h : r ∉ hostOps0_5_W) : U6 m d (Proc.devRef .tc r) = U5 m d (Proc.devRef .tc r) :=
  after_of_writes_sub _ _ hostOps0_5_writes h
/-- The buffers after stretch 6. -/
def U7 : Valuation τ sig (Elt Ideal) := after hostOps0_6 (U6 m d)
theorem U7_keep (r : Ref sig .tc) (h : r ∉ hostOps0_6_W) : U7 m d (Proc.devRef .tc r) = U6 m d (Proc.devRef .tc r) :=
  after_of_writes_sub _ _ hostOps0_6_writes h
/-- The buffers after stretch 7. -/
def U8 : Valuation τ sig (Elt Ideal) := after hostOps0_7 (U7 m d)
theorem U8_keep (r : Ref sig .tc) (h : r ∉ hostOps0_7_W) : U8 m d (Proc.devRef .tc r) = U7 m d (Proc.devRef .tc r) :=
  after_of_writes_sub _ _ hostOps0_7_writes h
/-- The buffers after stretch 8. -/
def U9 : Valuation τ sig (Elt Ideal) := after hostOps0_8 (U8 m d)
theorem U9_keep (r : Ref sig .tc) (h : r ∉ hostOps0_8_W) : U9 m d (Proc.devRef .tc r) = U8 m d (Proc.devRef .tc r) :=
  after_of_writes_sub _ _ hostOps0_8_writes h
/-- The buffers after stretch 9. -/
def U10 : Valuation τ sig (Elt Ideal) := after hostOps0_9 (U9 m d)
theorem U10_keep (r : Ref sig .tc) (h : r ∉ hostOps0_9_W) : U10 m d (Proc.devRef .tc r) = U9 m d (Proc.devRef .tc r) :=
  after_of_writes_sub _ _ hostOps0_9_writes h
/-- The buffers after stretch 10. -/
def U11 : Valuation τ sig (Elt Ideal) := after hostOps0_10 (U10 m d)
theorem U11_keep (r : Ref sig .tc) (h : r ∉ hostOps0_10_W) : U11 m d (Proc.devRef .tc r) = U10 m d (Proc.devRef .tc r) :=
  after_of_writes_sub _ _ hostOps0_10_writes h
/-- The buffers after stretch 11. -/
def U12 : Valuation τ sig (Elt Ideal) := after hostOps0_11 (U11 m d)
theorem U12_keep (r : Ref sig .tc) (h : r ∉ hostOps0_11_W) : U12 m d (Proc.devRef .tc r) = U11 m d (Proc.devRef .tc r) :=
  after_of_writes_sub _ _ hostOps0_11_writes h
/-- The buffers after stretch 12. -/
def U13 : Valuation τ sig (Elt Ideal) := after hostOps0_12 (U12 m d)
theorem U13_keep (r : Ref sig .tc) (h : r ∉ hostOps0_12_W) : U13 m d (Proc.devRef .tc r) = U12 m d (Proc.devRef .tc r) :=
  after_of_writes_sub _ _ hostOps0_12_writes h

theorem n1 (r : Fin 8192) (q : Fin 1536) : ev S8192x1536 (U1 m d (Proc.devRef .tc main_v1)) (ix2 r q) = (argsR m d).pj r.val (1024 + q.val) :=
  (v1_at (U0 m d) r q).trans (nat2_eq _ _ _)
theorem n0 (r : Fin 8192) (q : Fin 1024) : ev S8192x1024 (U1 m d (Proc.devRef .tc main_v0)) (ix2 r q) = (argsR m d).pj r.val q.val :=
  (v0_at (U0 m d) r q).trans (nat2_eq _ _ _)
theorem n2 (r : Fin 8192) (q : Fin 16) : ev S8192x16 (U1 m d (Proc.devRef .tc main_v2)) (ix2 r q) = (argsR m d).pj r.val (5632 + q.val) :=
  (v2_at (U0 m d) r q).trans (nat2_eq _ _ _)
theorem n3 (r : Fin 8195) (q : Fin 1536) : ev S8195x1536 (U2 m d (Proc.devRef .tc main_v3)) (ix2 r q) = if 3 ≤ r.val then (argsR m d).pj (r.val - 3) (1024 + q.val) else 0 := by
  refine (v3_at (U1 m d) (c_at (U0 m d)) r q).trans ?_
  by_cases h : 3 ≤ r.val
  · rw [dif_pos h, if_pos h]; exact n1 m d _ _
  · rw [dif_neg h, if_neg h]
theorem n33 (r : Fin 8192) (q : Fin 1536) : ev S8192x1536 (U3 m d (Proc.devRef .tc main_v33)) (ix2 r q) = conv (argsR m d) r.val q.val := by
  refine (v33_at (U2 m d) _ _ _ rfl ((U2_keep m d main_arg1 (by decide)) |>.trans (U1_keep m d main_arg1 (by decide))) ((U2_keep m d main_arg2 (by decide)) |>.trans (U1_keep m d main_arg2 (by decide))) r q).trans ?_
  have e (k : Fin 4) : (U0 m d (Proc.devRef .tc main_arg1) : FVec Ideal S4x1536 .f32) (ix2 k q) = (argsR m d).cw k.val q.val := nat2_eq _ _ _
  have b : (U0 m d (Proc.devRef .tc main_arg2) : FVec Ideal S1536 .f32) (ix1 q) = (argsR m d).cb q.val := nat1_eq _ _
  have x (s : Fin 4) (h : 3 - s.val + r.val < 8195) : (U2 m d (Proc.devRef .tc main_v3) : FVec Ideal S8195x1536 .f32) (ix2 ⟨3 - s.val + r.val, h⟩ q) = xsh (argsR m d) s.val r.val q.val := by
    refine (n3 m d _ q).trans ?_
    dsimp only
    have := s.isLt
    rw [xsh]
    by_cases hs : r.val < s.val
    · rw [if_pos hs, if_neg (by omega)]
    · rw [if_neg hs, if_pos (by omega), show 3 - s.val + r.val - 3 = r.val - s.val by omega]
  rw [conv]
  refine congrArg₂ (· + ·) (congrArg₂ (· + ·) (congrArg₂ (· + ·) (congrArg₂ (· + ·) (congrArg₂ (· * ·) ?_ (e 0)) (congrArg₂ (· * ·) (x 2 (by simp; omega)) (e 1))) (congrArg₂ (· * ·) (x 1 (by simp; omega)) (e 2))) (congrArg₂ (· * ·) (x 0 (by simp; omega)) (e 3))) b
  refine Eq.trans ?_ (x 3 (by simp; omega))
  refine congrArg (U2 m d (Proc.devRef .tc main_v3) : FVec Ideal S8195x1536 .f32) (congrArg (ix2 · q) (Fin.ext ?_))
  show r.val = 3 - 3 + r.val
  omega
theorem n34 (r : Fin 8192) (q : Fin 1536) : ev S8192x1536 (U4 m d (Proc.devRef .tc main_v34)) (ix2 r q) = act (argsR m d) r.val q.val :=
  (v34_at (U3 m d) r q).trans (congrArg silu (n33 m d r q))
theorem n36 (c : Fin 32) (l : Fin 256) (g : Fin 2) (h : Fin 8) (p : Fin 64) : ev S32x256x2x8x64 (U5 m d (Proc.devRef .tc main_v36)) (ix5 c l g h p) = act (argsR m d) (256 * c.val + l.val) (512 * g.val + 64 * h.val + p.val) :=
  v36_at (U4 m d) _ (n34 m d) c l g h p
theorem n38 (c : Fin 32) (l : Fin 256) (g : Fin 2) (n : Fin 128) : ev S32x256x2x128 (U5 m d (Proc.devRef .tc main_v38)) (ix4 c l g n) = act (argsR m d) (256 * c.val + l.val) (1024 + 128 * g.val + n.val) :=
  v38_at (U4 m d) _ (n34 m d) c l g n
theorem n40 (c : Fin 32) (l : Fin 256) (g : Fin 2) (n : Fin 128) : ev S32x256x2x128 (U5 m d (Proc.devRef .tc main_v40)) (ix4 c l g n) = act (argsR m d) (256 * c.val + l.val) (1280 + 128 * g.val + n.val) :=
  v40_at (U4 m d) _ (n34 m d) c l g n
theorem n43 (r : Fin 8192) (h : Fin 16) : ev S8192x16 (U5 m d (Proc.devRef .tc main_v43)) (ix2 r h) = (argsR m d).pj r.val (5632 + h.val) + (argsR m d).db h.val := by
  refine (v43_at (U4 m d) r h).trans (congrArg₂ (· + ·) ?_ ?_)
  · exact (congrFun ((U4_keep m d main_v2 (by decide)) |>.trans (U3_keep m d main_v2 (by decide)) |>.trans (U2_keep m d main_v2 (by decide))) _).trans (n2 m d r h)
  · exact (congrFun ((U4_keep m d main_arg3 (by decide)) |>.trans (U3_keep m d main_arg3 (by decide)) |>.trans (U2_keep m d main_arg3 (by decide)) |>.trans (U1_keep m d main_arg3 (by decide))) _).trans (nat1_eq _ _)
theorem n44 (r : Fin 8192) (h : Fin 16) : ev S8192x16 (U6 m d (Proc.devRef .tc main_v44)) (ix2 r h) = dt (argsR m d) r.val h.val :=
  (v44_at (U5 m d) r h).trans (congrArg softplus (n43 m d r h))
theorem n45 (c : Fin 32) (l : Fin 256) (g : Fin 2) (h : Fin 8) : ev S32x256x2x8 (U7 m d (Proc.devRef .tc main_v45)) (ix4 c l g h) = dt (argsR m d) (256 * c.val + l.val) (8 * g.val + h.val) :=
  v45_at (U6 m d) _ (n44 m d) c l g h
theorem n52 (c : Fin 32) (l : Fin 256) (g : Fin 2) (h : Fin 8) : ev S32x2x8x256 (U7 m d (Proc.devRef .tc main_v52)) (ix4 c g h l) = dA (argsR m d) (256 * c.val + l.val) (8 * g.val + h.val) :=
  v52_at (U6 m d) _ (n44 m d) (argsR m d).al (fun h => (congrFun ((U6_keep m d main_arg4 (by decide)) |>.trans (U5_keep m d main_arg4 (by decide)) |>.trans (U4_keep m d main_arg4 (by decide)) |>.trans (U3_keep m d main_arg4 (by decide)) |>.trans (U2_keep m d main_arg4 (by decide)) |>.trans (U1_keep m d main_arg4 (by decide))) _).trans (nat1_eq _ _)) c l g h
theorem n53 (c : Fin 32) (g : Fin 2) (h : Fin 8) (l : Fin 256) : ev S32x2x8x256 (U8 m d (Proc.devRef .tc main_v53)) (ix4 c g h l) = acs (argsR m d) c.val l.val (8 * g.val + h.val) := by
  refine (v53_at (U7 m d) c g h l).trans (Finset.sum_congr rfl fun k _ => ?_)
  rw [n52 m d c k g h]
theorem n56 (c : Fin 32) (l : Fin 256) (g : Fin 2) (h : Fin 8) (p : Fin 64) : ev S32x256x2x8x64 (U9 m d (Proc.devRef .tc main_v56)) (ix5 c l g h p) = xdt (argsR m d) (256 * c.val + l.val) (512 * g.val + 64 * h.val + p.val) := by
  refine (v56_at (U8 m d) c l g h p).trans ?_
  rw [xdt, show (512 * g.val + 64 * h.val + p.val) / 64 = 8 * g.val + h.val by omega]
  refine congrArg₂ (· * ·) ?_ ?_
  · exact (congrFun ((U8_keep m d main_v36 (by decide)) |>.trans (U7_keep m d main_v36 (by decide)) |>.trans (U6_keep m d main_v36 (by decide))) _).trans (n36 m d c l g h p)
  · exact (congrFun ((U8_keep m d main_v45 (by decide))) _).trans (n45 m d c l g h)
theorem n58 (l s : Fin 256) : (U10 m d (Proc.devRef .tc main_v58) : IVec S256x256 1) (ix2 l s) = if s.val ≤ l.val then 1#1 else 0#1 :=
  v58_at (U9 m d) (v57_at (U8 m d)) l s
theorem n64 (c : Fin 32) (g : Fin 2) (h : Fin 8) (l s : Fin 256) : Ideal.exp (ev S32x2x8x256x256 (U12 m d (Proc.devRef .tc main_v64)) (ix5 c g h l s)) = dec (argsR m d) c.val l.val s.val (8 * g.val + h.val) := by
  rw [show ev S32x2x8x256x256 (U12 m d (Proc.devRef .tc main_v64)) (ix5 c g h l s) = _ from v64_at (U11 m d) (cst_at (U10 m d)) c g h l s]
  have e : (U11 m d (Proc.devRef .tc main_v58) : IVec S256x256 1) (ix2 l s) = if s.val ≤ l.val then 1#1 else 0#1 :=
    (congrFun ((U11_keep m d main_v58 (by decide))) _).trans (n58 m d l s)
  have k (x : Fin 256) : ev S32x2x8x256 (U10 m d (Proc.devRef .tc main_v53)) (ix4 c g h x) = acs (argsR m d) c.val x.val (8 * g.val + h.val) :=
    (congrFun ((U10_keep m d main_v53 (by decide)) |>.trans (U9_keep m d main_v53 (by decide))) _).trans (n53 m d c g h x)
  have v : ev S32x2x8x256x256 (U11 m d (Proc.devRef .tc main_v63)) (ix5 c g h l s) = acs (argsR m d) c.val l.val (8 * g.val + h.val) - acs (argsR m d) c.val s.val (8 * g.val + h.val) :=
    (v63_at (U10 m d) c g h l s).trans (congrArg₂ (· - ·) (k l) (k s))
  rw [e, v, dec]
  by_cases hs : s.val ≤ l.val
  · rw [if_pos hs, if_pos hs]; rfl
  · rw [if_neg hs, if_neg hs]; rfl
theorem n56' (c : Fin 32) (l : Fin 256) (g : Fin 2) (h : Fin 8) (p : Fin 64) : ev S32x256x2x8x64 (U12 m d (Proc.devRef .tc main_v56)) (ix5 c l g h p) = xdt (argsR m d) (256 * c.val + l.val) (512 * g.val + 64 * h.val + p.val) :=
  (congrFun ((U12_keep m d main_v56 (by decide)) |>.trans (U11_keep m d main_v56 (by decide)) |>.trans (U10_keep m d main_v56 (by decide))) _).trans (n56 m d c l g h p)
theorem n38' (c : Fin 32) (l : Fin 256) (g : Fin 2) (n : Fin 128) : ev S32x256x2x128 (U12 m d (Proc.devRef .tc main_v38)) (ix4 c l g n) = act (argsR m d) (256 * c.val + l.val) (1024 + 128 * g.val + n.val) :=
  (congrFun ((U12_keep m d main_v38 (by decide)) |>.trans (U11_keep m d main_v38 (by decide)) |>.trans (U10_keep m d main_v38 (by decide)) |>.trans (U9_keep m d main_v38 (by decide)) |>.trans (U8_keep m d main_v38 (by decide)) |>.trans (U7_keep m d main_v38 (by decide)) |>.trans (U6_keep m d main_v38 (by decide))) _).trans (n38 m d c l g n)
theorem n40' (c : Fin 32) (l : Fin 256) (g : Fin 2) (n : Fin 128) : ev S32x256x2x128 (U12 m d (Proc.devRef .tc main_v40)) (ix4 c l g n) = act (argsR m d) (256 * c.val + l.val) (1280 + 128 * g.val + n.val) :=
  (congrFun ((U12_keep m d main_v40 (by decide)) |>.trans (U11_keep m d main_v40 (by decide)) |>.trans (U10_keep m d main_v40 (by decide)) |>.trans (U9_keep m d main_v40 (by decide)) |>.trans (U8_keep m d main_v40 (by decide)) |>.trans (U7_keep m d main_v40 (by decide)) |>.trans (U6_keep m d main_v40 (by decide))) _).trans (n40 m d c l g n)
theorem n53' (c : Fin 32) (g : Fin 2) (h : Fin 8) (l : Fin 256) : ev S32x2x8x256 (U12 m d (Proc.devRef .tc main_v53)) (ix4 c g h l) = acs (argsR m d) c.val l.val (8 * g.val + h.val) :=
  (congrFun ((U12_keep m d main_v53 (by decide)) |>.trans (U11_keep m d main_v53 (by decide)) |>.trans (U10_keep m d main_v53 (by decide)) |>.trans (U9_keep m d main_v53 (by decide))) _).trans (n53 m d c g h l)
theorem n71 (c : Fin 32) (l : Fin 256) (g : Fin 2) (h : Fin 8) (p : Fin 64) : ev S32x256x2x8x64 (U13 m d (Proc.devRef .tc main_v71)) (ix5 c l g h p) = ydiag (argsR m d) c.val l.val (512 * g.val + 64 * h.val + p.val) := by
  refine (v71_at (U12 m d) c l g h p).trans (Finset.sum_congr rfl fun s _ => ?_)
  rw [n56' m d c s g h p, n64 m d c g h l s, show (512 * g.val + 64 * h.val + p.val) / 64 = 8 * g.val + h.val by omega,
    show (512 * g.val + 64 * h.val + p.val) / 512 = g.val by omega, mul_comm]
  refine congrArg (· * _) (congrArg (· * _) (Finset.sum_congr rfl fun n _ => ?_))
  rw [n40' m d c l g n, n38' m d c s g n]
theorem n86_0 (c : Fin 32) (g : Fin 2) (h : Fin 8) (p : Fin 64) (n : Fin 128) : ev S32x2x8x64x128 (U13 m d (Proc.devRef .tc main_v86_0)) (ix5 c g h p n) = cst (argsR m d) c.val n.val (512 * g.val + 64 * h.val + p.val) := by
  refine (v86_0_at (U12 m d) c g h p n).trans (Finset.sum_congr rfl fun l _ => ?_)
  rw [n56' m d c l g h p, n53' m d c g h l, n53' m d c g h 255, n38' m d c l g n, show (512 * g.val + 64 * h.val + p.val) / 64 = 8 * g.val + h.val by omega,
    show (512 * g.val + 64 * h.val + p.val) / 512 = g.val by omega, mul_comm]
  rfl
theorem n86_1 (c : Fin 32) (g : Fin 2) (h : Fin 8) : ev S32x2x8 (U13 m d (Proc.devRef .tc main_v86_1)) (ix3 c g h) = Ideal.exp (acs (argsR m d) c.val 255 (8 * g.val + h.val)) :=
  (v86_1_at (U12 m d) c g h).trans (congrArg Ideal.exp (n53' m d c g h 255))

/-- What no trip writes is as it was at the loop's entry. -/
theorem keepK (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k d (Proc.devRef .tc r) = U13 m d (Proc.devRef .tc r)
  | 0 => rfl
  | k + 1 => by
    rw [show atK m (k + 1) d = afterL bodyI (after condOps (atK m k d)) from rfl]
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc]
    exact keepK r hc h0 h1 h2 h3 h4 k

theorem ctrK (k : ℕ) : (atK m k d (Proc.devRef .tc main_v86_2) : IVec S_ 32) = fun _ => BitVec.ofNat 32 k := by
  refine (atK_ctr m d k).trans (funext fun _ => ?_)
  simp [Scf.iv]

theorem carry0 (k : ℕ) : atK m k d (Proc.devRef .tc main_v86_0) = U13 m d (Proc.devRef .tc main_v86_0) := by
  refine keepK m d main_v86_0 ?_ ?_ ?_ ?_ ?_ ?_ k <;> decide
theorem carry1 (k : ℕ) : atK m k d (Proc.devRef .tc main_v86_1) = U13 m d (Proc.devRef .tc main_v86_1) := by
  refine keepK m d main_v86_1 ?_ ?_ ?_ ?_ ?_ ?_ k <;> decide

/-- The state after `k` trips. -/
theorem stateK : ∀ k, k ≤ 32 → ∀ (g : Fin 2) (h : Fin 8) (p : Fin 64) (n : Fin 128),
    ev S2x8x64x128 (atK m k d (Proc.devRef .tc main_v86_3)) (ix4 g h p n) = st (argsR m d) k n.val (512 * g.val + 64 * h.val + p.val)
  | 0, _, g, h, p, n => v86_3_at (U12 m d) g h p n
  | k + 1, hk, g, h, p, n => by
    have e : atK m (k + 1) d (Proc.devRef .tc main_v86_3) = step_main_v86_3 (atK m k d) :=
      (trip_agree (atK m k d) main_v86_3 (by decide)).trans (STEP_main_v86_3 _)
    refine (congrFun e _).trans ((step_3_at (atK m k d) ⟨k, by omega⟩ (ctrK m d k) g h p n).trans ?_)
    rw [stateK k (by omega) g h p n, carry0, carry1, n86_0, n86_1, st, show (512 * g.val + 64 * h.val + p.val) / 64 = 8 * g.val + h.val by omega]

/-- The stacked states after `k` trips. -/
theorem stackK : ∀ k, k ≤ 32 → ∀ (c : Fin 32) (g : Fin 2) (h : Fin 8) (p : Fin 64) (n : Fin 128), c.val < k →
    ev S32x2x8x64x128 (atK m k d (Proc.devRef .tc main_v86_4)) (ix5 c g h p n) = st (argsR m d) c.val n.val (512 * g.val + 64 * h.val + p.val)
  | 0, _, c, g, h, p, n, hc => absurd hc (by omega)
  | k + 1, hk, c, g, h, p, n, hc => by
    have e : atK m (k + 1) d (Proc.devRef .tc main_v86_4) = step_main_v86_4 (atK m k d) :=
      (trip_agree (atK m k d) main_v86_4 (by decide)).trans (STEP_main_v86_4 _)
    refine (congrFun e _).trans ((step_4_at (atK m k d) ⟨k, by omega⟩ (ctrK m d k) c g h p n).trans ?_)
    by_cases hck : c.val = k
    · rw [if_pos hck, stateK m d k (by omega) g h p n, hck]
    · rw [if_neg hck]
      exact stackK k (by omega) c g h p n (by omega)

/-- The buffers after the loop. -/
def E : Valuation τ sig (Elt Ideal) := after condOps (atK m 32 d)
theorem E_keep (r : Ref sig .tc) (hc : r ∉ condOps_W) : E m d (Proc.devRef .tc r) = atK m 32 d (Proc.devRef .tc r) :=
  after_of_writes_sub _ _ condOps_writes hc

theorem e71 : E m d (Proc.devRef .tc main_v71) = U13 m d (Proc.devRef .tc main_v71) := (E_keep m d main_v71 (by decide)).trans (keepK m d main_v71 (by decide) (by decide) (by decide) (by decide) (by decide) (by decide) 32)
theorem e40 : E m d (Proc.devRef .tc main_v40) = U5 m d (Proc.devRef .tc main_v40) := (E_keep m d main_v40 (by decide)).trans (keepK m d main_v40 (by decide) (by decide) (by decide) (by decide) (by decide) (by decide) 32) |>.trans ((U13_keep m d main_v40 (by decide)) |>.trans (U12_keep m d main_v40 (by decide)) |>.trans (U11_keep m d main_v40 (by decide)) |>.trans (U10_keep m d main_v40 (by decide)) |>.trans (U9_keep m d main_v40 (by decide)) |>.trans (U8_keep m d main_v40 (by decide)) |>.trans (U7_keep m d main_v40 (by decide)) |>.trans (U6_keep m d main_v40 (by decide)))
theorem e53 : E m d (Proc.devRef .tc main_v53) = U8 m d (Proc.devRef .tc main_v53) := (E_keep m d main_v53 (by decide)).trans (keepK m d main_v53 (by decide) (by decide) (by decide) (by decide) (by decide) (by decide) 32) |>.trans ((U13_keep m d main_v53 (by decide)) |>.trans (U12_keep m d main_v53 (by decide)) |>.trans (U11_keep m d main_v53 (by decide)) |>.trans (U10_keep m d main_v53 (by decide)) |>.trans (U9_keep m d main_v53 (by decide)))
theorem e36 : E m d (Proc.devRef .tc main_v36) = U5 m d (Proc.devRef .tc main_v36) := (E_keep m d main_v36 (by decide)).trans (keepK m d main_v36 (by decide) (by decide) (by decide) (by decide) (by decide) (by decide) 32) |>.trans ((U13_keep m d main_v36 (by decide)) |>.trans (U12_keep m d main_v36 (by decide)) |>.trans (U11_keep m d main_v36 (by decide)) |>.trans (U10_keep m d main_v36 (by decide)) |>.trans (U9_keep m d main_v36 (by decide)) |>.trans (U8_keep m d main_v36 (by decide)) |>.trans (U7_keep m d main_v36 (by decide)) |>.trans (U6_keep m d main_v36 (by decide)))
theorem e0 : E m d (Proc.devRef .tc main_v0) = U1 m d (Proc.devRef .tc main_v0) := (E_keep m d main_v0 (by decide)).trans (keepK m d main_v0 (by decide) (by decide) (by decide) (by decide) (by decide) (by decide) 32) |>.trans ((U13_keep m d main_v0 (by decide)) |>.trans (U12_keep m d main_v0 (by decide)) |>.trans (U11_keep m d main_v0 (by decide)) |>.trans (U10_keep m d main_v0 (by decide)) |>.trans (U9_keep m d main_v0 (by decide)) |>.trans (U8_keep m d main_v0 (by decide)) |>.trans (U7_keep m d main_v0 (by decide)) |>.trans (U6_keep m d main_v0 (by decide)) |>.trans (U5_keep m d main_v0 (by decide)) |>.trans (U4_keep m d main_v0 (by decide)) |>.trans (U3_keep m d main_v0 (by decide)) |>.trans (U2_keep m d main_v0 (by decide)))
theorem e5 : E m d (Proc.devRef .tc main_arg5) = U0 m d (Proc.devRef .tc main_arg5) := (E_keep m d main_arg5 (by decide)).trans (keepK m d main_arg5 (by decide) (by decide) (by decide) (by decide) (by decide) (by decide) 32) |>.trans ((U13_keep m d main_arg5 (by decide)) |>.trans (U12_keep m d main_arg5 (by decide)) |>.trans (U11_keep m d main_arg5 (by decide)) |>.trans (U10_keep m d main_arg5 (by decide)) |>.trans (U9_keep m d main_arg5 (by decide)) |>.trans (U8_keep m d main_arg5 (by decide)) |>.trans (U7_keep m d main_arg5 (by decide)) |>.trans (U6_keep m d main_arg5 (by decide)) |>.trans (U5_keep m d main_arg5 (by decide)) |>.trans (U4_keep m d main_arg5 (by decide)) |>.trans (U3_keep m d main_arg5 (by decide)) |>.trans (U2_keep m d main_arg5 (by decide)) |>.trans (U1_keep m d main_arg5 (by decide)))
theorem e6 : E m d (Proc.devRef .tc main_arg6) = U0 m d (Proc.devRef .tc main_arg6) := (E_keep m d main_arg6 (by decide)).trans (keepK m d main_arg6 (by decide) (by decide) (by decide) (by decide) (by decide) (by decide) 32) |>.trans ((U13_keep m d main_arg6 (by decide)) |>.trans (U12_keep m d main_arg6 (by decide)) |>.trans (U11_keep m d main_arg6 (by decide)) |>.trans (U10_keep m d main_arg6 (by decide)) |>.trans (U9_keep m d main_arg6 (by decide)) |>.trans (U8_keep m d main_arg6 (by decide)) |>.trans (U7_keep m d main_arg6 (by decide)) |>.trans (U6_keep m d main_arg6 (by decide)) |>.trans (U5_keep m d main_arg6 (by decide)) |>.trans (U4_keep m d main_arg6 (by decide)) |>.trans (U3_keep m d main_arg6 (by decide)) |>.trans (U2_keep m d main_arg6 (by decide)) |>.trans (U1_keep m d main_arg6 (by decide)))
/-- The buffers after the two stretches before the last. -/
def E1 : Valuation τ sig (Elt Ideal) := after hostOps0_13 (E m d)
def E2 : Valuation τ sig (Elt Ideal) := after hostOps0_14 (E1 m d)
/-- What the two stretches write. -/
abbrev hostOps0_13_W : List (Ref sig .tc) := [main_v87, main_v88, main_v89, main_v90, main_v91, main_v92, main_v93, main_v94, main_v95, main_v96, main_v97, main_v98, main_v99, main_v100, main_v101]
abbrev hostOps0_14_W : List (Ref sig .tc) := [main_call9_v0, main_call9_v1, main_call9_cst, main_call9_v2, main_call9_v3, main_call9_cst_0, main_call9_v4, main_call9_v5, main_v102]
theorem E1_keep (r : Ref sig .tc) (h : r ∉ hostOps0_13_W) : E1 m d (Proc.devRef .tc r) = E m d (Proc.devRef .tc r) :=
  after_unwritten hostOps0_13_W rfl h _
theorem E2_keep (r : Ref sig .tc) (h : r ∉ hostOps0_14_W) : E2 m d (Proc.devRef .tc r) = E1 m d (Proc.devRef .tc r) :=
  after_unwritten hostOps0_14_W rfl h _

/-- The reference's result. -/
theorem ref_at (r : Fin 8192) (q : Fin 1024) :
    (finalContents condOps preI bodyI postI 32 m d (Proc.devRef .tc main_v119) : FVec Ideal S8192x1024 .bf16) (ix2 r q)
    = out (argsR m d) (r.val / 256) (r.val % 256) q.val := by
  refine v119_at (E2 m d) (argsR m d)
    (fun r q => ydiag (argsR m d) (r / 256) (r % 256) q + yoff (argsR m d) (r / 256) (r % 256) q + act (argsR m d) (256 * (r / 256) + r % 256) q * (argsR m d).ds (q / 64))
    (fun r q => silu ((argsR m d).pj r q)) ?_ ?_ ?_ ?_ r q
  · intro r q
    refine (congrFun (E2_keep m d main_v101 (by decide)) _).trans ?_
    refine v101_at (E m d) (argsR m d) ?_ ?_ ?_ ?_ ?_ ?_ r q
    · intro c l g h p
      exact (congrFun (e71 m d) _).trans (n71 m d c l g h p)
    · intro c g h p n
      exact (congrFun (E_keep m d main_v86_4 (by decide)) _).trans (stackK m d 32 le_rfl c g h p n c.isLt)
    · intro c l g n
      exact (congrFun (e40 m d) _).trans (n40 m d c l g n)
    · intro c g h l
      exact (congrFun (e53 m d) _).trans (n53 m d c g h l)
    · intro c l g h p
      exact (congrFun (e36 m d) _).trans (n36 m d c l g h p)
    · intro h
      exact (congrFun (e5 m d) _).trans (nat1_eq _ _)
  · intro r q
    refine (v102_at (E1 m d) r q).trans (congrArg silu ?_)
    exact (congrFun ((E1_keep m d main_v0 (by decide)).trans (e0 m d)) _).trans (n0 m d r q)
  · intro q
    exact (congrFun ((E2_keep m d main_arg6 (by decide)).trans ((E1_keep m d main_arg6 (by decide)).trans (e6 m d))) _).trans (nat1_eq _ _)
  · intro r q hr hq
    rw [yv, show 256 * (r / 256) + r % 256 = r by omega]
end Cert.ReferenceIdeal.Read
-- ==== Proof.RefQuiet.lean ====
module
public import proofs.«01_k».proof.Proof.RefOut
public import Idealize.ShloMosaic.Lib.Quiescent
@[expose] public section
set_option maxRecDepth 16384
noncomputable section
/-! The reference's run: its result, its arguments unchanged, and every counter at zero. -/
namespace Cert.ReferenceIdeal.Read
open Idealize.ShloMosaic Idealize.ShloMosaic.TcCoe Idealize.SL.Sem Idealize.ShloMosaic.StableHlo
open Cert.ReferenceIdeal Cert.ReferenceIdeal.Gen Cert.ReferenceIdeal.Value Cert.Ssd
variable (m : (ℓ : Loc nD τ sig) → Buf (Elt Ideal) ℓ) (d : Dev nD)
/-- What the last stretch writes. -/
abbrev hostOps0_15_W : List (Ref sig .tc) := [main_v103, main_v104, main_v105, main_cst_4, main_v106, main_v107, main_cst_5, main_v108, main_v109, main_cst_6, main_v110, main_v111, main_v112, main_v113, main_v114, main_v115, main_v116, main_v117, main_v118, main_v119]
theorem E3_keep (r : Ref sig .tc) (h : r ∉ hostOps0_15_W) (h' : r ∉ hostOps0_14_W) (h'' : r ∉ hostOps0_13_W) :
    finalContents condOps preI bodyI postI 32 m d (Proc.devRef .tc r) = E m d (Proc.devRef .tc r) :=
  (after_unwritten hostOps0_15_W rfl h (E2 m d)).trans ((E2_keep m d r h').trans (E1_keep m d r h''))
theorem arg0_kept : finalContents condOps preI bodyI postI 32 m d (Proc.devRef .tc main_arg0) = m ((d.tc : Thread nD τ).loc main_arg0) :=
  (E3_keep m d main_arg0 (by decide) (by decide) (by decide)).trans ((E_keep m d main_arg0 (by decide)).trans ((keepK m d main_arg0 (by decide) (by decide) (by decide) (by decide) (by decide) (by decide) 32).trans
    ((U13_keep m d main_arg0 (by decide)) |>.trans (U12_keep m d main_arg0 (by decide)) |>.trans (U11_keep m d main_arg0 (by decide)) |>.trans (U10_keep m d main_arg0 (by decide)) |>.trans (U9_keep m d main_arg0 (by decide)) |>.trans (U8_keep m d main_arg0 (by decide)) |>.trans (U7_keep m d main_arg0 (by decide)) |>.trans (U6_keep m d main_arg0 (by decide)) |>.trans (U5_keep m d main_arg0 (by decide)) |>.trans (U4_keep m d main_arg0 (by decide)) |>.trans (U3_keep m d main_arg0 (by decide)) |>.trans (U2_keep m d main_arg0 (by decide)) |>.trans (U1_keep m d main_arg0 (by decide)))))
theorem arg1_kept : finalContents condOps preI bodyI postI 32 m d (Proc.devRef .tc main_arg1) = m ((d.tc : Thread nD τ).loc main_arg1) :=
  (E3_keep m d main_arg1 (by decide) (by decide) (by decide)).trans ((E_keep m d main_arg1 (by decide)).trans ((keepK m d main_arg1 (by decide) (by decide) (by decide) (by decide) (by decide) (by decide) 32).trans
    ((U13_keep m d main_arg1 (by decide)) |>.trans (U12_keep m d main_arg1 (by decide)) |>.trans (U11_keep m d main_arg1 (by decide)) |>.trans (U10_keep m d main_arg1 (by decide)) |>.trans (U9_keep m d main_arg1 (by decide)) |>.trans (U8_keep m d main_arg1 (by decide)) |>.trans (U7_keep m d main_arg1 (by decide)) |>.trans (U6_keep m d main_arg1 (by decide)) |>.trans (U5_keep m d main_arg1 (by decide)) |>.trans (U4_keep m d main_arg1 (by decide)) |>.trans (U3_keep m d main_arg1 (by decide)) |>.trans (U2_keep m d main_arg1 (by decide)) |>.trans (U1_keep m d main_arg1 (by decide)))))
theorem arg2_kept : finalContents condOps preI bodyI postI 32 m d (Proc.devRef .tc main_arg2) = m ((d.tc : Thread nD τ).loc main_arg2) :=
  (E3_keep m d main_arg2 (by decide) (by decide) (by decide)).trans ((E_keep m d main_arg2 (by decide)).trans ((keepK m d main_arg2 (by decide) (by decide) (by decide) (by decide) (by decide) (by decide) 32).trans
    ((U13_keep m d main_arg2 (by decide)) |>.trans (U12_keep m d main_arg2 (by decide)) |>.trans (U11_keep m d main_arg2 (by decide)) |>.trans (U10_keep m d main_arg2 (by decide)) |>.trans (U9_keep m d main_arg2 (by decide)) |>.trans (U8_keep m d main_arg2 (by decide)) |>.trans (U7_keep m d main_arg2 (by decide)) |>.trans (U6_keep m d main_arg2 (by decide)) |>.trans (U5_keep m d main_arg2 (by decide)) |>.trans (U4_keep m d main_arg2 (by decide)) |>.trans (U3_keep m d main_arg2 (by decide)) |>.trans (U2_keep m d main_arg2 (by decide)) |>.trans (U1_keep m d main_arg2 (by decide)))))
theorem arg3_kept : finalContents condOps preI bodyI postI 32 m d (Proc.devRef .tc main_arg3) = m ((d.tc : Thread nD τ).loc main_arg3) :=
  (E3_keep m d main_arg3 (by decide) (by decide) (by decide)).trans ((E_keep m d main_arg3 (by decide)).trans ((keepK m d main_arg3 (by decide) (by decide) (by decide) (by decide) (by decide) (by decide) 32).trans
    ((U13_keep m d main_arg3 (by decide)) |>.trans (U12_keep m d main_arg3 (by decide)) |>.trans (U11_keep m d main_arg3 (by decide)) |>.trans (U10_keep m d main_arg3 (by decide)) |>.trans (U9_keep m d main_arg3 (by decide)) |>.trans (U8_keep m d main_arg3 (by decide)) |>.trans (U7_keep m d main_arg3 (by decide)) |>.trans (U6_keep m d main_arg3 (by decide)) |>.trans (U5_keep m d main_arg3 (by decide)) |>.trans (U4_keep m d main_arg3 (by decide)) |>.trans (U3_keep m d main_arg3 (by decide)) |>.trans (U2_keep m d main_arg3 (by decide)) |>.trans (U1_keep m d main_arg3 (by decide)))))
theorem arg4_kept : finalContents condOps preI bodyI postI 32 m d (Proc.devRef .tc main_arg4) = m ((d.tc : Thread nD τ).loc main_arg4) :=
  (E3_keep m d main_arg4 (by decide) (by decide) (by decide)).trans ((E_keep m d main_arg4 (by decide)).trans ((keepK m d main_arg4 (by decide) (by decide) (by decide) (by decide) (by decide) (by decide) 32).trans
    ((U13_keep m d main_arg4 (by decide)) |>.trans (U12_keep m d main_arg4 (by decide)) |>.trans (U11_keep m d main_arg4 (by decide)) |>.trans (U10_keep m d main_arg4 (by decide)) |>.trans (U9_keep m d main_arg4 (by decide)) |>.trans (U8_keep m d main_arg4 (by decide)) |>.trans (U7_keep m d main_arg4 (by decide)) |>.trans (U6_keep m d main_arg4 (by decide)) |>.trans (U5_keep m d main_arg4 (by decide)) |>.trans (U4_keep m d main_arg4 (by decide)) |>.trans (U3_keep m d main_arg4 (by decide)) |>.trans (U2_keep m d main_arg4 (by decide)) |>.trans (U1_keep m d main_arg4 (by decide)))))
theorem arg5_kept : finalContents condOps preI bodyI postI 32 m d (Proc.devRef .tc main_arg5) = m ((d.tc : Thread nD τ).loc main_arg5) :=
  (E3_keep m d main_arg5 (by decide) (by decide) (by decide)).trans ((E_keep m d main_arg5 (by decide)).trans ((keepK m d main_arg5 (by decide) (by decide) (by decide) (by decide) (by decide) (by decide) 32).trans
    ((U13_keep m d main_arg5 (by decide)) |>.trans (U12_keep m d main_arg5 (by decide)) |>.trans (U11_keep m d main_arg5 (by decide)) |>.trans (U10_keep m d main_arg5 (by decide)) |>.trans (U9_keep m d main_arg5 (by decide)) |>.trans (U8_keep m d main_arg5 (by decide)) |>.trans (U7_keep m d main_arg5 (by decide)) |>.trans (U6_keep m d main_arg5 (by decide)) |>.trans (U5_keep m d main_arg5 (by decide)) |>.trans (U4_keep m d main_arg5 (by decide)) |>.trans (U3_keep m d main_arg5 (by decide)) |>.trans (U2_keep m d main_arg5 (by decide)) |>.trans (U1_keep m d main_arg5 (by decide)))))
theorem arg6_kept : finalContents condOps preI bodyI postI 32 m d (Proc.devRef .tc main_arg6) = m ((d.tc : Thread nD τ).loc main_arg6) :=
  (E3_keep m d main_arg6 (by decide) (by decide) (by decide)).trans ((E_keep m d main_arg6 (by decide)).trans ((keepK m d main_arg6 (by decide) (by decide) (by decide) (by decide) (by decide) (by decide) 32).trans
    ((U13_keep m d main_arg6 (by decide)) |>.trans (U12_keep m d main_arg6 (by decide)) |>.trans (U11_keep m d main_arg6 (by decide)) |>.trans (U10_keep m d main_arg6 (by decide)) |>.trans (U9_keep m d main_arg6 (by decide)) |>.trans (U8_keep m d main_arg6 (by decide)) |>.trans (U7_keep m d main_arg6 (by decide)) |>.trans (U6_keep m d main_arg6 (by decide)) |>.trans (U5_keep m d main_arg6 (by decide)) |>.trans (U4_keep m d main_arg6 (by decide)) |>.trans (U3_keep m d main_arg6 (by decide)) |>.trans (U2_keep m d main_arg6 (by decide)) |>.trans (U1_keep m d main_arg6 (by decide)))))

/-- The arguments end unchanged and every counter ends at zero. -/
theorem frame (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h c main_arg0 rfl).trans (arg0_kept m c), (h c main_arg1 rfl).trans (arg1_kept m c), (h c main_arg2 rfl).trans (arg2_kept m c), (h c main_arg3 rfl).trans (arg3_kept m c), (h c main_arg4 rfl).trans (arg4_kept m c), (h c main_arg5 rfl).trans (arg5_kept m c), (h c main_arg6 rfl).trans (arg6_kept m c)⟩, sem_eq_zero_of_no_sems rfl r.2⟩) (run_fold m ρ)

/-- The result, and the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v119) = finalContents condOps preI bodyI postI 32 m c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => fun c => ⟨h c main_v119 rfl, (h c main_arg0 rfl).trans (arg0_kept m c), (h c main_arg1 rfl).trans (arg1_kept m c), (h c main_arg2 rfl).trans (arg2_kept m c), (h c main_arg3 rfl).trans (arg3_kept m c), (h c main_arg4 rfl).trans (arg4_kept m c), (h c main_arg5 rfl).trans (arg5_kept m c), (h c main_arg6 rfl).trans (arg6_kept m c)⟩) (run_fold m ρ)
end Cert.ReferenceIdeal.Read
-- ==== Proof.Near.lean ====
module
public import proofs.«01_k».proof.Proof.Spec
@[expose] public section
noncomputable section
/-! The layer's output does not depend on how an infinite step size reaches the product with the input: an infinite value of
    either sign makes its row of the norm zero. -/
namespace Cert.Ssd
open Idealize.ShloMosaic

/-- Infinite, of either sign. -/
def Inf (x : EReal) : Prop := x = ⊤ ∨ x = ⊥
/-- Equal, or both infinite. -/
def Near (x y : EReal) : Prop := x = y ∨ Inf x ∧ Inf y

theorem Near.refl (x : EReal) : Near x x := Or.inl rfl

theorem Inf.add_left {x : EReal} (y : EReal) (hx : Inf x) : Inf (x + y) := by
  rcases hx with rfl | rfl
  · induction y using EReal.rec with
    | bot => exact Or.inr (by simp)
    | coe a => exact Or.inl (by simp)
    | top => exact Or.inl (by simp)
  · exact Or.inr (by simp)
theorem Inf.add_right {x : EReal} (y : EReal) (hx : Inf x) : Inf (y + x) := add_comm x y ▸ hx.add_left y

theorem Inf.mul_left {x y : EReal} (hy : y ≠ 0) (hx : Inf x) : Inf (x * y) := by
  rcases lt_or_gt_of_ne hy with h | h
  · rcases hx with rfl | rfl
    · exact Or.inr (EReal.top_mul_of_neg h)
    · exact Or.inl (EReal.bot_mul_of_neg h)
  · rcases hx with rfl | rfl
    · exact Or.inl (EReal.top_mul_of_pos h)
    · exact Or.inr (EReal.bot_mul_of_pos h)
theorem Inf.ne_zero {x : EReal} (hx : Inf x) : x ≠ 0 := by
  rcases hx with rfl | rfl <;> simp
theorem Inf.mul_self {x : EReal} (hx : Inf x) : x * x = ⊤ := by
  rcases hx with rfl | rfl <;> simp

theorem Near.add {x y a b : EReal} (h : Near x y) (k : Near a b) : Near (x + a) (y + b) := by
  rcases h with rfl | ⟨h, h'⟩
  · rcases k with rfl | ⟨k, k'⟩
    · exact Near.refl _
    · exact Or.inr ⟨k.add_right _, k'.add_right _⟩
  · exact Or.inr ⟨h.add_left _, h'.add_left _⟩

theorem Near.mul {x y : EReal} (a : EReal) (h : Near x y) : Near (x * a) (y * a) := by
  rcases h with rfl | ⟨h, h'⟩
  · exact Near.refl _
  · by_cases ha : a = 0
    · rw [ha, mul_zero, mul_zero]; exact Near.refl _
    · exact Or.inr ⟨h.mul_left ha, h'.mul_left ha⟩
theorem Near.mul' {x y : EReal} (a : EReal) (h : Near x y) : Near (a * x) (a * y) := by
  rw [mul_comm a x, mul_comm a y]; exact h.mul a

theorem Near.sum {n : ℕ} {f g : Fin n → EReal} (h : ∀ k, Near (f k) (g k)) : Near (∑ k, f k) (∑ k, g k) := by
  classical
  induction (Finset.univ : Finset (Fin n)) using Finset.induction_on with
  | empty => exact Near.refl _
  | insert a s ha ih => rw [Finset.sum_insert ha, Finset.sum_insert ha]; exact (h a).add ih

theorem Near.sq {x y : EReal} (h : Near x y) : x * x = y * y := by
  rcases h with rfl | ⟨h, h'⟩
  · rfl
  · rw [h.mul_self, h'.mul_self]

variable (A : Args)

theorem near_parts (x : EReal) : Near (parts x) x := by
  by_cases hx : x = ⊤
  · refine Or.inr ⟨?_, Or.inl hx⟩
    rw [hx]; exact Or.inr (by simp [parts])
  · exact Or.inl (parts_eq hx)

variable (hA : A.sp = id)
include hA

theorem near_xdt (r q : ℕ) : Near (xdt A.split r q) (xdt A r q) := by
  have e : xdt A r q = act A r q * dt A r (q / 64) := by rw [xdt, hA]; rfl
  rw [e]
  exact (near_parts _).mul' _
theorem near_ydiag (c l q : ℕ) : Near (ydiag A.split c l q) (ydiag A c l q) :=
  Near.sum fun s => (near_xdt A hA _ _).mul' _
theorem near_cst (c n q : ℕ) : Near (cst A.split c n q) (cst A c n q) :=
  Near.sum fun l => ((near_xdt A hA _ _).mul _).mul' _
theorem near_st : ∀ c n q : ℕ, Near (st A.split c n q) (st A c n q)
  | 0, _, _ => Near.refl _
  | c + 1, n, q => ((near_st c n q).mul _).add (near_cst A hA c n q)
theorem near_yoff (c l q : ℕ) : Near (yoff A.split c l q) (yoff A c l q) :=
  (Near.sum fun n => (near_st A hA c n.val q).mul' _).mul _
theorem near_yv (c l q : ℕ) : Near (yv A.split c l q) (yv A c l q) :=
  (((near_ydiag A hA c l q).add (near_yoff A hA c l q)).add (Near.refl _)).mul _

theorem rms_split (c l g : ℕ) : rms A.split c l g = rms A c l g := by
  rw [rms, rms]
  refine congrArg (fun x => Ideal.rsqrt (Ideal.div x _ + _)) (Finset.sum_congr rfl fun p _ => (near_yv A hA c l _).sq)

omit hA in
/-- An infinite value makes the group's reciprocal root zero. -/
theorem rms_zero (c l q : ℕ) (h : Inf (yv A c l q)) : rms A c l (q / 512) = 0 := by
  have hs : ∑ p : Fin 512, yv A c l (512 * (q / 512) + p.val) * yv A c l (512 * (q / 512) + p.val) = ⊤ := by
    refine top_le_iff.1 (le_trans (top_le_iff.2 ?_) (Finset.single_le_sum (f := fun p : Fin 512 => yv A c l (512 * (q / 512) + p.val) * yv A c l (512 * (q / 512) + p.val))
      (fun p _ => ?_) (Finset.mem_univ (⟨q % 512, Nat.mod_lt _ (by decide)⟩ : Fin 512))))
    · show yv A c l (512 * (q / 512) + q % 512) * yv A c l (512 * (q / 512) + q % 512) = ⊤
      rw [Nat.div_add_mod]; exact h.mul_self
    · rcases le_total 0 (yv A c l (512 * (q / 512) + p.val)) with k | k
      · exact mul_nonneg k k
      · rw [← neg_mul_neg]
        exact mul_nonneg (EReal.neg_nonneg.2 k) (EReal.neg_nonneg.2 k)
  have h1 : Ideal.ofBits .f32 1140850688#32 = ((512 : ℝ) : EReal) := by
    simp [Ideal.ofBits, Ideal.ieee]; norm_num
    rw [← EReal.coe_mul]; norm_num
  have h2 : ∃ r : ℝ, Ideal.ofBits .f32 897988541#32 = (r : EReal) := by
    simp only [Ideal.ofBits, Ideal.ieee]
    norm_num
    exact ⟨_, rfl⟩
  obtain ⟨r, h2⟩ := h2
  rw [rms, hs, h1, h2, Ideal.div_coe (by norm_num), EReal.top_mul_coe_of_pos (by norm_num), EReal.top_add_coe, Ideal.rsqrt_top]

/-- The output is the same either way. -/
theorem out_split (c l q : ℕ) : out A.split c l q = out A c l q := by
  rw [out, out, rms_split A hA]
  rcases near_yv A hA c l q with h | ⟨_, h⟩
  · rw [h]
  · rw [rms_zero A c l q h, mul_zero, mul_zero]
end Cert.Ssd
-- ==== Proof.InProj.lean ====
/- The input projection: what its kernel and its reference leave, as one sum over the model's features. -/
module
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent
@[expose] public section
set_option maxRecDepth 16384
noncomputable section
namespace Cert.InProj
open Idealize.ShloMosaic Idealize.ShloMosaic.TcCoe Idealize.SL.Sem

/-- Row `r` of the rows, times row `q` of the weights. -/
def prod (h : (⟨2, ![8192, 2048]⟩ : Shape).Idx → EReal) (w : (⟨2, ![5760, 2048]⟩ : Shape).Idx → EReal) (r : Fin 8192) (q : Fin 5760) : EReal :=
  ∑ k : Fin 2048, h (ix2 r k) * w (ix2 q k)

end Cert.InProj

namespace Cert.Kernel2Ideal.Read
open Idealize.ShloMosaic Idealize.ShloMosaic.TcCoe Idealize.SL.Sem
open Cert.Kernel2Ideal Cert.Kernel2Ideal.Gen Cert.Kernel2Ideal.Value Cert.InProj

theorem pay1_at (x : FVec Ideal S1024x2048 .bf16) (w : FVec Ideal S1920x2048 .bf16) (l : Fin 1024) (q : Fin 1920) :
    k0_pay1 (F := Ideal) x w (ix2 l q) = ∑ k : Fin 2048, x (ix2 l k) * w (ix2 q k) := by
  pointwise [k0_pay1]
theorem pay2_at (x : FVec Ideal S1024x2048 .bf16) (w : FVec Ideal S1920x2048 .bf16) (l : Fin 1024) (q : Fin 1920) :
    k0_pay2 (F := Ideal) x w (ix2 l q) = ∑ k : Fin 2048, x (ix2 l k) * w (ix2 q k) := by
  pointwise [k0_pay2, k0_pay1]

/-- The block indices of the four windows. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8] ∧ t.val < 24 :=
  (by decide +kernel : ∀ t : Fin grid0.N, _)

theorem flush_all2 : ∀ t : Fin cfg0.N, (cfg0.win 2).flush t = true := (by decide +kernel : ∀ t : Fin grid0.N, win0_2.flush t = true)
theorem flush_all3 : ∀ t : Fin cfg0.N, (cfg0.win 3).flush t = true := (by decide +kernel : ∀ t : Fin grid0.N, win0_3.flush t = true)

variable (m : (ℓ : Loc nD τ sig) → Buf (Elt Ideal) ℓ) (c : Dev nD)

/-- The arrays of the two results. -/
def R2 : Buf (Elt Ideal) ((c : Thread nD τ).loc main_v0_0) := fun i =>
  prod (m ((c : Thread nD τ).loc main_arg0)) (m ((c : Thread nD τ).loc main_arg1)) (i 0) (i 1)
def R3 : Buf (Elt Ideal) ((c : Thread nD τ).loc main_v0_1) := fun i =>
  prod (m ((c : Thread nD τ).loc main_arg0)) (m ((c : Thread nD τ).loc main_arg1)) (i 0) (i 1)

theorem x0 (t : Fin cfg0.N) (l : Fin 1024) (k : Fin 2048) (r : Fin 8192) (hr : r.val = 1024 * (t.val % 8) + l.val) :
    (iblk m c 0 t : FVec Ideal S1024x2048 .bf16) (ix2 l k) = (m ((c : Thread nD τ).loc main_arg0) : FVec Ideal S8192x2048 .bf16) (ix2 r k) := by
  blk_ext [iblk, V, idx t]
theorem x1 (t : Fin cfg0.N) (l : Fin 1920) (k : Fin 2048) (r : Fin 5760) (hr : r.val = 1920 * (t.val / 8) + l.val) :
    (iblk m c 1 t : FVec Ideal S1920x2048 .bf16) (ix2 l k) = (m ((c : Thread nD τ).loc main_arg1) : FVec Ideal S5760x2048 .bf16) (ix2 r k) := by
  blk_ext [iblk, V, idx t]

theorem out2_at (x : FVec Ideal S1024x2048 .bf16) (w : FVec Ideal S1920x2048 .bf16) (l : Fin 1024) (q : Fin 1920) :
    out0_2 (F := Ideal) x w (ix2 l q) = ∑ k : Fin 2048, x (ix2 l k) * w (ix2 q k) := by
  unfold out0_2
  frame_out
  exact pay1_at x w l q
theorem out3_at (x : FVec Ideal S1024x2048 .bf16) (w : FVec Ideal S1920x2048 .bf16) (l : Fin 1024) (q : Fin 1920) :
    out0_3 (F := Ideal) x w (ix2 l q) = ∑ k : Fin 2048, x (ix2 l k) * w (ix2 q k) := by
  unfold out0_3
  frame_out
  exact pay2_at x w l q

theorem point2 (t : Fin cfg0.N) : (dats m 0 c).flushed 2 t = ((cfg0.win 2).blk t).view.read (Elt Ideal) (R2 m c) := by
  rw [flushed2]
  obtain ⟨-, -, e, -, ht⟩ := idx t
  funext y
  have hb0 : (((cfg0.win 2).blk t).view.emb y 0).val = win0_2.index t (0 : Fin 2) * 1024 + 1 * (y 0).val := rfl
  have hb1 : (((cfg0.win 2).blk t).view.emb y 1).val = win0_2.index t (1 : Fin 2) * 1920 + 1 * (y 1).val := rfl
  rw [e] at hb0 hb1
  have e0 : (((cfg0.win 2).blk t).view.emb y 0).val = t.val % 8 * 1024 + 1 * (y 0).val := hb0
  have e1 : (((cfg0.win 2).blk t).view.emb y 1).val = t.val / 8 * 1920 + 1 * (y 1).val := hb1
  have hy : (cfg0.win 2).xinj (grid0.coords t) y = (ix2 (y 0) (y 1) : S1024x1920.Idx) := by
    funext a; fin_cases a <;> rfl
  refine (congrArg (out0_2 (F := Ideal) (iblk m c 0 t) (iblk m c 1 t)) hy).trans ?_
  refine (out2_at (iblk m c 0 t) (iblk m c 1 t) (y 0) (y 1)).trans ?_
  refine Eq.trans ?_ (show prod (m ((c : Thread nD τ).loc main_arg0)) (m ((c : Thread nD τ).loc main_arg1))
    (((cfg0.win 2).blk t).view.emb y 0) (((cfg0.win 2).blk t).view.emb y 1) = _ from rfl)
  unfold prod
  refine Finset.sum_congr rfl fun k _ => ?_
  rw [x0 m c t (y 0) k (((cfg0.win 2).blk t).view.emb y 0) (by omega), x1 m c t (y 1) k (((cfg0.win 2).blk t).view.emb y 1) (by omega)]
theorem point3 (t : Fin cfg0.N) : (dats m 0 c).flushed 3 t = ((cfg0.win 3).blk t).view.read (Elt Ideal) (R3 m c) := by
  rw [flushed3]
  obtain ⟨-, -, -, e, ht⟩ := idx t
  funext y
  have hb0 : (((cfg0.win 3).blk t).view.emb y 0).val = win0_3.index t (0 : Fin 2) * 1024 + 1 * (y 0).val := rfl
  have hb1 : (((cfg0.win 3).blk t).view.emb y 1).val = win0_3.index t (1 : Fin 2) * 1920 + 1 * (y 1).val := rfl
  rw [e] at hb0 hb1
  have e0 : (((cfg0.win 3).blk t).view.emb y 0).val = t.val % 8 * 1024 + 1 * (y 0).val := hb0
  have e1 : (((cfg0.win 3).blk t).view.emb y 1).val = t.val / 8 * 1920 + 1 * (y 1).val := hb1
  have hy : (cfg0.win 3).xinj (grid0.coords t) y = (ix2 (y 0) (y 1) : S1024x1920.Idx) := by
    funext a; fin_cases a <;> rfl
  refine (congrArg (out0_3 (F := Ideal) (iblk m c 0 t) (iblk m c 1 t)) hy).trans ?_
  refine (out3_at (iblk m c 0 t) (iblk m c 1 t) (y 0) (y 1)).trans ?_
  refine Eq.trans ?_ (show prod (m ((c : Thread nD τ).loc main_arg0)) (m ((c : Thread nD τ).loc main_arg1))
    (((cfg0.win 3).blk t).view.emb y 0) (((cfg0.win 3).blk t).view.emb y 1) = _ from rfl)
  unfold prod
  refine Finset.sum_congr rfl fun k _ => ?_
  rw [x0 m c t (y 0) k (((cfg0.win 3).blk t).view.emb y 0) (by omega), x1 m c t (y 1) k (((cfg0.win 3).blk t).view.emb y 1) (by omega)]

theorem mem_blk2 (t : Fin cfg0.N) (i : S8192x5760.Idx) :
    i ∈ ((cfg0.win 2).blk t).view.set ↔ ∀ a : Fin 2, win0_2.index t a * S1024x1920.size a ≤ (i a).val ∧ (i a).val < win0_2.index t a * S1024x1920.size a + S1024x1920.size a := by
  show i ∈ ((View.whole main_v0_0).slice (win0_2.rect t)).set ↔ _
  rw [View.set_slice_whole, Rect.mem_set_unit]
  exact Iff.rfl
theorem mem_blk3 (t : Fin cfg0.N) (i : S8192x5760.Idx) :
    i ∈ ((cfg0.win 3).blk t).view.set ↔ ∀ a : Fin 2, win0_3.index t a * S1024x1920.size a ≤ (i a).val ∧ (i a).val < win0_3.index t a * S1024x1920.size a + S1024x1920.size a := by
  show i ∈ ((View.whole main_v0_1).slice (win0_3.rect t)).set ↔ _
  rw [View.set_slice_whole, Rect.mem_set_unit]
  exact Iff.rfl
/-- The point whose block holds an index. -/
theorem pt_lt (i : S8192x5760.Idx) : 8 * ((i 1).val / 1920) + (i 0).val / 1024 < cfg0.N := by
  have h0 : (i 0).val < 8192 := (i 0).isLt
  have h1 : (i 1).val < 5760 := (i 1).isLt
  have : cfg0.N = 24 := N_0
  omega
theorem final2 : (dats m 0 c).arrAt 2 cfg0.N = R2 m c :=
  (dats m 0 c).arrAt_eq_of_cover 2 _ (fun t _ => point2 m c t) (fun i => ⟨⟨_, pt_lt i⟩, flush_all2 _, by
    have h0 : (i 0).val < 8192 := (i 0).isLt
    have h1 : (i 1).val < 5760 := (i 1).isLt
    obtain ⟨-, -, e, -, -⟩ := idx ⟨_, pt_lt i⟩
    refine (mem_blk2 _ i).2 fun a => ?_
    have e0 : win0_2.index ⟨_, pt_lt i⟩ (0 : Fin 2) = (8 * ((i 1).val / 1920) + (i 0).val / 1024) % 8 := congrFun e 0
    have e1 : win0_2.index ⟨_, pt_lt i⟩ (1 : Fin 2) = (8 * ((i 1).val / 1920) + (i 0).val / 1024) / 8 := congrFun e 1
    match a with
    | ⟨0, _⟩ => show win0_2.index _ (0 : Fin 2) * 1024 ≤ (i 0).val ∧ (i 0).val < win0_2.index _ (0 : Fin 2) * 1024 + 1024; omega
    | ⟨1, _⟩ => show win0_2.index _ (1 : Fin 2) * 1920 ≤ (i 1).val ∧ (i 1).val < win0_2.index _ (1 : Fin 2) * 1920 + 1920; omega⟩)
theorem final3 : (dats m 0 c).arrAt 3 cfg0.N = R3 m c :=
  (dats m 0 c).arrAt_eq_of_cover 3 _ (fun t _ => point3 m c t) (fun i => ⟨⟨_, pt_lt i⟩, flush_all3 _, by
    have h0 : (i 0).val < 8192 := (i 0).isLt
    have h1 : (i 1).val < 5760 := (i 1).isLt
    obtain ⟨-, -, -, e, -⟩ := idx ⟨_, pt_lt i⟩
    refine (mem_blk3 _ i).2 fun a => ?_
    have e0 : win0_3.index ⟨_, pt_lt i⟩ (0 : Fin 2) = (8 * ((i 1).val / 1920) + (i 0).val / 1024) % 8 := congrFun e 0
    have e1 : win0_3.index ⟨_, pt_lt i⟩ (1 : Fin 2) = (8 * ((i 1).val / 1920) + (i 0).val / 1024) / 8 := congrFun e 1
    match a with
    | ⟨0, _⟩ => show win0_3.index _ (0 : Fin 2) * 1024 ≤ (i 0).val ∧ (i 0).val < win0_3.index _ (0 : Fin 2) * 1024 + 1024; omega
    | ⟨1, _⟩ => show win0_3.index _ (1 : Fin 2) * 1920 ≤ (i 1).val ∧ (i 1).val < win0_3.index _ (1 : Fin 2) * 1920 + 1920; omega⟩)

/-- The kernel's run: its two results, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = R2 m c
      ∧ r.2.mem ((c : Thread nD τ).loc main_v0_1) = R3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩) (run_blocks m ρ)
end Cert.Kernel2Ideal.Read

namespace Cert.Reference2Ideal.Read
open Idealize.ShloMosaic Idealize.ShloMosaic.TcCoe Idealize.SL.Sem
open Cert.Reference2Ideal Cert.Reference2Ideal.Gen Cert.Reference2Ideal.Value Cert.InProj

theorem dot_at (h : FVec Ideal S8192x2048 .bf16) (w : FVec Ideal S5760x2048 .bf16) (r : Fin 8192) (q : Fin 5760) :
    Host.dotGeneral dot_S8192x2048_S5760x2048_S8192x5760_1_1_0_0_n_n none (extf .f32 h bitsLt_bf16_f32) (extf .f32 w bitsLt_bf16_f32) (ix2 r q)
      = prod h w r q := by
  unfold prod
  pointwise
theorem trunc_at (h : FVec Ideal S8192x2048 .bf16) (w : FVec Ideal S5760x2048 .bf16) (r : Fin 8192) (q : Fin 5760) :
    truncf (F := Ideal) .bf16 (Host.dotGeneral dot_S8192x2048_S5760x2048_S8192x5760_1_1_0_0_n_n none (extf .f32 h bitsLt_bf16_f32) (extf .f32 w bitsLt_bf16_f32)) bitsLt_bf16_f32 (ix2 r q)
      = prod h w r q := by
  unfold prod
  pointwise

variable (m : (ℓ : Loc nD τ sig) → Buf (Elt Ideal) ℓ)
/-- The arguments end unchanged and every counter ends at zero. -/
theorem frame (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems rfl r.2⟩) (Value.run m ρ)
end Cert.Reference2Ideal.Read
-- ==== Proof.OutProj.lean ====
/- The output projection with its gated residual: what its kernel and its reference leave, as one sum over the model's features. -/
module
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent
@[expose] public section
set_option maxRecDepth 16384
noncomputable section
namespace Cert.OutProj
open Idealize.ShloMosaic Idealize.ShloMosaic.TcCoe Idealize.SL.Sem

/-- Feature `k` of row `r` of the three mixers' outputs side by side. -/
def side (a : (⟨2, ![8192, 1024]⟩ : Shape).Idx → EReal) (b d : (⟨2, ![8192, 512]⟩ : Shape).Idx → EReal) (r : Fin 8192) (k : Fin 2048) : EReal :=
  if h : k.val < 1024 then a (ix2 r ⟨k.val, h⟩)
  else if h' : k.val < 1536 then b (ix2 r ⟨k.val - 1024, by omega⟩)
  else d (ix2 r ⟨k.val - 1536, by have := k.isLt; omega⟩)

/-- The residual row plus the gated product of the row with the first layer's weights. -/
def res (a : (⟨2, ![8192, 1024]⟩ : Shape).Idx → EReal) (b d : (⟨2, ![8192, 512]⟩ : Shape).Idx → EReal)
    (w : (⟨3, ![2, 2048, 2048]⟩ : Shape).Idx → EReal) (x : (⟨2, ![8192, 2048]⟩ : Shape).Idx → EReal)
    (g : (⟨2, ![1, 2048]⟩ : Shape).Idx → EReal) (r : Fin 8192) (q : Fin 2048) : EReal :=
  x (ix2 r q) + g (ix2 0 q) * ∑ k : Fin 2048, side a b d r k * w (ix3 0 k q)

/-- The sum over the features, mixer by mixer. -/
theorem sum_side (a : (⟨2, ![8192, 1024]⟩ : Shape).Idx → EReal) (b d : (⟨2, ![8192, 512]⟩ : Shape).Idx → EReal) (r : Fin 8192)
    (w : Fin 2048 → EReal) : ∑ k : Fin 2048, side a b d r k * w k
      = ((∑ k : Fin 1024, a (ix2 r k) * w ⟨k.val, by omega⟩) + ∑ k : Fin 512, b (ix2 r k) * w ⟨1024 + k.val, by omega⟩)
        + ∑ k : Fin 512, d (ix2 r k) * w ⟨1536 + k.val, by omega⟩ := by
  refine (Fin.sum_univ_add (a := 1536) (b := 512) (fun k : Fin 2048 => side a b d r k * w k)).trans ?_
  refine congrArg₂ (· + ·) ?_ (Finset.sum_congr rfl fun k _ => ?_)
  · refine (Fin.sum_univ_add (a := 1024) (b := 512) (fun k : Fin 1536 => side a b d r (Fin.castAdd 512 k) * w (Fin.castAdd 512 k))).trans ?_
    refine congrArg₂ (· + ·) (Finset.sum_congr rfl fun k _ => ?_) (Finset.sum_congr rfl fun k _ => ?_)
    · refine congrArg₂ (· * ·) ?_ rfl
      exact dif_pos k.isLt
    · refine congrArg₂ (· * ·) ?_ rfl
      unfold side
      rw [dif_neg (by show ¬ 1024 + k.val < 1024; omega), dif_pos (by show 1024 + k.val < 1536; omega)]
      congr 2
      exact Fin.ext (by show 1024 + k.val - 1024 = k.val; omega)
  · refine congrArg₂ (· * ·) ?_ rfl
    unfold side
    rw [dif_neg (by show ¬ 1536 + k.val < 1024; omega), dif_neg (by show ¬ 1536 + k.val < 1536; omega)]
    congr 2
    exact Fin.ext (by show 1536 + k.val - 1536 = k.val; omega)

end Cert.OutProj

namespace Cert.Kernel3Ideal.Read
open Idealize.ShloMosaic Idealize.ShloMosaic.TcCoe Idealize.SL.Sem
open Cert.Kernel3Ideal Cert.Kernel3Ideal.Gen Cert.Kernel3Ideal.Value Cert.OutProj

theorem pay1_at (w : FVec Ideal S1x1024x1024 .f32) (k q : Fin 1024) : k0_pay1 (F := Ideal) w (ix2 k q) = w (ix3 0 k q) := by
  pointwise [k0_pay1]
theorem pay2_at (w : FVec Ideal S1x512x1024 .f32) (k : Fin 512) (q : Fin 1024) : k0_pay2 (F := Ideal) w (ix2 k q) = w (ix3 0 k q) := by
  pointwise [k0_pay2]
theorem pay3_at (w : FVec Ideal S1x512x1024 .f32) (k : Fin 512) (q : Fin 1024) : k0_pay3 (F := Ideal) w (ix2 k q) = w (ix3 0 k q) := by
  pointwise [k0_pay3]
theorem pay4_at (a : FVec Ideal S512x1024 .bf16) (u : FVec Ideal S1024x1024 .bf16) (b : FVec Ideal S512x512 .bf16) (v : FVec Ideal S512x1024 .bf16)
    (d : FVec Ideal S512x512 .bf16) (z : FVec Ideal S512x1024 .bf16) (x : FVec Ideal S512x1024 .f32) (g : FVec Ideal S1x1024 .f32)
    (l : Fin 512) (q : Fin 1024) : k0_pay4 (F := Ideal) a u b v d z x g (ix2 l q)
      = x (ix2 l q) + g (ix2 0 q) * (((∑ k : Fin 1024, a (ix2 l k) * u (ix2 k q)) + ∑ k : Fin 512, b (ix2 l k) * v (ix2 k q))
        + ∑ k : Fin 512, d (ix2 l k) * z (ix2 k q)) := by
  pointwise [k0_pay4]

/-- The block indices of the windows. -/
theorem idx : ∀ t : Fin cfg0.N, win0_0.index t = ![t.val % 16, 0] ∧ win0_1.index t = ![t.val % 16, 0] ∧ win0_2.index t = ![t.val % 16, 0]
    ∧ win0_3.index t = ![0, 0, t.val / 16] ∧ win0_4.index t = ![0, 2, t.val / 16] ∧ win0_5.index t = ![0, 3, t.val / 16]
    ∧ win0_6.index t = ![t.val % 16, t.val / 16] ∧ win0_7.index t = ![0, t.val / 16] ∧ t.val < 32 :=
  (by decide +kernel : ∀ t : Fin grid0.N, _)

variable (m : (ℓ : Loc nD τ sig) → Buf (Elt Ideal) ℓ) (c : Dev nD)

theorem x0 (t : Fin cfg0.N) (l : Fin 512) (k : Fin 1024) (r : Fin 8192) (hr : r.val = 512 * (t.val % 16) + l.val) :
    (iblk m c 0 t : FVec Ideal S512x1024 .bf16) (ix2 l k) = (m ((c : Thread nD τ).loc main_arg0) : FVec Ideal S8192x1024 .bf16) (ix2 r k) := by
  blk_ext [iblk, V, idx t]
theorem x1 (t : Fin cfg0.N) (l k : Fin 512) (r : Fin 8192) (hr : r.val = 512 * (t.val % 16) + l.val) :
    (iblk m c 1 t : FVec Ideal S512x512 .bf16) (ix2 l k) = (m ((c : Thread nD τ).loc main_arg1) : FVec Ideal S8192x512 .bf16) (ix2 r k) := by
  blk_ext [iblk, V, idx t]
theorem x2 (t : Fin cfg0.N) (l k : Fin 512) (r : Fin 8192) (hr : r.val = 512 * (t.val % 16) + l.val) :
    (iblk m c 2 t : FVec Ideal S512x512 .bf16) (ix2 l k) = (m ((c : Thread nD τ).loc main_arg2) : FVec Ideal S8192x512 .bf16) (ix2 r k) := by
  blk_ext [iblk, V, idx t]
theorem x3 (t : Fin cfg0.N) (k q : Fin 1024) (k' q' : Fin 2048) (hk : k'.val = k.val) (hq : q'.val = 1024 * (t.val / 16) + q.val) :
    (iblk m c 3 t : FVec Ideal S1x1024x1024 .f32) (ix3 0 k q) = (m ((c : Thread nD τ).loc main_arg3) : FVec Ideal S2x2048x2048 .f32) (ix3 0 k' q') := by
  blk_ext [iblk, V, idx t]
theorem x4 (t : Fin cfg0.N) (k : Fin 512) (q : Fin 1024) (k' q' : Fin 2048) (hk : k'.val = 1024 + k.val) (hq : q'.val = 1024 * (t.val / 16) + q.val) :
    (iblk m c 4 t : FVec Ideal S1x512x1024 .f32) (ix3 0 k q) = (m ((c : Thread nD τ).loc main_arg3) : FVec Ideal S2x2048x2048 .f32) (ix3 0 k' q') := by
  blk_ext [iblk, V, idx t]
theorem x5 (t : Fin cfg0.N) (k : Fin 512) (q : Fin 1024) (k' q' : Fin 2048) (hk : k'.val = 1536 + k.val) (hq : q'.val = 1024 * (t.val / 16) + q.val) :
    (iblk m c 5 t : FVec Ideal S1x512x1024 .f32) (ix3 0 k q) = (m ((c : Thread nD τ).loc main_arg3) : FVec Ideal S2x2048x2048 .f32) (ix3 0 k' q') := by
  blk_ext [iblk, V, idx t]
theorem x6 (t : Fin cfg0.N) (l : Fin 512) (q : Fin 1024) (r : Fin 8192) (q' : Fin 2048) (hr : r.val = 512 * (t.val % 16) + l.val) (hq : q'.val = 1024 * (t.val / 16) + q.val) :
    (iblk m c 6 t : FVec Ideal S512x1024 .f32) (ix2 l q) = (m ((c : Thread nD τ).loc main_arg4) : FVec Ideal S8192x2048 .f32) (ix2 r q') := by
  blk_ext [iblk, V, idx t]
theorem x7 (t : Fin cfg0.N) (q : Fin 1024) (q' : Fin 2048) (hq : q'.val = 1024 * (t.val / 16) + q.val) :
    (iblk m c 7 t : FVec Ideal S1x1024 .f32) (ix2 0 q) = (m ((c : Thread nD τ).loc main_arg5) : FVec Ideal S1x2048 .f32) (ix2 0 q') := by
  blk_ext [iblk, V, idx t]

/-- The weights' block the carried buffer holds at a point: the columns of that point. -/
def wt (t : ℕ) (k : Fin 2048) (q : Fin 1024) : EReal :=
  (m ((c : Thread nD τ).loc main_arg3) : FVec Ideal S2x2048x2048 .f32) (ix3 0 k ⟨(1024 * (t / 16) + q.val) % 2048, Nat.mod_lt _ (by decide)⟩)

theorem wt_congr {t t' : ℕ} (e : t / 16 = t' / 16) (k : Fin 2048) (q : Fin 1024) : wt m c t k q = wt m c t' k q := by
  unfold wt
  congr 2
  exact Fin.ext (by show (1024 * (t / 16) + q.val) % 2048 = (1024 * (t' / 16) + q.val) % 2048; rw [e])

theorem p1 (t : Fin cfg0.N) (k q : Fin 1024) : k0_pay1 (F := Ideal) (iblk m c 3 t) (ix2 k q) = wt m c t.val ⟨k.val, by omega⟩ q := by
  have ht := (idx t).2.2.2.2.2.2.2.2
  exact (pay1_at (iblk m c 3 t) k q).trans (x3 m c t k q _ _ rfl (by show (1024 * (t.val / 16) + q.val) % 2048 = _; omega))
theorem p2 (t : Fin cfg0.N) (k : Fin 512) (q : Fin 1024) : k0_pay2 (F := Ideal) (iblk m c 4 t) (ix2 k q) = wt m c t.val ⟨1024 + k.val, by omega⟩ q := by
  have ht := (idx t).2.2.2.2.2.2.2.2
  exact (pay2_at (iblk m c 4 t) k q).trans (x4 m c t k q _ _ rfl (by show (1024 * (t.val / 16) + q.val) % 2048 = _; omega))
theorem p3 (t : Fin cfg0.N) (k : Fin 512) (q : Fin 1024) : k0_pay3 (F := Ideal) (iblk m c 5 t) (ix2 k q) = wt m c t.val ⟨1536 + k.val, by omega⟩ q := by
  have ht := (idx t).2.2.2.2.2.2.2.2
  exact (pay3_at (iblk m c 5 t) k q).trans (x5 m c t k q _ _ rfl (by show (1024 * (t.val / 16) + q.val) % 2048 = _; omega))

theorem skip3 (w : FVec Ideal S512x1024 .bf16) (L : List (View.Piece (Elt Ideal) S2048x1024 .bf16)) (k : Fin 2048) (q : Fin 1024) (h : k.val < 1536) :
    View.canon (Val := Elt Ideal) (⟨Rect.unit ![1536, 0] ![512, 1024] inb_S2048x1024_S512x1024_1536_0, w⟩ :: L) (ix2 k q) = View.canon (Val := Elt Ideal) L (ix2 k q) := by
  refine View.canon_cons_of_not_mem _ _ ?_
  intro hm
  obtain ⟨j, -, hj⟩ := (LoadRect.mem_set _).mp hm 0
  have h2 : k.val = 1536 + 1 * j := hj
  omega
theorem skip2 (w : FVec Ideal S512x1024 .bf16) (L : List (View.Piece (Elt Ideal) S2048x1024 .bf16)) (k : Fin 2048) (q : Fin 1024) (h : k.val < 1024) :
    View.canon (Val := Elt Ideal) (⟨Rect.unit ![1024, 0] ![512, 1024] inb_S2048x1024_S512x1024_1024_0, w⟩ :: L) (ix2 k q) = View.canon (Val := Elt Ideal) L (ix2 k q) := by
  refine View.canon_cons_of_not_mem _ _ ?_
  intro hm
  obtain ⟨j, -, hj⟩ := (LoadRect.mem_set _).mp hm 0
  have h2 : k.val = 1024 + 1 * j := hj
  omega

/-- The carried buffer after its three stores. -/
theorem three (w3 w2 : FVec Ideal S512x1024 .bf16) (w1 : FVec Ideal S1024x1024 .bf16) (k : Fin 2048) (q : Fin 1024) :
    View.canon (Val := Elt Ideal) (s := S2048x1024) (e := .bf16)
      [⟨Rect.unit ![1536, 0] ![512, 1024] inb_S2048x1024_S512x1024_1536_0, w3⟩,
        ⟨Rect.unit ![1024, 0] ![512, 1024] inb_S2048x1024_S512x1024_1024_0, w2⟩,
        ⟨Rect.unit ![0, 0] ![1024, 1024] inb_S2048x1024_S1024x1024_0_0, w1⟩] (ix2 k q)
      = if h : k.val < 1024 then w1 (ix2 ⟨k.val, h⟩ q) else if h' : k.val < 1536 then w2 (ix2 ⟨k.val - 1024, by omega⟩ q)
        else w3 (ix2 ⟨k.val - 1536, by have := k.isLt; omega⟩ q) := by
  have hk := k.isLt
  by_cases h : k.val < 1024
  · rw [dif_pos h]
    rw [skip3 _ _ _ _ (show k.val < 1536 by omega), skip2 _ _ _ _ h]
    have e : (ix2 k q : S2048x1024.Idx) = (Rect.unit (s := S2048x1024) ![0, 0] ![1024, 1024] inb_S2048x1024_S1024x1024_0_0).emb
        (ix2 (⟨k.val, h⟩ : Fin 1024) q) := by
      funext a; fin_cases a <;> refine Fin.ext ?_
      · show k.val = 0 + 1 * k.val; omega
      · show q.val = 0 + 1 * q.val; omega
    exact (congrArg _ e).trans (View.canon_cons_emb _ _ _ _)
  · rw [dif_neg h]
    by_cases h' : k.val < 1536
    · rw [dif_pos h']
      rw [skip3 _ _ _ _ h']
      have e : (ix2 k q : S2048x1024.Idx) = (Rect.unit (s := S2048x1024) ![1024, 0] ![512, 1024] inb_S2048x1024_S512x1024_1024_0).emb
          (ix2 (⟨k.val - 1024, by omega⟩ : Fin 512) q) := by
        funext a; fin_cases a <;> refine Fin.ext ?_
        · show k.val = 1024 + 1 * (k.val - 1024); omega
        · show q.val = 0 + 1 * q.val; omega
      exact (congrArg _ e).trans (View.canon_cons_emb _ _ _ _)
    · rw [dif_neg h']
      have e : (ix2 k q : S2048x1024.Idx) = (Rect.unit (s := S2048x1024) ![1536, 0] ![512, 1024] inb_S2048x1024_S512x1024_1536_0).emb
          (ix2 (⟨k.val - 1536, by omega⟩ : Fin 512) q) := by
        funext a; fin_cases a <;> refine Fin.ext ?_
        · show k.val = 1536 + 1 * (k.val - 1536); omega
        · show q.val = 0 + 1 * q.val; omega
      exact (congrArg _ e).trans (View.canon_cons_emb _ _ _ _)

theorem sc_A (t : Fin cfg0.N) (h : t.val % 16 = 0) (k : Fin 2048) (q : Fin 1024) :
    ((outsAt0 m c t.val t.isLt).2 : FVec Ideal S2048x1024 .bf16) (ix2 k q) = wt m c t.val k q := by
  rw [outsAt0_A m c t h]
  frame_out
  refine (three _ _ _ k q).trans ?_
  have hk := k.isLt
  split
  · exact p1 m c t _ q
  · split
    · refine (p2 m c t _ q).trans ?_
      congr 1
      exact Fin.ext (by show 1024 + (k.val - 1024) = k.val; omega)
    · refine (p3 m c t _ q).trans ?_
      congr 1
      exact Fin.ext (by show 1536 + (k.val - 1536) = k.val; omega)

theorem sc_B (t : Fin cfg0.N) (h : ¬ t.val % 16 = 0) (hp : t.val - 1 < cfg0.N) :
    ((outsAt0 m c t.val t.isLt).2 : FVec Ideal S2048x1024 .bf16) = (outsAt0 m c (t.val - 1) hp).2 := by
  rw [outsAt0_B m c t h]
  rfl

/-- After every point the carried buffer holds the columns' weights. -/
theorem sc_at : ∀ (n : ℕ) (hn : n < cfg0.N) (k : Fin 2048) (q : Fin 1024),
    ((outsAt0 m c n hn).2 : FVec Ideal S2048x1024 .bf16) (ix2 k q) = wt m c n k q
  | 0, hn, k, q => sc_A m c ⟨0, hn⟩ rfl k q
  | n + 1, hn, k, q => by
    by_cases h : (n + 1) % 16 = 0
    · exact sc_A m c ⟨n + 1, hn⟩ h k q
    · refine (congrFun (sc_B m c ⟨n + 1, hn⟩ h (by show n + 1 - 1 < _; omega)) (ix2 k q)).trans ((sc_at n (by omega) k q).trans ?_)
      exact wt_congr m c (by omega) k q

theorem head (r : Rect S2048x1024) (w : r.shape.Idx → Elt Ideal .bf16) (L : List (View.Piece (Elt Ideal) S2048x1024 .bf16)) :
    (View.whole cc0_scratch0).readCov (⟨r, w⟩ :: L) r.toLoadRect = w := by
  rw [View.readCov_eq_canon']
  funext x
  exact View.canon_cons_emb r w L x

/-- The block a point stores, over the weights it holds. -/
def blk (t : ℕ) (l : Fin 512) (q : Fin 1024) : EReal :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(512 * (t % 16) + l.val) % 8192, Nat.mod_lt _ (by decide)⟩ ⟨(1024 * (t / 16) + q.val) % 2048, Nat.mod_lt _ (by decide)⟩

theorem pay4_blk (t : Fin cfg0.N) (u : FVec Ideal S1024x1024 .bf16) (v z : FVec Ideal S512x1024 .bf16)
    (hu : ∀ k q : Fin 1024, u (ix2 k q) = wt m c t.val ⟨k.val, by omega⟩ q)
    (hv : ∀ (k : Fin 512) (q : Fin 1024), v (ix2 k q) = wt m c t.val ⟨1024 + k.val, by omega⟩ q)
    (hz : ∀ (k : Fin 512) (q : Fin 1024), z (ix2 k q) = wt m c t.val ⟨1536 + k.val, by omega⟩ q) (l : Fin 512) (q : Fin 1024) :
    k0_pay4 (F := Ideal) (iblk m c 0 t) u (iblk m c 1 t) v (iblk m c 2 t) z (iblk m c 6 t) (iblk m c 7 t) (ix2 l q) = blk m c t.val l q := by
  have ht := (idx t).2.2.2.2.2.2.2.2
  have hr : (512 * (t.val % 16) + l.val) % 8192 = 512 * (t.val % 16) + l.val := by omega
  have hq : (1024 * (t.val / 16) + q.val) % 2048 = 1024 * (t.val / 16) + q.val := by omega
  refine (pay4_at _ u _ v _ z _ _ l q).trans ?_
  unfold blk res
  rw [sum_side]
  refine congrArg₂ (· + ·) (x6 m c t l q _ _ hr hq) (congrArg₂ (· * ·) (x7 m c t q _ hq) ?_)
  refine congrArg₂ (· + ·) (congrArg₂ (· + ·) ?_ ?_) ?_ <;> refine Finset.sum_congr rfl fun k _ => congrArg₂ (· * ·) ?_ ?_
  · exact x0 m c t l k _ hr
  · exact hu k q
  · exact x1 m c t l k _ hr
  · exact hv k q
  · exact x2 m c t l k _ hr
  · exact hz k q

theorem out_A (t : Fin cfg0.N) (h : t.val % 16 = 0) (l : Fin 512) (q : Fin 1024) :
    ((outsAt0 m c t.val t.isLt).1 : FVec Ideal S512x1024 .f32) (ix2 l q) = blk m c t.val l q := by
  rw [outsAt0_A m c t h]
  frame_out
  simp (discharger := first | decide | (intro a; fin_cases a <;> rfl)) only [↓View.readCov_skip]
  rw [head, head, head]
  refine pay4_blk m c t _ _ _ (fun k q => ?_) (fun k q => ?_) (fun k q => ?_) l q
  · exact p1 m c t k q
  · exact p2 m c t k q
  · exact p3 m c t k q
theorem out_B (t : Fin cfg0.N) (h : ¬ t.val % 16 = 0) (l : Fin 512) (q : Fin 1024) :
    ((outsAt0 m c t.val t.isLt).1 : FVec Ideal S512x1024 .f32) (ix2 l q) = blk m c t.val l q := by
  have hp : t.val - 1 < cfg0.N := by have := t.isLt; omega
  have hs (k : Fin 2048) (q : Fin 1024) : ((outsAt0 m c (t.val - 1) hp).2 : FVec Ideal S2048x1024 .bf16) (ix2 k q) = wt m c t.val k q := by
    refine (sc_at m c (t.val - 1) hp k q).trans ?_
    exact wt_congr m c (by omega) k q
  rw [outsAt0_B m c t h]
  frame_out
  simp only [read_unread_whole]
  refine pay4_blk m c t _ _ _ (fun k q => ?_) (fun k q => ?_) (fun k q => ?_) l q
  · refine Eq.trans (congrArg (outsAt0 m c (t.val - 1) hp).2 (?_ : (Rect.unit (s := S2048x1024) ![0, 0] ![1024, 1024] inb_S2048x1024_S1024x1024_0_0).emb (ix2 k q) = ix2 ⟨k.val, by omega⟩ q)) (hs ⟨k.val, by omega⟩ q)
    funext a; fin_cases a <;> refine Fin.ext ?_
    · show 0 + 1 * k.val = k.val; omega
    · show 0 + 1 * q.val = q.val; omega
  · refine Eq.trans (congrArg (outsAt0 m c (t.val - 1) hp).2 (?_ : (Rect.unit (s := S2048x1024) ![1024, 0] ![512, 1024] inb_S2048x1024_S512x1024_1024_0).emb (ix2 k q) = ix2 ⟨1024 + k.val, by omega⟩ q)) (hs ⟨1024 + k.val, by omega⟩ q)
    funext a; fin_cases a <;> refine Fin.ext ?_
    · show 1024 + 1 * k.val = 1024 + k.val; omega
    · show 0 + 1 * q.val = q.val; omega
  · refine Eq.trans (congrArg (outsAt0 m c (t.val - 1) hp).2 (?_ : (Rect.unit (s := S2048x1024) ![1536, 0] ![512, 1024] inb_S2048x1024_S512x1024_1536_0).emb (ix2 k q) = ix2 ⟨1536 + k.val, by omega⟩ q)) (hs ⟨1536 + k.val, by omega⟩ q)
    funext a; fin_cases a <;> refine Fin.ext ?_
    · show 1536 + 1 * k.val = 1536 + k.val; omega
    · show 0 + 1 * q.val = q.val; omega

/-- The array the kernel leaves, at an index. -/
theorem G8_at (r : Fin 8192) (q : Fin 2048) : (G8 m c : FVec Ideal S8192x2048 .f32) (ix2 r q)
    = res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) r q := by
  have hr := r.isLt
  have hq := q.isLt
  have hN : cfg0.N = 32 := N_0
  have ep : pt8Of (ix2 r q) = r.val / 512 + 16 * (q.val / 1024) := by
    show 1 * (r.val / 512 - 0) + 16 * (q.val / 1024 - 0) = _
    omega
  have hp : pt8Of (ix2 r q) < cfg0.N := by omega
  have el : loc8Of (ix2 r q) = ix2 (⟨r.val % 512, Nat.mod_lt _ (by decide)⟩ : Fin 512) (⟨q.val % 1024, Nat.mod_lt _ (by decide)⟩ : Fin 1024) := by
    funext a; fin_cases a <;> rfl
  have ho : ∀ (t : Fin cfg0.N) (l : Fin 512) (q : Fin 1024), ((outsAt0 m c t.val t.isLt).1 : FVec Ideal S512x1024 .f32) (ix2 l q) = blk m c t.val l q := by
    intro t l q
    by_cases h : t.val % 16 = 0
    · exact out_A m c t h l q
    · exact out_B m c t h l q
  unfold G8
  rw [dif_pos hp, ← outsAt0_sweep m c _ hp]
  refine (congrArg _ el).trans ((ho ⟨_, hp⟩ _ _).trans ?_)
  unfold blk
  congr 1
  · refine Fin.ext ?_
    show (512 * (pt8Of (ix2 r q) % 16) + r.val % 512) % 8192 = r.val
    rw [ep]; omega
  · refine Fin.ext ?_
    show (1024 * (pt8Of (ix2 r q) / 16) + q.val % 1024) % 2048 = q.val
    rw [ep]; omega
end Cert.Kernel3Ideal.Read

namespace Cert.Reference3Ideal.Read
open Idealize.ShloMosaic Idealize.ShloMosaic.TcCoe Idealize.SL.Sem
open Cert.Reference3Ideal Cert.Reference3Ideal.Gen Cert.Reference3Ideal.Value Cert.OutProj
theorem at_res (a : FVec Ideal S8192x1024 .bf16) (b d : FVec Ideal S8192x512 .bf16) (w : FVec Ideal S2x2048x2048 .f32) (x : FVec Ideal S8192x2048 .f32)
    (g : FVec Ideal S1x2048 .f32) (r : Fin 8192) (q : Fin 2048) :
    addf x (mulf (broadcastInDim S8192x2048 ![0, 1] bcast_S1x2048_S8192x2048_0_1 g) (Host.dotGeneral dot_S8192x2048_S2048x2048_S8192x2048_1_0_0_1_n_n none
      (extf .f32 ((concatenate S8192x2048 1 [⟨S8192x1024, a⟩, ⟨S8192x512, b⟩, ⟨S8192x512, d⟩]
        concatenates_S8192x1024_S8192x512_S8192x512_S8192x2048_d1 : FVec Ideal S8192x2048 .bf16)) bitsLt_bf16_f32)
      (shapeCast S2048x2048 (extractStridedSlice S1x2048x2048 ![0, 0, 0] w slices_S2x2048x2048_S1x2048x2048_0_0_0) shapeCasts_S1x2048x2048_S2048x2048))) (ix2 r q)
      = res a b d w x g r q := by
  refine Eq.trans (b := x (ix2 r q) + g (ix2 0 q) * ∑ k : Fin 2048, (if h : k.val < 1024 then a (ix2 r ⟨k.val, h⟩)
    else if h' : k.val - 1024 < 512 then b (ix2 r ⟨k.val - 1024, h'⟩) else d (ix2 r ⟨k.val - 1024 - 512, by have := k.isLt; omega⟩)) * w (ix3 0 k q)) ?_ ?_
  · pointwise
  · unfold res
    refine congrArg₂ (· + ·) rfl (congrArg₂ (· * ·) rfl (Finset.sum_congr rfl fun k _ => congrArg₂ (· * ·) ?_ rfl))
    have hk := k.isLt
    unfold side
    split
    · rfl
    · by_cases h : k.val < 1536
      · rw [dif_pos h, dif_pos (by omega)]
      · rw [dif_neg h, dif_neg (by omega)]
        congr 2
variable (m : (ℓ : Loc nD τ sig) → Buf (Elt Ideal) ℓ)
/-- The arguments end unchanged and every counter ends at zero. -/
theorem frame (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems rfl r.2⟩) (Value.run m ρ)
end Cert.Reference3Ideal.Read
-- ==== Proof.DownPlan.lean ====
/-
  The plan of the experts' products, as five tables of words over the 72 tiles of tokens: each tile's expert, its flags (1: holds
  tokens; 2: first tile of a block of tiles of one expert), the number of its block, the expert of the following block, and the
  count of the blocks. What the tables' relations give about the copies of weights a pass over (column half, tile) makes.
-/
module

public import Idealize.ShloMosaic.PureOps
public import Idealize.ShloMosaic.Lib.Tactic

@[expose] public section

namespace Cert.Down

/-- The relations of the tables. -/
structure Plan (te fl od fo : Fin 72 → BitVec 32) (nb : BitVec 32) : Prop where
  te_lt : ∀ k, (te k).toNat < 8
  fo_lt : ∀ k, (fo k).toNat < 8
  fl_lt : ∀ k, (fl k).toNat < 4
  fl_zero : 2 ≤ (fl 0).toNat
  od_zero : od 0 = 0#32
  nb_eq : nb = od 71 + 1#32
  wrap : fo 71 = te 0
  step : ∀ k : Fin 71, ((fl k.succ).toNat < 2 ∧ te k.succ = te k.castSucc ∧ od k.succ = od k.castSucc ∧ fo k.succ = fo k.castSucc)
    ∨ (2 ≤ (fl k.succ).toNat ∧ od k.succ = od k.castSucc + 1#32 ∧ fo k.castSucc = te k.succ)
  valid : ∀ k : Fin 71, fl k.succ &&& 1#32 = 0#32 ∨ fl k.castSucc &&& 1#32 = 1#32

/-- The tile of a point, -/
def tile (t : ℕ) : Fin 72 := ⟨t % 72, Nat.mod_lt _ (by decide)⟩
/-- and its column half. -/
def half (t : ℕ) : Fin 2 := if t < 72 then 0 else 1

/-- The copy on its way before point `t`: the expert's word and the column half, or none. -/
def slot (od fo : Fin 72 → BitVec 32) (nb : BitVec 32) (t : ℕ) : Option (BitVec 32 × Fin 2) :=
  if t = 0 then none
  else if od (tile (t - 1)) = nb - 1#32 ∧ half (t - 1) = 1 then none
  else some (fo (tile (t - 1)), if od (tile (t - 1)) = nb - 1#32 then 1 else half (t - 1))

variable {te fl od fo : Fin 72 → BitVec 32} {nb : BitVec 32}

theorem slot_succ (t : ℕ) : slot od fo nb (t + 1) = if od (tile t) = nb - 1#32 ∧ half t = 1 then none
    else some (fo (tile t), if od (tile t) = nb - 1#32 then 1 else half t) := by
  unfold slot
  rw [if_neg (Nat.succ_ne_zero t), Nat.add_sub_cancel]

theorem flag_cases {w : BitVec 32} (h : w.toNat < 4) : w = 0#32 ∨ w = 1#32 ∨ w = 2#32 ∨ w = 3#32 := by
  have e : w = BitVec.ofNat 32 w.toNat := by simp
  generalize w.toNat = n at h e
  subst e
  rcases n with _ | _ | _ | _ | n
  · decide
  · decide
  · decide
  · decide
  · omega

/-- A tile after the first of its column, its predecessor named. -/
theorem tile_pred {t : ℕ} (h : t % 72 ≠ 0) : ∃ k : Fin 71, tile t = k.succ ∧ tile (t - 1) = k.castSucc ∧ half (t - 1) = half t := by
  refine ⟨⟨t % 72 - 1, by omega⟩, ?_, ?_, ?_⟩
  · apply Fin.ext; show t % 72 = t % 72 - 1 + 1; omega
  · apply Fin.ext; show (t - 1) % 72 = t % 72 - 1; omega
  · unfold half; congr 1; apply propext; constructor <;> intro _ <;> omega

namespace Plan
variable (P : Plan te fl od fo nb)
include P

theorem last : nb - 1#32 = od 71 := by rw [P.nb_eq]; exact BitVec.add_sub_cancel _ _

theorem od_le : ∀ (n : ℕ) (h : n < 72), (od ⟨n, h⟩).toNat ≤ n
  | 0, h => by rw [show (⟨0, h⟩ : Fin 72) = 0 from rfl, P.od_zero]; decide
  | n + 1, h => by
    have ih := od_le n (by omega)
    rcases P.step ⟨n, by omega⟩ with ⟨-, -, e, -⟩ | ⟨-, e, -⟩
    · have e' : od ⟨n + 1, h⟩ = od ⟨n, by omega⟩ := e
      rw [e']; omega
    · have e' : od ⟨n + 1, h⟩ = od ⟨n, by omega⟩ + 1#32 := e
      rw [e', BitVec.toNat_add]
      have : (1#32 : BitVec 32).toNat = 1 := rfl
      omega

theorem od_le_add (n d : ℕ) (h : n + d < 72) : (od ⟨n, by omega⟩).toNat ≤ (od ⟨n + d, h⟩).toNat := by
  induction d with
  | zero => exact le_refl _
  | succ d ih =>
    have ih := ih (by omega)
    have hl := P.od_le (n + d) (by omega)
    rcases P.step ⟨n + d, by omega⟩ with ⟨-, -, e, -⟩ | ⟨-, e, -⟩
    · have e' : od ⟨n + (d + 1), h⟩ = od ⟨n + d, by omega⟩ := e
      rw [e']; exact ih
    · have e' : od ⟨n + (d + 1), h⟩ = od ⟨n + d, by omega⟩ + 1#32 := e
      rw [e', BitVec.toNat_add]
      have : (1#32 : BitVec 32).toNat = 1 := rfl
      omega

theorem od_le_last (k : Fin 72) : (od k).toNat ≤ (od 71).toNat := by
  obtain ⟨n, h⟩ := k
  have := P.od_le_add n (71 - n) (by omega)
  have e : (⟨n + (71 - n), by omega⟩ : Fin 72) = 71 := Fin.ext (by show n + (71 - n) = 71; omega)
  rw [e] at this; exact this

theorem nb_toNat : nb.toNat = (od 71).toNat + 1 := by
  have h := P.od_le 71 (by omega)
  have h' : (od 71).toNat ≤ 71 := h
  rw [P.nb_eq, BitVec.toNat_add]
  have : (1#32 : BitVec 32).toNat = 1 := rfl
  omega

/-- The first tile of a column begins a block. -/
theorem mod_ne_of_old {t : ℕ} (h : (fl (tile t)).toNat < 2) : t % 72 ≠ 0 := by
  intro e
  have : tile t = 0 := Fin.ext e
  rw [this] at h
  have := P.fl_zero
  omega

/-- Within a block nothing is sent for. -/
theorem slot_old {t : ℕ} (h : (fl (tile t)).toNat < 2) : slot od fo nb (t + 1) = slot od fo nb t := by
  have h0 := P.mod_ne_of_old h
  obtain ⟨k, h1, h2, h3⟩ := tile_pred h0
  rw [slot_succ]; unfold slot
  have hz : t ≠ 0 := by intro e; subst e; exact h0 rfl
  simp only [if_neg hz, h1, h2, h3]
  rw [h1] at h
  rcases P.step k with ⟨-, -, e1, e2⟩ | ⟨e, -, -⟩
  · rw [e1, e2]
  · omega

/-- A block's first tile after the first point finds its weights on their way. -/
theorem slot_new {t : ℕ} (ht : t ≠ 0) (hN : t < 144) (h : 2 ≤ (fl (tile t)).toNat) : slot od fo nb t = some (te (tile t), half t) := by
  unfold slot
  rw [if_neg ht, P.last]
  by_cases h0 : t % 72 = 0
  · have e : t = 72 := by omega
    subst e
    have e1 : tile (72 - 1) = 71 := rfl
    have e2 : tile 72 = 0 := rfl
    have e3 : half (72 - 1) = 0 := rfl
    have e4 : half 72 = 1 := rfl
    rw [e1, e2, e3, e4, if_neg (fun h => absurd h.2 (by decide)), if_pos rfl, P.wrap]
  · obtain ⟨k, h1, h2, h3⟩ := tile_pred h0
    rw [h1, h2, h3]
    rw [h1] at h
    rcases P.step k with ⟨e, -⟩ | ⟨-, e1, e2⟩
    · omega
    · have hl := P.od_le_last k.succ
      have hk : (od k.castSucc).toNat ≤ 71 := (P.od_le k.castSucc.val k.castSucc.isLt).trans (by have := k.castSucc.isLt; omega)
      have ne : od k.castSucc ≠ od 71 := by
        intro e
        rw [e1, e, BitVec.toNat_add] at hl
        have : (1#32 : BitVec 32).toNat = 1 := rfl
        rw [e] at hk
        omega
      rw [if_neg (fun h => ne h.1), if_neg ne, e2]

/-- Only the first point starts with nothing sent for. -/
theorem first_ne {t : ℕ} (ht : t ≠ 0) (hN : t < 144) (h : 2 ≤ (fl (tile t)).toNat) :
    BitVec.ofNat 32 (half t).val * nb + od (tile t) ≠ 0#32 := by
  have hk : (od (tile t)).toNat ≤ 71 := (P.od_le (tile t).val (tile t).isLt).trans (by have := (tile t).isLt; omega)
  have h71 : (od 71).toNat ≤ 71 := P.od_le 71 (by omega)
  have hn := P.nb_toNat
  intro e
  have e' := congrArg BitVec.toNat e
  rw [BitVec.toNat_add, BitVec.toNat_mul] at e'
  have z : (0#32 : BitVec 32).toNat = 0 := rfl
  by_cases hh : t < 72
  · have e3 : half t = 0 := by unfold half; rw [if_pos hh]
    rw [e3] at e'
    have e4 : (BitVec.ofNat 32 (0 : Fin 2).val).toNat = 0 := rfl
    rw [e4] at e'
    obtain ⟨k, h1, h2, h3⟩ := tile_pred (t := t) (by omega)
    rw [h1] at e' h hk
    rcases P.step k with ⟨e, -⟩ | ⟨-, e1, e2⟩
    · omega
    · have hk' : (od k.castSucc).toNat ≤ 71 := (P.od_le k.castSucc.val k.castSucc.isLt).trans (by have := k.castSucc.isLt; omega)
      rw [e1, BitVec.toNat_add] at e'
      have : (1#32 : BitVec 32).toNat = 1 := rfl
      omega
  · have e3 : half t = 1 := by unfold half; rw [if_neg hh]
    rw [e3] at e'
    have e4 : (BitVec.ofNat 32 (1 : Fin 2).val).toNat = 1 := rfl
    rw [e4] at e'
    omega

/-- At the end nothing is on its way. -/
theorem slot_end : slot od fo nb 144 = none := by
  rw [slot_succ 143, P.last, if_pos ⟨rfl, rfl⟩]

/-- A tile of tokens that begins no block follows a tile of tokens of the same expert. -/
theorem old_valid {t : ℕ} (h : fl (tile t) = 1#32) : t ≠ 0 ∧ fl (tile (t - 1)) &&& 1#32 = 1#32 ∧ te (tile t) = te (tile (t - 1)) ∧ half (t - 1) = half t := by
  have h2 : (fl (tile t)).toNat < 2 := by rw [h]; decide
  have h0 := P.mod_ne_of_old h2
  obtain ⟨k, k1, k2, k3⟩ := tile_pred h0
  refine ⟨by intro e; subst e; exact h0 rfl, ?_, ?_, k3⟩
  · rw [k2]
    rcases P.valid k with e | e
    · rw [← k1, h] at e; exact absurd e (by decide)
    · exact e
  · rw [k1, k2]
    rw [k1] at h2
    rcases P.step k with ⟨-, e, -⟩ | ⟨e, -⟩
    · exact e
    · omega

end Plan

end Cert.Down

end
-- ==== Proof.DownPre.lean ====
/-
  The precondition on the experts' tables, read: the printed predicate decoded word by word into the relations of `Cert.Down.Plan`.
-/
module

public import proofs.«01_k».proof.Proof.Gen.Pre_moe_tables
public import proofs.«01_k».proof.Proof.DownPlan
public import Idealize.ShloMosaic.Lib.StableHlo.Predicate
public import Idealize.ShloMosaic.Lib.ValueIdx

@[expose] public section

namespace Cert.Down

open Idealize.ShloMosaic Cert.Pre_moe_tables Cert.Pre_moe_tables.Facts

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide

theorem sl1 {α : Type} (a : S72.Idx → α) (h) (k : Fin 71) : extractStridedSlice S71 ![1] a h (ValueIdx.ix1 k) = a (ValueIdx.ix1 k.succ) := by
  refine congrArg a (funext fun x => Fin.ext ?_)
  fin_cases x
  show 1 + k.val = k.val + 1
  omega
theorem sl0 {α : Type} (a : S72.Idx → α) (h) (k : Fin 71) : extractStridedSlice S71 ![0] a h (ValueIdx.ix1 k) = a (ValueIdx.ix1 k.castSucc) := by
  refine congrArg a (funext fun x => Fin.ext ?_)
  fin_cases x
  show 0 + k.val = k.val
  omega
theorem idx_one (y : S1.Idx) : y = ValueIdx.ix1 0 := by
  refine funext fun x => Fin.ext ?_
  fin_cases x
  have h : (y 0).val < 1 := (y 0).isLt
  show (y 0).val = 0
  omega
theorem oneAll {α : Type} (a : S1.Idx → α) (h' : S1.ShapeCasts S_) (i : S_.Idx) : shapeCast S_ a h' i = a (ValueIdx.ix1 0) := congrArg a (idx_one _)
theorem one0 {α : Type} (a : S72.Idx → α) (h : S72.Slices ![0] S1) : extractStridedSlice S1 ![0] a h (ValueIdx.ix1 0) = a (ValueIdx.ix1 0) := by
  refine congrArg a (funext fun x => Fin.ext ?_)
  fin_cases x
  rfl
theorem one71 {α : Type} (a : S72.Idx → α) (h : S72.Slices ![71] S1) : extractStridedSlice S1 ![71] a h (ValueIdx.ix1 0) = a (ValueIdx.ix1 71) := by
  refine congrArg a (funext fun x => Fin.ext ?_)
  fin_cases x
  rfl

/-- A word that is no less than 0 and less than `n`, signed, is less than `n`. -/
theorem lt_of_range {a b : BitVec 32} (hb : b.toNat < 2 ^ 31) (h : IntOp.cmpi .sge a 0#32 = 1#1 ∧ IntOp.cmpi .slt a b = 1#1) : a.toNat < b.toNat := by
  have h0 : BitVec.ofBool ((0#32).sle a) = 1#1 := h.1
  rw [StableHlo.Predicate.ofBool_eq_one_iff] at h0
  have ha : a.toNat < 2 ^ 31 := by
    have := BitVec.sle_iff_toInt_le.1 h0
    rw [BitVec.toInt_eq_toNat_cond a] at this
    have z : (0#32 : BitVec 32).toInt = 0 := rfl
    have hl := a.isLt
    rw [z] at this
    split at this <;> omega
  exact (StableHlo.Predicate.slt_iff_toNat ha hb).1 h.2

theorem plan_of_pre {F : FTy → Type} [FloatOps F] (a0 : FVec F S18432x7168 .bf16) (a1 : FVec F S8x7168x2048 .f32) (a2 a3 a4 a5 : IVec S72 32) (a6 : IVec S1 32)
    (h : Cert.Pre_moe_tables.fn a0 a1 a2 a3 a4 a5 a6 = fun _ => 1#1) :
    Plan (fun k => a2 (ValueIdx.ix1 k)) (fun k => a3 (ValueIdx.ix1 k)) (fun k => a4 (ValueIdx.ix1 k)) (fun k => a5 (ValueIdx.ix1 k)) (a6 (ValueIdx.ix1 0)) := by
  have e := fun k : Fin 71 => congrFun h (ValueIdx.ix1 k)
  simp only [fn, fn_part1, fn_part2, fn_part3, fn_part4, fn_part5, andi, ori, cmpi, addi, and_one, or_one, sl0, sl1, one0, one71, oneAll, constantI, broadcastInDim, StableHlo.Predicate.cmpi_eq_iff] at e
  have all : ∀ {Q : Fin 72 → Prop}, (∀ k : Fin 71, Q k.castSucc ∧ Q k.succ) → ∀ k, Q k := fun {Q} hq k => by
    induction k using Fin.cases with
    | zero => exact (hq 0).1
    | succ k => exact (hq k).2
  have hte : ∀ k : Fin 72, (a2 (ValueIdx.ix1 k)).toNat < 8 := all fun k =>
    have ⟨⟨⟨⟨⟨⟨⟨⟨p, q⟩, r⟩, t⟩, _⟩, _⟩, _⟩, _⟩, _⟩ := e k
    ⟨lt_of_range (b := 8#32) (by decide) ⟨p, q⟩, lt_of_range (b := 8#32) (by decide) ⟨r, t⟩⟩
  have hfo : ∀ k : Fin 72, (a5 (ValueIdx.ix1 k)).toNat < 8 := all fun k =>
    have ⟨⟨⟨⟨⟨_, ⟨⟨p, q⟩, r⟩, t⟩, _⟩, _⟩, _⟩, _⟩ := e k
    ⟨lt_of_range (b := 8#32) (by decide) ⟨p, q⟩, lt_of_range (b := 8#32) (by decide) ⟨r, t⟩⟩
  have hfl : ∀ k : Fin 72, (a3 (ValueIdx.ix1 k)).toNat < 4 := all fun k =>
    have ⟨⟨⟨⟨_, ⟨⟨p, q⟩, r⟩, t⟩, _⟩, _⟩, _⟩ := e k
    ⟨lt_of_range (b := 4#32) (by decide) ⟨p, q⟩, lt_of_range (b := 4#32) (by decide) ⟨r, t⟩⟩
  have sm : ∀ k : Fin 72, (a3 (ValueIdx.ix1 k)).toNat < 2 ^ 31 := fun k => (hfl k).trans (by decide)
  obtain ⟨_, ⟨⟨p0, p1⟩, p2⟩, p3⟩ := e 0
  refine ⟨hte, hfo, hfl, (StableHlo.Predicate.sge_iff_toNat (sm 0) (b := 2#32) (by decide)).1 p0, p1, p2, p3, fun k => ?_, fun k => ?_⟩
  · rcases (e k).1.1.2 with ⟨⟨⟨q0, q1⟩, q2⟩, q3⟩ | ⟨⟨q0, q1⟩, q2⟩
    · exact Or.inl ⟨(StableHlo.Predicate.slt_iff_toNat (sm k.succ) (b := 2#32) (by decide)).1 q0, q1, q2, q3⟩
    · exact Or.inr ⟨(StableHlo.Predicate.sge_iff_toNat (sm k.succ) (b := 2#32) (by decide)).1 q0, q1, q2⟩
  · exact (e k).1.2

end Cert.Down

end
-- ==== Proof.DownRunI.lean ====
/- The experts' down product: its grid step run on held buffers. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Affine
public import Idealize.ShloMosaic.Lib.Tactic
public import Idealize.ShloMosaic.Lib.WordCmp
public import Idealize.ShloMosaic.Lib.ValueLayout

@[expose] public section

set_option maxRecDepth 16384

noncomputable section

namespace Cert.Kernel4Ideal.Down

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (Pipeline.UD sig nD τ) ℕ

/-! ## Names for the slices the step takes -/

abbrev w2M : Memref sig .tc .hbm S8x7168x2048 .f32 := Memref.whole main_arg1
abbrev wfM : Memref sig .tc .vmem S1x1x7168x1024 .f32 := Memref.whole cc0_scratch0
abbrev wbM : Memref sig .tc .vmem S1x7168x1024 .bf16 := Memref.whole cc0_scratch1

abbrev srcOff (e : Fin 8) (j : Fin 2) : Fin 3 → Nat := ![e.val, 0, 1024 * j.val]
theorem srcOff_inb (e : Fin 8) (j : Fin 2) : ∀ a, srcOff e j a + S1x7168x1024.size a ≤ S8x7168x2048.size a := by
  have := e.isLt; have := j.isLt; intro a; fin_cases a
  · show e.val + 1 ≤ 8; omega
  · show 0 + 7168 ≤ 7168; omega
  · show 1024 * j.val + 1024 ≤ 2048; omega

/-- Expert `e`'s weights for output columns `1024 j` on. -/
def wsrc (e : Fin 8) (j : Fin 2) : Memref sig .tc .hbm S7168x1024 .f32 :=
  (w2M.slice (Rect.unit (s := S8x7168x2048) (srcOff e j) S1x7168x1024.size (srcOff_inb e j)) (fun _ => rfl)).squeeze S7168x1024 squeezes_S1x7168x1024_S7168x1024
theorem wdst_inb : ∀ a, (![0, 0, 0, 0] : Fin 4 → Nat) a + S1x1x7168x1024.size a ≤ S1x1x7168x1024.size a := by decide
/-- The one weight slot. -/
def wdst : Memref sig .tc .vmem S7168x1024 .f32 :=
  (wfM.slice (Rect.unit (s := S1x1x7168x1024) ![0, 0, 0, 0] S1x1x7168x1024.size wdst_inb) (fun _ => rfl)).squeeze S7168x1024 squeezes_S1x1x7168x1024_S7168x1024
theorem wsem_inb : ∀ a, (![0, 0] : Fin 2 → Nat) a + S1x1.size a ≤ S1x1.size a := by decide
/-- The slot's semaphore. -/
def wsem : DmaSems sig S_ := (cc0_scratch2.slice (Rect.unit (s := S1x1) ![0, 0] S1x1.size wsem_inb)).squeeze S_ squeezes_S1x1_S_

theorem remsi_one (x : BitVec 32) : Scalar.remsi x 1#32 = 0#32 := by
  simp [Scalar.remsi, IntOp.remsi, IntOp.SDivCorner]

theorem slot_zero (x : BitVec 32) :
    (Scalar.select (Scalar.andi (Scalar.xori (Scalar.cmpi .slt (Scalar.remsi x (Scalar.select (Scalar.cmpi .eq 1#32 0#32) 1#32 1#32)) 0#32)
      (Scalar.cmpi .slt (Scalar.select (Scalar.cmpi .eq 1#32 0#32) 1#32 1#32) 0#32))
      (Scalar.cmpi .ne (Scalar.remsi x (Scalar.select (Scalar.cmpi .eq 1#32 0#32) 1#32 1#32)) 0#32))
      (Scalar.addi (Scalar.remsi x (Scalar.select (Scalar.cmpi .eq 1#32 0#32) 1#32 1#32)) (Scalar.select (Scalar.cmpi .eq 1#32 0#32) 1#32 1#32))
      (Scalar.remsi x (Scalar.select (Scalar.cmpi .eq 1#32 0#32) 1#32 1#32)) : BitVec 32) = 0#32 := by
  rw [show (Scalar.select (Scalar.cmpi .eq 1#32 0#32) 1#32 1#32 : BitVec 32) = 1#32 from by decide, remsi_one]
  decide

section Offsets
variable (i : grid0.Coords) (v4 v7 : BitVec 32)
theorem off3_eq : k0_off3 i v4 v7 = ![0, 0] := congrArg (fun w : BitVec 32 => (![w.toNat, 0] : Fin 2 → Nat)) (slot_zero _)
theorem off4_eq : k0_off4 i v4 v7 = ![0, 0, 0, 0] := congrArg (fun w : BitVec 32 => (![w.toNat, 0, 0, 0] : Fin 4 → Nat)) (slot_zero _)
theorem off7_eq : k0_off7 i v4 v7 = ![0, 0] := congrArg (fun w : BitVec 32 => (![w.toNat, 0] : Fin 2 → Nat)) (slot_zero _)
theorem off8_eq : k0_off8 i v4 v7 = ![0, 0, 0, 0] := congrArg (fun w : BitVec 32 => (![w.toNat, 0, 0, 0] : Fin 4 → Nat)) (slot_zero _)
theorem off10_eq : k0_off10 i v4 v7 = ![0, 0, 0, 0] := congrArg (fun w : BitVec 32 => (![w.toNat, 0, 0, 0] : Fin 4 → Nat)) (slot_zero _)
theorem off11_eq : k0_off11 i v4 v7 = ![0, 0, 0, 256] := congrArg (fun w : BitVec 32 => (![w.toNat, 0, 0, 256] : Fin 4 → Nat)) (slot_zero _)
theorem off12_eq : k0_off12 i v4 v7 = ![0, 0, 0, 512] := congrArg (fun w : BitVec 32 => (![w.toNat, 0, 0, 512] : Fin 4 → Nat)) (slot_zero _)
theorem off13_eq : k0_off13 i v4 v7 = ![0, 0, 0, 768] := congrArg (fun w : BitVec 32 => (![w.toNat, 0, 0, 768] : Fin 4 → Nat)) (slot_zero _)
theorem off15_eq : k0_off15 i v4 v7 = ![0, 0] := congrArg (fun w : BitVec 32 => (![w.toNat, 0] : Fin 2 → Nat)) (slot_zero _)
theorem off16_eq : k0_off16 i v4 v7 = ![0, 0, 0, 0] := congrArg (fun w : BitVec 32 => (![w.toNat, 0, 0, 0] : Fin 4 → Nat)) (slot_zero _)

theorem chk1 (v1 : BitVec 32) : k0_chk1 i v1 v4 v7 := by
  unfold k0_chk1
  rw [off3_eq, off4_eq, off7_eq, off8_eq, off10_eq, off11_eq, off12_eq, off13_eq]
  refine ⟨fun _ _ => ?_, fun _ _ => ?_, fun _ => ?_, fun _ => ?_, fun _ => ?_, fun _ => ?_, fun _ => ?_, fun _ => ?_⟩ <;> decide

end Offsets

theorem off5_eq (i : grid0.Coords) (w : BitVec 32) (h : w.toNat < 8) : k0_off5 i w = srcOff ⟨w.toNat, h⟩ (i 0) := by
  have e : ∀ j : Fin 2, (Scalar.muli (BitVec.ofNat 32 j.val) 1024#32).toNat = 1024 * j.val := by decide
  exact congrArg (fun n : Nat => (![w.toNat, 0, n] : Fin 3 → Nat)) (e (i 0))
theorem off9_eq (i : grid0.Coords) (w : BitVec 32) (h : w.toNat < 8) : k0_off9 i w = srcOff ⟨w.toNat, h⟩ (i 0) := by
  have e : ∀ j : Fin 2, (Scalar.muli (BitVec.ofNat 32 j.val) 1024#32).toNat = 1024 * j.val := by decide
  exact congrArg (fun n : Nat => (![w.toNat, 0, n] : Fin 3 → Nat)) (e (i 0))

/-- The column half the next copy takes: the same one, or the next when this is the last block of a column. -/
def nextJ (j : Fin 2) (v20 v21 : BitVec 32) : Fin 2 := if v20 = v21 - 1#32 then 1 else j

theorem cmpi_eq_one (a b : BitVec 32) : (Scalar.cmpi .eq a b : BitVec 1) = 1#1 ↔ a = b := by
  by_cases h : a = b
  · simp [Scalar.cmpi, IntOp.cmpi, h]
  · have e : (a == b) = false := by simpa using h
    simp [Scalar.cmpi, IntOp.cmpi, e, h]

theorem last_eq_one (a b : BitVec 32) : (Scalar.cmpi .eq a (Scalar.subi b 1#32) : BitVec 1) = 1#1 ↔ a = b - 1#32 := cmpi_eq_one a (b - 1#32)

theorem cond6_half_at (j : Fin 2) (n : BitVec 1) (v20 v21 : BitVec 32)
    (h : (Scalar.cmpi .ne (Scalar.extui (Scalar.andi n (Scalar.xori (Scalar.andi (Scalar.cmpi .eq v20 (Scalar.subi v21 1#32)) (Scalar.cmpi .eq (BitVec.ofNat 32 j.val) 1#32)) 1#1)) : BitVec 32) 0#32 : BitVec 1) = 1#1) :
    (Scalar.muli (Scalar.addi (BitVec.ofNat 32 j.val) (Scalar.extui (Scalar.cmpi .eq v20 (Scalar.subi v21 1#32)))) 1024#32 : BitVec 32).toNat
      = 1024 * (nextJ j v20 v21).val := by
  have e : ∀ j : Fin 2, ∀ b : BitVec 1, ∀ n : BitVec 1,
      (Scalar.cmpi .ne (Scalar.extui (Scalar.andi n (Scalar.xori (Scalar.andi b (Scalar.cmpi .eq (BitVec.ofNat 32 j.val) 1#32)) 1#1)) : BitVec 32) 0#32 : BitVec 1) = 1#1 →
      (Scalar.muli (Scalar.addi (BitVec.ofNat 32 j.val) (Scalar.extui b)) 1024#32 : BitVec 32).toNat = 1024 * (if b = 1#1 then (1 : Fin 2) else j).val := by decide
  refine (e j (Scalar.cmpi .eq v20 (Scalar.subi v21 1#32)) n h).trans ?_
  unfold nextJ
  by_cases hh : v20 = v21 - 1#32
  · rw [if_pos hh, if_pos ((last_eq_one _ _).2 hh)]
  · rw [if_neg hh, if_neg (fun h => hh ((last_eq_one _ _).1 h))]

theorem cond6_half (i : grid0.Coords) (v1 v20 v21 : BitVec 32) (h : k0_cond6 i v1 v20 v21 = 1#1) :
    (Scalar.muli (Scalar.addi (BitVec.ofNat 32 (i 0).val) (Scalar.extui (Scalar.cmpi .eq v20 (Scalar.subi v21 1#32)))) 1024#32 : BitVec 32).toNat
      = 1024 * (nextJ (i 0) v20 v21).val := cond6_half_at (i 0) _ v20 v21 h

theorem off17_eq (i : grid0.Coords) (v1 v20 v21 w : BitVec 32) (h6 : k0_cond6 i v1 v20 v21 = 1#1) (h : w.toNat < 8) :
    k0_off17 i v20 v21 w = srcOff ⟨w.toNat, h⟩ (nextJ (i 0) v20 v21) :=
  congrArg (fun n : Nat => (![w.toNat, 0, n] : Fin 3 → Nat)) (cond6_half i v1 v20 v21 h6)

/-- The expert a table word names. -/
def expOf (w : BitVec 32) : Fin 8 := Fin.ofNat 8 w.toNat
theorem expOf_of (w : BitVec 32) (h : w.toNat < 8) : expOf w = ⟨w.toNat, h⟩ := Fin.ext (Nat.mod_eq_of_lt h)
theorem off5_eq' (i : grid0.Coords) (w : BitVec 32) (h : w.toNat < 8) : k0_off5 i w = srcOff (expOf w) (i 0) := by
  rw [expOf_of w h]; exact off5_eq i w h
theorem half_at (j : Fin 2) (v20 v21 : BitVec 32)
    (h : (Scalar.muli (Scalar.addi (BitVec.ofNat 32 j.val) (Scalar.extui (Scalar.cmpi .eq v20 (Scalar.subi v21 1#32)))) 1024#32 : BitVec 32).toNat + 1024 ≤ 2048) :
    (Scalar.muli (Scalar.addi (BitVec.ofNat 32 j.val) (Scalar.extui (Scalar.cmpi .eq v20 (Scalar.subi v21 1#32)))) 1024#32 : BitVec 32).toNat
      = 1024 * (nextJ j v20 v21).val := by
  have e : ∀ j : Fin 2, ∀ b : BitVec 1,
      (Scalar.muli (Scalar.addi (BitVec.ofNat 32 j.val) (Scalar.extui b)) 1024#32 : BitVec 32).toNat + 1024 ≤ 2048 →
      (Scalar.muli (Scalar.addi (BitVec.ofNat 32 j.val) (Scalar.extui b)) 1024#32 : BitVec 32).toNat = 1024 * (if b = 1#1 then (1 : Fin 2) else j).val := by decide
  refine (e j (Scalar.cmpi .eq v20 (Scalar.subi v21 1#32)) h).trans ?_
  unfold nextJ
  by_cases hh : v20 = v21 - 1#32
  · rw [if_pos hh, if_pos ((last_eq_one _ _).2 hh)]
  · rw [if_neg hh, if_neg (fun h => hh ((last_eq_one _ _).1 h))]
theorem off17_eq' (i : grid0.Coords) (v20 v21 w : BitVec 32) (hh : ∀ a, (k0_off17 i v20 v21 w) a + S1x7168x1024.size a ≤ S8x7168x2048.size a) :
    k0_off17 i v20 v21 w = srcOff (expOf w) (nextJ (i 0) v20 v21) := by
  have h : w.toNat < 8 := Nat.lt_of_succ_le (hh 0)
  rw [expOf_of w h]
  exact congrArg (fun n : Nat => (![w.toNat, 0, n] : Fin 3 → Nat)) (half_at (i 0) v20 v21 (hh 2))

theorem chk4 (i : grid0.Coords) (v1 v4 v7 v20 v21 : BitVec 32) : k0_chk4 i v1 v4 v7 v20 v21 := by
  unfold k0_chk4
  rw [off15_eq, off16_eq]
  refine ⟨fun h => ⟨(nextJ (i 0) v20 v21).val, cond6_half i v1 v20 v21 h⟩, fun _ => ?_, fun _ => ?_⟩ <;> decide
theorem chk2 (i : grid0.Coords) (v1 v4 v7 w : BitVec 32) (h : w.toNat < 8) : k0_chk2 i v1 v4 v7 w := by
  unfold k0_chk2; intro _ _; rw [off5_eq i w h]; exact srcOff_inb _ _
theorem chk3 (i : grid0.Coords) (v1 w : BitVec 32) (h : w.toNat < 8) : k0_chk3 i v1 w := by
  unfold k0_chk3; intro _; rw [off9_eq i w h]; exact srcOff_inb _ _
theorem chk5 (i : grid0.Coords) (v1 v20 v21 w : BitVec 32) (h : w.toNat < 8) : k0_chk5 i v1 v20 v21 w := by
  unfold k0_chk5; intro h6; rw [off17_eq i v1 v20 v21 w h6 h]; exact srcOff_inb _ _

private theorem wsem_congr {off : Fin 2 → Nat} (e : off = ![0, 0]) (hh) :
    (cc0_scratch2.slice (Rect.unit (s := S1x1) off S1x1.size hh)).squeeze S_ squeezes_S1x1_S_ = wsem :=
  congrArg (fun A : DmaSems sig S1x1 => A.squeeze S_ squeezes_S1x1_S_) (SemArray.slice_unit_congr _ e _ _)
private theorem wdst_congr {off : Fin 4 → Nat} (e : off = ![0, 0, 0, 0]) (hh hs) :
    (wfM.slice (Rect.unit (s := S1x1x7168x1024) off S1x1x7168x1024.size hh) hs).squeeze S7168x1024 squeezes_S1x1x7168x1024_S7168x1024 = wdst :=
  congrArg (fun M : Memref sig .tc .vmem S1x1x7168x1024 .f32 => M.squeeze S7168x1024 squeezes_S1x1x7168x1024_S7168x1024) (Memref.slice_unit_congr _ e _ _ _ _)
private theorem wsrc_congr {off : Fin 3 → Nat} {e : Fin 8} {j : Fin 2} (h : off = srcOff e j) (hh hs) :
    (w2M.slice (Rect.unit (s := S8x7168x2048) off S1x7168x1024.size hh) hs).squeeze S7168x1024 squeezes_S1x7168x1024_S7168x1024 = wsrc e j :=
  congrArg (fun M : Memref sig .tc .hbm S1x7168x1024 .f32 => M.squeeze S7168x1024 squeezes_S1x7168x1024_S7168x1024) (Memref.slice_unit_congr _ h _ _ _ _)

section Canon
variable (i : grid0.Coords) (v1 v4 v7 v20 v21 w : BitVec 32)
@[sl_canon] theorem sem3 (hh) : (cc0_scratch2.slice (Rect.unit (s := S1x1) (k0_off3 i v4 v7) S1x1.size hh)).squeeze S_ squeezes_S1x1_S_ = wsem := wsem_congr (off3_eq i v4 v7) _
@[sl_canon] theorem sem7 (hh) : (cc0_scratch2.slice (Rect.unit (s := S1x1) (k0_off7 i v4 v7) S1x1.size hh)).squeeze S_ squeezes_S1x1_S_ = wsem := wsem_congr (off7_eq i v4 v7) _
@[sl_canon] theorem sem15 (hh) : (cc0_scratch2.slice (Rect.unit (s := S1x1) (k0_off15 i v4 v7) S1x1.size hh)).squeeze S_ squeezes_S1x1_S_ = wsem := wsem_congr (off15_eq i v4 v7) _
@[sl_canon] theorem dst4 (hh hs) : (wfM.slice (Rect.unit (s := S1x1x7168x1024) (k0_off4 i v4 v7) S1x1x7168x1024.size hh) hs).squeeze S7168x1024 squeezes_S1x1x7168x1024_S7168x1024 = wdst := wdst_congr (off4_eq i v4 v7) _ _
@[sl_canon] theorem dst8 (hh hs) : (wfM.slice (Rect.unit (s := S1x1x7168x1024) (k0_off8 i v4 v7) S1x1x7168x1024.size hh) hs).squeeze S7168x1024 squeezes_S1x1x7168x1024_S7168x1024 = wdst := wdst_congr (off8_eq i v4 v7) _ _
@[sl_canon] theorem dst16 (hh hs) : (wfM.slice (Rect.unit (s := S1x1x7168x1024) (k0_off16 i v4 v7) S1x1x7168x1024.size hh) hs).squeeze S7168x1024 squeezes_S1x1x7168x1024_S7168x1024 = wdst := wdst_congr (off16_eq i v4 v7) _ _
@[sl_canon] theorem src5 (hh hs) : (w2M.slice (Rect.unit (s := S8x7168x2048) (k0_off5 i w) S1x7168x1024.size hh) hs).squeeze S7168x1024 squeezes_S1x7168x1024_S7168x1024 = wsrc (expOf w) (i 0) :=
  wsrc_congr (off5_eq' i w (by have := hh 0; exact Nat.lt_of_succ_le this)) _ _
@[sl_canon] theorem src9 (hh hs) : (w2M.slice (Rect.unit (s := S8x7168x2048) (k0_off9 i w) S1x7168x1024.size hh) hs).squeeze S7168x1024 squeezes_S1x7168x1024_S7168x1024 = wsrc (expOf w) (i 0) :=
  wsrc_congr (off5_eq' i w (by have := hh 0; exact Nat.lt_of_succ_le this)) _ _
@[sl_canon] theorem src17 (hh hs) : (w2M.slice (Rect.unit (s := S8x7168x2048) (k0_off17 i v20 v21 w) S1x7168x1024.size hh) hs).squeeze S7168x1024 squeezes_S1x7168x1024_S7168x1024 = wsrc (expOf w) (nextJ (i 0) v20 v21) :=
  wsrc_congr (off17_eq' i v20 v21 w hh) _ _
instance : ClosedOff (k0_off10 i v4 v7) := ⟨![0, 0, 0, 0], off10_eq i v4 v7⟩
instance : ClosedOff (k0_off11 i v4 v7) := ⟨![0, 0, 0, 256], off11_eq i v4 v7⟩
instance : ClosedOff (k0_off12 i v4 v7) := ⟨![0, 0, 0, 512], off12_eq i v4 v7⟩
instance : ClosedOff (k0_off13 i v4 v7) := ⟨![0, 0, 0, 768], off13_eq i v4 v7⟩
end Canon

abbrev te2 : Memref sig .tc .smem S72 .i32 := Memref.whole main_arg2
abbrev te3 : Memref sig .tc .smem S72 .i32 := Memref.whole main_arg3
abbrev te4 : Memref sig .tc .smem S72 .i32 := Memref.whole main_arg4
abbrev te5 : Memref sig .tc .smem S72 .i32 := Memref.whole main_arg5
abbrev te6 : Memref sig .tc .smem S1 .i32 := Memref.whole main_arg6
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-! ## The words of a step -/

omit [FloatOps F] in
theorem entails_of_eq {P Q : sProp 𝕄} (e : P = Q) : P ⊢ Q := e ▸ .rfl

section Words
variable {c : Dev nD} (i : grid0.Coords)
abbrev wExp (f : TbBuf (F := F) c te2) : BitVec 32 := View.readAt (Elt F) te2.view (Rect.unit (s := S72) (k0_off2 i) S1.size (k0_off2_inb i)).toLoadRect f (Shape.Idx.first (numel1_S1.symm ▸ Nat.one_pos))
abbrev wExp' (f : TbBuf (F := F) c te2) : BitVec 32 := View.readAt (Elt F) te2.view (Rect.unit (s := S72) (k0_off6 i) S1.size (k0_off6_inb i)).toLoadRect f (Shape.Idx.first (numel1_S1.symm ▸ Nat.one_pos))
abbrev wFlag (f : TbBuf (F := F) c te3) : BitVec 32 := View.readAt (Elt F) te3.view (Rect.unit (s := S72) (k0_off1 i) S1.size (k0_off1_inb i)).toLoadRect f (Shape.Idx.first (numel1_S1.symm ▸ Nat.one_pos))
abbrev wOrd (f : TbBuf (F := F) c te4) : BitVec 32 := View.readAt (Elt F) te4.view (Rect.unit (s := S72) (k0_off1 i) S1.size (k0_off1_inb i)).toLoadRect f (Shape.Idx.first (numel1_S1.symm ▸ Nat.one_pos))
abbrev wFol (f : TbBuf (F := F) c te5) : BitVec 32 := View.readAt (Elt F) te5.view (Rect.unit (s := S72) (k0_off14 i) S1.size (k0_off14_inb i)).toLoadRect f (Shape.Idx.first (numel1_S1.symm ▸ Nat.one_pos))
abbrev wBlk (f : TbBuf (F := F) c te6) : BitVec 32 := View.readAt (Elt F) te6.view (Rect.unit (s := S1) ![0] S1.size inb_S1_S1_0).toLoadRect f (Shape.Idx.first (numel1_S1.symm ▸ Nat.one_pos))
end Words

/-! ## What a step leaves -/

abbrev rO : Rect S256x1024 := Rect.unit (s := S256x1024) ![0, 0] S256x1024.size inb_S256x1024_S256x1024_0_0
abbrev rO0 : Rect S256x1024 := Rect.unit (s := S256x1024) ![0, 0] S256x256.size inb_S256x1024_S256x256_0_0
abbrev rO1 : Rect S256x1024 := Rect.unit (s := S256x1024) ![0, 256] S256x256.size inb_S256x1024_S256x256_0_256
abbrev rO2 : Rect S256x1024 := Rect.unit (s := S256x1024) ![0, 512] S256x256.size inb_S256x1024_S256x256_0_512
abbrev rO3 : Rect S256x1024 := Rect.unit (s := S256x1024) ![0, 768] S256x256.size inb_S256x1024_S256x256_0_768
abbrev rX : Rect S256x7168 := Rect.unit (s := S256x7168) ![0, 0] S256x7168.size inb_S256x7168_S256x7168_0_0
abbrev rB : Rect S1x7168x1024 := Rect.unit (s := S1x7168x1024) ![0, 0, 0] S1x7168x1024.size inb_S1x7168x1024_S1x7168x1024_0_0_0
abbrev rB0 : Rect S1x7168x1024 := Rect.unit (s := S1x7168x1024) ![0, 0, 0] S1x7168x256.size inb_S1x7168x1024_S1x7168x256_0_0_0
abbrev rB1 : Rect S1x7168x1024 := Rect.unit (s := S1x7168x1024) ![0, 0, 256] S1x7168x256.size inb_S1x7168x1024_S1x7168x256_0_0_256
abbrev rB2 : Rect S1x7168x1024 := Rect.unit (s := S1x7168x1024) ![0, 0, 512] S1x7168x256.size inb_S1x7168x1024_S1x7168x256_0_0_512
abbrev rB3 : Rect S1x7168x1024 := Rect.unit (s := S1x7168x1024) ![0, 0, 768] S1x7168x256.size inb_S1x7168x1024_S1x7168x256_0_0_768

/-- Columns `k` on of a weight half, as the step loads them from the slot. -/
def chunk (W : Vec F S7168x1024 .f32) (k : Fin 4) : Vec F S1x1x7168x256 .f32 := fun y =>
  W (ValueIdx.ix2 (⟨(y 2).val, (y 2).isLt⟩ : Fin 7168) (⟨256 * k.val + (y 3).val, by have h := k.isLt; have h' : (y 3).val < 256 := (y 3).isLt; omega⟩ : Fin 1024))

/-- A load of 256 columns of the slot is a chunk of the matrix the slot holds. -/
theorem load_chunk (k : Fin 4) {off : Fin 4 → Nat} (h : off = ![0, 0, 0, 256 * k.val]) (hh : ∀ a, off a + S1x1x7168x256.size a ≤ S1x1x7168x1024.size a)
    (f : wfM.view.ty.Contents (Elt F)) :
    View.readAt (Elt F) wfM.view (Rect.unit (s := S1x1x7168x1024) off S1x1x7168x256.size hh).toLoadRect f = chunk (wdst.view.read (Elt F) f) k := by
  subst h
  funext y
  unfold chunk wdst
  rw [Memref.read_squeeze_slice (hc := squeezes_S1x1x7168x1024_S7168x1024.numel_eq)]
  unfold shapeCast
  rw [ValueIdx.reshapeEquiv_ix2_11ab]
  refine congrArg f (funext fun a => Fin.ext ?_)
  fin_cases a
  · have h : (y 0).val < 1 := (y 0).isLt
    show 0 + 1 * (y 0).val = 0 + 1 * 0
    omega
  · have h : (y 1).val < 1 := (y 1).isLt
    show 0 + 1 * (y 1).val = 0 + 1 * 0
    omega
  · show 0 + 1 * (y 2).val = 0 + 1 * (y 2).val
    rfl
  · show 256 * k.val + 1 * (y 3).val = 0 + 1 * (256 * k.val + (y 3).val)
    omega

/-! ## The weight slot between steps -/

section Slot
variable (c : Dev nD) (w2 : Buf (Elt F) (w2M.view.loc (c : Thread nD τ)))
abbrev slotP (f : Buf (Elt F) (wdst.view.loc (c : Thread nD τ))) : sProp 𝕄 := wdst.view.loc (c : Thread nD τ) ↦[wdst.view.set]{fullShare} f
abbrev homeP (e : Fin 8) (j : Fin 2) : sProp 𝕄 := (wsrc e j).view.loc (c : Thread nD τ) ↦[(wsrc e j).view.set]{fullShare} w2
/-- Expert `e`'s weights, half `j`, as a matrix. -/
abbrev wHalf (e : Fin 8) (j : Fin 2) : Vec F S7168x1024 .f32 := (wsrc e j).view.read (Elt F) w2
/-- Nothing on its way: the slot held, the weights whole, the semaphore at rest. -/
def idleS : sProp 𝕄 := iprop(∃ f, slotP c f ∗ (w2M.view.loc (c : Thread nD τ) ↦{fullShare} w2) ∗ semVal ((c : Thread nD τ), SemLoc.dma wsem.sem) 0)
/-- Expert `e`'s half `j` on its way into the slot. -/
def flightS (e : Fin 8) (j : Fin 2) : sProp 𝕄 := iprop(∃ f, ⌜wdst.view.read (Elt F) f = wHalf c w2 e j⌝
  ∗ Transfers.Flight countersEmb (c : Thread nD τ) (SemLoc.dma wsem.sem) () 917504 iprop(slotP c f ∗ homeP c w2 e j)
  ∗ (w2M.view.loc (c : Thread nD τ) ↦[Finset.univ \ (wsrc e j).view.set]{fullShare} w2))
end Slot

/-- A copy's source and what stayed behind are the weights whole. -/
theorem w2_join (c : Dev nD) (w2 : Buf (Elt F) (w2M.view.loc (c : Thread nD τ))) (e : Fin 8) (j : Fin 2) :
    iprop(homeP c w2 e j ∗ (w2M.view.loc (c : Thread nD τ) ↦[Finset.univ \ (wsrc e j).view.set]{fullShare} w2))
      ⊢ ((w2M.view.loc (c : Thread nD τ) ↦{fullShare} w2 : sProp 𝕄)) :=
  (pointsTo_split_subset (Finset.subset_univ _)).2

/-- The five tables, each at half share. -/
def tabs (c : Dev nD) (f2 : TbBuf (F := F) c te2) (f3 : TbBuf (F := F) c te3) (f4 : TbBuf (F := F) c te4) (f5 : TbBuf (F := F) c te5) (f6 : TbBuf (F := F) c te6) : sProp 𝕄 :=
  iprop(tbPt c te2 f2 ∗ tbPt c te3 f3 ∗ tbPt c te4 f4 ∗ tbPt c te5 f5 ∗ tbPt c te6 f6)

/-- The step at `i` runs, from the output's buffer at anything, the bf16 weights at `fb` and the slot at `S`, to the output at
    `out`, the bf16 weights at `fb'` and the slot at `S'`. -/
def Runs (c : Dev nD) (i : grid0.Coords) (f2 : TbBuf (F := F) c te2) (f3 : TbBuf (F := F) c te3) (f4 : TbBuf (F := F) c te4) (f5 : TbBuf (F := F) c te5) (f6 : TbBuf (F := F) c te6)
    (x : Vec F S256x7168 .bf16) (fb : Vec F S1x7168x1024 .bf16) (out : Vec F S256x1024 .bf16) (fb' : Vec F S1x7168x1024 .bf16) (S S' : sProp 𝕄) : Prop :=
  ∀ (arg7 : Memref sig .tc .vmem S256x7168 .bf16) (harg7 : arg7.IsWhole) (arg9 : Memref sig .tc .vmem S256x1024 .bf16) (harg9 : arg9.IsWhole)
    (W : Waits sig Unit) (K : PUnit → sProp 𝕄),
    iprop(tabs c f2 f3 f4 f5 f6 ∗ owns (c : Thread nD τ) arg7 fullShare x ∗ (∃ d, owns (c : Thread nD τ) arg9 fullShare d)
        ∗ owns (c : Thread nD τ) wbM fullShare fb ∗ owes (c : Thread nD τ) 0 W ∗ S
        ∗ (iprop(tabs c f2 f3 f4 f5 f6 ∗ owns (c : Thread nD τ) arg7 fullShare x ∗ owns (c : Thread nD τ) arg9 fullShare out
            ∗ owns (c : Thread nD τ) wbM fullShare fb' ∗ (∃ W', owes (c : Thread nD τ) 0 W') ∗ S') -∗ K ⟨⟩))
      ⊢ wp frame (wpE (defs₀ (F := F)) Variants.none c none) Set.univ
          (cc0_swiglu_down i te2 (Memref.isWhole_whole _) te3 (Memref.isWhole_whole _) te4 (Memref.isWhole_whole _) te5 (Memref.isWhole_whole _) te6 (Memref.isWhole_whole _)
            arg7 harg7 w2M (Memref.isWhole_whole _) arg9 harg9 wfM (Memref.isWhole_whole _) wbM (Memref.isWhole_whole _) cc0_scratch2) K

/-- The weight slot after a step: the next copy begun, or nothing on its way. -/
def nextS (c : Dev nD) (w2 : Buf (Elt F) (w2M.view.loc (c : Thread nD τ))) (i : grid0.Coords) (v1 v20 v21 w : BitVec 32) : sProp 𝕄 :=
  if k0_cond6 i v1 v20 v21 = 1#1 then flightS c w2 (expOf w) (nextJ (i 0) v20 v21) else idleS c w2

theorem out4_cover (p : Vec F S256x1024 .bf16) (y : S256x1024.Idx) : ∃ pc ∈ ([⟨rO, p⟩] : List (View.Piece (Elt F) S256x1024 .bf16)), y ∈ pc.1.set :=
  View.cover_of_tiled [⟨rO, p⟩] S256x1024.size (by rfl) y

/-- A tile of padding: zeros. -/
def outPad : Vec F S256x1024 .bf16 := View.canon [⟨rO, k0_pay1⟩]
/-- A tile whose weights were already at hand. -/
def outOld (x : Vec F S256x7168 .bf16) (fb : Vec F S1x7168x1024 .bf16) : Vec F S256x1024 .bf16 := View.canon [⟨rO, k0_pay14 (View.ld x rX) (View.ld fb rB)⟩]
/-- A tile whose weights just arrived, -/
def outNew (x : Vec F S256x7168 .bf16) (W : Vec F S7168x1024 .f32) : Vec F S256x1024 .bf16 :=
  View.canon [⟨rO3, k0_pay13 (View.ld x rX) (chunk W 3)⟩, ⟨rO2, k0_pay10 (View.ld x rX) (k0_pay8 (chunk W 2)) (constant S256x256 .f32 0x00000000#32)⟩,
    ⟨rO1, k0_pay7 (View.ld x rX) (chunk W 1)⟩, ⟨rO0, k0_pay4 (View.ld x rX) (chunk W 0)⟩]
/-- and the weights kept, in bf16. -/
def wbNew (W : Vec F S7168x1024 .f32) : Vec F S1x7168x1024 .bf16 :=
  View.canon [⟨rB3, k0_pay12 (chunk W 3)⟩, ⟨rB2, k0_pay9 (chunk W 2)⟩, ⟨rB1, k0_pay6 (chunk W 1)⟩, ⟨rB0, k0_pay3 (chunk W 0)⟩]

/-- The four chunks' columns tile the output block, -/
theorem cover_out (p3 p2 p1 p0 : Vec F S256x256 .bf16) (y : S256x1024.Idx) :
    ∃ pc ∈ ([⟨rO3, p3⟩, ⟨rO2, p2⟩, ⟨rO1, p1⟩, ⟨rO0, p0⟩] : List (View.Piece (Elt F) S256x1024 .bf16)), y ∈ pc.1.set :=
  View.cover_of_tiled [⟨rO3, p3⟩, ⟨rO2, p2⟩, ⟨rO1, p1⟩, ⟨rO0, p0⟩] S256x256.size (by rfl) y
/-- and the kept weights. -/
theorem cover_wb (p3 p2 p1 p0 : Vec F S1x7168x256 .bf16) (y : S1x7168x1024.Idx) :
    ∃ pc ∈ ([⟨rB3, p3⟩, ⟨rB2, p2⟩, ⟨rB1, p1⟩, ⟨rB0, p0⟩] : List (View.Piece (Elt F) S1x7168x1024 .bf16)), y ∈ pc.1.set :=
  View.cover_of_tiled [⟨rB3, p3⟩, ⟨rB2, p2⟩, ⟨rB1, p1⟩, ⟨rB0, p0⟩] S1x7168x256.size (by rfl) y

theorem out_new {arg9 : Memref sig .tc .vmem S256x1024 .bf16} (f9 : arg9.view.ty.Contents (Elt F)) (x : Vec F S256x7168 .bf16) (f : wfM.view.ty.Contents (Elt F))
    (i : grid0.Coords) (v4 v7 : BitVec 32) (h10 h11 h12 h13) :
    arg9.view.read (Elt F) (arg9.view.writes (Elt F) f9
      [⟨rO3, k0_pay13 (View.ld x rX) (View.readAt (Elt F) wfM.view (Rect.unit (s := S1x1x7168x1024) (k0_off13 i v4 v7) S1x1x7168x256.size h13).toLoadRect f)⟩,
       ⟨rO2, k0_pay10 (View.ld x rX) (k0_pay8 (View.readAt (Elt F) wfM.view (Rect.unit (s := S1x1x7168x1024) (k0_off12 i v4 v7) S1x1x7168x256.size h12).toLoadRect f)) (constant S256x256 .f32 0x00000000#32)⟩,
       ⟨rO1, k0_pay7 (View.ld x rX) (View.readAt (Elt F) wfM.view (Rect.unit (s := S1x1x7168x1024) (k0_off11 i v4 v7) S1x1x7168x256.size h11).toLoadRect f)⟩,
       ⟨rO0, k0_pay4 (View.ld x rX) (View.readAt (Elt F) wfM.view (Rect.unit (s := S1x1x7168x1024) (k0_off10 i v4 v7) S1x1x7168x256.size h10).toLoadRect f)⟩])
      = outNew x (wdst.view.read (Elt F) f) := by
  rw [load_chunk 3 (off13_eq i v4 v7), load_chunk 2 (off12_eq i v4 v7), load_chunk 1 (off11_eq i v4 v7), load_chunk 0 (off10_eq i v4 v7)]
  exact View.read_writes_eq_canon _ _ _ (cover_out _ _ _ _)

theorem wb_new (g : wbM.view.ty.Contents (Elt F)) (f : wfM.view.ty.Contents (Elt F)) (i : grid0.Coords) (v4 v7 : BitVec 32) (h10 h11 h12 h13) :
    wbM.view.read (Elt F) (wbM.view.writes (Elt F) g
      [⟨rB3, k0_pay12 (View.readAt (Elt F) wfM.view (Rect.unit (s := S1x1x7168x1024) (k0_off13 i v4 v7) S1x1x7168x256.size h13).toLoadRect f)⟩,
       ⟨rB2, k0_pay9 (View.readAt (Elt F) wfM.view (Rect.unit (s := S1x1x7168x1024) (k0_off12 i v4 v7) S1x1x7168x256.size h12).toLoadRect f)⟩,
       ⟨rB1, k0_pay6 (View.readAt (Elt F) wfM.view (Rect.unit (s := S1x1x7168x1024) (k0_off11 i v4 v7) S1x1x7168x256.size h11).toLoadRect f)⟩,
       ⟨rB0, k0_pay3 (View.readAt (Elt F) wfM.view (Rect.unit (s := S1x1x7168x1024) (k0_off10 i v4 v7) S1x1x7168x256.size h10).toLoadRect f)⟩])
      = wbNew (wdst.view.read (Elt F) f) := by
  rw [load_chunk 3 (off13_eq i v4 v7), load_chunk 2 (off12_eq i v4 v7), load_chunk 1 (off11_eq i v4 v7), load_chunk 0 (off10_eq i v4 v7)]
  exact View.read_writes_eq_canon _ _ _ (cover_wb _ _ _ _)

section Fin
variable (c : Dev nD) (w2 : Buf (Elt F) (w2M.view.loc (c : Thread nD τ)))
theorem nextS_flight {i : grid0.Coords} {v1 v20 v21 w : BitVec 32} (h6 : k0_cond6 i v1 v20 v21 = 1#1) :
    flightS c w2 (expOf w) (nextJ (i 0) v20 v21) ⊢ nextS c w2 i v1 v20 v21 w := by unfold nextS; rw [if_pos h6]
theorem nextS_idle {i : grid0.Coords} {v1 v20 v21 w : BitVec 32} (h6 : ¬ k0_cond6 i v1 v20 v21 = 1#1) :
    idleS c w2 ⊢ nextS c w2 i v1 v20 v21 w := by unfold nextS; rw [if_neg h6]
end Fin

section Ends
variable (c : Dev nD) (i : grid0.Coords)
  (f2 : TbBuf (F := F) c te2) (f3 : TbBuf (F := F) c te3) (f4 : TbBuf (F := F) c te4) (f5 : TbBuf (F := F) c te5) (f6 : TbBuf (F := F) c te6)
  (w2 : Buf (Elt F) (w2M.view.loc (c : Thread nD τ))) (x : Vec F S256x7168 .bf16) (fb : Vec F S1x7168x1024 .bf16)

theorem runB3  (h1 : k0_cond1 (wFlag i f3) = 1#1) (h2 : ¬ k0_cond2 i (wBlk f6) (wOrd i f4) = 1#1) (h3 : k0_cond3 (wFlag i f3) = 1#1)
    (h4 : ¬ k0_cond4 (wFlag i f3) = 1#1) (h5 : ¬ k0_cond5 (wFlag i f3) = 1#1)
    (hf : (wFol i f5).toNat < 8) (he : (wExp' i f2).toNat < 8) :
    Runs c i f2 f3 f4 f5 f6 x fb (outNew x (wHalf c w2 (expOf (wExp' i f2)) (i 0))) (wbNew (wHalf c w2 (expOf (wExp' i f2)) (i 0)))
      (flightS c w2 (expOf (wExp' i f2)) (i 0)) (nextS c w2 i (wFlag i f3) (wOrd i f4) (wBlk f6) (wFol i f5)) := by
  intro arg7 harg7 arg9 harg9 W K
  have hk1 := chk1 i
  have hk4 := chk4 i
  have hk3 := chk3 i (wFlag i f3) (wExp' i f2) he
  simp only [cc0_swiglu_down_eq_skeleton]; unfold cc0_swiglu_down_skel
  unfold owns flightS tabs
  iintro ⟨⟨H2, H3, H4, H5, H6⟩, ⟨%f7, %hf7, H7⟩, ⟨%d9, %f9, -, H9⟩, ⟨%g, %hg, HB⟩, HO, ⟨%fw, %hfw, HF, HR⟩, Hk⟩
  sl_exec
  ihave HWW := w2_join c w2 (expOf (wExp' i f2)) (i 0) $$ [HF_src HR]
  · isplitl [HF_src]; · iexact HF_src
    iexact HR
  by_cases h6 : k0_cond6 i (wFlag i f3) (wOrd i f4) (wBlk f6) = 1#1
  on_goal 1 =>
    have hk5 := chk5 i (wFlag i f3) (wOrd i f4) (wBlk f6) (wFol i f5) hf
    sl_exec
    sl_step
  on_goal 2 =>
    sl_exec
    sl_step
  all_goals
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H9]
    · iexists _; isplitr
      swap; · iexact H9
      ipureintro
      rw [← hfw, ← hf7]
      exact out_new _ _ _ i (wBlk f6) (wOrd i f4) _ _ _ _
    isplitl [HB]
    · iexists _; isplitr
      swap; · iexact HB
      ipureintro
      rw [← hfw]
      exact wb_new _ _ i (wBlk f6) (wOrd i f4) _ _ _ _
    isplitl [HO]; · iexists _; iexact HO
  · iapply (nextS_flight c w2 h6)
    unfold flightS
    iexists _
    isplitr
    swap
    · isplitl [HF]; · iexact HF
      iexact HWW
    ipureintro
    exact View.read_writes_whole _ _ _
  · iapply (nextS_idle c w2 h6)
    unfold idleS
    iexists _
    isplitl [HF_dst]; · iexact HF_dst
    isplitl [HWW]; · iexact HWW
    iexact HF

theorem runB5  (h1 : k0_cond1 (wFlag i f3) = 1#1) (h2 : ¬ k0_cond2 i (wBlk f6) (wOrd i f4) = 1#1) (h3 : ¬ k0_cond3 (wFlag i f3) = 1#1)
    (h4 : ¬ k0_cond4 (wFlag i f3) = 1#1) (h5 : k0_cond5 (wFlag i f3) = 1#1)
    (hf : (wFol i f5).toNat < 8) (he : (wExp' i f2).toNat < 8) :
    Runs c i f2 f3 f4 f5 f6 x fb (outPad) (fb)
      (flightS c w2 (expOf (wExp' i f2)) (i 0)) (nextS c w2 i (wFlag i f3) (wOrd i f4) (wBlk f6) (wFol i f5)) := by
  intro arg7 harg7 arg9 harg9 W K
  have hk1 := chk1 i
  have hk4 := chk4 i
  have hk3 := chk3 i (wFlag i f3) (wExp' i f2) he
  simp only [cc0_swiglu_down_eq_skeleton]; unfold cc0_swiglu_down_skel
  unfold owns flightS tabs
  iintro ⟨⟨H2, H3, H4, H5, H6⟩, ⟨%f7, %hf7, H7⟩, ⟨%d9, %f9, -, H9⟩, ⟨%g, %hg, HB⟩, HO, ⟨%fw, %hfw, HF, HR⟩, Hk⟩
  sl_exec
  ihave HWW := w2_join c w2 (expOf (wExp' i f2)) (i 0) $$ [HF_src HR]
  · isplitl [HF_src]; · iexact HF_src
    iexact HR
  by_cases h6 : k0_cond6 i (wFlag i f3) (wOrd i f4) (wBlk f6) = 1#1
  on_goal 1 =>
    have hk5 := chk5 i (wFlag i f3) (wOrd i f4) (wBlk f6) (wFol i f5) hf
    sl_exec
    sl_step
  on_goal 2 =>
    sl_exec
    sl_step
  all_goals
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H9]
    · iexists _; isplitr
      swap; · iexact H9
      ipureintro
      exact View.read_writes_eq_canon _ _ _ (out4_cover _)
    isplitl [HB]
    · iexists g; isplitr; · ipureintro; exact hg
      iexact HB
    isplitl [HO]; · iexists _; iexact HO
  · iapply (nextS_flight c w2 h6)
    unfold flightS
    iexists _
    isplitr
    swap
    · isplitl [HF]; · iexact HF
      iexact HWW
    ipureintro
    exact View.read_writes_whole _ _ _
  · iapply (nextS_idle c w2 h6)
    unfold idleS
    iexists _
    isplitl [HF_dst]; · iexact HF_dst
    isplitl [HWW]; · iexact HWW
    iexact HF

theorem runA3  (h1 : k0_cond1 (wFlag i f3) = 1#1) (h2 : k0_cond2 i (wBlk f6) (wOrd i f4) = 1#1) (h3 : k0_cond3 (wFlag i f3) = 1#1)
    (h4 : ¬ k0_cond4 (wFlag i f3) = 1#1) (h5 : ¬ k0_cond5 (wFlag i f3) = 1#1)
    (hf : (wFol i f5).toNat < 8) (he : (wExp' i f2).toNat < 8) :
    Runs c i f2 f3 f4 f5 f6 x fb (outNew x (wHalf c w2 (expOf (wExp' i f2)) (i 0))) (wbNew (wHalf c w2 (expOf (wExp' i f2)) (i 0)))
      (idleS c w2) (nextS c w2 i (wFlag i f3) (wOrd i f4) (wBlk f6) (wFol i f5)) := by
  intro arg7 harg7 arg9 harg9 W K
  have hk1 := chk1 i
  have hk4 := chk4 i
  have hk3 := chk3 i (wFlag i f3) (wExp' i f2) he
  have hk2 := chk2 i (wFlag i f3) (wBlk f6) (wOrd i f4) (wExp i f2) he
  simp only [cc0_swiglu_down_eq_skeleton]; unfold cc0_swiglu_down_skel
  unfold owns idleS tabs
  iintro ⟨⟨H2, H3, H4, H5, H6⟩, ⟨%f7, %hf7, H7⟩, ⟨%d9, %f9, -, H9⟩, ⟨%g, %hg, HB⟩, HO, ⟨%fw, HF_dst, HWW, HF⟩, Hk⟩
  sl_exec
  ihave H9' : iprop(∃ f, ⌜arg9.view.read (Elt F) f = outNew x (wHalf c w2 (expOf (wExp' i f2)) (i 0))⌝ ∗ View.loc (c : Thread nD τ) arg9.view ↦[arg9.view.set]{fullShare} f) $$ [H9]
  · iexists _; isplitr
    swap; · iexact H9
    ipureintro
    rw [← hf7]
    exact (out_new _ _ (wdst.view.writes (Elt F) wdst.view.junk [⟨Rect.whole S7168x1024, wHalf c w2 (expOf (wExp' i f2)) (i 0)⟩]) i (wBlk f6) (wOrd i f4) _ _ _ _).trans (congrArg (outNew _) (View.read_writes_whole _ _ _))
  ihave HB' : iprop(∃ f, ⌜wbM.view.read (Elt F) f = wbNew (wHalf c w2 (expOf (wExp' i f2)) (i 0))⌝ ∗ View.loc (c : Thread nD τ) wbM.view ↦[wbM.view.set]{fullShare} f) $$ [HB]
  · iexists _; isplitr
    swap; · iexact HB
    ipureintro
    exact (wb_new _ (wdst.view.writes (Elt F) wdst.view.junk [⟨Rect.whole S7168x1024, wHalf c w2 (expOf (wExp' i f2)) (i 0)⟩]) i (wBlk f6) (wOrd i f4) _ _ _ _).trans (congrArg wbNew (View.read_writes_whole _ _ _))
  ihave HF' : iprop(∃ f, View.loc (c : Thread nD τ) wdst.view ↦[wdst.view.set]{fullShare} f) $$ [HF_dst]
  · iexists _; iexact HF_dst
  icases HF' with ⟨%fz, HF_dst⟩
  by_cases h6 : k0_cond6 i (wFlag i f3) (wOrd i f4) (wBlk f6) = 1#1
  on_goal 1 =>
    have hk5 := chk5 i (wFlag i f3) (wOrd i f4) (wBlk f6) (wFol i f5) hf
    sl_exec
    sl_step
  on_goal 2 =>
    sl_exec
    sl_step
  all_goals
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H9']; · iexact H9'
    isplitl [HB']; · iexact HB'
    isplitl [HO]; · iexists _; iexact HO
  · iapply (nextS_flight c w2 h6)
    unfold flightS
    iexists _
    isplitr
    swap
    · isplitl [HF]; · iexact HF
      iexact HWW
    ipureintro
    exact View.read_writes_whole _ _ _
  · iapply (nextS_idle c w2 h6)
    unfold idleS
    iexists _
    isplitl [HF_dst]; · iexact HF_dst
    isplitl [HWW]; · iexact HWW
    iexact HF

theorem runA5  (h1 : k0_cond1 (wFlag i f3) = 1#1) (h2 : k0_cond2 i (wBlk f6) (wOrd i f4) = 1#1) (h3 : ¬ k0_cond3 (wFlag i f3) = 1#1)
    (h4 : ¬ k0_cond4 (wFlag i f3) = 1#1) (h5 : k0_cond5 (wFlag i f3) = 1#1)
    (hf : (wFol i f5).toNat < 8) (he : (wExp' i f2).toNat < 8) :
    Runs c i f2 f3 f4 f5 f6 x fb (outPad) (fb)
      (idleS c w2) (nextS c w2 i (wFlag i f3) (wOrd i f4) (wBlk f6) (wFol i f5)) := by
  intro arg7 harg7 arg9 harg9 W K
  have hk1 := chk1 i
  have hk4 := chk4 i
  have hk3 := chk3 i (wFlag i f3) (wExp' i f2) he
  have hk2 := chk2 i (wFlag i f3) (wBlk f6) (wOrd i f4) (wExp i f2) he
  simp only [cc0_swiglu_down_eq_skeleton]; unfold cc0_swiglu_down_skel
  unfold owns idleS tabs
  iintro ⟨⟨H2, H3, H4, H5, H6⟩, ⟨%f7, %hf7, H7⟩, ⟨%d9, %f9, -, H9⟩, ⟨%g, %hg, HB⟩, HO, ⟨%fw, HF_dst, HWW, HF⟩, Hk⟩
  sl_exec
  ihave H9' : iprop(∃ f, ⌜arg9.view.read (Elt F) f = outPad⌝ ∗ View.loc (c : Thread nD τ) arg9.view ↦[arg9.view.set]{fullShare} f) $$ [H9]
  · iexists _; isplitr
    swap; · iexact H9
    ipureintro
    exact View.read_writes_eq_canon _ _ _ (out4_cover _)
  ihave HF' : iprop(∃ f, View.loc (c : Thread nD τ) wdst.view ↦[wdst.view.set]{fullShare} f) $$ [HF_dst]
  · iexists _; iexact HF_dst
  icases HF' with ⟨%fz, HF_dst⟩
  by_cases h6 : k0_cond6 i (wFlag i f3) (wOrd i f4) (wBlk f6) = 1#1
  on_goal 1 =>
    have hk5 := chk5 i (wFlag i f3) (wOrd i f4) (wBlk f6) (wFol i f5) hf
    sl_exec
    sl_step
  on_goal 2 =>
    sl_exec
    sl_step
  all_goals
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H9']; · iexact H9'
    isplitl [HB]
    · iexists g; isplitr; · ipureintro; exact hg
      iexact HB
    isplitl [HO]; · iexists _; iexact HO
  · iapply (nextS_flight c w2 h6)
    unfold flightS
    iexists _
    isplitr
    swap
    · isplitl [HF]; · iexact HF
      iexact HWW
    ipureintro
    exact View.read_writes_whole _ _ _
  · iapply (nextS_idle c w2 h6)
    unfold idleS
    iexists _
    isplitl [HF_dst]; · iexact HF_dst
    isplitl [HWW]; · iexact HWW
    iexact HF

theorem runC4 (S : sProp 𝕄)
    (h1 : ¬ k0_cond1 (wFlag i f3) = 1#1) (h3 : ¬ k0_cond3 (wFlag i f3) = 1#1)
    (h4 : k0_cond4 (wFlag i f3) = 1#1) (h5 : ¬ k0_cond5 (wFlag i f3) = 1#1) (h6 : ¬ k0_cond6 i (wFlag i f3) (wOrd i f4) (wBlk f6) = 1#1) :
    Runs c i f2 f3 f4 f5 f6 x fb (outOld x fb) fb S S := by
  intro arg7 harg7 arg9 harg9 W K
  have hk1 := chk1 i
  have hk4 := chk4 i
  simp only [cc0_swiglu_down_eq_skeleton]; unfold cc0_swiglu_down_skel
  unfold owns tabs
  iintro ⟨⟨H2, H3, H4, H5, H6⟩, ⟨%f7, %hf7, H7⟩, ⟨%d9, %f9, -, H9⟩, ⟨%g, %hg, HB⟩, HO, HS, Hk⟩
  sl_exec
  · sl_step
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H9]
    · iexists _; isplitr
      swap; · iexact H9
      ipureintro
      rw [← hf7, ← hg]
      exact View.read_writes_eq_canon _ _ _ (out4_cover _)
    isplitl [HB]
    · iexists g; isplitr; · ipureintro; exact hg
      iexact HB
    isplitl [HO]; · iexists _; iexact HO
    iexact HS

theorem runC5 (S : sProp 𝕄)
    (h1 : ¬ k0_cond1 (wFlag i f3) = 1#1) (h3 : ¬ k0_cond3 (wFlag i f3) = 1#1)
    (h4 : ¬ k0_cond4 (wFlag i f3) = 1#1) (h5 : k0_cond5 (wFlag i f3) = 1#1) (h6 : ¬ k0_cond6 i (wFlag i f3) (wOrd i f4) (wBlk f6) = 1#1) :
    Runs c i f2 f3 f4 f5 f6 x fb (outPad) fb S S := by
  intro arg7 harg7 arg9 harg9 W K
  have hk1 := chk1 i
  have hk4 := chk4 i
  simp only [cc0_swiglu_down_eq_skeleton]; unfold cc0_swiglu_down_skel
  unfold owns tabs
  iintro ⟨⟨H2, H3, H4, H5, H6⟩, ⟨%f7, %hf7, H7⟩, ⟨%d9, %f9, -, H9⟩, ⟨%g, %hg, HB⟩, HO, HS, Hk⟩
  sl_exec
  · sl_step
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H9]
    · iexists _; isplitr
      swap; · iexact H9
      ipureintro
      exact View.read_writes_eq_canon _ _ _ (out4_cover _)
    isplitl [HB]
    · iexists g; isplitr; · ipureintro; exact hg
      iexact HB
    isplitl [HO]; · iexists _; iexact HO
    iexact HS

end Ends

end Cert.Kernel4Ideal.Down

end
-- ==== Proof.DownStepI.lean ====
/- The experts' down product: what each grid point does, read off the tables' words. -/
module

public import proofs.«01_k».proof.Proof.DownRunI
public import proofs.«01_k».proof.Proof.DownPlan
public import Idealize.ShloMosaic.Lib.ValueIdx

@[expose] public section

set_option maxRecDepth 16384

noncomputable section

namespace Cert.Kernel4Ideal.Down

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (Pipeline.UD sig nD τ) ℕ

/-! ## The words a point loads -/

theorem idx_tile (k : Fin 72) : (Scalar.indexCast (BitVec.ofNat 32 k.val) : Index).toNat = k.val := by
  have h := k.isLt
  revert h
  generalize k.val = n
  intro h
  show (BitVec.ofNat 32 n).toNat = n
  rw [BitVec.toNat_ofNat]
  omega

/-- A point's column half. -/
abbrev hOf (i : grid0.Coords) : Fin 2 := i 0
/-- A point's tile. -/
abbrev tOf (i : grid0.Coords) : Fin 72 := i 1
section Words
variable {c : Dev nD} (i : grid0.Coords)
theorem wExp_eq (f : TbBuf (F := F) c te2) : wExp i f = f (ValueIdx.ix1 (i 1)) := by
  refine congrArg f (funext fun x => Fin.ext ?_)
  fin_cases x
  show (Scalar.indexCast (BitVec.ofNat 32 (i 1).val) : Index).toNat + 1 * 0 = (i 1).val
  exact idx_tile (i 1)
theorem wExp'_eq (f : TbBuf (F := F) c te2) : wExp' i f = f (ValueIdx.ix1 (i 1)) := wExp_eq i f
theorem wFlag_eq (f : TbBuf (F := F) c te3) : wFlag i f = f (ValueIdx.ix1 (i 1)) := by
  refine congrArg f (funext fun x => Fin.ext ?_)
  fin_cases x
  show (Scalar.indexCast (BitVec.ofNat 32 (i 1).val) : Index).toNat + 1 * 0 = (i 1).val
  exact idx_tile (i 1)
theorem wOrd_eq (f : TbBuf (F := F) c te4) : wOrd i f = f (ValueIdx.ix1 (i 1)) := by
  refine congrArg f (funext fun x => Fin.ext ?_)
  fin_cases x
  show (Scalar.indexCast (BitVec.ofNat 32 (i 1).val) : Index).toNat + 1 * 0 = (i 1).val
  exact idx_tile (i 1)
theorem wFol_eq (f : TbBuf (F := F) c te5) : wFol i f = f (ValueIdx.ix1 (i 1)) := by
  refine congrArg f (funext fun x => Fin.ext ?_)
  fin_cases x
  show (Scalar.indexCast (BitVec.ofNat 32 (i 1).val) : Index).toNat + 1 * 0 = (i 1).val
  exact idx_tile (i 1)
theorem wBlk_eq (f : TbBuf (F := F) c te6) : wBlk f = f (ValueIdx.ix1 0) := by
  refine congrArg f (funext fun x => Fin.ext ?_)
  fin_cases x
  rfl
end Words

/-- A point's column half and tile. -/
theorem coords_eq : ∀ t : Fin grid0.N, hOf (grid0.coords t) = Cert.Down.half t.val ∧ tOf (grid0.coords t) = Cert.Down.tile t.val := by decide +kernel

/-! ## The conditions -/

theorem cond2_iff (i : grid0.Coords) (v4 v7 : BitVec 32) : k0_cond2 i v4 v7 = 1#1 ↔ BitVec.ofNat 32 (i 0).val * v4 + v7 = 0#32 := by
  have e : ∀ b : BitVec 1, (Scalar.cmpi .ne (Scalar.extui b : BitVec 32) 0#32 : BitVec 1) = 1#1 ↔ b = 1#1 := by decide
  exact (e _).trans (cmpi_eq_one _ _)

theorem cond6_iff (i : grid0.Coords) {v1 : BitVec 32} (v20 v21 : BitVec 32) (hv : v1 = 2#32 ∨ v1 = 3#32) :
    k0_cond6 i v1 v20 v21 = 1#1 ↔ ¬ (v20 = v21 - 1#32 ∧ hOf i = 1) := by
  have e : ∀ (j : Fin 2) (b : BitVec 1),
      (Scalar.cmpi .ne (Scalar.extui (Scalar.andi 1#1 (Scalar.xori (Scalar.andi b (Scalar.cmpi .eq (BitVec.ofNat 32 j.val) 1#32)) 1#1)) : BitVec 32) 0#32 : BitVec 1) = 1#1
        ↔ ¬ (b = 1#1 ∧ j = 1) := by decide
  have n : (Scalar.cmpi .ne (Scalar.andi v1 2#32) 0#32 : BitVec 1) = 1#1 := by rcases hv with rfl | rfl <;> decide
  have c6 : k0_cond6 i v1 v20 v21 = (Scalar.cmpi .ne (Scalar.extui (Scalar.andi (Scalar.cmpi .ne (Scalar.andi v1 2#32) 0#32)
      (Scalar.xori (Scalar.andi (Scalar.cmpi .eq v20 (Scalar.subi v21 1#32)) (Scalar.cmpi .eq (BitVec.ofNat 32 (i 0).val) 1#32)) 1#1)) : BitVec 32) 0#32 : BitVec 1) := rfl
  rw [c6, n, e (i 0), last_eq_one]

theorem cond6_old (i : grid0.Coords) {v1 : BitVec 32} (v20 v21 : BitVec 32) (hv : v1 = 0#32 ∨ v1 = 1#32) : ¬ k0_cond6 i v1 v20 v21 = 1#1 := by
  have e : ∀ b : BitVec 1, ¬ (Scalar.cmpi .ne (Scalar.extui (Scalar.andi 0#1 b) : BitVec 32) 0#32 : BitVec 1) = 1#1 := by decide
  have n : (Scalar.cmpi .ne (Scalar.andi v1 2#32) 0#32 : BitVec 1) = 0#1 := by rcases hv with rfl | rfl <;> decide
  have c6 : k0_cond6 i v1 v20 v21 = (Scalar.cmpi .ne (Scalar.extui (Scalar.andi (Scalar.cmpi .ne (Scalar.andi v1 2#32) 0#32)
      (Scalar.xori (Scalar.andi (Scalar.cmpi .eq v20 (Scalar.subi v21 1#32)) (Scalar.cmpi .eq (BitVec.ofNat 32 (i 0).val) 1#32)) 1#1)) : BitVec 32) 0#32 : BitVec 1) := rfl
  rw [c6, n]; exact e _

/-! ## The slot by the plan -/

/-- The slot when the copy `o` is on its way. -/
def slotS (c : Dev nD) (w2 : Buf (Elt F) (w2M.view.loc (c : Thread nD τ))) : Option (BitVec 32 × Fin 2) → sProp 𝕄
  | none => idleS c w2
  | some p => flightS c w2 (expOf p.1) p.2

theorem nextS_eq (c : Dev nD) (w2 : Buf (Elt F) (w2M.view.loc (c : Thread nD τ))) (i : grid0.Coords) {v1 : BitVec 32} (v20 v21 w : BitVec 32) (hv : v1 = 2#32 ∨ v1 = 3#32) :
    nextS c w2 i v1 v20 v21 w = slotS c w2 (if v20 = v21 - 1#32 ∧ hOf i = 1 then none else some (w, if v20 = v21 - 1#32 then 1 else hOf i)) := by
  unfold nextS
  by_cases h : v20 = v21 - 1#32 ∧ hOf i = 1
  · rw [if_neg (fun e => (cond6_iff i v20 v21 hv).1 e h), if_pos h]; rfl
  · rw [if_pos ((cond6_iff i v20 v21 hv).2 h), if_neg h]; rfl

section Read
variable {c : Dev nD}
/-- A tile's expert. -/
abbrev d2 (f : TbBuf (F := F) c te2) (k : Fin 72) : BitVec 32 := f (ValueIdx.ix1 k)
/-- A tile's flag. -/
abbrev d3 (f : TbBuf (F := F) c te3) (k : Fin 72) : BitVec 32 := f (ValueIdx.ix1 k)
/-- The ordinal of a tile's block. -/
abbrev d4 (f : TbBuf (F := F) c te4) (k : Fin 72) : BitVec 32 := f (ValueIdx.ix1 k)
/-- The expert of the block after a tile's. -/
abbrev d5 (f : TbBuf (F := F) c te5) (k : Fin 72) : BitVec 32 := f (ValueIdx.ix1 k)
/-- The number of blocks. -/
abbrev d6 (f : TbBuf (F := F) c te6) : BitVec 32 := f (ValueIdx.ix1 0)
end Read

section Point
open Cert.Down
variable (c : Dev nD) (f2 : TbBuf (F := F) c te2) (f3 : TbBuf (F := F) c te3) (f4 : TbBuf (F := F) c te4) (f5 : TbBuf (F := F) c te5) (f6 : TbBuf (F := F) c te6)
  (w2 : Buf (Elt F) (w2M.view.loc (c : Thread nD τ)))

/-- The tables' relations. -/
abbrev PlanAt : Prop := Plan (d2 f2) (d3 f3) (d4 f4) (d5 f5) (d6 f6)
/-- The weights a point multiplies by. -/
abbrev wAt (t : ℕ) : Vec F S7168x1024 .f32 := wHalf c w2 (expOf (d2 f2 (tile t))) (half t)
/-- The bf16 weights kept before point `t`: the point's before, if its tile holds tokens. -/
def Kept (t : ℕ) (fb : Vec F S1x7168x1024 .bf16) : Prop :=
  t ≠ 0 → (d3 f3 (tile (t - 1))) &&& 1#32 = 1#32 → fb = wbNew (wAt c f2 w2 (t - 1))
/-- What point `t` leaves of an input block. -/
def outAt (t : ℕ) (x : Vec F S256x7168 .bf16) : Vec F S256x1024 .bf16 :=
  if (d3 f3 (tile t)) = 3#32 then outNew x (wAt c f2 w2 t)
  else if (d3 f3 (tile t)) = 1#32 then outOld x (wbNew (wAt c f2 w2 t))
  else outPad
/-- The slot before point `t`. -/
abbrev slotAt (t : ℕ) : sProp 𝕄 := slotS c w2 (slot (d4 f4) (d5 f5) (d6 f6) t)

theorem kept_succ {t : ℕ} {fb : Vec F S1x7168x1024 .bf16} (h : (d3 f3 (tile t)) &&& 1#32 = 1#32 → fb = wbNew (wAt c f2 w2 t)) :
    Kept c f2 f3 w2 (t + 1) fb := fun _ => by
  rw [Nat.add_sub_cancel]; exact h

/-- EVERY POINT RUNS, from the slot and the kept weights as the plan has them to the same at the next point. -/
theorem runAt (P : PlanAt c f2 f3 f4 f5 f6) {t : ℕ} (ht : t < 144) (i : grid0.Coords) (h0 : hOf i = half t) (h1 : tOf i = tile t)
    (x : Vec F S256x7168 .bf16) (fb : Vec F S1x7168x1024 .bf16) (hfb : Kept c f2 f3 w2 t fb) :
    ∃ fb', Kept c f2 f3 w2 (t + 1) fb' ∧ Runs c i f2 f3 f4 f5 f6 x fb (outAt c f2 f3 w2 t x) fb' (slotAt c f4 f5 f6 w2 t) (slotAt c f4 f5 f6 w2 (t + 1)) := by
  have h1' : i 1 = tile t := h1
  have h0' : i 0 = half t := h0
  have eE : wExp i f2 = d2 f2 (tile t) := by rw [wExp_eq, h1']
  have eE' : wExp' i f2 = d2 f2 (tile t) := eE
  have eF : wFlag i f3 = d3 f3 (tile t) := by rw [wFlag_eq, h1']
  have eO : wOrd i f4 = d4 f4 (tile t) := by rw [wOrd_eq, h1']
  have eN : wFol i f5 = d5 f5 (tile t) := by rw [wFol_eq, h1']
  have eB : wBlk f6 = d6 f6 := wBlk_eq f6
  have hE : (wExp' i f2).toNat < 8 := by rw [eE']; exact P.te_lt (tile t)
  have hN : (wFol i f5).toNat < 8 := by rw [eN]; exact P.fo_lt (tile t)
  have eW : wHalf c w2 (expOf (wExp' i f2)) (i 0) = wAt c f2 w2 t := by rw [eE', h0']
  have next : ∀ {v : BitVec 32}, wFlag i f3 = v → (v = 2#32 ∨ v = 3#32) →
      nextS c w2 i (wFlag i f3) (wOrd i f4) (wBlk f6) (wFol i f5) = slotAt c f4 f5 f6 w2 (t + 1) := fun hv hv' => by
    rw [hv, nextS_eq c w2 i _ _ _ hv', eO, eB, eN, h0]
    unfold slotAt
    rw [slot_succ]
  have c2 : (2 : ℕ) ≤ (d3 f3 (tile t)).toNat → (k0_cond2 i (wBlk f6) (wOrd i f4) = 1#1 ↔ t = 0) := fun h => by
    rw [cond2_iff, eO, eB, h0']
    constructor
    · intro e
      by_contra hne
      exact P.first_ne hne ht h e
    · intro e
      subst e
      have e0 : (d4 f4 (tile 0)) = 0#32 := P.od_zero
      rw [e0, show half 0 = 0 from rfl]
      simp
  have start : (2 : ℕ) ≤ (d3 f3 (tile t)).toNat → t ≠ 0 →
      slotAt c f4 f5 f6 w2 t = flightS c w2 (expOf (wExp' i f2)) (i 0) := fun h hne => by
    unfold slotAt
    rw [P.slot_new hne ht h, eE', h0']; rfl
  have rest : t = 0 → slotAt c f4 f5 f6 w2 t = idleS c w2 := fun h => by subst h; rfl
  rcases flag_cases (P.fl_lt (tile t)) with hf | hf | hf | hf
  · -- padding within a block
    have hf : (d3 f3 (tile t)) = 0#32 := hf
    refine ⟨fb, kept_succ c f2 f3 w2 (fun h => absurd (hf ▸ h) (by decide)), ?_⟩
    have e : slotAt c f4 f5 f6 w2 (t + 1) = slotAt c f4 f5 f6 w2 t := congrArg (slotS c w2) (P.slot_old (by show BitVec.toNat (d3 f3 (tile t)) < 2; rw [hf]; decide))
    rw [e]
    unfold outAt
    rw [if_neg (by rw [hf]; decide), if_neg (by rw [hf]; decide)]
    have g := eF.trans hf
    exact runC5 c i f2 f3 f4 f5 f6 x fb _ (by rw [g]; decide) (by rw [g]; decide) (by rw [g]; decide) (by rw [g]; decide) (cond6_old i _ _ (Or.inl g))
  · -- tokens within a block
    have hf : (d3 f3 (tile t)) = 1#32 := hf
    obtain ⟨o0, o1, o2, o3⟩ := P.old_valid hf
    have ew : wAt c f2 w2 (t - 1) = wAt c f2 w2 t := by unfold wAt; rw [o3, ← (o2 : (d2 f2 (tile t)) = d2 f2 (tile (t - 1)))]
    have ek : fb = wbNew (wAt c f2 w2 t) := by rw [← ew]; exact hfb o0 o1
    refine ⟨fb, kept_succ c f2 f3 w2 (fun _ => ek), ?_⟩
    have e : slotAt c f4 f5 f6 w2 (t + 1) = slotAt c f4 f5 f6 w2 t := congrArg (slotS c w2) (P.slot_old (by show BitVec.toNat (d3 f3 (tile t)) < 2; rw [hf]; decide))
    rw [e]
    unfold outAt
    rw [if_neg (by rw [hf]; decide), if_pos hf, ← ek]
    have g := eF.trans hf
    exact runC4 c i f2 f3 f4 f5 f6 x fb _ (by rw [g]; decide) (by rw [g]; decide) (by rw [g]; decide) (by rw [g]; decide) (cond6_old i _ _ (Or.inr g))
  · -- a block that begins with padding
    have hf : (d3 f3 (tile t)) = 2#32 := hf
    have h2 : (2 : ℕ) ≤ (d3 f3 (tile t)).toNat := by rw [hf]; decide
    refine ⟨fb, kept_succ c f2 f3 w2 (fun h => absurd (hf ▸ h) (by decide)), ?_⟩
    unfold outAt
    rw [if_neg (by rw [hf]; decide), if_neg (by rw [hf]; decide)]
    have g := eF.trans hf
    rw [← next g (Or.inl rfl)]
    by_cases hz : t = 0
    · rw [rest hz]
      exact runA5 c i f2 f3 f4 f5 f6 w2 x fb (by rw [g]; decide) ((c2 h2).2 hz) (by rw [g]; decide) (by rw [g]; decide) (by rw [g]; decide) hN hE
    · rw [start h2 hz]
      exact runB5 c i f2 f3 f4 f5 f6 w2 x fb (by rw [g]; decide) (fun h => hz ((c2 h2).1 h)) (by rw [g]; decide) (by rw [g]; decide) (by rw [g]; decide) hN hE
  · -- a block that begins with tokens
    have hf : (d3 f3 (tile t)) = 3#32 := hf
    have h2 : (2 : ℕ) ≤ (d3 f3 (tile t)).toNat := by rw [hf]; decide
    refine ⟨wbNew (wAt c f2 w2 t), kept_succ c f2 f3 w2 (fun _ => rfl), ?_⟩
    unfold outAt
    rw [if_pos hf]
    have g := eF.trans hf
    rw [← next g (Or.inr rfl), ← eW]
    by_cases hz : t = 0
    · rw [rest hz]
      exact runA3 c i f2 f3 f4 f5 f6 w2 x fb (by rw [g]; decide) ((c2 h2).2 hz) (by rw [g]; decide) (by rw [g]; decide) (by rw [g]; decide) hN hE
    · rw [start h2 hz]
      exact runB3 c i f2 f3 f4 f5 f6 w2 x fb (by rw [g]; decide) (fun h => hz ((c2 h2).1 h)) (by rw [g]; decide) (by rw [g]; decide) (by rw [g]; decide) hN hE
end Point

end Cert.Kernel4Ideal.Down

end
-- ==== Proof.DownFrameI.lean ====
/- The experts' down product: its run, from the steps to the launch. -/
module

public import proofs.«01_k».proof.Proof.DownStepI

@[expose] public section

set_option maxRecDepth 16384

noncomputable section

namespace Cert.Kernel4Ideal.Down

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Down

variable (m : (ℓ : Loc nD τ sig) → Buf (Elt F) ℓ) (ρ : Dev nD → PrngReg)

/-! ## The arrays and tables at the launch -/

abbrev V (c : Dev nD) (b : Ref sig .tc) : Buf (Elt F) ((c : Thread nD τ).loc b) := m ((c : Thread nD τ).loc b)

/-- The five tables' contents. -/
def tbl : pre0.Contents (Elt F) := fun j => V m (0 : Dev nD) (pre0.ref j)
theorem V_pre (c : Dev nD) (k : Fin 5) : V m c (pre0.ref k) = tbl m k := by
  obtain rfl : c = 0 := Subsingleton.elim _ _
  rfl
/-- The tables are admissible: no index map reads one. -/
abbrev adm : (pcfg0 (F := F)).Adm := ⟨tbl m, trivial⟩
abbrev cfgM : Pipeline.Cfg sig Λ₀ := cfg0 (adm m)

/-- The tables hold a plan. -/
abbrev Planned : Prop := ∀ c : Dev nD, PlanAt (F := F) c (V m c main_arg2) (V m c main_arg3) (V m c main_arg4) (V m c main_arg5) (V m c main_arg6)

/-! ## The kernel's own semaphore, and the weights it moves -/

abbrev osem0 : Fin 1 → SemLoc sig := fun j => (![SemLoc.dma 4] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma wsem.sem) 0) := by
  rw [Pipeline.ownSems0_eq_of_list c osem0 [0] (by decide) (by decide)]; rfl
def H0 : Finset (Ref sig .tc) := {main_arg1}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(w2M.view.loc (c : Thread nD τ) ↦{fullShare} V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
            ∗ (∃ d, owns (c : Thread nD τ) wbM fullShare d)) ∗ (∃ r, prngReg c r)
          ∗ iprop(semVal ((c : Thread nD τ), SemLoc.dma wsem.sem) 0)
          ∗ iprop(w2M.view.loc (c : Thread nD τ) ↦{fullShare} V m c main_arg1)) := by
  rw [Pipeline.ΦD_eq, scopedRest0_eq, ownSems00_eq, hbmPts0_eq]; simp only [wbM, owns_whole]; try rfl

theorem PhiT0_eq (c : Dev nD) : (Pipeline.ΦT pre0 (tbl m) c : sProp 𝕄)
    = tabs c (V m c main_arg2) (V m c main_arg3) (V m c main_arg4) (V m c main_arg5) (V m c main_arg6) := by
  obtain rfl : c = 0 := Subsingleton.elim _ _
  unfold Pipeline.ΦT Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-! ## The invariant -/

/-- Between points: the tables, the generator register, the kept bf16 weights, and the weight slot. -/
def PhiI (c : Dev nD) (n : ℕ) : sProp 𝕄 :=
  iprop(tabs c (V m c main_arg2) (V m c main_arg3) (V m c main_arg4) (V m c main_arg5) (V m c main_arg6)
    ∗ (∃ r, prngReg c r)
    ∗ (∃ fb, ⌜Kept c (V m c main_arg2) (V m c main_arg3) (V m c main_arg1) n fb⌝ ∗ owns (c : Thread nD τ) wbM fullShare fb)
    ∗ slotAt c (V m c main_arg4) (V m c main_arg5) (V m c main_arg6) (V m c main_arg1) n)

/-- The whole slot is its one 7168 × 1024 part. -/
theorem wdst_set : wdst.view.set = Finset.univ := by
  simp only [wdst, Memref.view_squeeze, View.set_reshape]
  refine (View.set_slice_whole _ _).trans (Finset.eq_univ_of_forall fun y => ?_)
  rw [Rect.mem_set_unit]
  intro a
  fin_cases a
  · have h : (y 0).val < 1 := (y 0).isLt
    exact ⟨Nat.zero_le _, by show (y 0).val < 0 + 1; omega⟩
  · have h : (y 1).val < 1 := (y 1).isLt
    exact ⟨Nat.zero_le _, by show (y 1).val < 0 + 1; omega⟩
  · have h : (y 2).val < 7168 := (y 2).isLt
    exact ⟨Nat.zero_le _, by show (y 2).val < 0 + 7168; omega⟩
  · have h : (y 3).val < 1024 := (y 3).isLt
    exact ⟨Nat.zero_le _, by show (y 3).val < 0 + 1024; omega⟩

theorem slot_whole (c : Dev nD) (f : Buf (Elt F) ((c : Thread nD τ).loc cc0_scratch0)) :
    ((((c : Thread nD τ).loc cc0_scratch0) ↦{fullShare} f : sProp 𝕄)) = slotP c f := by
  unfold slotP
  rw [wdst_set]
  rfl

theorem slot_in (c : Dev nD) (f : Buf (Elt F) ((c : Thread nD τ).loc cc0_scratch0)) :
    (((c : Thread nD τ).loc cc0_scratch0) ↦{fullShare} f : sProp 𝕄) ⊢ slotP c f := by rw [slot_whole]
theorem slot_out (c : Dev nD) (f : Buf (Elt F) ((c : Thread nD τ).loc cc0_scratch0)) :
    slotP c f ⊢ (((c : Thread nD τ).loc cc0_scratch0) ↦{fullShare} f : sProp 𝕄) := by rw [slot_whole]

theorem phi_in (c : Dev nD) : iprop(Pipeline.ΦD osem0 spec0 H0 (V m) c ∗ Pipeline.ΦT pre0 (tbl m) c) ⊢ (PhiI m c 0 : sProp 𝕄) := by
  rw [PhiD0_eq, PhiT0_eq]
  unfold PhiI
  rw [show slotAt c (V m c main_arg4) (V m c main_arg5) (V m c main_arg6) (V m c main_arg1) 0 = idleS c (V m c main_arg1) from rfl]
  unfold idleS
  iintro ⟨⟨⟨⟨%f, HF⟩, ⟨%d, HB⟩⟩, Hg, Hs, Hw⟩, Ht⟩
  isplitl [Ht]; · iexact Ht
  isplitl [Hg]; · iexact Hg
  isplitl [HB]
  · iexists d; isplitr; · ipureintro; exact fun h => absurd rfl h
    iexact HB
  iexists f
  isplitl [HF]; · iapply (slot_in c f); iexact HF
  isplitl [Hw]; · iexact Hw
  iexact Hs

theorem phi_out (hP : Planned m) (c : Dev nD) : (PhiI m c 144 : sProp 𝕄) ⊢ Pipeline.ΦD osem0 spec0 H0 (V m) c := by
  rw [PhiD0_eq]
  unfold PhiI
  rw [show slotAt c (V m c main_arg4) (V m c main_arg5) (V m c main_arg6) (V m c main_arg1) 144 = idleS c (V m c main_arg1) from
    congrArg (slotS c (V m c main_arg1)) (hP c).slot_end]
  unfold idleS
  iintro ⟨Ht, Hg, ⟨%fb, -, HB⟩, ⟨%f, HF, Hw, Hs⟩⟩
  isplitl [HF HB]
  · isplitl [HF]
    · iexists f; iapply (slot_out c f); iexact HF
    iexists fb; iexact HB
  isplitl [Hg]; · iexact Hg
  isplitl [Hs]; · iexact Hs
  iexact Hw

/-! ## The pipeline's data -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The tokens' block point `t` multiplies. -/
abbrev xAt (c : Dev nD) (t : Fin (cfgM m).N) : Vec F S256x7168 .bf16 := iblk m c 0 t
/-- What point `t` leaves. -/
abbrev oAt (c : Dev nD) (t : Fin (cfgM m).N) : Vec F S256x1024 .bf16 := outAt c (V m c main_arg2) (V m c main_arg3) (V m c main_arg1) t.val (xAt m c t)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => oAt m c t
  Φ t := PhiI m c t.val
  q _ := fullShare
  owed _ := 0

theorem A_eq (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := by dsimp only [dats]; rfl
theorem after_1 (c : Dev nD) (t : Fin (cfgM m).N) : (dats m 0 c).after 1 t = oAt m c t := by dsimp only [dats]; rfl
theorem phi_eq (c : Dev nD) (n : Fin ((cfgM m).N + 1)) : (dats m 0 c).Φ n = PhiI m c n.val := by dsimp only [dats]
theorem owed_eq (c : Dev nD) (t) : (dats m 0 c).owed t = 0 := by dsimp only [dats]
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-! ## The body -/

abbrev ms0 (t : Fin (cfgM m).N) : Memref sig .tc .vmem S256x7168 .bf16 := spec0_0.stage ((cfgM m).slots t 0)
abbrev ms1 (t : Fin (cfgM m).N) : Memref sig .tc .vmem S256x1024 .bf16 := spec0_1.stage ((cfgM m).slots t 1)

def bodyAt (t : Fin (cfgM m).N) : Prog (TpuEff nD τ sig (Elt F) Λ₀ .tc) PUnit :=
  cc0_swiglu_down (grid0.coords t) te2 (Memref.isWhole_whole _) te3 (Memref.isWhole_whole _) te4 (Memref.isWhole_whole _) te5 (Memref.isWhole_whole _) te6 (Memref.isWhole_whole _)
    (ms0 m t) (hstage0_0 (((cfgM m).slots t 0).cast nbuf0_0)) w2M (Memref.isWhole_whole _) (ms1 m t) (hstage0_1 (((cfgM m).slots t 1).cast nbuf0_1))
    wfM (Memref.isWhole_whole _) wbM (Memref.isWhole_whole _) cc0_scratch2

theorem defs₀_row (t : Fin (cfgM m).N) : defs₀ (F := F) .tc (cfgM m).body ((cfgM m).bodyArgs t ((cfgM m).slots t)) = bodyAt m t := by
  unfold defs₀; rw [Defs.onTc_tc]; rfl

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t))

theorem sound_body (hP : Planned m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0]
  rw [after_0, after_1, phi_eq, phi_eq, Fin.val_succ, Fin.val_castSucc]
  unfold Dat.owesAt Pipeline.owesWithin
  rw [owed_eq, owed_eq]
  unfold PhiI
  iintro ⟨⟨Ht, Hg, ⟨%fb, %hfb, HB⟩, HS⟩, ⟨%W, %hW, HO⟩, ⟨%d0, H0⟩, ⟨%d1, H1⟩⟩
  have ht : t.val < 144 := lt_of_lt_of_eq t.isLt N_0
  obtain ⟨h0, h1⟩ := coords_eq t
  obtain ⟨fb', hfb', run⟩ := runAt c (V m c main_arg2) (V m c main_arg3) (V m c main_arg4) (V m c main_arg5) (V m c main_arg6) (V m c main_arg1)
    (hP c) ht (grid0.coords t) h0 h1 (xAt m c t) fb hfb
  iapply (run (ms0 m t) (hstage0_0 (((cfgM m).slots t 0).cast nbuf0_0)) (ms1 m t) (hstage0_1 (((cfgM m).slots t 1).cast nbuf0_1)) W _)
  isplitl [Ht]; · iexact Ht
  isplitl [H0]; · iexact H0
  isplitl [H1]; · iexists _; iexact H1
  isplitl [HB]; · iexact HB
  isplitl [HO]; · iexact HO
  isplitl [HS]; · iexact HS
  iintro ⟨Ht, H0, H1, HB, ⟨%W', HO⟩, HS⟩
  isplitl [Ht Hg HB HS]
  · isplitl [Ht]; · iexact Ht
    isplitl [Hg]; · iexact Hg
    isplitl [HB]
    · iexists fb'; isplitr; · ipureintro; exact hfb'
      iexact HB
    iexact HS
  isplitl [HO]
  · iexists W'; isplitr; · ipureintro; exact fun _ _ => Or.inl trivial
    iexact HO
  isplitl [H0]; · iexact H0
  iexact H1

/-- A flag below 4 has the output stored. -/
theorem idle_word (w : BitVec 32) (h : w.toNat < 4) : (!(k0_cond3 w == 1#1) && !(k0_cond4 w == 1#1) && !(k0_cond5 w == 1#1)) = false := by
  rcases flag_cases h with rfl | rfl | rfl | rfl <;> decide

theorem idle_eq (hP : Planned m) (t : Fin (cfgM m).N) : (cfgM m).idle (1 : Fin 2) ((cfgM m).grid.coords t) = false := by
  obtain ⟨h0, h1⟩ := coords_eq t
  have e : (tbl m).atD 1 (k0_off1 (grid0.coords t)) = d3 (c := 0) (V m 0 main_arg3) (tile t.val) := by
    have hh : ∀ a, k0_off1 (grid0.coords t) a + 1 ≤ (pre0.ref 1).ty.shape.size a := fun a => by
      fin_cases a
      show (Scalar.indexCast (BitVec.ofNat 32 (grid0.coords t 1).val) : Index).toNat + 1 ≤ 72
      have e := idx_tile (tOf (grid0.coords t))
      have l := (tOf (grid0.coords t)).isLt
      exact lt_of_eq_of_lt e l
    refine (dif_pos hh).trans (congrArg (V m 0 main_arg3) (funext fun a => Fin.ext ?_))
    fin_cases a
    exact (idx_tile (tOf (grid0.coords t))).trans (congrArg Fin.val h1)
  show (!(k0_cond3 ((tbl m).atD 1 (k0_off1 (grid0.coords t))) == 1#1) && !(k0_cond4 ((tbl m).atD 1 (k0_off1 (grid0.coords t))) == 1#1) && !(k0_cond5 ((tbl m).atD 1 (k0_off1 (grid0.coords t))) == 1#1)) = false
  rw [e]
  exact idle_word _ ((hP 0).fl_lt (tile t.val))

theorem body_obligation (hP : Planned m) (c : Dev nD) :
    BodyObligation (dats (F := F) m 0 c) (defs₀ (F := F)) Variants.none () Set.univ := fun t => by
  have hi := idle_eq m hP t
  rw [bigSep_W0, bigSep_W0, defs₀_row]
  refine triple_restated (sound_body m hP c t) rfl .rfl fun _ => ?_
  unfold bodyPost
  rw [hi]

/-! ## The launch -/

theorem hmainD (𝒱₀ : Variants) :
    Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
set_option maxHeartbeats 800000 in
theorem run_main (hP : Planned m) :
    θ_run defs (onTc (τ := τ) (main (F := F))) (s₀ m ρ)
      (fun r => Pipeline.FramePost (Pipeline.pin (pcfgs (F := F)) (fun _ => adm m)) (dats m) 0 (V m) r ∧ r.2.sem = fun _ => 0) :=
  Pipeline.θ_run_frameP_dma (Q' := _) (pcfgs (F := F)) (fun _ => adm m) (dats m) (0 : Fin 1) launch0 osem0 defs₀ Variants.none ownSemFacts0 H0 H0_sub m ρ main
    (hbody := fun c => (body_obligation m hP c).loose) (hshare := fun c => (dats m 0 c).share_full fun _ => rfl)
    (howed := fun _ _ => rfl) (V := V m) (hmain := hmainD m Variants.none) (hA := A_eq m) (hpf := fun c k => V_pre m c k)
    (hin := fun c => phi_in m c) (hout := fun c => phi_out m hP c)

theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)
theorem rest_arg4 : main_arg4 ∈ Pipeline.restRefs sig spec0 := Pipeline.mem_restRefs_of main_arg4 (by decide) (by decide)
theorem rest_arg5 : main_arg5 ∈ Pipeline.restRefs sig spec0 := Pipeline.mem_restRefs_of main_arg5 (by decide) (by decide)
theorem rest_arg6 : main_arg6 ∈ Pipeline.restRefs sig spec0 := Pipeline.mem_restRefs_of main_arg6 (by decide) (by decide)

/-- The run leaves the arguments, the counters, and the output at the blocks the points left. -/
theorem run_out (hP : Planned m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v0) = (dats m 0 c).arrAt 1 (cfgM m).N) ∧ r.2.sem = fun _ => 0) :=
  (θ_run defs _ _).mono (fun r h => ⟨fun c => ⟨((h.1 c).1 0).trans (((dats m 0 c).arrAt_in 0 rfl _).trans (A_eq m c 0)),
      (h.1 c).2 main_arg1 rest_arg1,
      (h.1 c).2 main_arg2 rest_arg2,
      (h.1 c).2 main_arg3 rest_arg3,
      (h.1 c).2 main_arg4 rest_arg4,
      (h.1 c).2 main_arg5 rest_arg5,
      (h.1 c).2 main_arg6 rest_arg6,
      (h.1 c).1 1⟩, h.2⟩) (run_main m ρ hP)

end Cert.Kernel4Ideal.Down

end
-- ==== Proof.DownRef.lean ====
/- The experts' down product: what its reference leaves, expert by expert. -/
module
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent
@[expose] public section
set_option maxRecDepth 16384
noncomputable section
namespace Cert.Down
open Idealize.ShloMosaic

/-- Row `r` through the down weights of its tile's expert; zero in a tile of padding. -/
def down (a : (⟨2, ![18432, 7168]⟩ : Shape).Idx → EReal) (w : (⟨3, ![8, 7168, 2048]⟩ : Shape).Idx → EReal) (te fl : Fin 72 → BitVec 32)
    (r : Fin 18432) (q : Fin 2048) : EReal :=
  if fl ⟨r.val / 256, by omega⟩ &&& 1#32 = 1#32
    then ∑ k : Fin 7168, a (ix2 r k) * w (ix3 (Fin.ofNat 8 (te ⟨r.val / 256, by omega⟩).toNat) k q) else 0

end Cert.Down

namespace Cert.Reference4Ideal.Read
open Idealize.ShloMosaic Idealize.ShloMosaic.TcCoe Idealize.SL.Sem
open Cert.Reference4Ideal Cert.Reference4Ideal.Gen

theorem mat0_at (a : FVec Ideal S18432x7168 .bf16) (w : FVec Ideal S8x7168x2048 .f32) (r : Fin 18432) (q : Fin 2048) :
    Host.dotGeneral dot_S18432x7168_S7168x2048_S18432x2048_1_0_0_1_n_n none (extf .f32 a bitsLt_bf16_f32) (shapeCast _ (extractStridedSlice S1x7168x2048 ![0, 0, 0] w slices_S8x7168x2048_S1x7168x2048_0_0_0) shapeCasts_S1x7168x2048_S7168x2048) (ix2 r q)
      = ∑ k : Fin 7168, a (ix2 r k) * w (ix3 0 k q) := by
  pointwise
theorem mat1_at (a : FVec Ideal S18432x7168 .bf16) (w : FVec Ideal S8x7168x2048 .f32) (r : Fin 18432) (q : Fin 2048) :
    Host.dotGeneral dot_S18432x7168_S7168x2048_S18432x2048_1_0_0_1_n_n none (extf .f32 a bitsLt_bf16_f32) (shapeCast _ (extractStridedSlice S1x7168x2048 ![1, 0, 0] w slices_S8x7168x2048_S1x7168x2048_1_0_0) shapeCasts_S1x7168x2048_S7168x2048) (ix2 r q)
      = ∑ k : Fin 7168, a (ix2 r k) * w (ix3 1 k q) := by
  pointwise
theorem mat2_at (a : FVec Ideal S18432x7168 .bf16) (w : FVec Ideal S8x7168x2048 .f32) (r : Fin 18432) (q : Fin 2048) :
    Host.dotGeneral dot_S18432x7168_S7168x2048_S18432x2048_1_0_0_1_n_n none (extf .f32 a bitsLt_bf16_f32) (shapeCast _ (extractStridedSlice S1x7168x2048 ![2, 0, 0] w slices_S8x7168x2048_S1x7168x2048_2_0_0) shapeCasts_S1x7168x2048_S7168x2048) (ix2 r q)
      = ∑ k : Fin 7168, a (ix2 r k) * w (ix3 2 k q) := by
  pointwise
theorem mat3_at (a : FVec Ideal S18432x7168 .bf16) (w : FVec Ideal S8x7168x2048 .f32) (r : Fin 18432) (q : Fin 2048) :
    Host.dotGeneral dot_S18432x7168_S7168x2048_S18432x2048_1_0_0_1_n_n none (extf .f32 a bitsLt_bf16_f32) (shapeCast _ (extractStridedSlice S1x7168x2048 ![3, 0, 0] w slices_S8x7168x2048_S1x7168x2048_3_0_0) shapeCasts_S1x7168x2048_S7168x2048) (ix2 r q)
      = ∑ k : Fin 7168, a (ix2 r k) * w (ix3 3 k q) := by
  pointwise
theorem mat4_at (a : FVec Ideal S18432x7168 .bf16) (w : FVec Ideal S8x7168x2048 .f32) (r : Fin 18432) (q : Fin 2048) :
    Host.dotGeneral dot_S18432x7168_S7168x2048_S18432x2048_1_0_0_1_n_n none (extf .f32 a bitsLt_bf16_f32) (shapeCast _ (extractStridedSlice S1x7168x2048 ![4, 0, 0] w slices_S8x7168x2048_S1x7168x2048_4_0_0) shapeCasts_S1x7168x2048_S7168x2048) (ix2 r q)
      = ∑ k : Fin 7168, a (ix2 r k) * w (ix3 4 k q) := by
  pointwise
theorem mat5_at (a : FVec Ideal S18432x7168 .bf16) (w : FVec Ideal S8x7168x2048 .f32) (r : Fin 18432) (q : Fin 2048) :
    Host.dotGeneral dot_S18432x7168_S7168x2048_S18432x2048_1_0_0_1_n_n none (extf .f32 a bitsLt_bf16_f32) (shapeCast _ (extractStridedSlice S1x7168x2048 ![5, 0, 0] w slices_S8x7168x2048_S1x7168x2048_5_0_0) shapeCasts_S1x7168x2048_S7168x2048) (ix2 r q)
      = ∑ k : Fin 7168, a (ix2 r k) * w (ix3 5 k q) := by
  pointwise
theorem mat6_at (a : FVec Ideal S18432x7168 .bf16) (w : FVec Ideal S8x7168x2048 .f32) (r : Fin 18432) (q : Fin 2048) :
    Host.dotGeneral dot_S18432x7168_S7168x2048_S18432x2048_1_0_0_1_n_n none (extf .f32 a bitsLt_bf16_f32) (shapeCast _ (extractStridedSlice S1x7168x2048 ![6, 0, 0] w slices_S8x7168x2048_S1x7168x2048_6_0_0) shapeCasts_S1x7168x2048_S7168x2048) (ix2 r q)
      = ∑ k : Fin 7168, a (ix2 r k) * w (ix3 6 k q) := by
  pointwise
theorem mat7_at (a : FVec Ideal S18432x7168 .bf16) (w : FVec Ideal S8x7168x2048 .f32) (r : Fin 18432) (q : Fin 2048) :
    Host.dotGeneral dot_S18432x7168_S7168x2048_S18432x2048_1_0_0_1_n_n none (extf .f32 a bitsLt_bf16_f32) (shapeCast _ (extractStridedSlice S1x7168x2048 ![7, 0, 0] w slices_S8x7168x2048_S1x7168x2048_7_0_0) shapeCasts_S1x7168x2048_S7168x2048) (ix2 r q)
      = ∑ k : Fin 7168, a (ix2 r k) * w (ix3 7 k q) := by
  pointwise

/-- A row's expert word is `e`, and its tile holds tokens. -/
def mask (te fl : IVec S72 32) (e : BitVec 32) (r : Fin 18432) : BitVec 1 :=
  IntOp.andi (IntOp.cmpi .eq (te (ix1 ⟨r.val / 256, by omega⟩)) e) (IntOp.cmpi .ne (IntOp.andi (fl (ix1 ⟨r.val / 256, by omega⟩)) 1#32) 0#32)

theorem mask_at (te fl : IVec S72 32) (e : BitVec 32) (r : Fin 18432) (q : Fin 2048) :
    broadcastInDim S18432x2048 ![0, 1] bcast_S18432x1_S18432x2048_0_1 (broadcastInDim S18432x1 ![0] bcast_S18432_S18432x1_0 (andi (cmpi .eq (shapeCast _ (broadcastInDim S72x256 ![0] bcast_S72_S72x256_0 te) shapeCasts_S72x256_S18432) (broadcastInDim S18432 ![] bcast_S_S18432 (constantI S_ 32 e))) (cmpi .ne (shapeCast _ (broadcastInDim S72x256 ![0] bcast_S72_S72x256_0 (andi fl (broadcastInDim S72 ![] bcast_S_S72 (constantI S_ 32 1#32)))) shapeCasts_S72x256_S18432) (broadcastInDim S18432 ![] bcast_S_S18432 (constantI S_ 32 0#32))))) (ix2 r q)
      = mask te fl e r := by
  unfold mask
  pointwise

theorem mask_iff (te fl : IVec S72 32) (e : BitVec 32) (r : Fin 18432) :
    mask te fl e r = 1#1 ↔ te (ix1 ⟨r.val / 256, by omega⟩) = e ∧ fl (ix1 ⟨r.val / 256, by omega⟩) &&& 1#32 = 1#32 := by
  have h1 : ∀ b d : BitVec 1, IntOp.andi b d = 1#1 ↔ b = 1#1 ∧ d = 1#1 := by decide
  have h2 : ∀ x y : BitVec 32, IntOp.cmpi .eq x y = 1#1 ↔ x = y := by
    intro x y
    show BitVec.ofBool (x == y) = 1#1 ↔ _
    by_cases h : x = y
    · subst h; simp
    · rw [beq_eq_false_iff_ne.2 h]
      exact ⟨fun h' => absurd h' (by decide), fun h' => absurd h' h⟩
  have h3 : ∀ x : BitVec 32, IntOp.cmpi .ne (IntOp.andi x 1#32) 0#32 = 1#1 ↔ x &&& 1#32 = 1#32 := by
    intro x
    show BitVec.ofBool (x &&& 1#32 != 0#32) = 1#1 ↔ _
    have h : x &&& 1#32 = 0#32 ∨ x &&& 1#32 = 1#32 := by
      rcases Nat.mod_two_eq_zero_or_one x.toNat with h | h
      · left; apply BitVec.eq_of_toNat_eq; simp [Nat.and_one_is_mod, h]
      · right; apply BitVec.eq_of_toNat_eq; simp [Nat.and_one_is_mod, h]
    rcases h with h | h <;> rw [h] <;> decide
  unfold mask
  rw [h1, h2, h3]

theorem step_at (acc M z : FVec Ideal S18432x2048 .f32) (b : IVec S18432x2048 1) (i : S18432x2048.Idx) (d : BitVec 1) (s v : EReal)
    (ha : acc i = s) (hb : b i = d) (hz : z i = 0) (hM : M i = v) : addf acc (select b M z) i = s + if d = 1#1 then v else 0 := by
  subst ha hb hM
  pointwise
  rw [hz]
  rfl

/-- The eight experts' words. -/
theorem expert_cases {w : BitVec 32} (h : w.toNat < 8) : w = 0#32 ∨ w = 1#32 ∨ w = 2#32 ∨ w = 3#32 ∨ w = 4#32 ∨ w = 5#32 ∨ w = 6#32 ∨ w = 7#32 := by
  have e : w = BitVec.ofNat 32 w.toNat := by simp
  generalize w.toNat = n at h e
  subst e
  match n, h with
  | 0, _ => simp
  | 1, _ => simp
  | 2, _ => simp
  | 3, _ => simp
  | 4, _ => simp
  | 5, _ => simp
  | 6, _ => simp
  | 7, _ => simp

/-- The eight experts' terms of a row are its own expert's term. -/
theorem sum_experts (te fl : IVec S72 32) (r : Fin 18432) (v : Fin 8 → EReal) (h : (te (ix1 ⟨r.val / 256, by omega⟩)).toNat < 8) :
    (0 : EReal) + (if mask te fl 0#32 r = 1#1 then v 0 else 0) + (if mask te fl 1#32 r = 1#1 then v 1 else 0) + (if mask te fl 2#32 r = 1#1 then v 2 else 0)
        + (if mask te fl 3#32 r = 1#1 then v 3 else 0) + (if mask te fl 4#32 r = 1#1 then v 4 else 0) + (if mask te fl 5#32 r = 1#1 then v 5 else 0)
        + (if mask te fl 6#32 r = 1#1 then v 6 else 0) + (if mask te fl 7#32 r = 1#1 then v 7 else 0)
      = if fl (ix1 ⟨r.val / 256, by omega⟩) &&& 1#32 = 1#32 then v (Fin.ofNat 8 (te (ix1 ⟨r.val / 256, by omega⟩)).toNat) else 0 := by
  simp only [mask_iff]
  generalize te (ix1 ⟨r.val / 256, by omega⟩) = w at h
  by_cases hf : fl (ix1 ⟨r.val / 256, by omega⟩) &&& 1#32 = 1#32
  · rcases expert_cases h with e | e | e | e | e | e | e | e <;> subst e <;> simp [hf] <;> rfl
  · simp [hf]

/-- Row `r` through expert `e`. -/
def through (a : FVec Ideal S18432x7168 .bf16) (w : FVec Ideal S8x7168x2048 .f32) (r : Fin 18432) (q : Fin 2048) (e : Fin 8) : EReal :=
  ∑ k : Fin 7168, a (ix2 r k) * w (ix3 e k q)

theorem res_at (m : (ℓ : Loc nD τ sig) → Buf (Elt Ideal) ℓ) (c : Dev nD) (r : Fin 18432) (q : Fin 2048)
    (h : ∀ k : Fin 72, ((m ((c : Thread nD τ).loc main_arg2) : IVec S72 32) (ix1 k)).toNat < 8) :
    (Value.res_main_v103 (F := Ideal) m c : FVec Ideal S18432x2048 .bf16) (ix2 r q)
      = Cert.Down.down (m ((c : Thread nD τ).loc main_arg0)) (m ((c : Thread nD τ).loc main_arg1))
        (fun k => (m ((c : Thread nD τ).loc main_arg2) : IVec S72 32) (ix1 k)) (fun k => (m ((c : Thread nD τ).loc main_arg3) : IVec S72 32) (ix1 k)) r q := by
  have hz' : broadcastInDim S18432x2048 ![] bcast_S_S18432x2048 (constant (F := Ideal) S_ .f32 0x00000000#32) (ix2 r q) = 0 := by pointwise
  have hz : broadcastInDim S18432x2048 ![] bcast_S_S18432x2048 (id (constant (F := Ideal) S_ .f32 0x00000000#32)) (ix2 r q) = 0 := hz'
  unfold Cert.Down.down
  refine Eq.trans ?_ (sum_experts (m ((c : Thread nD τ).loc main_arg2)) (m ((c : Thread nD τ).loc main_arg3)) r
    (through (m ((c : Thread nD τ).loc main_arg0)) (m ((c : Thread nD τ).loc main_arg1)) r q) (h _))
  unfold Value.res_main_v103
  refine step_at _ _ _ _ (ix2 r q) _ _ _ ?_ (mask_at _ _ 7#32 r q) hz (mat7_at _ _ r q)
  refine step_at _ _ _ _ (ix2 r q) _ _ _ ?_ (mask_at _ _ 6#32 r q) hz (mat6_at _ _ r q)
  refine step_at _ _ _ _ (ix2 r q) _ _ _ ?_ (mask_at _ _ 5#32 r q) hz (mat5_at _ _ r q)
  refine step_at _ _ _ _ (ix2 r q) _ _ _ ?_ (mask_at _ _ 4#32 r q) hz (mat4_at _ _ r q)
  refine step_at _ _ _ _ (ix2 r q) _ _ _ ?_ (mask_at _ _ 3#32 r q) hz (mat3_at _ _ r q)
  refine step_at _ _ _ _ (ix2 r q) _ _ _ ?_ (mask_at _ _ 2#32 r q) hz (mat2_at _ _ r q)
  refine step_at _ _ _ _ (ix2 r q) _ _ _ ?_ (mask_at _ _ 1#32 r q) hz (mat1_at _ _ r q)
  refine step_at _ _ _ _ (ix2 r q) _ _ _ ?_ (mask_at _ _ 0#32 r q) hz (mat0_at _ _ r q)
  exact hz'

/-- The arguments end unchanged and every counter ends at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems rfl r.2⟩) (Value.run m ρ)

end Cert.Reference4Ideal.Read
-- ==== Proof.DownVal.lean ====
/- The experts' down product: what its kernel leaves, as one sum over a row's features. -/
module
public import proofs.«01_k».proof.Proof.DownFrameI
public import proofs.«01_k».proof.Proof.DownRef
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
namespace Cert.Kernel4Ideal.Down
open Idealize.ShloMosaic Idealize.ShloMosaic.TcCoe Idealize.SL.Sem
open Cert.Kernel4Ideal Cert.Kernel4Ideal.Gen Cert.Down

/-! ## One step's values -/

/-- Stores that are blocks of one array leave that array where they cover. -/
theorem canon_blocks {S : Shape} {e : EltTy} (G : S.Idx → Elt Ideal e) (L : List (View.Piece (Elt Ideal) S e)) (h : View.PiecesOf G L) (y : S.Idx)
    (hc : ∃ p ∈ L, y ∈ p.1.set) : View.canon L y = G y := by
  have h' := View.canon_append_of_piecesOf G [] L h y hc
  rwa [List.append_nil] at h'

theorem ldX (x : Vec Ideal S256x7168 .bf16) : View.ld x rX = x := by
  funext y
  refine congrArg x (funext fun a => Fin.ext ?_)
  fin_cases a
  · show 0 + 1 * (y 0).val = (y 0).val; omega
  · show 0 + 1 * (y 1).val = (y 1).val; omega
theorem ldB (x : Vec Ideal S1x7168x1024 .bf16) : View.ld x rB = x := by
  funext y
  refine congrArg x (funext fun a => Fin.ext ?_)
  fin_cases a
  · show 0 + 1 * (y 0).val = (y 0).val; omega
  · show 0 + 1 * (y 1).val = (y 1).val; omega
  · show 0 + 1 * (y 2).val = (y 2).val; omega

theorem pay4_at (x : FVec Ideal S256x7168 .bf16) (u : FVec Ideal S1x1x7168x256 .f32) (l q : Fin 256) :
    k0_pay4 (F := Ideal) x u (ix2 l q) = ∑ k : Fin 7168, x (ix2 l k) * u (ix4 0 0 k q) := by
  pointwise [k0_pay4, k0_pay2]
theorem pay7_at (x : FVec Ideal S256x7168 .bf16) (u : FVec Ideal S1x1x7168x256 .f32) (l q : Fin 256) :
    k0_pay7 (F := Ideal) x u (ix2 l q) = ∑ k : Fin 7168, x (ix2 l k) * u (ix4 0 0 k q) := by
  pointwise [k0_pay7, k0_pay5]
theorem pay10_at (x : FVec Ideal S256x7168 .bf16) (u : FVec Ideal S1x1x7168x256 .f32) (l q : Fin 256) :
    k0_pay10 (F := Ideal) x (k0_pay8 u) (constant S256x256 .f32 0x00000000#32) (ix2 l q) = ∑ k : Fin 7168, x (ix2 l k) * u (ix4 0 0 k q) := by
  pointwise [k0_pay10, k0_pay8]
theorem pay13_at (x : FVec Ideal S256x7168 .bf16) (u : FVec Ideal S1x1x7168x256 .f32) (l q : Fin 256) :
    k0_pay13 (F := Ideal) x u (ix2 l q) = ∑ k : Fin 7168, x (ix2 l k) * u (ix4 0 0 k q) := by
  pointwise [k0_pay13, k0_pay11]
theorem pay14_at (x : FVec Ideal S256x7168 .bf16) (u : FVec Ideal S1x7168x1024 .bf16) (l : Fin 256) (q : Fin 1024) :
    k0_pay14 (F := Ideal) x u (ix2 l q) = ∑ k : Fin 7168, x (ix2 l k) * u (ix3 0 k q) := by
  pointwise [k0_pay14]
theorem pay3_at (u : FVec Ideal S1x1x7168x256 .f32) (k : Fin 7168) (q : Fin 256) : k0_pay3 (F := Ideal) u (ix3 0 k q) = u (ix4 0 0 k q) := by
  pointwise [k0_pay3, k0_pay2]
theorem pay6_at (u : FVec Ideal S1x1x7168x256 .f32) (k : Fin 7168) (q : Fin 256) : k0_pay6 (F := Ideal) u (ix3 0 k q) = u (ix4 0 0 k q) := by
  pointwise [k0_pay6, k0_pay5]
theorem pay9_at (u : FVec Ideal S1x1x7168x256 .f32) (k : Fin 7168) (q : Fin 256) : k0_pay9 (F := Ideal) u (ix3 0 k q) = u (ix4 0 0 k q) := by
  pointwise [k0_pay9, k0_pay8]
theorem pay12_at (u : FVec Ideal S1x1x7168x256 .f32) (k : Fin 7168) (q : Fin 256) : k0_pay12 (F := Ideal) u (ix3 0 k q) = u (ix4 0 0 k q) := by
  pointwise [k0_pay12, k0_pay11]
theorem pay1_at (y : S256x1024.Idx) : k0_pay1 (F := Ideal) y = 0 := by
  pointwise [k0_pay1]

/-- The product of a block of rows with a half of an expert's weights. -/
def prod (x : FVec Ideal S256x7168 .bf16) (W : FVec Ideal S7168x1024 .f32) : S256x1024.Idx → Elt Ideal .bf16 := fun y =>
  (∑ k : Fin 7168, x (ix2 (y 0) k) * W (ix2 k (y 1)) : EReal)
/-- The weights, on the kept buffer's axes. -/
def kept (W : FVec Ideal S7168x1024 .f32) : S1x7168x1024.Idx → Elt Ideal .bf16 := fun y => W (ix2 (y 1) (y 2))

theorem chunk_at (W : FVec Ideal S7168x1024 .f32) (j : Fin 4) (k : Fin 7168) (q : Fin 256) (q' : Fin 1024) (h : q'.val = 256 * j.val + q.val) :
    chunk (F := Ideal) W j (ix4 0 0 k q) = W (ix2 k q') :=
  congrArg W (congrArg (ix2 k) (Fin.ext h.symm))

theorem col_prod (x : FVec Ideal S256x7168 .bf16) (W : FVec Ideal S7168x1024 .f32) (j : Fin 4) (p : FVec Ideal S256x256 .bf16)
    (hp : ∀ l q : Fin 256, p (ix2 l q) = ∑ k : Fin 7168, x (ix2 l k) * chunk (F := Ideal) W j (ix4 0 0 k q)) (z : S256x256.Idx) (y : S256x1024.Idx)
    (h0 : (y 0).val = (z 0).val) (h1 : (y 1).val = 256 * j.val + (z 1).val) : p z = prod x W y := by
  have e0 : (y 0 : Fin 256) = z 0 := Fin.ext h0
  refine (congrArg p (eq_ix2 z)).trans ((hp (z 0) (z 1)).trans ?_)
  unfold prod
  exact Finset.sum_congr rfl fun k _ => congrArg₂ (· * ·) (congrArg (fun l : Fin 256 => x (ix2 l k)) e0.symm) (chunk_at W j k (z 1) (y 1) h1)

theorem outNew_eq (x : FVec Ideal S256x7168 .bf16) (W : FVec Ideal S7168x1024 .f32) : outNew (F := Ideal) x W = prod x W := by
  funext y
  unfold outNew
  rw [ldX]
  refine canon_blocks (prod x W) _ ?_ y (cover_out _ _ _ _ y)
  refine ⟨fun z => ?_, fun z => ?_, fun z => ?_, fun z => ?_, trivial⟩
  · refine col_prod x W 3 _ (pay13_at x _) z _ ?_ ?_
    · show 0 + 1 * (z 0).val = (z 0).val; omega
    · show 768 + 1 * (z 1).val = 256 * 3 + (z 1).val; omega
  · refine col_prod x W 2 _ (pay10_at x _) z _ ?_ ?_
    · show 0 + 1 * (z 0).val = (z 0).val; omega
    · show 512 + 1 * (z 1).val = 256 * 2 + (z 1).val; omega
  · refine col_prod x W 1 _ (pay7_at x _) z _ ?_ ?_
    · show 0 + 1 * (z 0).val = (z 0).val; omega
    · show 256 + 1 * (z 1).val = 256 * 1 + (z 1).val; omega
  · refine col_prod x W 0 _ (pay4_at x _) z _ ?_ ?_
    · show 0 + 1 * (z 0).val = (z 0).val; omega
    · show 0 + 1 * (z 1).val = 256 * 0 + (z 1).val; omega

theorem col_kept (W : FVec Ideal S7168x1024 .f32) (j : Fin 4) (p : FVec Ideal S1x7168x256 .bf16)
    (hp : ∀ (k : Fin 7168) (q : Fin 256), p (ix3 0 k q) = chunk (F := Ideal) W j (ix4 0 0 k q)) (z : S1x7168x256.Idx) (y : S1x7168x1024.Idx)
    (h1 : (y 1).val = (z 1).val) (h2 : (y 2).val = 256 * j.val + (z 2).val) : p z = kept W y := by
  have e1 : (y 1 : Fin 7168) = z 1 := Fin.ext h1
  have ez : z = ix3 0 (z 1) (z 2) := by
    refine (eq_ix3 z).trans ?_
    exact congrArg (fun i : Fin 1 => (ix3 i (z 1) (z 2) : S1x7168x256.Idx)) (Fin.ext (by have h : (z 0).val < 1 := (z 0).isLt; show (z 0).val = 0; omega) : (z 0 : Fin 1) = (0 : Fin 1))
  refine (congrArg p ez).trans ((hp (z 1) (z 2)).trans ((chunk_at W j (z 1) (z 2) (y 2) h2).trans ?_))
  exact congrArg (fun k : Fin 7168 => W (ix2 k (y 2))) e1.symm

theorem wbNew_eq (W : FVec Ideal S7168x1024 .f32) : wbNew (F := Ideal) W = kept W := by
  funext y
  unfold wbNew
  refine canon_blocks (kept W) _ ?_ y (cover_wb _ _ _ _ y)
  refine ⟨fun z => ?_, fun z => ?_, fun z => ?_, fun z => ?_, trivial⟩
  · refine col_kept W 3 _ (pay12_at _) z _ ?_ ?_
    · show 0 + 1 * (z 1).val = (z 1).val; omega
    · show 768 + 1 * (z 2).val = 256 * 3 + (z 2).val; omega
  · refine col_kept W 2 _ (pay9_at _) z _ ?_ ?_
    · show 0 + 1 * (z 1).val = (z 1).val; omega
    · show 512 + 1 * (z 2).val = 256 * 2 + (z 2).val; omega
  · refine col_kept W 1 _ (pay6_at _) z _ ?_ ?_
    · show 0 + 1 * (z 1).val = (z 1).val; omega
    · show 256 + 1 * (z 2).val = 256 * 1 + (z 2).val; omega
  · refine col_kept W 0 _ (pay3_at _) z _ ?_ ?_
    · show 0 + 1 * (z 1).val = (z 1).val; omega
    · show 0 + 1 * (z 2).val = 256 * 0 + (z 2).val; omega

theorem outOld_eq (x : FVec Ideal S256x7168 .bf16) (W : FVec Ideal S7168x1024 .f32) : outOld (F := Ideal) x (kept W) = prod x W := by
  funext y
  unfold outOld
  rw [ldX, ldB]
  refine canon_blocks (prod x W) _ ?_ y (out4_cover _ y)
  refine ⟨fun z => ?_, trivial⟩
  have e : rO.emb z = z := funext fun a => Fin.ext (by
    fin_cases a
    · show 0 + 1 * (z 0).val = (z 0).val; omega
    · show 0 + 1 * (z 1).val = (z 1).val; omega)
  rw [e]
  refine (congrArg _ (eq_ix2 z)).trans ((pay14_at x _ (z 0) (z 1)).trans ?_)
  rfl
theorem outPad_eq : outPad (F := Ideal) = fun _ => (0 : EReal) := by
  funext y
  unfold outPad
  refine canon_blocks (e := .bf16) (fun _ => (0 : EReal)) _ ?_ y (out4_cover _ y)
  exact ⟨fun z => pay1_at z, trivial⟩

theorem ix2_same {n0 n1 : ℕ} (a : Fin n0) (b : Fin n1) : ix2 a b = ValueIdx.ix2 a b := by
  funext d; match d with | ⟨0, _⟩ => rfl | ⟨1, _⟩ => rfl
theorem wHalf_at (c : Dev nD) (w2 : Buf (Elt Ideal) (w2M.view.loc (c : Thread nD τ))) (e : Fin 8) (j : Fin 2) (k : Fin 7168) (q : Fin 1024) (q' : Fin 2048)
    (h : q'.val = 1024 * j.val + q.val) : wHalf (F := Ideal) c w2 e j (ix2 k q) = (w2 : FVec Ideal S8x7168x2048 .f32) (ix3 e k q') := by
  unfold wHalf wsrc
  rw [Memref.read_squeeze_slice (hc := squeezes_S1x7168x1024_S7168x1024.numel_eq)]
  unfold shapeCast
  rw [ix2_same, ValueIdx.reshapeEquiv_ix2_1ab]
  refine congrArg w2 (funext fun a => Fin.ext ?_)
  fin_cases a
  · show e.val + 1 * 0 = e.val; omega
  · show 0 + 1 * k.val = k.val; omega
  · show 1024 * j.val + 1 * q.val = q'.val; omega

/-! ## The blocks' places -/

theorem places : ∀ t : Fin grid0.N, cc0_transform_0 (grid0.coords t) = ![t.val % 72, 0] ∧ cc0_transform_2 (grid0.coords t) = ![t.val % 72, t.val / 72] ∧ t.val < 144 := by
  decide +kernel

section Run
variable (m : (ℓ : Loc nD τ sig) → Buf (Elt Ideal) ℓ) (c : Dev nD)

/-- The rows' block index, -/
abbrev ixIn (t : Fin (cfgM m).N) : Fin 2 → ℕ := ((cfgM m).win 0).index t
/-- and the output's. -/
abbrev ixOut (t : Fin (cfgM m).N) : Fin 2 → ℕ := ((cfgM m).win 1).index t
theorem place0 (t : Fin (cfgM m).N) : ixIn m t = ![t.val % 72, 0] := (places t).1
theorem place1 (t : Fin (cfgM m).N) : ixOut m t = ![t.val % 72, t.val / 72] := (places t).2.1
theorem pt_lt (t : Fin (cfgM m).N) : t.val < 144 := (places t).2.2
/-- Where the output block's index lies in the array. -/
abbrev at1 (t : Fin (cfgM m).N) (y : S256x1024.Idx) : S18432x2048.Idx := (((cfgM m).win 1).blk t).view.emb y

theorem x_at (t : Fin (cfgM m).N) (l : Fin 256) (k : Fin 7168) (r : Fin 18432) (hr : r.val = 256 * (t.val % 72) + l.val) :
    (xAt (F := Ideal) m c t) (ix2 l k) = (m ((c : Thread nD τ).loc main_arg0) : FVec Ideal S18432x7168 .bf16) (ix2 r k) := by
  have e0 : ixIn m t (0 : Fin 2) = t.val % 72 := congrFun (place0 m t) 0
  have e1 : ixIn m t (1 : Fin 2) = 0 := congrFun (place0 m t) 1
  refine congrArg (m ((c : Thread nD τ).loc main_arg0)) (funext fun a => Fin.ext ?_)
  fin_cases a
  · show ixIn m t (0 : Fin 2) * 256 + 1 * l.val = r.val
    omega
  · show ixIn m t (1 : Fin 2) * 7168 + 1 * k.val = k.val
    omega

/-- The array the kernel leaves. -/
def R : Buf (Elt Ideal) ((c : Thread nD τ).loc main_v0) := fun i =>
  down (m ((c : Thread nD τ).loc main_arg0)) (m ((c : Thread nD τ).loc main_arg1))
    (d2 (F := Ideal) (c := c) (m ((c : Thread nD τ).loc main_arg2))) (d3 (F := Ideal) (c := c) (m ((c : Thread nD τ).loc main_arg3))) (i 0) (i 1)

/-- A point's block, by its flag's low bit. -/
theorem out_eq (hP : Planned m) (t : ℕ) (x : FVec Ideal S256x7168 .bf16) :
    outAt c (V m c main_arg2) (V m c main_arg3) (V m c main_arg1) t x
      = if d3 (F := Ideal) (c := c) (m ((c : Thread nD τ).loc main_arg3)) (tile t) &&& 1#32 = 1#32
          then prod x (wAt c (V m c main_arg2) (V m c main_arg1) t) else fun _ => (0 : EReal) := by
  unfold outAt
  rw [outNew_eq, wbNew_eq, outOld_eq, outPad_eq]
  have h := (hP c).fl_lt (tile t)
  rcases flag_cases h with e | e | e | e
  all_goals
    have e' : d3 (F := Ideal) (c := c) (m ((c : Thread nD τ).loc main_arg3)) (tile t) = _ := e
    simp only [e, e']
    rfl

theorem blk_at (hP : Planned m) (t : Fin (cfgM m).N) (l : Fin 256) (q : Fin 1024) (r : Fin 18432) (q' : Fin 2048)
    (hr : r.val = 256 * (t.val % 72) + l.val) (hq : q'.val = 1024 * (t.val / 72) + q.val) :
    oAt (F := Ideal) m c t (ix2 l q) = R m c (ix2 r q') := by
  have ht := pt_lt m t
  have ek : (⟨r.val / 256, by omega⟩ : Fin 72) = tile t.val := Fin.ext (by show r.val / 256 = t.val % 72; omega)
  have ej : (half t.val).val = t.val / 72 := by unfold half; split <;> (show _ = _; first | (show 0 = _; omega) | (show 1 = _; omega))
  refine (congrFun (out_eq m c hP t.val (xAt m c t)) (ix2 l q)).trans ?_
  refine Eq.trans ?_ (show down (m ((c : Thread nD τ).loc main_arg0)) (m ((c : Thread nD τ).loc main_arg1))
    (d2 (F := Ideal) (c := c) (m ((c : Thread nD τ).loc main_arg2))) (d3 (F := Ideal) (c := c) (m ((c : Thread nD τ).loc main_arg3))) r q' = _ from rfl)
  unfold down
  rw [ek]
  split
  · refine Finset.sum_congr rfl fun k _ => congrArg₂ (· * ·) (x_at m c t l k r hr) ?_
    exact wHalf_at c _ _ (half t.val) k q q' (by rw [ej]; exact hq)
  · rfl

theorem flush_all (t : Fin (cfgM m).N) : ((cfgM m).win 1).flush t = true := by
  rw [Pipeline.Window.flush_eq_flushOf]
  exact (by decide +kernel : ∀ t : Fin grid0.N, Pipeline.Window.flushOf grid0 true cc0_transform_2 t = true) t

theorem point (hP : Planned m) (t : Fin (cfgM m).N) : (dats m 0 c).flushed 1 t = (((cfgM m).win 1).blk t).view.read (Elt Ideal) (R m c) := by
  show ((cfgM m).win 1).cut (grid0.coords t) ((dats m 0 c).after 1 t) = _
  rw [after_1]
  have e0 : ixOut m t (0 : Fin 2) = t.val % 72 := congrFun (place1 m t) 0
  have e1 : ixOut m t (1 : Fin 2) = t.val / 72 := congrFun (place1 m t) 1
  refine funext fun (y : S256x1024.Idx) => ?_
  have hb0 : (at1 m t y 0).val = ixOut m t (0 : Fin 2) * 256 + 1 * (y 0).val := rfl
  have hb1 : (at1 m t y 1).val = ixOut m t (1 : Fin 2) * 1024 + 1 * (y 1).val := rfl
  have hy : ((cfgM m).win 1).xinj (grid0.coords t) y = (ix2 (y 0) (y 1) : S256x1024.Idx) := by
    funext a; fin_cases a <;> rfl
  refine (congrArg (oAt (F := Ideal) m c t) hy).trans ?_
  refine (blk_at m c hP t (y 0) (y 1) (at1 m t y 0) (at1 m t y 1) (by omega) (by omega)).trans ?_
  exact congrArg (R m c) (eq_ix2 (at1 m t y)).symm

/-- The output block's rectangle. -/
abbrev rect1 (t : Fin (cfgM m).N) : Rect S18432x2048 := ((cfgM m).win 1).rect t
theorem mem_blk (t : Fin (cfgM m).N) (i : S18432x2048.Idx) :
    i ∈ (((cfgM m).win 1).blk t).view.set ↔ ∀ a : Fin 2, ixOut m t a * S256x1024.size a ≤ (i a).val
      ∧ (i a).val < ixOut m t a * S256x1024.size a + S256x1024.size a := by
  refine (Eq.to_iff (congrArg (fun s => i ∈ s) (View.set_slice_whole main_v0 (rect1 m t)))).trans ?_
  exact Rect.mem_set_unit

theorem cover_lt (i : S18432x2048.Idx) : 72 * ((i 1).val / 1024) + (i 0).val / 256 < (cfgM m).N := by
  have h0 : (i 0).val < 18432 := (i 0).isLt
  have h1 : (i 1).val < 2048 := (i 1).isLt
  have : (cfgM m).N = 144 := N_0
  omega

theorem final (hP : Planned m) : (dats m 0 c).arrAt 1 (cfgM m).N = R m c :=
  (dats m 0 c).arrAt_eq_of_cover 1 _ (fun t _ => point m c hP t) (fun (i : S18432x2048.Idx) => ⟨⟨_, cover_lt m i⟩, flush_all m _, by
    have h0 : (i 0).val < 18432 := (i 0).isLt
    have h1 : (i 1).val < 2048 := (i 1).isLt
    refine (mem_blk m _ i).2 fun a => ?_
    have e0 : ixOut m ⟨_, cover_lt m i⟩ (0 : Fin 2) = (72 * ((i 1).val / 1024) + (i 0).val / 256) % 72 := congrFun (place1 m ⟨_, cover_lt m i⟩) 0
    have e1 : ixOut m ⟨_, cover_lt m i⟩ (1 : Fin 2) = (72 * ((i 1).val / 1024) + (i 0).val / 256) / 72 := congrFun (place1 m ⟨_, cover_lt m i⟩) 1
    match a with
    | ⟨0, _⟩ => show ixOut m _ (0 : Fin 2) * 256 ≤ (i 0).val ∧ (i 0).val < ixOut m _ (0 : Fin 2) * 256 + 256; omega
    | ⟨1, _⟩ => show ixOut m _ (1 : Fin 2) * 1024 ≤ (i 1).val ∧ (i 1).val < ixOut m _ (1 : Fin 2) * 1024 + 1024; omega⟩)
end Run

end Cert.Kernel4Ideal.Down
-- ==== Proof.UpPlan.lean ====
/-
  The experts' tables over the gate and up product's seven column blocks: the copies of weights a pass over (column block, tile)
  makes, and the parity of the blocks' numbers, which chooses the slot a copy lands in.
-/
module

public import proofs.«01_k».proof.Proof.DownPlan

@[expose] public section

namespace Cert.Up

open Cert.Down

/-- A point's column block. -/
def col (t : ℕ) : Fin 7 := ⟨t / 72 % 7, Nat.mod_lt _ (by decide)⟩

/-- The copy on its way before point `t`: the expert's word and the column block, or none. -/
def slot (od fo : Fin 72 → BitVec 32) (nb : BitVec 32) (t : ℕ) : Option (BitVec 32 × Fin 7) :=
  if t = 0 then none
  else if od (tile (t - 1)) = nb - 1#32 ∧ col (t - 1) = 6 then none
  else some (fo (tile (t - 1)), if od (tile (t - 1)) = nb - 1#32 then col (t - 1) + 1 else col (t - 1))

/-- The number of a point's block, counted through the columns. -/
def blk (od : Fin 72 → BitVec 32) (nb : BitVec 32) (t : ℕ) : BitVec 32 := BitVec.ofNat 32 (col t).val * nb + od (tile t)
/-- A word's parity. -/
def par (w : BitVec 32) : Fin 2 := ⟨w.toNat % 2, Nat.mod_lt _ (by decide)⟩
/-- The slot at rest before point `t`. -/
def rest (od : Fin 72 → BitVec 32) (nb : BitVec 32) (t : ℕ) : Fin 2 := if t = 0 then 1 else par (blk od nb (t - 1))

theorem par_succ (w : BitVec 32) : par (w + 1#32) = par w + 1 := by
  apply Fin.ext
  show (w + 1#32).toNat % 2 = (w.toNat % 2 + 1) % 2
  rw [BitVec.toNat_add]
  have : (1#32 : BitVec 32).toNat = 1 := rfl
  omega
theorem two_on (k : Fin 2) : k + 1 + 1 = k := by revert k; decide

variable {te fl od fo : Fin 72 → BitVec 32} {nb : BitVec 32}

theorem rest_succ (t : ℕ) : rest od nb (t + 1) = par (blk od nb t) := by
  unfold rest; rw [if_neg (Nat.succ_ne_zero t), Nat.add_sub_cancel]

theorem slot_succ (t : ℕ) : slot od fo nb (t + 1) = if od (tile t) = nb - 1#32 ∧ col t = 6 then none
    else some (fo (tile t), if od (tile t) = nb - 1#32 then col t + 1 else col t) := by
  unfold slot
  rw [if_neg (Nat.succ_ne_zero t), Nat.add_sub_cancel]

/-- A tile after the first of its column block, its predecessor named. -/
theorem tile_pred {t : ℕ} (h : t % 72 ≠ 0) : ∃ k : Fin 71, tile t = k.succ ∧ tile (t - 1) = k.castSucc ∧ col (t - 1) = col t := by
  obtain ⟨k, h1, h2, -⟩ := Cert.Down.tile_pred h
  refine ⟨k, h1, h2, Fin.ext ?_⟩
  show (t - 1) / 72 % 7 = t / 72 % 7
  omega

section Rel
variable (P : Plan te fl od fo nb)
include P

theorem ne_last {k : Fin 71} (e1 : od k.succ = od k.castSucc + 1#32) : od k.castSucc ≠ od 71 := by
  intro e
  have hl := P.od_le_last k.succ
  have hk : (od k.castSucc).toNat ≤ 71 := (P.od_le k.castSucc.val k.castSucc.isLt).trans (by have := k.castSucc.isLt; omega)
  rw [e1, e, BitVec.toNat_add] at hl
  have : (1#32 : BitVec 32).toNat = 1 := rfl
  rw [e] at hk
  omega

/-- Within a block nothing is sent for, -/
theorem slot_old {t : ℕ} (h : (fl (tile t)).toNat < 2) : slot od fo nb (t + 1) = slot od fo nb t := by
  have h0 := P.mod_ne_of_old h
  obtain ⟨k, h1, h2, h3⟩ := tile_pred h0
  rw [slot_succ]; unfold slot
  have hz : t ≠ 0 := by intro e; subst e; exact h0 rfl
  simp only [if_neg hz, h1, h2, h3]
  rw [h1] at h
  rcases P.step k with ⟨-, -, e1, e2⟩ | ⟨e, -, -⟩
  · rw [e1, e2]
  · omega

/-- and the block's number stays. -/
theorem rest_old {t : ℕ} (h : (fl (tile t)).toNat < 2) : rest od nb (t + 1) = rest od nb t := by
  have h0 := P.mod_ne_of_old h
  obtain ⟨k, h1, h2, h3⟩ := tile_pred h0
  have hz : t ≠ 0 := by intro e; subst e; exact h0 rfl
  rw [rest_succ]; unfold rest
  rw [if_neg hz]
  unfold blk
  rw [h1, h2, h3]
  rw [h1] at h
  rcases P.step k with ⟨-, -, e1, e2⟩ | ⟨e, -, -⟩
  · rw [e1]
  · omega

/-- A block's first tile after the first point finds its weights on their way. -/
theorem slot_new {t : ℕ} (ht : t ≠ 0) (hN : t < 504) (h : 2 ≤ (fl (tile t)).toNat) : slot od fo nb t = some (te (tile t), col t) := by
  unfold slot
  rw [if_neg ht, P.last]
  by_cases h0 : t % 72 = 0
  · have e1 : tile (t - 1) = 71 := Fin.ext (by show (t - 1) % 72 = 71; omega)
    have e2 : tile t = 0 := Fin.ext h0
    have e3 : (col (t - 1)).val + 1 = (col t).val := by show (t - 1) / 72 % 7 + 1 = t / 72 % 7; omega
    have l := (col t).isLt
    have e4 : col (t - 1) ≠ 6 := fun e => by
      have e' : (col (t - 1)).val = 6 := congrArg Fin.val e
      omega
    have e5 : col (t - 1) + 1 = col t := by
      apply Fin.ext
      show ((col (t - 1)).val + 1) % 7 = (col t).val
      omega
    rw [e1, e2, if_neg (fun h => e4 h.2), if_pos rfl, P.wrap, e5]
  · obtain ⟨k, h1, h2, h3⟩ := tile_pred h0
    rw [h1, h2, h3]
    rw [h1] at h
    rcases P.step k with ⟨e, -⟩ | ⟨-, e1, e2⟩
    · omega
    · have ne := ne_last P e1
      rw [if_neg (fun h => ne h.1), if_neg ne, e2]

/-- The block's number moves on by one at each block's first tile. -/
theorem blk_new {t : ℕ} (ht : t ≠ 0) (hN : t < 504) (h : 2 ≤ (fl (tile t)).toNat) : blk od nb t = blk od nb (t - 1) + 1#32 := by
  unfold blk
  by_cases h0 : t % 72 = 0
  · have e1 : tile (t - 1) = 71 := Fin.ext (by show (t - 1) % 72 = 71; omega)
    have e2 : tile t = 0 := Fin.ext h0
    have e3 : (col t).val = (col (t - 1)).val + 1 := by show t / 72 % 7 = (t - 1) / 72 % 7 + 1; omega
    rw [e1, e2, e3, P.od_zero, BitVec.ofNat_add, BitVec.add_mul, BitVec.one_mul, P.nb_eq, BitVec.add_zero, BitVec.add_assoc]
  · obtain ⟨k, h1, h2, h3⟩ := tile_pred h0
    rw [h1, h2, h3]
    rw [h1] at h
    rcases P.step k with ⟨e, -⟩ | ⟨-, e1, e2⟩
    · omega
    · rw [e1, BitVec.add_assoc]

/-- So the copy on its way to a block's first tile lands in the other slot. -/
theorem rest_new {t : ℕ} (hN : t < 504) (h : 2 ≤ (fl (tile t)).toNat) : par (blk od nb t) = rest od nb t + 1 := by
  by_cases ht : t = 0
  · subst ht
    have e : blk od nb 0 = 0#32 := by
      unfold blk
      rw [show tile 0 = 0 from rfl, P.od_zero, show (col 0).val = 0 from rfl]
      simp
    rw [e]; rfl
  · unfold rest
    rw [if_neg ht, blk_new P ht hN h, par_succ]

/-- Only the first point starts with nothing sent for. -/
theorem first_ne {t : ℕ} (ht : t ≠ 0) (hN : t < 504) (h : 2 ≤ (fl (tile t)).toNat) : BitVec.ofNat 32 (col t).val * nb + od (tile t) ≠ 0#32 := by
  have hk : (od (tile t)).toNat ≤ 71 := (P.od_le (tile t).val (tile t).isLt).trans (by have := (tile t).isLt; omega)
  have h71 : (od 71).toNat ≤ 71 := P.od_le 71 (by omega)
  have hn := P.nb_toNat
  have hc := (col t).isLt
  intro e
  have e' := congrArg BitVec.toNat e
  rw [BitVec.toNat_add, BitVec.toNat_mul, BitVec.toNat_ofNat] at e'
  have z : (0#32 : BitVec 32).toNat = 0 := rfl
  have ec : (col t).val % 2 ^ 32 = (col t).val := Nat.mod_eq_of_lt (by omega)
  rw [ec, z] at e'
  have hm : (col t).val * nb.toNat ≤ 6 * 72 := Nat.mul_le_mul (by omega) (by omega)
  by_cases hh : (col t).val = 0
  · rw [hh] at e'
    have h72 : t < 72 := by
      have : t / 72 % 7 = 0 := hh
      omega
    obtain ⟨k, h1, h2, h3⟩ := tile_pred (t := t) (by omega)
    rw [h1] at e' h hk
    rcases P.step k with ⟨e, -⟩ | ⟨-, e1, e2⟩
    · omega
    · have hk' : (od k.castSucc).toNat ≤ 71 := (P.od_le k.castSucc.val k.castSucc.isLt).trans (by have := k.castSucc.isLt; omega)
      rw [e1, BitVec.toNat_add] at e'
      have : (1#32 : BitVec 32).toNat = 1 := rfl
      omega
  · have hp : 1 * 1 ≤ (col t).val * nb.toNat := Nat.mul_le_mul (by omega) (by omega)
    generalize (col t).val * nb.toNat = q at e' hm hp
    omega

/-- At the end nothing is on its way. -/
theorem slot_end : slot od fo nb 504 = none := by
  rw [slot_succ 503, P.last, if_pos ⟨rfl, rfl⟩]

/-- A tile of tokens that begins no block follows a tile of tokens of the same expert. -/
theorem old_valid {t : ℕ} (h : fl (tile t) = 1#32) : t ≠ 0 ∧ fl (tile (t - 1)) &&& 1#32 = 1#32 ∧ te (tile t) = te (tile (t - 1)) ∧ col (t - 1) = col t := by
  obtain ⟨h0, h1, h2, -⟩ := P.old_valid h
  have h3 : (fl (tile t)).toNat < 2 := by rw [h]; decide
  obtain ⟨-, -, -, k3⟩ := tile_pred (P.mod_ne_of_old h3)
  exact ⟨h0, h1, h2, k3⟩

end Rel

end Cert.Up

end
-- ==== Proof.UpPre.lean ====
/-
  The precondition on the experts' tables for the gate and up product, read: the printed predicate decoded word by word into the relations of `Cert.Down.Plan`.
-/
module

public import proofs.«01_k».proof.Proof.Gen.Pre_up_tables
public import proofs.«01_k».proof.Proof.DownPlan
public import Idealize.ShloMosaic.Lib.StableHlo.Predicate
public import Idealize.ShloMosaic.Lib.ValueIdx

@[expose] public section

namespace Cert.Up

open Cert.Down Idealize.ShloMosaic Cert.Pre_up_tables Cert.Pre_up_tables.Facts

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide

theorem sl1 {α : Type} (a : S72.Idx → α) (h) (k : Fin 71) : extractStridedSlice S71 ![1] a h (ValueIdx.ix1 k) = a (ValueIdx.ix1 k.succ) := by
  refine congrArg a (funext fun x => Fin.ext ?_)
  fin_cases x
  show 1 + k.val = k.val + 1
  omega
theorem sl0 {α : Type} (a : S72.Idx → α) (h) (k : Fin 71) : extractStridedSlice S71 ![0] a h (ValueIdx.ix1 k) = a (ValueIdx.ix1 k.castSucc) := by
  refine congrArg a (funext fun x => Fin.ext ?_)
  fin_cases x
  show 0 + k.val = k.val
  omega
theorem idx_one (y : S1.Idx) : y = ValueIdx.ix1 0 := by
  refine funext fun x => Fin.ext ?_
  fin_cases x
  have h : (y 0).val < 1 := (y 0).isLt
  show (y 0).val = 0
  omega
theorem oneAll {α : Type} (a : S1.Idx → α) (h' : S1.ShapeCasts S_) (i : S_.Idx) : shapeCast S_ a h' i = a (ValueIdx.ix1 0) := congrArg a (idx_one _)
theorem one0 {α : Type} (a : S72.Idx → α) (h : S72.Slices ![0] S1) : extractStridedSlice S1 ![0] a h (ValueIdx.ix1 0) = a (ValueIdx.ix1 0) := by
  refine congrArg a (funext fun x => Fin.ext ?_)
  fin_cases x
  rfl
theorem one71 {α : Type} (a : S72.Idx → α) (h : S72.Slices ![71] S1) : extractStridedSlice S1 ![71] a h (ValueIdx.ix1 0) = a (ValueIdx.ix1 71) := by
  refine congrArg a (funext fun x => Fin.ext ?_)
  fin_cases x
  rfl

/-- A word that is no less than 0 and less than `n`, signed, is less than `n`. -/
theorem lt_of_range {a b : BitVec 32} (hb : b.toNat < 2 ^ 31) (h : IntOp.cmpi .sge a 0#32 = 1#1 ∧ IntOp.cmpi .slt a b = 1#1) : a.toNat < b.toNat := by
  have h0 : BitVec.ofBool ((0#32).sle a) = 1#1 := h.1
  rw [StableHlo.Predicate.ofBool_eq_one_iff] at h0
  have ha : a.toNat < 2 ^ 31 := by
    have := BitVec.sle_iff_toInt_le.1 h0
    rw [BitVec.toInt_eq_toNat_cond a] at this
    have z : (0#32 : BitVec 32).toInt = 0 := rfl
    have hl := a.isLt
    rw [z] at this
    split at this <;> omega
  exact (StableHlo.Predicate.slt_iff_toNat ha hb).1 h.2

theorem plan_of_pre {F : FTy → Type} [FloatOps F] (a0 : FVec F S18432x2048 .bf16) (a1 a1' : FVec F S8x2048x7168 .f32) (a2 a3 a4 a5 : IVec S72 32) (a6 : IVec S1 32)
    (h : Cert.Pre_up_tables.fn a0 a1 a1' a2 a3 a4 a5 a6 = fun _ => 1#1) :
    Plan (fun k => a2 (ValueIdx.ix1 k)) (fun k => a3 (ValueIdx.ix1 k)) (fun k => a4 (ValueIdx.ix1 k)) (fun k => a5 (ValueIdx.ix1 k)) (a6 (ValueIdx.ix1 0)) := by
  have e := fun k : Fin 71 => congrFun h (ValueIdx.ix1 k)
  simp only [fn, fn_part1, fn_part2, fn_part3, fn_part4, fn_part5, andi, ori, cmpi, addi, and_one, or_one, sl0, sl1, one0, one71, oneAll, constantI, broadcastInDim, StableHlo.Predicate.cmpi_eq_iff] at e
  have all : ∀ {Q : Fin 72 → Prop}, (∀ k : Fin 71, Q k.castSucc ∧ Q k.succ) → ∀ k, Q k := fun {Q} hq k => by
    induction k using Fin.cases with
    | zero => exact (hq 0).1
    | succ k => exact (hq k).2
  have hte : ∀ k : Fin 72, (a2 (ValueIdx.ix1 k)).toNat < 8 := all fun k =>
    have ⟨⟨⟨⟨⟨⟨⟨⟨p, q⟩, r⟩, t⟩, _⟩, _⟩, _⟩, _⟩, _⟩ := e k
    ⟨lt_of_range (b := 8#32) (by decide) ⟨p, q⟩, lt_of_range (b := 8#32) (by decide) ⟨r, t⟩⟩
  have hfo : ∀ k : Fin 72, (a5 (ValueIdx.ix1 k)).toNat < 8 := all fun k =>
    have ⟨⟨⟨⟨⟨_, ⟨⟨p, q⟩, r⟩, t⟩, _⟩, _⟩, _⟩, _⟩ := e k
    ⟨lt_of_range (b := 8#32) (by decide) ⟨p, q⟩, lt_of_range (b := 8#32) (by decide) ⟨r, t⟩⟩
  have hfl : ∀ k : Fin 72, (a3 (ValueIdx.ix1 k)).toNat < 4 := all fun k =>
    have ⟨⟨⟨⟨_, ⟨⟨p, q⟩, r⟩, t⟩, _⟩, _⟩, _⟩ := e k
    ⟨lt_of_range (b := 4#32) (by decide) ⟨p, q⟩, lt_of_range (b := 4#32) (by decide) ⟨r, t⟩⟩
  have sm : ∀ k : Fin 72, (a3 (ValueIdx.ix1 k)).toNat < 2 ^ 31 := fun k => (hfl k).trans (by decide)
  obtain ⟨_, ⟨⟨p0, p1⟩, p2⟩, p3⟩ := e 0
  refine ⟨hte, hfo, hfl, (StableHlo.Predicate.sge_iff_toNat (sm 0) (b := 2#32) (by decide)).1 p0, p1, p2, p3, fun k => ?_, fun k => ?_⟩
  · rcases (e k).1.1.2 with ⟨⟨⟨q0, q1⟩, q2⟩, q3⟩ | ⟨⟨q0, q1⟩, q2⟩
    · exact Or.inl ⟨(StableHlo.Predicate.slt_iff_toNat (sm k.succ) (b := 2#32) (by decide)).1 q0, q1, q2, q3⟩
    · exact Or.inr ⟨(StableHlo.Predicate.sge_iff_toNat (sm k.succ) (b := 2#32) (by decide)).1 q0, q1, q2⟩
  · exact (e k).1.2

end Cert.Up

end
-- ==== Proof.UpRunI.lean ====
/- The experts' gate and up product, idealized: its grid step run on held buffers. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Affine
public import Idealize.ShloMosaic.Lib.Tactic
public import Idealize.ShloMosaic.Lib.WordCmp
public import Idealize.ShloMosaic.Lib.ValueLayout

@[expose] public section

set_option maxRecDepth 16384

noncomputable section

namespace Cert.Kernel5Ideal.Up

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (Pipeline.UD sig nD τ) ℕ

/-! ## Names for the slices the step takes -/

abbrev w1M : Memref sig .tc .hbm S8x2048x7168 .f32 := Memref.whole main_arg1
abbrev w3M : Memref sig .tc .hbm S8x2048x7168 .f32 := Memref.whole main_arg2
abbrev wfM : Memref sig .tc .vmem S2x2x2048x1024 .f32 := Memref.whole cc0_scratch0
abbrev wbM : Memref sig .tc .vmem S2x2048x1024 .bf16 := Memref.whole cc0_scratch1

abbrev srcOff (e : Fin 8) (j : Fin 7) : Fin 3 → Nat := ![e.val, 0, 1024 * j.val]
theorem srcOff_inb (e : Fin 8) (j : Fin 7) : ∀ a, srcOff e j a + S1x2048x1024.size a ≤ S8x2048x7168.size a := by
  have := e.isLt; have := j.isLt; intro a; fin_cases a
  · show e.val + 1 ≤ 8; omega
  · show 0 + 2048 ≤ 2048; omega
  · show 1024 * j.val + 1024 ≤ 7168; omega

/-- Expert `e`'s gate weights for columns `1024 j` on, -/
def wsrcA (e : Fin 8) (j : Fin 7) : Memref sig .tc .hbm S2048x1024 .f32 :=
  (w1M.slice (Rect.unit (s := S8x2048x7168) (srcOff e j) S1x2048x1024.size (srcOff_inb e j)) (fun _ => rfl)).squeeze S2048x1024 squeezes_S1x2048x1024_S2048x1024
/-- and its up weights. -/
def wsrcB (e : Fin 8) (j : Fin 7) : Memref sig .tc .hbm S2048x1024 .f32 :=
  (w3M.slice (Rect.unit (s := S8x2048x7168) (srcOff e j) S1x2048x1024.size (srcOff_inb e j)) (fun _ => rfl)).squeeze S2048x1024 squeezes_S1x2048x1024_S2048x1024
theorem wdst_inb (k : Fin 2) (p : ℕ) (hp : p < 2) : ∀ a, (![k.val, p, 0, 0] : Fin 4 → Nat) a + S1x1x2048x1024.size a ≤ S2x2x2048x1024.size a := by
  have := k.isLt; intro a; fin_cases a
  · show k.val + 1 ≤ 2; omega
  · show p + 1 ≤ 2; omega
  · show 0 + 2048 ≤ 2048; omega
  · show 0 + 1024 ≤ 1024; omega
/-- Part `p` of weight slot `k`. -/
def wdst (k : Fin 2) (p : ℕ) (hp : p < 2 := by decide) : Memref sig .tc .vmem S2048x1024 .f32 :=
  (wfM.slice (Rect.unit (s := S2x2x2048x1024) ![k.val, p, 0, 0] S1x1x2048x1024.size (wdst_inb k p hp)) (fun _ => rfl)).squeeze S2048x1024 squeezes_S1x1x2048x1024_S2048x1024
abbrev semOff (k p : Fin 2) : Fin 2 → Nat := ![k.val, p.val]
theorem wsem_inb (k p : Fin 2) : ∀ a, semOff k p a + S1x1.size a ≤ S2x2.size a := by revert k p; decide
/-- The part's semaphore. -/
def wsem (k p : Fin 2) : DmaSems sig S_ := (cc0_scratch2.slice (Rect.unit (s := S2x2) (semOff k p) S1x1.size (wsem_inb k p))).squeeze S_ squeezes_S1x1_S_

theorem remsi_two (x : BitVec 32) : (Scalar.remsi x 2#32 : BitVec 32) = 0#32 ∧ x.toNat % 2 = 0 ∨ (Scalar.remsi x 2#32 : BitVec 32) = 1#32 ∧ x.toNat % 2 = 1
    ∨ (Scalar.remsi x 2#32 : BitVec 32) = 4294967295#32 ∧ x.toNat % 2 = 1 := by
  have e : (Scalar.remsi x 2#32 : BitVec 32) = x.srem 2#32 := by
    simp [Scalar.remsi, IntOp.remsi, IntOp.SDivCorner]
  rw [e, BitVec.srem_eq]
  have h := x.isLt
  have m2 : (2#32 : BitVec 32).msb = false := by decide
  rw [m2]
  rcases Nat.mod_two_eq_zero_or_one x.toNat with p | p
  · left
    refine ⟨?_, p⟩
    cases x.msb
    · apply BitVec.eq_of_toNat_eq
      show (x % 2#32).toNat = 0
      rw [BitVec.toNat_umod]; exact p
    · have z : (-x) % 2#32 = 0#32 := by
        apply BitVec.eq_of_toNat_eq
        rw [BitVec.toNat_umod, BitVec.toNat_neg]
        show (2 ^ 32 - x.toNat) % 2 ^ 32 % 2 = 0
        omega
      show -((-x) % 2#32) = 0#32
      rw [z]; decide
  · right
    cases x.msb
    · left
      refine ⟨?_, p⟩
      apply BitVec.eq_of_toNat_eq
      show (x % 2#32).toNat = 1
      rw [BitVec.toNat_umod]; exact p
    · right
      refine ⟨?_, p⟩
      have z : (-x) % 2#32 = 1#32 := by
        apply BitVec.eq_of_toNat_eq
        rw [BitVec.toNat_umod, BitVec.toNat_neg]
        show (2 ^ 32 - x.toNat) % 2 ^ 32 % 2 = 1
        omega
      show -((-x) % 2#32) = 4294967295#32
      rw [z]; decide

/-- The slot's word is the parity of the block's number. -/
theorem slot_mod (x : BitVec 32) :
    (Scalar.select (Scalar.andi (Scalar.xori (Scalar.cmpi .slt (Scalar.remsi x (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi x (Scalar.select (Scalar.cmpi .eq 2#32 0#32) 1#32 2#32)) 0#32))
      (Scalar.addi (Scalar.remsi x (Scalar.select (Scalar.cmpi .eq 2#32 0#32) 1#32 2#32)) (Scalar.select (Scalar.cmpi .eq 2#32 0#32) 1#32 2#32))
      (Scalar.remsi x (Scalar.select (Scalar.cmpi .eq 2#32 0#32) 1#32 2#32)) : BitVec 32).toNat = x.toNat % 2 := by
  rw [show (Scalar.select (Scalar.cmpi .eq 2#32 0#32) 1#32 2#32 : BitVec 32) = 2#32 from by decide]
  rcases remsi_two x with ⟨e, h⟩ | ⟨e, h⟩ | ⟨e, h⟩ <;> rw [e, h] <;> decide

/-- The slot of a step's block, -/
@[irreducible] def kO (i : grid0.Coords) (v4 v7 : BitVec 32) : Fin 2 := ⟨(Scalar.addi (Scalar.muli (BitVec.ofNat 32 (i 0).val) v4) v7 : BitVec 32).toNat % 2, Nat.mod_lt _ (by decide)⟩
/-- and of the block after. -/
@[irreducible] def kN (i : grid0.Coords) (v4 v7 : BitVec 32) : Fin 2 := ⟨(Scalar.addi (Scalar.addi (Scalar.muli (BitVec.ofNat 32 (i 0).val) v4) v7) 1#32 : BitVec 32).toNat % 2, Nat.mod_lt _ (by decide)⟩

theorem kO_val (i : grid0.Coords) (v4 v7 : BitVec 32) : (kO i v4 v7).val = (Scalar.addi (Scalar.muli (BitVec.ofNat 32 (i 0).val) v4) v7 : BitVec 32).toNat % 2 := by unfold kO; rfl
theorem kN_val (i : grid0.Coords) (v4 v7 : BitVec 32) : (kN i v4 v7).val = (Scalar.addi (Scalar.addi (Scalar.muli (BitVec.ofNat 32 (i 0).val) v4) v7) 1#32 : BitVec 32).toNat % 2 := by unfold kN; rfl

section Offsets
variable (i : grid0.Coords) (v4 v7 : BitVec 32)
theorem off3_eq : k0_off3 i v4 v7 = semOff (kO i v4 v7) 0 := congrArg (fun n : Nat => (![n, 0] : Fin 2 → Nat)) ((slot_mod _).trans (kO_val i v4 v7).symm)
theorem off6_eq : k0_off6 i v4 v7 = semOff (kO i v4 v7) 1 := congrArg (fun n : Nat => (![n, 1] : Fin 2 → Nat)) ((slot_mod _).trans (kO_val i v4 v7).symm)
theorem off9_eq : k0_off9 i v4 v7 = semOff (kN i v4 v7) 0 := congrArg (fun n : Nat => (![n, 0] : Fin 2 → Nat)) ((slot_mod _).trans (kN_val i v4 v7).symm)
theorem off12_eq : k0_off12 i v4 v7 = semOff (kN i v4 v7) 1 := congrArg (fun n : Nat => (![n, 1] : Fin 2 → Nat)) ((slot_mod _).trans (kN_val i v4 v7).symm)
theorem off15_eq : k0_off15 i v4 v7 = semOff (kO i v4 v7) 0 := congrArg (fun n : Nat => (![n, 0] : Fin 2 → Nat)) ((slot_mod _).trans (kO_val i v4 v7).symm)
theorem off18_eq : k0_off18 i v4 v7 = semOff (kO i v4 v7) 1 := congrArg (fun n : Nat => (![n, 1] : Fin 2 → Nat)) ((slot_mod _).trans (kO_val i v4 v7).symm)
theorem off4_eq : k0_off4 i v4 v7 = ![(kO i v4 v7).val, 0, 0, 0] := congrArg (fun n : Nat => (![n, 0, 0, 0] : Fin 4 → Nat)) ((slot_mod _).trans (kO_val i v4 v7).symm)
theorem off7_eq : k0_off7 i v4 v7 = ![(kO i v4 v7).val, 1, 0, 0] := congrArg (fun n : Nat => (![n, 1, 0, 0] : Fin 4 → Nat)) ((slot_mod _).trans (kO_val i v4 v7).symm)
theorem off10_eq : k0_off10 i v4 v7 = ![(kN i v4 v7).val, 0, 0, 0] := congrArg (fun n : Nat => (![n, 0, 0, 0] : Fin 4 → Nat)) ((slot_mod _).trans (kN_val i v4 v7).symm)
theorem off13_eq : k0_off13 i v4 v7 = ![(kN i v4 v7).val, 1, 0, 0] := congrArg (fun n : Nat => (![n, 1, 0, 0] : Fin 4 → Nat)) ((slot_mod _).trans (kN_val i v4 v7).symm)
theorem off16_eq : k0_off16 i v4 v7 = ![(kO i v4 v7).val, 0, 0, 0] := congrArg (fun n : Nat => (![n, 0, 0, 0] : Fin 4 → Nat)) ((slot_mod _).trans (kO_val i v4 v7).symm)
theorem off19_eq : k0_off19 i v4 v7 = ![(kO i v4 v7).val, 1, 0, 0] := congrArg (fun n : Nat => (![n, 1, 0, 0] : Fin 4 → Nat)) ((slot_mod _).trans (kO_val i v4 v7).symm)
theorem off20_eq : k0_off20 i v4 v7 = ![(kO i v4 v7).val, 0, 0, 0] := congrArg (fun n : Nat => (![n, 0, 0, 0] : Fin 4 → Nat)) ((slot_mod _).trans (kO_val i v4 v7).symm)
theorem off21_eq : k0_off21 i v4 v7 = ![(kO i v4 v7).val, 1, 0, 0] := congrArg (fun n : Nat => (![n, 1, 0, 0] : Fin 4 → Nat)) ((slot_mod _).trans (kO_val i v4 v7).symm)
theorem off22_eq : k0_off22 i v4 v7 = ![(kO i v4 v7).val, 0, 0, 256] := congrArg (fun n : Nat => (![n, 0, 0, 256] : Fin 4 → Nat)) ((slot_mod _).trans (kO_val i v4 v7).symm)
theorem off23_eq : k0_off23 i v4 v7 = ![(kO i v4 v7).val, 1, 0, 256] := congrArg (fun n : Nat => (![n, 1, 0, 256] : Fin 4 → Nat)) ((slot_mod _).trans (kO_val i v4 v7).symm)
theorem off24_eq : k0_off24 i v4 v7 = ![(kO i v4 v7).val, 0, 0, 512] := congrArg (fun n : Nat => (![n, 0, 0, 512] : Fin 4 → Nat)) ((slot_mod _).trans (kO_val i v4 v7).symm)
theorem off25_eq : k0_off25 i v4 v7 = ![(kO i v4 v7).val, 1, 0, 512] := congrArg (fun n : Nat => (![n, 1, 0, 512] : Fin 4 → Nat)) ((slot_mod _).trans (kO_val i v4 v7).symm)
theorem off26_eq : k0_off26 i v4 v7 = ![(kO i v4 v7).val, 0, 0, 768] := congrArg (fun n : Nat => (![n, 0, 0, 768] : Fin 4 → Nat)) ((slot_mod _).trans (kO_val i v4 v7).symm)
theorem off27_eq : k0_off27 i v4 v7 = ![(kO i v4 v7).val, 1, 0, 768] := congrArg (fun n : Nat => (![n, 1, 0, 768] : Fin 4 → Nat)) ((slot_mod _).trans (kO_val i v4 v7).symm)

theorem ld_inb (k : Fin 2) (p q : ℕ) (hp : p < 2) (hq : q ≤ 768) : ∀ a, (![k.val, p, 0, q] : Fin 4 → Nat) a + S1x1x2048x256.size a ≤ S2x2x2048x1024.size a := by
  have := k.isLt; intro a; fin_cases a
  · show k.val + 1 ≤ 2; omega
  · show p + 1 ≤ 2; omega
  · show 0 + 2048 ≤ 2048; omega
  · show q + 256 ≤ 1024; omega

theorem chk1 (v1 : BitVec 32) : k0_chk1 i v1 v4 v7 := by
  unfold k0_chk1
  rw [off3_eq, off4_eq, off6_eq, off7_eq, off15_eq, off16_eq, off18_eq, off19_eq, off20_eq, off21_eq, off22_eq, off23_eq, off24_eq, off25_eq, off26_eq, off27_eq]
  exact ⟨fun _ _ => wsem_inb _ _, fun _ _ => wdst_inb _ _ (by decide), fun _ _ => wsem_inb _ _, fun _ _ => wdst_inb _ _ (by decide), fun _ => wsem_inb _ _, fun _ => wdst_inb _ _ (by decide),
    fun _ => wsem_inb _ _, fun _ => wdst_inb _ _ (by decide), fun _ => ld_inb _ _ _ (by decide) (by decide), fun _ => ld_inb _ _ _ (by decide) (by decide), fun _ => ld_inb _ _ _ (by decide) (by decide), fun _ => ld_inb _ _ _ (by decide) (by decide), fun _ => ld_inb _ _ _ (by decide) (by decide), fun _ => ld_inb _ _ _ (by decide) (by decide), fun _ => ld_inb _ _ _ (by decide) (by decide), fun _ => ld_inb _ _ _ (by decide) (by decide)⟩

end Offsets

/-- The expert a table word names. -/
def expOf (w : BitVec 32) : Fin 8 := Fin.ofNat 8 w.toNat
theorem expOf_of (w : BitVec 32) (h : w.toNat < 8) : expOf w = ⟨w.toNat, h⟩ := Fin.ext (Nat.mod_eq_of_lt h)
theorem off5_eq (i : grid0.Coords) (w : BitVec 32) (h : w.toNat < 8) : k0_off5 i w = srcOff (expOf w) (i 0) := by
  rw [expOf_of w h]
  have e : ∀ j : Fin 7, (Scalar.muli (BitVec.ofNat 32 j.val) 1024#32).toNat = 1024 * j.val := by decide
  exact congrArg (fun n : Nat => (![w.toNat, 0, n] : Fin 3 → Nat)) (e (i 0))
theorem off17_eq (i : grid0.Coords) (w : BitVec 32) (h : w.toNat < 8) : k0_off17 i w = srcOff (expOf w) (i 0) := off5_eq i w h

/-- The columns the next copies take: the same ones, or the next when this is the last block of the columns. -/
def nextJ (j : Fin 7) (v20 v21 : BitVec 32) : Fin 7 := if v20 = v21 - 1#32 then j + 1 else j

theorem cmpi_eq_one (a b : BitVec 32) : (Scalar.cmpi .eq a b : BitVec 1) = 1#1 ↔ a = b := by
  by_cases h : a = b
  · simp [Scalar.cmpi, IntOp.cmpi, h]
  · have e : (a == b) = false := by simpa using h
    simp [Scalar.cmpi, IntOp.cmpi, e, h]

theorem last_eq_one (a b : BitVec 32) : (Scalar.cmpi .eq a (Scalar.subi b 1#32) : BitVec 1) = 1#1 ↔ a = b - 1#32 := cmpi_eq_one a (b - 1#32)

theorem cols_at (j : Fin 7) (v20 v21 : BitVec 32)
    (h : (Scalar.muli (Scalar.addi (BitVec.ofNat 32 j.val) (Scalar.extui (Scalar.cmpi .eq v20 (Scalar.subi v21 1#32)))) 1024#32 : BitVec 32).toNat + 1024 ≤ 7168) :
    (Scalar.muli (Scalar.addi (BitVec.ofNat 32 j.val) (Scalar.extui (Scalar.cmpi .eq v20 (Scalar.subi v21 1#32)))) 1024#32 : BitVec 32).toNat
      = 1024 * (nextJ j v20 v21).val := by
  have e : ∀ j : Fin 7, ∀ b : BitVec 1,
      (Scalar.muli (Scalar.addi (BitVec.ofNat 32 j.val) (Scalar.extui b)) 1024#32 : BitVec 32).toNat + 1024 ≤ 7168 →
      (Scalar.muli (Scalar.addi (BitVec.ofNat 32 j.val) (Scalar.extui b)) 1024#32 : BitVec 32).toNat = 1024 * (if b = 1#1 then j + 1 else j).val := by decide
  refine (e j (Scalar.cmpi .eq v20 (Scalar.subi v21 1#32)) h).trans ?_
  unfold nextJ
  by_cases hh : v20 = v21 - 1#32
  · rw [if_pos hh, if_pos ((last_eq_one _ _).2 hh)]
  · rw [if_neg hh, if_neg (fun h => hh ((last_eq_one _ _).1 h))]

theorem cond3_cols (i : grid0.Coords) (v20 v21 : BitVec 32) (h : k0_cond3 i v20 v21 = 1#1) :
    (Scalar.muli (Scalar.addi (BitVec.ofNat 32 (i 0).val) (Scalar.extui (Scalar.cmpi .eq v20 (Scalar.subi v21 1#32)))) 1024#32 : BitVec 32).toNat + 1024 ≤ 7168 := by
  have e : ∀ j : Fin 7, ∀ b : BitVec 1,
      (Scalar.cmpi .ne (Scalar.extui (Scalar.xori (Scalar.andi b (Scalar.cmpi .eq (BitVec.ofNat 32 j.val) 6#32)) 1#1) : BitVec 32) 0#32 : BitVec 1) = 1#1 →
      (Scalar.muli (Scalar.addi (BitVec.ofNat 32 j.val) (Scalar.extui b)) 1024#32 : BitVec 32).toNat + 1024 ≤ 7168 := by decide
  exact e (i 0) _ h

theorem off11_eq (i : grid0.Coords) (v20 v21 w : BitVec 32) (hw : w.toNat < 8)
    (h : (Scalar.muli (Scalar.addi (BitVec.ofNat 32 (i 0).val) (Scalar.extui (Scalar.cmpi .eq v20 (Scalar.subi v21 1#32)))) 1024#32 : BitVec 32).toNat + 1024 ≤ 7168) :
    k0_off11 i v20 v21 w = srcOff (expOf w) (nextJ (i 0) v20 v21) := by
  rw [expOf_of w hw]
  exact congrArg (fun n : Nat => (![w.toNat, 0, n] : Fin 3 → Nat)) (cols_at (i 0) v20 v21 h)

theorem chk3 (i : grid0.Coords) (v1 v4 v7 v20 v21 : BitVec 32) : k0_chk3 i v1 v4 v7 v20 v21 := by
  unfold k0_chk3
  rw [off9_eq, off10_eq, off12_eq, off13_eq]
  exact ⟨fun _ h => ⟨(nextJ (i 0) v20 v21).val, cols_at (i 0) v20 v21 (cond3_cols i v20 v21 h)⟩, fun _ _ => wsem_inb _ _, fun _ _ => wdst_inb _ _ (by decide), fun _ _ => wsem_inb _ _, fun _ _ => wdst_inb _ _ (by decide)⟩
theorem chk2 (i : grid0.Coords) (v1 v4 v7 w : BitVec 32) (h : w.toNat < 8) : k0_chk2 i v1 v4 v7 w := by
  unfold k0_chk2; intro _ _; rw [off5_eq i w h]; exact srcOff_inb _ _
theorem chk5 (i : grid0.Coords) (v1 w : BitVec 32) (h : w.toNat < 8) : k0_chk5 i v1 w := by
  unfold k0_chk5; intro _; rw [off17_eq i w h]; exact srcOff_inb _ _
theorem chk4 (i : grid0.Coords) (v1 v20 v21 w : BitVec 32) (h : w.toNat < 8) : k0_chk4 i v1 v20 v21 w := by
  unfold k0_chk4; intro _ h3; rw [off11_eq i v20 v21 w h (cond3_cols i v20 v21 h3)]; exact srcOff_inb _ _

private theorem wsem_congr {off : Fin 2 → Nat} {k p : Fin 2} (e : off = semOff k p) (hh) :
    (cc0_scratch2.slice (Rect.unit (s := S2x2) off S1x1.size hh)).squeeze S_ squeezes_S1x1_S_ = wsem k p :=
  congrArg (fun A : DmaSems sig S1x1 => A.squeeze S_ squeezes_S1x1_S_) (SemArray.slice_unit_congr _ e _ _)
private theorem wdst_congr {off : Fin 4 → Nat} {k : Fin 2} {p : ℕ} (hp : p < 2) (e : off = ![k.val, p, 0, 0]) (hh hs) :
    (wfM.slice (Rect.unit (s := S2x2x2048x1024) off S1x1x2048x1024.size hh) hs).squeeze S2048x1024 squeezes_S1x1x2048x1024_S2048x1024 = wdst k p hp :=
  congrArg (fun M : Memref sig .tc .vmem S1x1x2048x1024 .f32 => M.squeeze S2048x1024 squeezes_S1x1x2048x1024_S2048x1024) (Memref.slice_unit_congr _ e _ _ _ _)
private theorem wsrcA_congr {off : Fin 3 → Nat} {e : Fin 8} {j : Fin 7} (h : off = srcOff e j) (hh hs) :
    (w1M.slice (Rect.unit (s := S8x2048x7168) off S1x2048x1024.size hh) hs).squeeze S2048x1024 squeezes_S1x2048x1024_S2048x1024 = wsrcA e j :=
  congrArg (fun M : Memref sig .tc .hbm S1x2048x1024 .f32 => M.squeeze S2048x1024 squeezes_S1x2048x1024_S2048x1024) (Memref.slice_unit_congr _ h _ _ _ _)
private theorem wsrcB_congr {off : Fin 3 → Nat} {e : Fin 8} {j : Fin 7} (h : off = srcOff e j) (hh hs) :
    (w3M.slice (Rect.unit (s := S8x2048x7168) off S1x2048x1024.size hh) hs).squeeze S2048x1024 squeezes_S1x2048x1024_S2048x1024 = wsrcB e j :=
  congrArg (fun M : Memref sig .tc .hbm S1x2048x1024 .f32 => M.squeeze S2048x1024 squeezes_S1x2048x1024_S2048x1024) (Memref.slice_unit_congr _ h _ _ _ _)

section Canon
variable (i : grid0.Coords) (v1 v4 v7 v20 v21 w : BitVec 32)
@[sl_canon] theorem sem3 (hh) : (cc0_scratch2.slice (Rect.unit (s := S2x2) (k0_off3 i v4 v7) S1x1.size hh)).squeeze S_ squeezes_S1x1_S_ = wsem (kO i v4 v7) 0 := wsem_congr (off3_eq i v4 v7) _
@[sl_canon] theorem sem6 (hh) : (cc0_scratch2.slice (Rect.unit (s := S2x2) (k0_off6 i v4 v7) S1x1.size hh)).squeeze S_ squeezes_S1x1_S_ = wsem (kO i v4 v7) 1 := wsem_congr (off6_eq i v4 v7) _
@[sl_canon] theorem sem9 (hh) : (cc0_scratch2.slice (Rect.unit (s := S2x2) (k0_off9 i v4 v7) S1x1.size hh)).squeeze S_ squeezes_S1x1_S_ = wsem (kN i v4 v7) 0 := wsem_congr (off9_eq i v4 v7) _
@[sl_canon] theorem sem12 (hh) : (cc0_scratch2.slice (Rect.unit (s := S2x2) (k0_off12 i v4 v7) S1x1.size hh)).squeeze S_ squeezes_S1x1_S_ = wsem (kN i v4 v7) 1 := wsem_congr (off12_eq i v4 v7) _
@[sl_canon] theorem sem15 (hh) : (cc0_scratch2.slice (Rect.unit (s := S2x2) (k0_off15 i v4 v7) S1x1.size hh)).squeeze S_ squeezes_S1x1_S_ = wsem (kO i v4 v7) 0 := wsem_congr (off15_eq i v4 v7) _
@[sl_canon] theorem sem18 (hh) : (cc0_scratch2.slice (Rect.unit (s := S2x2) (k0_off18 i v4 v7) S1x1.size hh)).squeeze S_ squeezes_S1x1_S_ = wsem (kO i v4 v7) 1 := wsem_congr (off18_eq i v4 v7) _
@[sl_canon] theorem dst4 (hh hs) : (wfM.slice (Rect.unit (s := S2x2x2048x1024) (k0_off4 i v4 v7) S1x1x2048x1024.size hh) hs).squeeze S2048x1024 squeezes_S1x1x2048x1024_S2048x1024 = wdst (kO i v4 v7) 0 := wdst_congr (by decide) (off4_eq i v4 v7) _ _
@[sl_canon] theorem dst7 (hh hs) : (wfM.slice (Rect.unit (s := S2x2x2048x1024) (k0_off7 i v4 v7) S1x1x2048x1024.size hh) hs).squeeze S2048x1024 squeezes_S1x1x2048x1024_S2048x1024 = wdst (kO i v4 v7) 1 := wdst_congr (by decide) (off7_eq i v4 v7) _ _
@[sl_canon] theorem dst10 (hh hs) : (wfM.slice (Rect.unit (s := S2x2x2048x1024) (k0_off10 i v4 v7) S1x1x2048x1024.size hh) hs).squeeze S2048x1024 squeezes_S1x1x2048x1024_S2048x1024 = wdst (kN i v4 v7) 0 := wdst_congr (by decide) (off10_eq i v4 v7) _ _
@[sl_canon] theorem dst13 (hh hs) : (wfM.slice (Rect.unit (s := S2x2x2048x1024) (k0_off13 i v4 v7) S1x1x2048x1024.size hh) hs).squeeze S2048x1024 squeezes_S1x1x2048x1024_S2048x1024 = wdst (kN i v4 v7) 1 := wdst_congr (by decide) (off13_eq i v4 v7) _ _
@[sl_canon] theorem dst16 (hh hs) : (wfM.slice (Rect.unit (s := S2x2x2048x1024) (k0_off16 i v4 v7) S1x1x2048x1024.size hh) hs).squeeze S2048x1024 squeezes_S1x1x2048x1024_S2048x1024 = wdst (kO i v4 v7) 0 := wdst_congr (by decide) (off16_eq i v4 v7) _ _
@[sl_canon] theorem dst19 (hh hs) : (wfM.slice (Rect.unit (s := S2x2x2048x1024) (k0_off19 i v4 v7) S1x1x2048x1024.size hh) hs).squeeze S2048x1024 squeezes_S1x1x2048x1024_S2048x1024 = wdst (kO i v4 v7) 1 := wdst_congr (by decide) (off19_eq i v4 v7) _ _
@[sl_canon] theorem srcA5 (hh hs) : (w1M.slice (Rect.unit (s := S8x2048x7168) (k0_off5 i w) S1x2048x1024.size hh) hs).squeeze S2048x1024 squeezes_S1x2048x1024_S2048x1024 = wsrcA (expOf w) (i 0) :=
  wsrcA_congr (off5_eq i w (Nat.lt_of_succ_le (hh 0))) _ _
@[sl_canon] theorem srcB5 (hh hs) : (w3M.slice (Rect.unit (s := S8x2048x7168) (k0_off5 i w) S1x2048x1024.size hh) hs).squeeze S2048x1024 squeezes_S1x2048x1024_S2048x1024 = wsrcB (expOf w) (i 0) :=
  wsrcB_congr (off5_eq i w (Nat.lt_of_succ_le (hh 0))) _ _
@[sl_canon] theorem srcA17 (hh hs) : (w1M.slice (Rect.unit (s := S8x2048x7168) (k0_off17 i w) S1x2048x1024.size hh) hs).squeeze S2048x1024 squeezes_S1x2048x1024_S2048x1024 = wsrcA (expOf w) (i 0) :=
  wsrcA_congr (off17_eq i w (Nat.lt_of_succ_le (hh 0))) _ _
@[sl_canon] theorem srcB17 (hh hs) : (w3M.slice (Rect.unit (s := S8x2048x7168) (k0_off17 i w) S1x2048x1024.size hh) hs).squeeze S2048x1024 squeezes_S1x2048x1024_S2048x1024 = wsrcB (expOf w) (i 0) :=
  wsrcB_congr (off17_eq i w (Nat.lt_of_succ_le (hh 0))) _ _
@[sl_canon] theorem srcA11 (hh hs) : (w1M.slice (Rect.unit (s := S8x2048x7168) (k0_off11 i v20 v21 w) S1x2048x1024.size hh) hs).squeeze S2048x1024 squeezes_S1x2048x1024_S2048x1024 = wsrcA (expOf w) (nextJ (i 0) v20 v21) :=
  wsrcA_congr (off11_eq i v20 v21 w (Nat.lt_of_succ_le (hh 0)) (hh 2)) _ _
@[sl_canon] theorem srcB11 (hh hs) : (w3M.slice (Rect.unit (s := S8x2048x7168) (k0_off11 i v20 v21 w) S1x2048x1024.size hh) hs).squeeze S2048x1024 squeezes_S1x2048x1024_S2048x1024 = wsrcB (expOf w) (nextJ (i 0) v20 v21) :=
  wsrcB_congr (off11_eq i v20 v21 w (Nat.lt_of_succ_le (hh 0)) (hh 2)) _ _
instance : ClosedOff (k0_off20 i v4 v7) := ⟨![(kO i v4 v7).val, 0, 0, 0], off20_eq i v4 v7⟩
instance : ClosedOff (k0_off21 i v4 v7) := ⟨![(kO i v4 v7).val, 1, 0, 0], off21_eq i v4 v7⟩
instance : ClosedOff (k0_off22 i v4 v7) := ⟨![(kO i v4 v7).val, 0, 0, 256], off22_eq i v4 v7⟩
instance : ClosedOff (k0_off23 i v4 v7) := ⟨![(kO i v4 v7).val, 1, 0, 256], off23_eq i v4 v7⟩
instance : ClosedOff (k0_off24 i v4 v7) := ⟨![(kO i v4 v7).val, 0, 0, 512], off24_eq i v4 v7⟩
instance : ClosedOff (k0_off25 i v4 v7) := ⟨![(kO i v4 v7).val, 1, 0, 512], off25_eq i v4 v7⟩
instance : ClosedOff (k0_off26 i v4 v7) := ⟨![(kO i v4 v7).val, 0, 0, 768], off26_eq i v4 v7⟩
instance : ClosedOff (k0_off27 i v4 v7) := ⟨![(kO i v4 v7).val, 1, 0, 768], off27_eq i v4 v7⟩
end Canon

abbrev te3 : Memref sig .tc .smem S72 .i32 := Memref.whole main_arg3
abbrev te4 : Memref sig .tc .smem S72 .i32 := Memref.whole main_arg4
abbrev te5 : Memref sig .tc .smem S72 .i32 := Memref.whole main_arg5
abbrev te6 : Memref sig .tc .smem S72 .i32 := Memref.whole main_arg6
abbrev te7 : Memref sig .tc .smem S1 .i32 := Memref.whole main_arg7
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-! ## The words of a step -/

section Words
variable {c : Dev nD} (i : grid0.Coords)
abbrev wExp (f : TbBuf (F := F) c te3) : BitVec 32 := View.readAt (Elt F) te3.view (Rect.unit (s := S72) (k0_off2 i) S1.size (k0_off2_inb i)).toLoadRect f (Shape.Idx.first (numel1_S1.symm ▸ Nat.one_pos))
abbrev wExp' (f : TbBuf (F := F) c te3) : BitVec 32 := View.readAt (Elt F) te3.view (Rect.unit (s := S72) (k0_off14 i) S1.size (k0_off14_inb i)).toLoadRect f (Shape.Idx.first (numel1_S1.symm ▸ Nat.one_pos))
abbrev wFlag (f : TbBuf (F := F) c te4) : BitVec 32 := View.readAt (Elt F) te4.view (Rect.unit (s := S72) (k0_off1 i) S1.size (k0_off1_inb i)).toLoadRect f (Shape.Idx.first (numel1_S1.symm ▸ Nat.one_pos))
abbrev wOrd (f : TbBuf (F := F) c te5) : BitVec 32 := View.readAt (Elt F) te5.view (Rect.unit (s := S72) (k0_off1 i) S1.size (k0_off1_inb i)).toLoadRect f (Shape.Idx.first (numel1_S1.symm ▸ Nat.one_pos))
abbrev wFol (f : TbBuf (F := F) c te6) : BitVec 32 := View.readAt (Elt F) te6.view (Rect.unit (s := S72) (k0_off8 i) S1.size (k0_off8_inb i)).toLoadRect f (Shape.Idx.first (numel1_S1.symm ▸ Nat.one_pos))
abbrev wBlk (f : TbBuf (F := F) c te7) : BitVec 32 := View.readAt (Elt F) te7.view (Rect.unit (s := S1) ![0] S1.size inb_S1_S1_0).toLoadRect f (Shape.Idx.first (numel1_S1.symm ▸ Nat.one_pos))
end Words

/-! ## What a step leaves -/

abbrev rO : Rect S256x1024 := Rect.unit (s := S256x1024) ![0, 0] S256x1024.size inb_S256x1024_S256x1024_0_0
abbrev rO0 : Rect S256x1024 := Rect.unit (s := S256x1024) ![0, 0] S256x256.size inb_S256x1024_S256x256_0_0
abbrev rO1 : Rect S256x1024 := Rect.unit (s := S256x1024) ![0, 256] S256x256.size inb_S256x1024_S256x256_0_256
abbrev rO2 : Rect S256x1024 := Rect.unit (s := S256x1024) ![0, 512] S256x256.size inb_S256x1024_S256x256_0_512
abbrev rO3 : Rect S256x1024 := Rect.unit (s := S256x1024) ![0, 768] S256x256.size inb_S256x1024_S256x256_0_768
abbrev rX : Rect S256x2048 := Rect.unit (s := S256x2048) ![0, 0] S256x2048.size inb_S256x2048_S256x2048_0_0
abbrev rWA : Rect S2x2048x1024 := Rect.unit (s := S2x2048x1024) ![0, 0, 0] S1x2048x1024.size inb_S2x2048x1024_S1x2048x1024_0_0_0
abbrev rA0 : Rect S2x2048x1024 := Rect.unit (s := S2x2048x1024) ![0, 0, 0] S1x2048x256.size inb_S2x2048x1024_S1x2048x256_0_0_0
abbrev rA1 : Rect S2x2048x1024 := Rect.unit (s := S2x2048x1024) ![0, 0, 256] S1x2048x256.size inb_S2x2048x1024_S1x2048x256_0_0_256
abbrev rA2 : Rect S2x2048x1024 := Rect.unit (s := S2x2048x1024) ![0, 0, 512] S1x2048x256.size inb_S2x2048x1024_S1x2048x256_0_0_512
abbrev rA3 : Rect S2x2048x1024 := Rect.unit (s := S2x2048x1024) ![0, 0, 768] S1x2048x256.size inb_S2x2048x1024_S1x2048x256_0_0_768
abbrev rWB : Rect S2x2048x1024 := Rect.unit (s := S2x2048x1024) ![1, 0, 0] S1x2048x1024.size inb_S2x2048x1024_S1x2048x1024_1_0_0
abbrev rB0 : Rect S2x2048x1024 := Rect.unit (s := S2x2048x1024) ![1, 0, 0] S1x2048x256.size inb_S2x2048x1024_S1x2048x256_1_0_0
abbrev rB1 : Rect S2x2048x1024 := Rect.unit (s := S2x2048x1024) ![1, 0, 256] S1x2048x256.size inb_S2x2048x1024_S1x2048x256_1_0_256
abbrev rB2 : Rect S2x2048x1024 := Rect.unit (s := S2x2048x1024) ![1, 0, 512] S1x2048x256.size inb_S2x2048x1024_S1x2048x256_1_0_512
abbrev rB3 : Rect S2x2048x1024 := Rect.unit (s := S2x2048x1024) ![1, 0, 768] S1x2048x256.size inb_S2x2048x1024_S1x2048x256_1_0_768

/-- 256 columns of a weight matrix, as the step loads them from the slot. -/
def chunk (W : Vec F S2048x1024 .f32) (k : Fin 4) : Vec F S1x1x2048x256 .f32 := fun y =>
  W (ValueIdx.ix2 (⟨(y 2).val, (y 2).isLt⟩ : Fin 2048) (⟨256 * k.val + (y 3).val, by have h := k.isLt; have h' : (y 3).val < 256 := (y 3).isLt; omega⟩ : Fin 1024))

/-- A load of 256 columns of a slot's part is a chunk of the matrix the part holds. -/
theorem load_chunk (s : Fin 2) (p : ℕ) (hp : p < 2) (k : Fin 4) {off : Fin 4 → Nat} (h : off = ![s.val, p, 0, 256 * k.val]) (hh : ∀ a, off a + S1x1x2048x256.size a ≤ S2x2x2048x1024.size a)
    (f : wfM.view.ty.Contents (Elt F)) :
    View.readAt (Elt F) wfM.view (Rect.unit (s := S2x2x2048x1024) off S1x1x2048x256.size hh).toLoadRect f = chunk ((wdst s p hp).view.read (Elt F) f) k := by
  subst h
  funext y
  unfold chunk wdst
  rw [Memref.read_squeeze_slice (hc := squeezes_S1x1x2048x1024_S2048x1024.numel_eq)]
  unfold shapeCast
  rw [ValueIdx.reshapeEquiv_ix2_11ab]
  refine congrArg f (funext fun a => Fin.ext ?_)
  fin_cases a
  · have h : (y 0).val < 1 := (y 0).isLt
    show s.val + 1 * (y 0).val = s.val + 1 * 0
    omega
  · have h : (y 1).val < 1 := (y 1).isLt
    show p + 1 * (y 1).val = p + 1 * 0
    omega
  · show 0 + 1 * (y 2).val = 0 + 1 * (y 2).val
    rfl
  · show 256 * k.val + 1 * (y 3).val = 0 + 1 * (256 * k.val + (y 3).val)
    omega

/-! ## A weight slot between steps -/

/-- Each slot's copies read their half share of the weights. -/
def shr (k : Fin 2) : PosShare TreeShare := if k = 0 then fullShare.left else fullShare.right

section Slot
variable (c : Dev nD) (w1 : Buf (Elt F) (w1M.view.loc (c : Thread nD τ))) (w3 : Buf (Elt F) (w3M.view.loc (c : Thread nD τ))) (k : Fin 2)
abbrev slotP (p : ℕ) (f : Buf (Elt F) (wfM.view.loc (c : Thread nD τ))) (hp : p < 2 := by decide) : sProp 𝕄 := (wdst k p hp).view.loc (c : Thread nD τ) ↦[(wdst k p hp).view.set]{fullShare} f
abbrev homeA (e : Fin 8) (j : Fin 7) : sProp 𝕄 := (wsrcA e j).view.loc (c : Thread nD τ) ↦[(wsrcA e j).view.set]{shr k} w1
abbrev homeB (e : Fin 8) (j : Fin 7) : sProp 𝕄 := (wsrcB e j).view.loc (c : Thread nD τ) ↦[(wsrcB e j).view.set]{shr k} w3
/-- Expert `e`'s gate weights for columns `1024 j` on, as a matrix, -/
abbrev wA (e : Fin 8) (j : Fin 7) : Vec F S2048x1024 .f32 := (wsrcA e j).view.read (Elt F) w1
/-- and its up weights. -/
abbrev wB (e : Fin 8) (j : Fin 7) : Vec F S2048x1024 .f32 := (wsrcB e j).view.read (Elt F) w3
/-- Nothing on its way into slot `k`: its parts held, its share of the weights whole, its semaphores at rest. -/
def idleS : sProp 𝕄 := iprop(∃ f, ∃ g, slotP c k 0 f ∗ slotP c k 1 g ∗ (w1M.view.loc (c : Thread nD τ) ↦{shr k} w1) ∗ (w3M.view.loc (c : Thread nD τ) ↦{shr k} w3)
  ∗ semVal ((c : Thread nD τ), SemLoc.dma (wsem k 0).sem) 0 ∗ semVal ((c : Thread nD τ), SemLoc.dma (wsem k 1).sem) 0)
/-- Expert `e`'s columns `j` on their way into slot `k`. -/
def flightS (e : Fin 8) (j : Fin 7) : sProp 𝕄 := iprop(∃ f, ∃ g, ⌜(wdst k 0).view.read (Elt F) f = wA c w1 e j⌝ ∗ ⌜(wdst k 1).view.read (Elt F) g = wB c w3 e j⌝
  ∗ Transfers.Flight countersEmb (c : Thread nD τ) (SemLoc.dma (wsem k 0).sem) () 262144 iprop(slotP c k 0 f ∗ homeA c w1 k e j)
  ∗ (w1M.view.loc (c : Thread nD τ) ↦[Finset.univ \ (wsrcA e j).view.set]{shr k} w1)
  ∗ Transfers.Flight countersEmb (c : Thread nD τ) (SemLoc.dma (wsem k 1).sem) () 262144 iprop(slotP c k 1 g ∗ homeB c w3 k e j)
  ∗ (w3M.view.loc (c : Thread nD τ) ↦[Finset.univ \ (wsrcB e j).view.set]{shr k} w3))

/-- A copy's source and what stayed behind are the slot's share of the weights. -/
theorem joinA (e : Fin 8) (j : Fin 7) :
    iprop(homeA c w1 k e j ∗ (w1M.view.loc (c : Thread nD τ) ↦[Finset.univ \ (wsrcA e j).view.set]{shr k} w1))
      ⊢ ((w1M.view.loc (c : Thread nD τ) ↦{shr k} w1 : sProp 𝕄)) :=
  (pointsTo_split_subset (Finset.subset_univ _)).2
theorem joinB (e : Fin 8) (j : Fin 7) :
    iprop(homeB c w3 k e j ∗ (w3M.view.loc (c : Thread nD τ) ↦[Finset.univ \ (wsrcB e j).view.set]{shr k} w3))
      ⊢ ((w3M.view.loc (c : Thread nD τ) ↦{shr k} w3 : sProp 𝕄)) :=
  (pointsTo_split_subset (Finset.subset_univ _)).2
end Slot

/-- The five tables, each at half share. -/
def tabs (c : Dev nD) (f2 : TbBuf (F := F) c te3) (f3 : TbBuf (F := F) c te4) (f4 : TbBuf (F := F) c te5) (f5 : TbBuf (F := F) c te6) (f6 : TbBuf (F := F) c te7) : sProp 𝕄 :=
  iprop(tbPt c te3 f2 ∗ tbPt c te4 f3 ∗ tbPt c te5 f4 ∗ tbPt c te6 f5 ∗ tbPt c te7 f6)

/-- The step at `i` runs, from the output's buffer at anything, the bf16 weights at `fb` and the slots at `S`, to the output at
    `out`, the bf16 weights at `fb'` and the slots at `S'`. -/
def Runs (c : Dev nD) (i : grid0.Coords) (f2 : TbBuf (F := F) c te3) (f3 : TbBuf (F := F) c te4) (f4 : TbBuf (F := F) c te5) (f5 : TbBuf (F := F) c te6) (f6 : TbBuf (F := F) c te7)
    (x : Vec F S256x2048 .bf16) (fb : Vec F S2x2048x1024 .bf16) (out : Vec F S256x1024 .bf16) (fb' : Vec F S2x2048x1024 .bf16) (S S' : sProp 𝕄) : Prop :=
  ∀ (arg7 : Memref sig .tc .vmem S256x2048 .bf16) (harg7 : arg7.IsWhole) (arg10 : Memref sig .tc .vmem S256x1024 .bf16) (harg10 : arg10.IsWhole)
    (W : Waits sig Unit) (K : PUnit → sProp 𝕄),
    iprop(tabs c f2 f3 f4 f5 f6 ∗ owns (c : Thread nD τ) arg7 fullShare x ∗ (∃ d, owns (c : Thread nD τ) arg10 fullShare d)
        ∗ owns (c : Thread nD τ) wbM fullShare fb ∗ owes (c : Thread nD τ) 0 W ∗ S
        ∗ (iprop(tabs c f2 f3 f4 f5 f6 ∗ owns (c : Thread nD τ) arg7 fullShare x ∗ owns (c : Thread nD τ) arg10 fullShare out
            ∗ owns (c : Thread nD τ) wbM fullShare fb' ∗ (∃ W', owes (c : Thread nD τ) 0 W') ∗ S') -∗ K ⟨⟩))
      ⊢ wp frame (wpE (defs₀ (F := F)) Variants.none c none) Set.univ
          (cc0_swiglu_up i te3 (Memref.isWhole_whole _) te4 (Memref.isWhole_whole _) te5 (Memref.isWhole_whole _) te6 (Memref.isWhole_whole _) te7 (Memref.isWhole_whole _)
            arg7 harg7 w1M (Memref.isWhole_whole _) w3M (Memref.isWhole_whole _) arg10 harg10 wfM (Memref.isWhole_whole _) wbM (Memref.isWhole_whole _) cc0_scratch2) K

/-- The following block's slot after a step: the next copies begun, or nothing on its way. -/
def nextS (c : Dev nD) (w1 : Buf (Elt F) (w1M.view.loc (c : Thread nD τ))) (w3 : Buf (Elt F) (w3M.view.loc (c : Thread nD τ))) (k : Fin 2) (i : grid0.Coords) (v20 v21 w : BitVec 32) : sProp 𝕄 :=
  if k0_cond3 i v20 v21 = 1#1 then flightS c w1 w3 k (expOf w) (nextJ (i 0) v20 v21) else idleS c w1 w3 k

theorem out_cover (p : Vec F S256x1024 .bf16) (y : S256x1024.Idx) : ∃ pc ∈ ([⟨rO, p⟩] : List (View.Piece (Elt F) S256x1024 .bf16)), y ∈ pc.1.set :=
  View.cover_of_tiled [⟨rO, p⟩] S256x1024.size (by rfl) y

/-- A tile of padding: zeros. -/
def outPad : Vec F S256x1024 .bf16 := View.canon [⟨rO, k0_pay1⟩]
/-- A tile whose weights were already at hand. -/
def outOld (x : Vec F S256x2048 .bf16) (fb : Vec F S2x2048x1024 .bf16) : Vec F S256x1024 .bf16 := View.canon [⟨rO, k0_pay24 (View.ld x rX) (View.ld fb rWA) (View.ld fb rWB)⟩]
/-- A tile whose weights just arrived, -/
def outNew (x : Vec F S256x2048 .bf16) (A B : Vec F S2048x1024 .f32) : Vec F S256x1024 .bf16 :=
  View.canon [⟨rO3, k0_pay23 (View.ld x rX) (k0_pay20 (View.ld x rX) (chunk A 3)) (k0_pay21 (chunk B 3))⟩, ⟨rO2, k0_pay17 (View.ld x rX) (k0_pay14 (View.ld x rX) (chunk A 2)) (chunk B 2)⟩,
    ⟨rO1, k0_pay11 (View.ld x rX) (k0_pay7 (chunk A 1)) (chunk B 1)⟩, ⟨rO0, k0_pay6 (View.ld x rX) (chunk A 0) (chunk B 0)⟩]
/-- and the weights kept, in bf16. -/
def wbNew (A B : Vec F S2048x1024 .f32) : Vec F S2x2048x1024 .bf16 :=
  View.canon [⟨rB3, k0_pay22 (chunk B 3)⟩, ⟨rA3, k0_pay19 (chunk A 3)⟩, ⟨rB2, k0_pay16 (chunk B 2)⟩, ⟨rA2, k0_pay13 (chunk A 2)⟩,
    ⟨rB1, k0_pay10 (chunk B 1)⟩, ⟨rA1, k0_pay8 (k0_pay7 (chunk A 1))⟩, ⟨rB0, k0_pay5 (chunk B 0)⟩, ⟨rA0, k0_pay3 (chunk A 0)⟩]

/-- The four chunks' columns tile the output block, -/
theorem cover_out (p3 p2 p1 p0 : Vec F S256x256 .bf16) (y : S256x1024.Idx) :
    ∃ pc ∈ ([⟨rO3, p3⟩, ⟨rO2, p2⟩, ⟨rO1, p1⟩, ⟨rO0, p0⟩] : List (View.Piece (Elt F) S256x1024 .bf16)), y ∈ pc.1.set :=
  View.cover_of_tiled [⟨rO3, p3⟩, ⟨rO2, p2⟩, ⟨rO1, p1⟩, ⟨rO0, p0⟩] S256x256.size (by rfl) y
/-- and the kept weights. -/
theorem cover_wb (q3 p3 q2 p2 q1 p1 q0 p0 : Vec F S1x2048x256 .bf16) (y : S2x2048x1024.Idx) :
    ∃ pc ∈ ([⟨rB3, q3⟩, ⟨rA3, p3⟩, ⟨rB2, q2⟩, ⟨rA2, p2⟩, ⟨rB1, q1⟩, ⟨rA1, p1⟩, ⟨rB0, q0⟩, ⟨rA0, p0⟩] : List (View.Piece (Elt F) S2x2048x1024 .bf16)), y ∈ pc.1.set :=
  View.cover_of_tiled [⟨rB3, q3⟩, ⟨rA3, p3⟩, ⟨rB2, q2⟩, ⟨rA2, p2⟩, ⟨rB1, q1⟩, ⟨rA1, p1⟩, ⟨rB0, q0⟩, ⟨rA0, p0⟩] S1x2048x256.size (by rfl) y

section New
variable (x : Vec F S256x2048 .bf16) (f g : wfM.view.ty.Contents (Elt F)) (i : grid0.Coords) (v4 v7 : BitVec 32)
abbrev l20 (f : wfM.view.ty.Contents (Elt F)) (h : ∀ a, k0_off20 i v4 v7 a + S1x1x2048x256.size a ≤ S2x2x2048x1024.size a) : Vec F S1x1x2048x256 .f32 :=
  View.readAt (Elt F) wfM.view (Rect.unit (s := S2x2x2048x1024) (k0_off20 i v4 v7) S1x1x2048x256.size h).toLoadRect f
theorem l20_eq (h) : l20 i v4 v7 f h = chunk ((wdst (kO i v4 v7) 0).view.read (Elt F) f) 0 := load_chunk _ 0 (by decide) 0 (off20_eq i v4 v7) h f
abbrev l21 (f : wfM.view.ty.Contents (Elt F)) (h : ∀ a, k0_off21 i v4 v7 a + S1x1x2048x256.size a ≤ S2x2x2048x1024.size a) : Vec F S1x1x2048x256 .f32 :=
  View.readAt (Elt F) wfM.view (Rect.unit (s := S2x2x2048x1024) (k0_off21 i v4 v7) S1x1x2048x256.size h).toLoadRect f
theorem l21_eq (h) : l21 i v4 v7 f h = chunk ((wdst (kO i v4 v7) 1).view.read (Elt F) f) 0 := load_chunk _ 1 (by decide) 0 (off21_eq i v4 v7) h f
abbrev l22 (f : wfM.view.ty.Contents (Elt F)) (h : ∀ a, k0_off22 i v4 v7 a + S1x1x2048x256.size a ≤ S2x2x2048x1024.size a) : Vec F S1x1x2048x256 .f32 :=
  View.readAt (Elt F) wfM.view (Rect.unit (s := S2x2x2048x1024) (k0_off22 i v4 v7) S1x1x2048x256.size h).toLoadRect f
theorem l22_eq (h) : l22 i v4 v7 f h = chunk ((wdst (kO i v4 v7) 0).view.read (Elt F) f) 1 := load_chunk _ 0 (by decide) 1 (off22_eq i v4 v7) h f
abbrev l23 (f : wfM.view.ty.Contents (Elt F)) (h : ∀ a, k0_off23 i v4 v7 a + S1x1x2048x256.size a ≤ S2x2x2048x1024.size a) : Vec F S1x1x2048x256 .f32 :=
  View.readAt (Elt F) wfM.view (Rect.unit (s := S2x2x2048x1024) (k0_off23 i v4 v7) S1x1x2048x256.size h).toLoadRect f
theorem l23_eq (h) : l23 i v4 v7 f h = chunk ((wdst (kO i v4 v7) 1).view.read (Elt F) f) 1 := load_chunk _ 1 (by decide) 1 (off23_eq i v4 v7) h f
abbrev l24 (f : wfM.view.ty.Contents (Elt F)) (h : ∀ a, k0_off24 i v4 v7 a + S1x1x2048x256.size a ≤ S2x2x2048x1024.size a) : Vec F S1x1x2048x256 .f32 :=
  View.readAt (Elt F) wfM.view (Rect.unit (s := S2x2x2048x1024) (k0_off24 i v4 v7) S1x1x2048x256.size h).toLoadRect f
theorem l24_eq (h) : l24 i v4 v7 f h = chunk ((wdst (kO i v4 v7) 0).view.read (Elt F) f) 2 := load_chunk _ 0 (by decide) 2 (off24_eq i v4 v7) h f
abbrev l25 (f : wfM.view.ty.Contents (Elt F)) (h : ∀ a, k0_off25 i v4 v7 a + S1x1x2048x256.size a ≤ S2x2x2048x1024.size a) : Vec F S1x1x2048x256 .f32 :=
  View.readAt (Elt F) wfM.view (Rect.unit (s := S2x2x2048x1024) (k0_off25 i v4 v7) S1x1x2048x256.size h).toLoadRect f
theorem l25_eq (h) : l25 i v4 v7 f h = chunk ((wdst (kO i v4 v7) 1).view.read (Elt F) f) 2 := load_chunk _ 1 (by decide) 2 (off25_eq i v4 v7) h f
abbrev l26 (f : wfM.view.ty.Contents (Elt F)) (h : ∀ a, k0_off26 i v4 v7 a + S1x1x2048x256.size a ≤ S2x2x2048x1024.size a) : Vec F S1x1x2048x256 .f32 :=
  View.readAt (Elt F) wfM.view (Rect.unit (s := S2x2x2048x1024) (k0_off26 i v4 v7) S1x1x2048x256.size h).toLoadRect f
theorem l26_eq (h) : l26 i v4 v7 f h = chunk ((wdst (kO i v4 v7) 0).view.read (Elt F) f) 3 := load_chunk _ 0 (by decide) 3 (off26_eq i v4 v7) h f
abbrev l27 (f : wfM.view.ty.Contents (Elt F)) (h : ∀ a, k0_off27 i v4 v7 a + S1x1x2048x256.size a ≤ S2x2x2048x1024.size a) : Vec F S1x1x2048x256 .f32 :=
  View.readAt (Elt F) wfM.view (Rect.unit (s := S2x2x2048x1024) (k0_off27 i v4 v7) S1x1x2048x256.size h).toLoadRect f
theorem l27_eq (h) : l27 i v4 v7 f h = chunk ((wdst (kO i v4 v7) 1).view.read (Elt F) f) 3 := load_chunk _ 1 (by decide) 3 (off27_eq i v4 v7) h f

theorem out_new {arg10 : Memref sig .tc .vmem S256x1024 .bf16} (f9 : arg10.view.ty.Contents (Elt F)) (h20 h21 h22 h23 h24 h25 h26 h27) :
    arg10.view.read (Elt F) (arg10.view.writes (Elt F) f9
      [⟨rO3, k0_pay23 (View.ld x rX) (k0_pay20 (View.ld x rX) (l26 i v4 v7 f h26)) (k0_pay21 (l27 i v4 v7 g h27))⟩,
       ⟨rO2, k0_pay17 (View.ld x rX) (k0_pay14 (View.ld x rX) (l24 i v4 v7 f h24)) (l25 i v4 v7 g h25)⟩,
       ⟨rO1, k0_pay11 (View.ld x rX) (k0_pay7 (l22 i v4 v7 f h22)) (l23 i v4 v7 g h23)⟩,
       ⟨rO0, k0_pay6 (View.ld x rX) (l20 i v4 v7 f h20) (l21 i v4 v7 g h21)⟩])
      = outNew x ((wdst (kO i v4 v7) 0).view.read (Elt F) f) ((wdst (kO i v4 v7) 1).view.read (Elt F) g) := by
  rw [l20_eq, l21_eq, l22_eq, l23_eq, l24_eq, l25_eq, l26_eq, l27_eq]
  exact View.read_writes_eq_canon _ _ _ (cover_out _ _ _ _)

theorem wb_new (b : wbM.view.ty.Contents (Elt F)) (h20 h21 h22 h23 h24 h25 h26 h27) :
    wbM.view.read (Elt F) (wbM.view.writes (Elt F) b
      [⟨rB3, k0_pay22 (l27 i v4 v7 g h27)⟩, ⟨rA3, k0_pay19 (l26 i v4 v7 f h26)⟩, ⟨rB2, k0_pay16 (l25 i v4 v7 g h25)⟩, ⟨rA2, k0_pay13 (l24 i v4 v7 f h24)⟩,
       ⟨rB1, k0_pay10 (l23 i v4 v7 g h23)⟩, ⟨rA1, k0_pay8 (k0_pay7 (l22 i v4 v7 f h22))⟩, ⟨rB0, k0_pay5 (l21 i v4 v7 g h21)⟩, ⟨rA0, k0_pay3 (l20 i v4 v7 f h20)⟩])
      = wbNew ((wdst (kO i v4 v7) 0).view.read (Elt F) f) ((wdst (kO i v4 v7) 1).view.read (Elt F) g) := by
  rw [l20_eq, l21_eq, l22_eq, l23_eq, l24_eq, l25_eq, l26_eq, l27_eq]
  exact View.read_writes_eq_canon _ _ _ (cover_wb _ _ _ _ _ _ _ _)
end New

section Fin
variable (c : Dev nD) (w1 : Buf (Elt F) (w1M.view.loc (c : Thread nD τ))) (w3 : Buf (Elt F) (w3M.view.loc (c : Thread nD τ))) (k : Fin 2)
theorem nextS_flight {i : grid0.Coords} {v20 v21 w : BitVec 32} (h3 : k0_cond3 i v20 v21 = 1#1) :
    flightS c w1 w3 k (expOf w) (nextJ (i 0) v20 v21) ⊢ nextS c w1 w3 k i v20 v21 w := by unfold nextS; rw [if_pos h3]
theorem nextS_idle {i : grid0.Coords} {v20 v21 w : BitVec 32} (h3 : ¬ k0_cond3 i v20 v21 = 1#1) :
    idleS c w1 w3 k ⊢ nextS c w1 w3 k i v20 v21 w := by unfold nextS; rw [if_neg h3]
end Fin

section Ends
variable (c : Dev nD) (i : grid0.Coords)
  (f2 : TbBuf (F := F) c te3) (f3 : TbBuf (F := F) c te4) (f4 : TbBuf (F := F) c te5) (f5 : TbBuf (F := F) c te6) (f6 : TbBuf (F := F) c te7)
  (w1 : Buf (Elt F) (w1M.view.loc (c : Thread nD τ))) (w3 : Buf (Elt F) (w3M.view.loc (c : Thread nD τ))) (x : Vec F S256x2048 .bf16) (fb : Vec F S2x2048x1024 .bf16)
/-- A slot at rest, its parts in view. -/
theorem idle_open (k : Fin 2) : idleS c w1 w3 k ⊢ iprop(∃ f, ∃ g, slotP c k 0 f ∗ slotP c k 1 g ∗ (w1M.view.loc (c : Thread nD τ) ↦{shr k} w1) ∗ (w3M.view.loc (c : Thread nD τ) ↦{shr k} w3)
    ∗ semVal ((c : Thread nD τ), SemLoc.dma (wsem k 0).sem) 0 ∗ semVal ((c : Thread nD τ), SemLoc.dma (wsem k 1).sem) 0) := by unfold idleS; exact .rfl

theorem runC1 (S : sProp 𝕄)
    (h1 : ¬ k0_cond1 (wFlag i f3) = 1#1) (h4 : ¬ k0_cond4 (wFlag i f3) = 1#1) (h5 : k0_cond5 (wFlag i f3) = 1#1) (h6 : ¬ k0_cond6 (wFlag i f3) = 1#1) :
    Runs c i f2 f3 f4 f5 f6 x fb (outOld x fb) fb S S := by
  intro arg7 harg7 arg10 harg10 W K
  have hk1 := chk1 i (wBlk f6) (wOrd i f4) (wFlag i f3)
  have hk3 := chk3 i (wFlag i f3) (wBlk f6) (wOrd i f4) (wOrd i f4) (wBlk f6)
  simp only [cc0_swiglu_up_eq_skeleton]; unfold cc0_swiglu_up_skel
  unfold owns tabs
  iintro ⟨⟨H2, H3, H4, H5, H6⟩, ⟨%f7, %hf7, H7⟩, ⟨%d10, %f10, -, H10⟩, ⟨%g, %hg, HB⟩, HO, HS, Hk⟩
  sl_exec
  · sl_step
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H10]
    · iexists _; isplitr
      swap; · iexact H10
      ipureintro
      rw [← hf7, ← hg]
      exact View.read_writes_eq_canon _ _ _ (out_cover _)
    isplitl [HB]
    · iexists g; isplitr; · ipureintro; exact hg
      iexact HB
    isplitl [HO]; · iexists _; iexact HO
    iexact HS

theorem runC0 (S : sProp 𝕄)
    (h1 : ¬ k0_cond1 (wFlag i f3) = 1#1) (h4 : ¬ k0_cond4 (wFlag i f3) = 1#1) (h5 : ¬ k0_cond5 (wFlag i f3) = 1#1) (h6 : k0_cond6 (wFlag i f3) = 1#1) :
    Runs c i f2 f3 f4 f5 f6 x fb outPad fb S S := by
  intro arg7 harg7 arg10 harg10 W K
  have hk1 := chk1 i (wBlk f6) (wOrd i f4) (wFlag i f3)
  have hk3 := chk3 i (wFlag i f3) (wBlk f6) (wOrd i f4) (wOrd i f4) (wBlk f6)
  simp only [cc0_swiglu_up_eq_skeleton]; unfold cc0_swiglu_up_skel
  unfold owns tabs
  iintro ⟨⟨H2, H3, H4, H5, H6⟩, ⟨%f7, %hf7, H7⟩, ⟨%d10, %f10, -, H10⟩, ⟨%g, %hg, HB⟩, HO, HS, Hk⟩
  sl_exec
  · sl_step
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H10]
    · iexists _; isplitr
      swap; · iexact H10
      ipureintro
      exact View.read_writes_eq_canon _ _ _ (out_cover _)
    isplitl [HB]
    · iexists g; isplitr; · ipureintro; exact hg
      iexact HB
    isplitl [HO]; · iexists _; iexact HO
    iexact HS

theorem runB3  (h1 : k0_cond1 (wFlag i f3) = 1#1) (h2 : ¬ k0_cond2 i (wBlk f6) (wOrd i f4) = 1#1) (h4 : k0_cond4 (wFlag i f3) = 1#1) (h5 : ¬ k0_cond5 (wFlag i f3) = 1#1) (h6 : ¬ k0_cond6 (wFlag i f3) = 1#1)
    (hf : (wFol i f5).toNat < 8) (he : (wExp' i f2).toNat < 8) :
    Runs c i f2 f3 f4 f5 f6 x fb (outNew x (wA c w1 (expOf (wExp' i f2)) (i 0)) (wB c w3 (expOf (wExp' i f2)) (i 0))) (wbNew (wA c w1 (expOf (wExp' i f2)) (i 0)) (wB c w3 (expOf (wExp' i f2)) (i 0)))
      (iprop(idleS c w1 w3 (kN i (wBlk f6) (wOrd i f4)) ∗ flightS c w1 w3 (kO i (wBlk f6) (wOrd i f4)) (expOf (wExp' i f2)) (i 0)))
      (iprop(idleS c w1 w3 (kO i (wBlk f6) (wOrd i f4)) ∗ nextS c w1 w3 (kN i (wBlk f6) (wOrd i f4)) i (wOrd i f4) (wBlk f6) (wFol i f5))) := by
  intro arg7 harg7 arg10 harg10 W K
  have hk1 := chk1 i (wBlk f6) (wOrd i f4) (wFlag i f3)
  have hk3 := chk3 i (wFlag i f3) (wBlk f6) (wOrd i f4) (wOrd i f4) (wBlk f6)
  have hk5 := chk5 i (wFlag i f3) (wExp' i f2) he
  simp only [cc0_swiglu_up_eq_skeleton]; unfold cc0_swiglu_up_skel
  unfold owns tabs
  iintro ⟨⟨H2, H3, H4, H5, H6⟩, ⟨%f7, %hf7, H7⟩, ⟨%d10, %f10, -, H10⟩, ⟨%g, %hg, HB⟩, HO, ⟨HI, HJ⟩, Hk⟩
  unfold flightS
  icases HJ with ⟨%fa, %fc, %ha, %hc, FA, RA, FB, RB⟩
  sl_exec
  letI : ClosedOff (k0_off20 i (runB3.sl.r_1 c f6) (runB3.sl.r_2 c i f4)) := ⟨![(kO i (wBlk f6) (wOrd i f4)).val, 0, 0, 0], off20_eq i (wBlk f6) (wOrd i f4)⟩
  letI : ClosedOff (k0_off21 i (runB3.sl.r_1 c f6) (runB3.sl.r_2 c i f4)) := ⟨![(kO i (wBlk f6) (wOrd i f4)).val, 1, 0, 0], off21_eq i (wBlk f6) (wOrd i f4)⟩
  letI : ClosedOff (k0_off22 i (runB3.sl.r_1 c f6) (runB3.sl.r_2 c i f4)) := ⟨![(kO i (wBlk f6) (wOrd i f4)).val, 0, 0, 256], off22_eq i (wBlk f6) (wOrd i f4)⟩
  letI : ClosedOff (k0_off23 i (runB3.sl.r_1 c f6) (runB3.sl.r_2 c i f4)) := ⟨![(kO i (wBlk f6) (wOrd i f4)).val, 1, 0, 256], off23_eq i (wBlk f6) (wOrd i f4)⟩
  letI : ClosedOff (k0_off24 i (runB3.sl.r_1 c f6) (runB3.sl.r_2 c i f4)) := ⟨![(kO i (wBlk f6) (wOrd i f4)).val, 0, 0, 512], off24_eq i (wBlk f6) (wOrd i f4)⟩
  letI : ClosedOff (k0_off25 i (runB3.sl.r_1 c f6) (runB3.sl.r_2 c i f4)) := ⟨![(kO i (wBlk f6) (wOrd i f4)).val, 1, 0, 512], off25_eq i (wBlk f6) (wOrd i f4)⟩
  letI : ClosedOff (k0_off26 i (runB3.sl.r_1 c f6) (runB3.sl.r_2 c i f4)) := ⟨![(kO i (wBlk f6) (wOrd i f4)).val, 0, 0, 768], off26_eq i (wBlk f6) (wOrd i f4)⟩
  letI : ClosedOff (k0_off27 i (runB3.sl.r_1 c f6) (runB3.sl.r_2 c i f4)) := ⟨![(kO i (wBlk f6) (wOrd i f4)).val, 1, 0, 768], off27_eq i (wBlk f6) (wOrd i f4)⟩
  by_cases h3 : k0_cond3 i (wOrd i f4) (wBlk f6) = 1#1
  on_goal 1 =>
    ihave HI' := idle_open c w1 w3 (kN i (wBlk f6) (wOrd i f4)) $$ HI
    icases HI' with ⟨%ga, %gb, NA_dst, NB_dst, NW1, NW3, NA, NB⟩
    have hk4 := chk4 i (wFlag i f3) (wOrd i f4) (wBlk f6) (wFol i f5) hf
    sl_exec
    sl_step
  on_goal 2 =>
    sl_exec
    sl_step
  all_goals
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H10]
    · iexists _; isplitr
      swap; · iexact H10
      ipureintro
      rw [← ha, ← hc, ← hf7]
      exact out_new _ _ _ i (wBlk f6) (wOrd i f4) _ _ _ _ _ _ _ _ _
    isplitl [HB]
    · iexists _; isplitr
      swap; · iexact HB
      ipureintro
      rw [← ha, ← hc]
      exact wb_new _ _ i (wBlk f6) (wOrd i f4) _ _ _ _ _ _ _ _ _
    isplitl [HO]; · iexists _; iexact HO
    isplitl [FA_dst FB_dst FA_src FB_src RA RB FA FB]
    · unfold idleS; iexists _; iexists _
      isplitl [FA_dst]; · iexact FA_dst
      isplitl [FB_dst]; · iexact FB_dst
      isplitl [FA_src RA]
      · iapply joinA
        isplitl [FA_src]; · iexact FA_src
        iexact RA
      isplitl [FB_src RB]
      · iapply joinB
        isplitl [FB_src]; · iexact FB_src
        iexact RB
      isplitl [FA]; · iexact FA
      iexact FB
  · iapply (nextS_flight c w1 w3 _ h3)
    unfold flightS
    iexists _; iexists _
    isplitr
    swap
    · isplitr
      swap
      · isplitl [NA]; · iexact NA
        isplitl [NW1]; · iexact NW1
        isplitl [NB]; · iexact NB
        iexact NW3
      ipureintro
      exact View.read_writes_whole _ _ _
    ipureintro
    exact View.read_writes_whole _ _ _
  · iapply (nextS_idle c w1 w3 _ h3)
    iexact HI

theorem runB2  (h1 : k0_cond1 (wFlag i f3) = 1#1) (h2 : ¬ k0_cond2 i (wBlk f6) (wOrd i f4) = 1#1) (h4 : ¬ k0_cond4 (wFlag i f3) = 1#1) (h5 : ¬ k0_cond5 (wFlag i f3) = 1#1) (h6 : k0_cond6 (wFlag i f3) = 1#1)
    (hf : (wFol i f5).toNat < 8) (he : (wExp' i f2).toNat < 8) :
    Runs c i f2 f3 f4 f5 f6 x fb outPad fb
      (iprop(idleS c w1 w3 (kN i (wBlk f6) (wOrd i f4)) ∗ flightS c w1 w3 (kO i (wBlk f6) (wOrd i f4)) (expOf (wExp' i f2)) (i 0)))
      (iprop(idleS c w1 w3 (kO i (wBlk f6) (wOrd i f4)) ∗ nextS c w1 w3 (kN i (wBlk f6) (wOrd i f4)) i (wOrd i f4) (wBlk f6) (wFol i f5))) := by
  intro arg7 harg7 arg10 harg10 W K
  have hk1 := chk1 i (wBlk f6) (wOrd i f4) (wFlag i f3)
  have hk3 := chk3 i (wFlag i f3) (wBlk f6) (wOrd i f4) (wOrd i f4) (wBlk f6)
  have hk5 := chk5 i (wFlag i f3) (wExp' i f2) he
  simp only [cc0_swiglu_up_eq_skeleton]; unfold cc0_swiglu_up_skel
  unfold owns tabs
  iintro ⟨⟨H2, H3, H4, H5, H6⟩, ⟨%f7, %hf7, H7⟩, ⟨%d10, %f10, -, H10⟩, ⟨%g, %hg, HB⟩, HO, ⟨HI, HJ⟩, Hk⟩
  unfold flightS
  icases HJ with ⟨%fa, %fc, %ha, %hc, FA, RA, FB, RB⟩
  sl_exec
  by_cases h3 : k0_cond3 i (wOrd i f4) (wBlk f6) = 1#1
  on_goal 1 =>
    ihave HI' := idle_open c w1 w3 (kN i (wBlk f6) (wOrd i f4)) $$ HI
    icases HI' with ⟨%ga, %gb, NA_dst, NB_dst, NW1, NW3, NA, NB⟩
    have hk4 := chk4 i (wFlag i f3) (wOrd i f4) (wBlk f6) (wFol i f5) hf
    sl_exec
    sl_step
  on_goal 2 =>
    sl_exec
    sl_step
  all_goals
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H10]
    · iexists _; isplitr
      swap; · iexact H10
      ipureintro
      exact View.read_writes_eq_canon _ _ _ (out_cover _)
    isplitl [HB]
    · iexists g; isplitr; · ipureintro; exact hg
      iexact HB
    isplitl [HO]; · iexists _; iexact HO
    isplitl [FA_dst FB_dst FA_src FB_src RA RB FA FB]
    · unfold idleS; iexists _; iexists _
      isplitl [FA_dst]; · iexact FA_dst
      isplitl [FB_dst]; · iexact FB_dst
      isplitl [FA_src RA]
      · iapply joinA
        isplitl [FA_src]; · iexact FA_src
        iexact RA
      isplitl [FB_src RB]
      · iapply joinB
        isplitl [FB_src]; · iexact FB_src
        iexact RB
      isplitl [FA]; · iexact FA
      iexact FB
  · iapply (nextS_flight c w1 w3 _ h3)
    unfold flightS
    iexists _; iexists _
    isplitr
    swap
    · isplitr
      swap
      · isplitl [NA]; · iexact NA
        isplitl [NW1]; · iexact NW1
        isplitl [NB]; · iexact NB
        iexact NW3
      ipureintro
      exact View.read_writes_whole _ _ _
    ipureintro
    exact View.read_writes_whole _ _ _
  · iapply (nextS_idle c w1 w3 _ h3)
    iexact HI

theorem runA3  (h1 : k0_cond1 (wFlag i f3) = 1#1) (h2 : k0_cond2 i (wBlk f6) (wOrd i f4) = 1#1) (h4 : k0_cond4 (wFlag i f3) = 1#1) (h5 : ¬ k0_cond5 (wFlag i f3) = 1#1) (h6 : ¬ k0_cond6 (wFlag i f3) = 1#1)
    (hf : (wFol i f5).toNat < 8) (he : (wExp' i f2).toNat < 8) :
    Runs c i f2 f3 f4 f5 f6 x fb (outNew x (wA c w1 (expOf (wExp' i f2)) (i 0)) (wB c w3 (expOf (wExp' i f2)) (i 0))) (wbNew (wA c w1 (expOf (wExp' i f2)) (i 0)) (wB c w3 (expOf (wExp' i f2)) (i 0)))
      (iprop(idleS c w1 w3 (kN i (wBlk f6) (wOrd i f4)) ∗ idleS c w1 w3 (kO i (wBlk f6) (wOrd i f4))))
      (iprop(idleS c w1 w3 (kO i (wBlk f6) (wOrd i f4)) ∗ nextS c w1 w3 (kN i (wBlk f6) (wOrd i f4)) i (wOrd i f4) (wBlk f6) (wFol i f5))) := by
  intro arg7 harg7 arg10 harg10 W K
  have hk1 := chk1 i (wBlk f6) (wOrd i f4) (wFlag i f3)
  have hk3 := chk3 i (wFlag i f3) (wBlk f6) (wOrd i f4) (wOrd i f4) (wBlk f6)
  have hk5 := chk5 i (wFlag i f3) (wExp' i f2) he
  have hk2 := chk2 i (wFlag i f3) (wBlk f6) (wOrd i f4) (wExp i f2) he
  simp only [cc0_swiglu_up_eq_skeleton]; unfold cc0_swiglu_up_skel
  unfold owns tabs
  iintro ⟨⟨H2, H3, H4, H5, H6⟩, ⟨%f7, %hf7, H7⟩, ⟨%d10, %f10, -, H10⟩, ⟨%g, %hg, HB⟩, HO, ⟨HI, HJ⟩, Hk⟩
  ihave HJ' := idle_open c w1 w3 (kO i (wBlk f6) (wOrd i f4)) $$ HJ
  icases HJ' with ⟨%fa, %fc, FA_dst, FB_dst, WA, WB, FA, FB⟩
  sl_exec
  letI : ClosedOff (k0_off20 i (runA3.sl.r_1 c f6) (runA3.sl.r_2 c i f4)) := ⟨![(kO i (wBlk f6) (wOrd i f4)).val, 0, 0, 0], off20_eq i (wBlk f6) (wOrd i f4)⟩
  letI : ClosedOff (k0_off21 i (runA3.sl.r_1 c f6) (runA3.sl.r_2 c i f4)) := ⟨![(kO i (wBlk f6) (wOrd i f4)).val, 1, 0, 0], off21_eq i (wBlk f6) (wOrd i f4)⟩
  letI : ClosedOff (k0_off22 i (runA3.sl.r_1 c f6) (runA3.sl.r_2 c i f4)) := ⟨![(kO i (wBlk f6) (wOrd i f4)).val, 0, 0, 256], off22_eq i (wBlk f6) (wOrd i f4)⟩
  letI : ClosedOff (k0_off23 i (runA3.sl.r_1 c f6) (runA3.sl.r_2 c i f4)) := ⟨![(kO i (wBlk f6) (wOrd i f4)).val, 1, 0, 256], off23_eq i (wBlk f6) (wOrd i f4)⟩
  letI : ClosedOff (k0_off24 i (runA3.sl.r_1 c f6) (runA3.sl.r_2 c i f4)) := ⟨![(kO i (wBlk f6) (wOrd i f4)).val, 0, 0, 512], off24_eq i (wBlk f6) (wOrd i f4)⟩
  letI : ClosedOff (k0_off25 i (runA3.sl.r_1 c f6) (runA3.sl.r_2 c i f4)) := ⟨![(kO i (wBlk f6) (wOrd i f4)).val, 1, 0, 512], off25_eq i (wBlk f6) (wOrd i f4)⟩
  letI : ClosedOff (k0_off26 i (runA3.sl.r_1 c f6) (runA3.sl.r_2 c i f4)) := ⟨![(kO i (wBlk f6) (wOrd i f4)).val, 0, 0, 768], off26_eq i (wBlk f6) (wOrd i f4)⟩
  letI : ClosedOff (k0_off27 i (runA3.sl.r_1 c f6) (runA3.sl.r_2 c i f4)) := ⟨![(kO i (wBlk f6) (wOrd i f4)).val, 1, 0, 768], off27_eq i (wBlk f6) (wOrd i f4)⟩
  by_cases h3 : k0_cond3 i (wOrd i f4) (wBlk f6) = 1#1
  on_goal 1 =>
    ihave HI' := idle_open c w1 w3 (kN i (wBlk f6) (wOrd i f4)) $$ HI
    icases HI' with ⟨%ga, %gb, NA_dst, NB_dst, NW1, NW3, NA, NB⟩
    have hk4 := chk4 i (wFlag i f3) (wOrd i f4) (wBlk f6) (wFol i f5) hf
    sl_exec
    sl_step
  on_goal 2 =>
    sl_exec
    sl_step
  all_goals
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H10]
    · iexists _; isplitr
      swap; · iexact H10
      ipureintro
      rw [← hf7]
      exact (out_new _ _ _ i (wBlk f6) (wOrd i f4) _ _ _ _ _ _ _ _ _).trans (congrArg₂ (outNew _) (View.read_writes_whole _ _ _) (View.read_writes_whole _ _ _))
    isplitl [HB]
    · iexists _; isplitr
      swap; · iexact HB
      ipureintro
      exact (wb_new _ _ i (wBlk f6) (wOrd i f4) _ _ _ _ _ _ _ _ _).trans (congrArg₂ wbNew (View.read_writes_whole _ _ _) (View.read_writes_whole _ _ _))
    isplitl [HO]; · iexists _; iexact HO
    isplitl [FA_dst FB_dst WA WB FA FB]
    · unfold idleS; iexists _; iexists _
      isplitl [FA_dst]; · iexact FA_dst
      isplitl [FB_dst]; · iexact FB_dst
      isplitl [WA]; · iexact WA
      isplitl [WB]; · iexact WB
      isplitl [FA]; · iexact FA
      iexact FB
  · iapply (nextS_flight c w1 w3 _ h3)
    unfold flightS
    iexists _; iexists _
    isplitr
    swap
    · isplitr
      swap
      · isplitl [NA]; · iexact NA
        isplitl [NW1]; · iexact NW1
        isplitl [NB]; · iexact NB
        iexact NW3
      ipureintro
      exact View.read_writes_whole _ _ _
    ipureintro
    exact View.read_writes_whole _ _ _
  · iapply (nextS_idle c w1 w3 _ h3)
    iexact HI

theorem runA2  (h1 : k0_cond1 (wFlag i f3) = 1#1) (h2 : k0_cond2 i (wBlk f6) (wOrd i f4) = 1#1) (h4 : ¬ k0_cond4 (wFlag i f3) = 1#1) (h5 : ¬ k0_cond5 (wFlag i f3) = 1#1) (h6 : k0_cond6 (wFlag i f3) = 1#1)
    (hf : (wFol i f5).toNat < 8) (he : (wExp' i f2).toNat < 8) :
    Runs c i f2 f3 f4 f5 f6 x fb outPad fb
      (iprop(idleS c w1 w3 (kN i (wBlk f6) (wOrd i f4)) ∗ idleS c w1 w3 (kO i (wBlk f6) (wOrd i f4))))
      (iprop(idleS c w1 w3 (kO i (wBlk f6) (wOrd i f4)) ∗ nextS c w1 w3 (kN i (wBlk f6) (wOrd i f4)) i (wOrd i f4) (wBlk f6) (wFol i f5))) := by
  intro arg7 harg7 arg10 harg10 W K
  have hk1 := chk1 i (wBlk f6) (wOrd i f4) (wFlag i f3)
  have hk3 := chk3 i (wFlag i f3) (wBlk f6) (wOrd i f4) (wOrd i f4) (wBlk f6)
  have hk5 := chk5 i (wFlag i f3) (wExp' i f2) he
  have hk2 := chk2 i (wFlag i f3) (wBlk f6) (wOrd i f4) (wExp i f2) he
  simp only [cc0_swiglu_up_eq_skeleton]; unfold cc0_swiglu_up_skel
  unfold owns tabs
  iintro ⟨⟨H2, H3, H4, H5, H6⟩, ⟨%f7, %hf7, H7⟩, ⟨%d10, %f10, -, H10⟩, ⟨%g, %hg, HB⟩, HO, ⟨HI, HJ⟩, Hk⟩
  ihave HJ' := idle_open c w1 w3 (kO i (wBlk f6) (wOrd i f4)) $$ HJ
  icases HJ' with ⟨%fa, %fc, FA_dst, FB_dst, WA, WB, FA, FB⟩
  sl_exec
  by_cases h3 : k0_cond3 i (wOrd i f4) (wBlk f6) = 1#1
  on_goal 1 =>
    ihave HI' := idle_open c w1 w3 (kN i (wBlk f6) (wOrd i f4)) $$ HI
    icases HI' with ⟨%ga, %gb, NA_dst, NB_dst, NW1, NW3, NA, NB⟩
    have hk4 := chk4 i (wFlag i f3) (wOrd i f4) (wBlk f6) (wFol i f5) hf
    sl_exec
    sl_step
  on_goal 2 =>
    sl_exec
    sl_step
  all_goals
    iapply Hk
    isplitl [H2 H3 H4 H5 H6]
    · isplitl [H2]; · iexact H2
      isplitl [H3]; · iexact H3
      isplitl [H4]; · iexact H4
      isplitl [H5]; · iexact H5
      iexact H6
    isplitl [H7]
    · iexists f7; isplitr; · ipureintro; exact hf7
      iexact H7
    isplitl [H10]
    · iexists _; isplitr
      swap; · iexact H10
      ipureintro
      exact View.read_writes_eq_canon _ _ _ (out_cover _)
    isplitl [HB]
    · iexists g; isplitr; · ipureintro; exact hg
      iexact HB
    isplitl [HO]; · iexists _; iexact HO
    isplitl [FA_dst FB_dst WA WB FA FB]
    · unfold idleS; iexists _; iexists _
      isplitl [FA_dst]; · iexact FA_dst
      isplitl [FB_dst]; · iexact FB_dst
      isplitl [WA]; · iexact WA
      isplitl [WB]; · iexact WB
      isplitl [FA]; · iexact FA
      iexact FB
  · iapply (nextS_flight c w1 w3 _ h3)
    unfold flightS
    iexists _; iexists _
    isplitr
    swap
    · isplitr
      swap
      · isplitl [NA]; · iexact NA
        isplitl [NW1]; · iexact NW1
        isplitl [NB]; · iexact NB
        iexact NW3
      ipureintro
      exact View.read_writes_whole _ _ _
    ipureintro
    exact View.read_writes_whole _ _ _
  · iapply (nextS_idle c w1 w3 _ h3)
    iexact HI

end Ends

end Cert.Kernel5Ideal.Up

end
-- ==== Proof.UpStepI.lean ====
/- The experts' gate and up product: what each grid point does, read off the tables' words. -/
module

public import proofs.«01_k».proof.Proof.UpRunI
public import proofs.«01_k».proof.Proof.UpPlan
public import Idealize.ShloMosaic.Lib.ValueIdx

@[expose] public section

set_option maxRecDepth 16384

noncomputable section

namespace Cert.Kernel5Ideal.Up

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (Pipeline.UD sig nD τ) ℕ

/-! ## The words a point loads -/

theorem idx_tile (k : Fin 72) : (Scalar.indexCast (BitVec.ofNat 32 k.val) : Index).toNat = k.val := by
  have h := k.isLt
  revert h
  generalize k.val = n
  intro h
  show (BitVec.ofNat 32 n).toNat = n
  rw [BitVec.toNat_ofNat]
  omega

/-- A point's column block. -/
abbrev hOf (i : grid0.Coords) : Fin 7 := i 0
/-- A point's tile. -/
abbrev tOf (i : grid0.Coords) : Fin 72 := i 1
section Words
variable {c : Dev nD} (i : grid0.Coords)
theorem wExp_eq (f : TbBuf (F := F) c te3) : wExp i f = f (ValueIdx.ix1 (i 1)) := by
  refine congrArg f (funext fun x => Fin.ext ?_)
  fin_cases x
  show (Scalar.indexCast (BitVec.ofNat 32 (i 1).val) : Index).toNat + 1 * 0 = (i 1).val
  exact idx_tile (i 1)
theorem wExp'_eq (f : TbBuf (F := F) c te3) : wExp' i f = f (ValueIdx.ix1 (i 1)) := wExp_eq i f
theorem wFlag_eq (f : TbBuf (F := F) c te4) : wFlag i f = f (ValueIdx.ix1 (i 1)) := by
  refine congrArg f (funext fun x => Fin.ext ?_)
  fin_cases x
  show (Scalar.indexCast (BitVec.ofNat 32 (i 1).val) : Index).toNat + 1 * 0 = (i 1).val
  exact idx_tile (i 1)
theorem wOrd_eq (f : TbBuf (F := F) c te5) : wOrd i f = f (ValueIdx.ix1 (i 1)) := by
  refine congrArg f (funext fun x => Fin.ext ?_)
  fin_cases x
  show (Scalar.indexCast (BitVec.ofNat 32 (i 1).val) : Index).toNat + 1 * 0 = (i 1).val
  exact idx_tile (i 1)
theorem wFol_eq (f : TbBuf (F := F) c te6) : wFol i f = f (ValueIdx.ix1 (i 1)) := by
  refine congrArg f (funext fun x => Fin.ext ?_)
  fin_cases x
  show (Scalar.indexCast (BitVec.ofNat 32 (i 1).val) : Index).toNat + 1 * 0 = (i 1).val
  exact idx_tile (i 1)
theorem wBlk_eq (f : TbBuf (F := F) c te7) : wBlk f = f (ValueIdx.ix1 0) := by
  refine congrArg f (funext fun x => Fin.ext ?_)
  fin_cases x
  rfl
end Words

/-- A point's column block and tile. -/
theorem coords_eq : ∀ t : Fin grid0.N, hOf (grid0.coords t) = Cert.Up.col t.val ∧ tOf (grid0.coords t) = Cert.Down.tile t.val := by decide +kernel

/-! ## The conditions -/

theorem cond2_iff (i : grid0.Coords) (v4 v7 : BitVec 32) : k0_cond2 i v4 v7 = 1#1 ↔ BitVec.ofNat 32 (i 0).val * v4 + v7 = 0#32 := by
  have e : ∀ b : BitVec 1, (Scalar.cmpi .ne (Scalar.extui b : BitVec 32) 0#32 : BitVec 1) = 1#1 ↔ b = 1#1 := by decide
  exact (e _).trans (cmpi_eq_one _ _)

theorem cond3_iff (i : grid0.Coords) (v20 v21 : BitVec 32) : k0_cond3 i v20 v21 = 1#1 ↔ ¬ (v20 = v21 - 1#32 ∧ hOf i = 6) := by
  have e : ∀ (j : Fin 7) (b : BitVec 1),
      (Scalar.cmpi .ne (Scalar.extui (Scalar.xori (Scalar.andi b (Scalar.cmpi .eq (BitVec.ofNat 32 j.val) 6#32)) 1#1) : BitVec 32) 0#32 : BitVec 1) = 1#1
        ↔ ¬ (b = 1#1 ∧ j = 6) := by decide
  have c3 : k0_cond3 i v20 v21 = (Scalar.cmpi .ne (Scalar.extui
      (Scalar.xori (Scalar.andi (Scalar.cmpi .eq v20 (Scalar.subi v21 1#32)) (Scalar.cmpi .eq (BitVec.ofNat 32 (i 0).val) 6#32)) 1#1) : BitVec 32) 0#32 : BitVec 1) := rfl
  rw [c3, e (i 0), last_eq_one]

/-! ## The slots by the plan -/

/-- A slot when the copy `o` is on its way into it. -/
def slotS (c : Dev nD) (w1 : Buf (Elt F) (w1M.view.loc (c : Thread nD τ))) (w3 : Buf (Elt F) (w3M.view.loc (c : Thread nD τ))) (k : Fin 2) : Option (BitVec 32 × Fin 7) → sProp 𝕄
  | none => idleS c w1 w3 k
  | some p => flightS c w1 w3 k (expOf p.1) p.2

theorem nextS_eq (c : Dev nD) (w1 : Buf (Elt F) (w1M.view.loc (c : Thread nD τ))) (w3 : Buf (Elt F) (w3M.view.loc (c : Thread nD τ))) (k : Fin 2) (i : grid0.Coords) (v20 v21 w : BitVec 32) :
    nextS c w1 w3 k i v20 v21 w = slotS c w1 w3 k (if v20 = v21 - 1#32 ∧ hOf i = 6 then none else some (w, if v20 = v21 - 1#32 then hOf i + 1 else hOf i)) := by
  unfold nextS
  by_cases h : v20 = v21 - 1#32 ∧ hOf i = 6
  · rw [if_neg (fun e => (cond3_iff i v20 v21).1 e h), if_pos h]; rfl
  · rw [if_pos ((cond3_iff i v20 v21).2 h), if_neg h]; rfl

section Read
variable {c : Dev nD}
/-- A tile's expert. -/
abbrev d2 (f : TbBuf (F := F) c te3) (k : Fin 72) : BitVec 32 := f (ValueIdx.ix1 k)
/-- A tile's flag. -/
abbrev d3 (f : TbBuf (F := F) c te4) (k : Fin 72) : BitVec 32 := f (ValueIdx.ix1 k)
/-- The ordinal of a tile's block. -/
abbrev d4 (f : TbBuf (F := F) c te5) (k : Fin 72) : BitVec 32 := f (ValueIdx.ix1 k)
/-- The expert of the block after a tile's. -/
abbrev d5 (f : TbBuf (F := F) c te6) (k : Fin 72) : BitVec 32 := f (ValueIdx.ix1 k)
/-- The number of blocks. -/
abbrev d6 (f : TbBuf (F := F) c te7) : BitVec 32 := f (ValueIdx.ix1 0)
end Read

section Point
open Cert.Down (Plan tile flag_cases)
open Cert.Up
variable (c : Dev nD) (f2 : TbBuf (F := F) c te3) (f3 : TbBuf (F := F) c te4) (f4 : TbBuf (F := F) c te5) (f5 : TbBuf (F := F) c te6) (f6 : TbBuf (F := F) c te7)
  (w1 : Buf (Elt F) (w1M.view.loc (c : Thread nD τ))) (w3 : Buf (Elt F) (w3M.view.loc (c : Thread nD τ)))

/-- The tables' relations. -/
abbrev PlanAt : Prop := Plan (d2 f2) (d3 f3) (d4 f4) (d5 f5) (d6 f6)
/-- The gate weights a point multiplies by, -/
abbrev aAt (t : ℕ) : Vec F S2048x1024 .f32 := wA c w1 (expOf (d2 f2 (tile t))) (col t)
/-- and the up weights. -/
abbrev bAt (t : ℕ) : Vec F S2048x1024 .f32 := wB c w3 (expOf (d2 f2 (tile t))) (col t)
/-- The bf16 weights kept before point `t`: the point's before, if its tile holds tokens. -/
def Kept (t : ℕ) (fb : Vec F S2x2048x1024 .bf16) : Prop :=
  t ≠ 0 → (d3 f3 (tile (t - 1))) &&& 1#32 = 1#32 → fb = wbNew (aAt c f2 w1 (t - 1)) (bAt c f2 w3 (t - 1))
/-- What point `t` leaves of an input block. -/
def outAt (t : ℕ) (x : Vec F S256x2048 .bf16) : Vec F S256x1024 .bf16 :=
  if (d3 f3 (tile t)) = 3#32 then outNew x (aAt c f2 w1 t) (bAt c f2 w3 t)
  else if (d3 f3 (tile t)) = 1#32 then outOld x (wbNew (aAt c f2 w1 t) (bAt c f2 w3 t))
  else outPad
/-- The slots before point `t`: one at rest, the other as the plan has it. -/
def slotAt (t : ℕ) : sProp 𝕄 :=
  iprop(idleS c w1 w3 (rest (d4 f4) (d6 f6) t) ∗ slotS c w1 w3 (rest (d4 f4) (d6 f6) t + 1) (slot (d4 f4) (d5 f5) (d6 f6) t))

theorem kept_succ {t : ℕ} {fb : Vec F S2x2048x1024 .bf16} (h : (d3 f3 (tile t)) &&& 1#32 = 1#32 → fb = wbNew (aAt c f2 w1 t) (bAt c f2 w3 t)) :
    Kept c f2 f3 w1 w3 (t + 1) fb := fun _ => by
  rw [Nat.add_sub_cancel]; exact h

/-- EVERY POINT RUNS, from the slots and the kept weights as the plan has them to the same at the next point. -/
theorem runAt (P : PlanAt c f2 f3 f4 f5 f6) {t : ℕ} (ht : t < 504) (i : grid0.Coords) (h0 : hOf i = col t) (h1 : tOf i = tile t)
    (x : Vec F S256x2048 .bf16) (fb : Vec F S2x2048x1024 .bf16) (hfb : Kept c f2 f3 w1 w3 t fb) :
    ∃ fb', Kept c f2 f3 w1 w3 (t + 1) fb' ∧ Runs c i f2 f3 f4 f5 f6 x fb (outAt c f2 f3 w1 w3 t x) fb' (slotAt c f4 f5 f6 w1 w3 t) (slotAt c f4 f5 f6 w1 w3 (t + 1)) := by
  have h1' : i 1 = tile t := h1
  have h0' : i 0 = col t := h0
  have eE : wExp i f2 = d2 f2 (tile t) := by rw [wExp_eq, h1']
  have eE' : wExp' i f2 = d2 f2 (tile t) := eE
  have eF : wFlag i f3 = d3 f3 (tile t) := by rw [wFlag_eq, h1']
  have eO : wOrd i f4 = d4 f4 (tile t) := by rw [wOrd_eq, h1']
  have eN : wFol i f5 = d5 f5 (tile t) := by rw [wFol_eq, h1']
  have eB : wBlk f6 = d6 f6 := wBlk_eq f6
  have hE : (wExp' i f2).toNat < 8 := by rw [eE']; exact P.te_lt (tile t)
  have hN : (wFol i f5).toNat < 8 := by rw [eN]; exact P.fo_lt (tile t)
  have eWA : wA c w1 (expOf (wExp' i f2)) (i 0) = aAt c f2 w1 t := by rw [eE', h0']
  have eWB : wB c w3 (expOf (wExp' i f2)) (i 0) = bAt c f2 w3 t := by rw [eE', h0']
  have eK : kO i (wBlk f6) (wOrd i f4) = rest (d4 f4) (d6 f6) (t + 1) := by
    apply Fin.ext
    rw [kO_val, eB, eO, h0', rest_succ]; rfl
  have eL : kN i (wBlk f6) (wOrd i f4) = rest (d4 f4) (d6 f6) (t + 1) + 1 := by
    rw [rest_succ, ← par_succ]
    apply Fin.ext
    rw [kN_val, eB, eO, h0']; rfl
  have next : iprop(idleS c w1 w3 (kO i (wBlk f6) (wOrd i f4)) ∗ nextS c w1 w3 (kN i (wBlk f6) (wOrd i f4)) i (wOrd i f4) (wBlk f6) (wFol i f5))
      = slotAt c f4 f5 f6 w1 w3 (t + 1) := by
    rw [nextS_eq, eK, eL, eO, eB, eN, h0]
    unfold slotAt
    rw [slot_succ]
  have eR : (2 : ℕ) ≤ (d3 f3 (tile t)).toNat → kN i (wBlk f6) (wOrd i f4) = rest (d4 f4) (d6 f6) t ∧ kO i (wBlk f6) (wOrd i f4) = rest (d4 f4) (d6 f6) t + 1 := fun h => by
    have e := rest_new P ht h
    rw [eL, eK, rest_succ, e, two_on]
    exact ⟨rfl, rfl⟩
  have c2 : (2 : ℕ) ≤ (d3 f3 (tile t)).toNat → (k0_cond2 i (wBlk f6) (wOrd i f4) = 1#1 ↔ t = 0) := fun h => by
    rw [cond2_iff, eO, eB, h0']
    constructor
    · intro e
      by_contra hne
      exact first_ne P hne ht h e
    · intro e
      subst e
      have e0 : (d4 f4 (tile 0)) = 0#32 := P.od_zero
      rw [e0, show col 0 = 0 from rfl]
      simp
  have start : (2 : ℕ) ≤ (d3 f3 (tile t)).toNat → t ≠ 0 →
      slotAt c f4 f5 f6 w1 w3 t = iprop(idleS c w1 w3 (kN i (wBlk f6) (wOrd i f4)) ∗ flightS c w1 w3 (kO i (wBlk f6) (wOrd i f4)) (expOf (wExp' i f2)) (i 0)) := fun h hne => by
    unfold slotAt
    rw [slot_new P hne ht h, eE', h0', (eR h).1, (eR h).2]; rfl
  have first : (2 : ℕ) ≤ (d3 f3 (tile t)).toNat → t = 0 →
      slotAt c f4 f5 f6 w1 w3 t = iprop(idleS c w1 w3 (kN i (wBlk f6) (wOrd i f4)) ∗ idleS c w1 w3 (kO i (wBlk f6) (wOrd i f4))) := fun h hz => by
    rw [(eR h).1, (eR h).2]; unfold slotAt; subst hz; rfl
  have stay : (d3 f3 (tile t)).toNat < 2 → slotAt c f4 f5 f6 w1 w3 (t + 1) = slotAt c f4 f5 f6 w1 w3 t := fun h => by
    have h' : BitVec.toNat (d3 f3 (tile t)) < 2 := h
    unfold slotAt; rw [slot_old P h', rest_old P h']
  rcases flag_cases (P.fl_lt (tile t)) with hf | hf | hf | hf
  · -- padding within a block
    have hf : (d3 f3 (tile t)) = 0#32 := hf
    refine ⟨fb, kept_succ c f2 f3 w1 w3 (fun h => absurd (hf ▸ h) (by decide)), ?_⟩
    rw [stay (by rw [hf]; decide)]
    unfold outAt
    rw [if_neg (by rw [hf]; decide), if_neg (by rw [hf]; decide)]
    have g := eF.trans hf
    exact runC0 c i f2 f3 f4 f5 f6 x fb _ (by rw [g]; decide) (by rw [g]; decide) (by rw [g]; decide) (by rw [g]; decide)
  · -- tokens within a block
    have hf : (d3 f3 (tile t)) = 1#32 := hf
    obtain ⟨o0, o1, o2, o3⟩ := old_valid P hf
    have ea : aAt c f2 w1 (t - 1) = aAt c f2 w1 t := by unfold aAt; rw [o3, ← (o2 : (d2 f2 (tile t)) = d2 f2 (tile (t - 1)))]
    have eb : bAt c f2 w3 (t - 1) = bAt c f2 w3 t := by unfold bAt; rw [o3, ← (o2 : (d2 f2 (tile t)) = d2 f2 (tile (t - 1)))]
    have ek : fb = wbNew (aAt c f2 w1 t) (bAt c f2 w3 t) := by rw [← ea, ← eb]; exact hfb o0 o1
    refine ⟨fb, kept_succ c f2 f3 w1 w3 (fun _ => ek), ?_⟩
    rw [stay (by rw [hf]; decide)]
    unfold outAt
    rw [if_neg (by rw [hf]; decide), if_pos hf, ← ek]
    have g := eF.trans hf
    exact runC1 c i f2 f3 f4 f5 f6 x fb _ (by rw [g]; decide) (by rw [g]; decide) (by rw [g]; decide) (by rw [g]; decide)
  · -- a block that begins with padding
    have hf : (d3 f3 (tile t)) = 2#32 := hf
    have h2 : (2 : ℕ) ≤ (d3 f3 (tile t)).toNat := by rw [hf]; decide
    refine ⟨fb, kept_succ c f2 f3 w1 w3 (fun h => absurd (hf ▸ h) (by decide)), ?_⟩
    unfold outAt
    rw [if_neg (by rw [hf]; decide), if_neg (by rw [hf]; decide)]
    have g := eF.trans hf
    rw [← next]
    by_cases hz : t = 0
    · rw [first h2 hz]
      exact runA2 c i f2 f3 f4 f5 f6 w1 w3 x fb (by rw [g]; decide) ((c2 h2).2 hz) (by rw [g]; decide) (by rw [g]; decide) (by rw [g]; decide) hN hE
    · rw [start h2 hz]
      exact runB2 c i f2 f3 f4 f5 f6 w1 w3 x fb (by rw [g]; decide) (fun h => hz ((c2 h2).1 h)) (by rw [g]; decide) (by rw [g]; decide) (by rw [g]; decide) hN hE
  · -- a block that begins with tokens
    have hf : (d3 f3 (tile t)) = 3#32 := hf
    have h2 : (2 : ℕ) ≤ (d3 f3 (tile t)).toNat := by rw [hf]; decide
    refine ⟨wbNew (aAt c f2 w1 t) (bAt c f2 w3 t), kept_succ c f2 f3 w1 w3 (fun _ => rfl), ?_⟩
    unfold outAt
    rw [if_pos hf]
    have g := eF.trans hf
    rw [← next, ← eWA, ← eWB]
    by_cases hz : t = 0
    · rw [first h2 hz]
      exact runA3 c i f2 f3 f4 f5 f6 w1 w3 x fb (by rw [g]; decide) ((c2 h2).2 hz) (by rw [g]; decide) (by rw [g]; decide) (by rw [g]; decide) hN hE
    · rw [start h2 hz]
      exact runB3 c i f2 f3 f4 f5 f6 w1 w3 x fb (by rw [g]; decide) (fun h => hz ((c2 h2).1 h)) (by rw [g]; decide) (by rw [g]; decide) (by rw [g]; decide) hN hE
end Point

end Cert.Kernel5Ideal.Up

end
-- ==== Proof.UpFrameI.lean ====
/- The experts' gate and up product: its run, from the steps to the launch. -/
module

public import proofs.«01_k».proof.Proof.UpStepI
public import Idealize.ShloMosaic.Lib.Ring.WriteBehind

@[expose] public section

set_option maxRecDepth 16384

noncomputable section

namespace Cert.Kernel5Ideal.Up

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Down (Plan tile flag_cases)
open Cert.Up

variable (m : (ℓ : Loc nD τ sig) → Buf (Elt F) ℓ) (ρ : Dev nD → PrngReg)

/-! ## The arrays and tables at the launch -/

abbrev V (c : Dev nD) (b : Ref sig .tc) : Buf (Elt F) ((c : Thread nD τ).loc b) := m ((c : Thread nD τ).loc b)

/-- The five tables' contents. -/
def tbl : pre0.Contents (Elt F) := fun j => V m (0 : Dev nD) (pre0.ref j)
theorem V_pre (c : Dev nD) (k : Fin 5) : V m c (pre0.ref k) = tbl m k := by
  obtain rfl : c = 0 := Subsingleton.elim _ _
  rfl
/-- The tables are admissible: no index map reads one. -/
abbrev adm : (pcfg0 (F := F)).Adm := ⟨tbl m, trivial⟩
abbrev cfgM : Pipeline.Cfg sig Λ₀ := cfg0 (adm m)

/-- The tables hold a plan. -/
abbrev Planned : Prop := ∀ c : Dev nD, PlanAt (F := F) c (V m c main_arg3) (V m c main_arg4) (V m c main_arg5) (V m c main_arg6) (V m c main_arg7)

/-! ## The kernel's own semaphore, and the weights it moves -/

abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (wsem 0 0).sem) 0 ∗ semVal ((c : Thread nD τ), SemLoc.dma (wsem 0 1).sem) 0 ∗ semVal ((c : Thread nD τ), SemLoc.dma (wsem 1 0).sem) 0 ∗ semVal ((c : Thread nD τ), SemLoc.dma (wsem 1 1).sem) 0) := by
  rw [Pipeline.ownSems0_eq_of_list c osem0 [0, 1, 2, 3] (by decide) (by decide)]; rfl
def H0 : Finset (Ref sig .tc) := {main_arg1, main_arg2}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((w1M.view.loc (c : Thread nD τ) ↦{fullShare} V m c main_arg1) ∗ (w3M.view.loc (c : Thread nD τ) ↦{fullShare} V m c main_arg2)) := by
  rw [BI.bigSep_eq_bigSepL_of_eq [main_arg1, main_arg2] (by decide) (by decide)]; rfl

theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
            ∗ (∃ d, owns (c : Thread nD τ) wbM fullShare d)) ∗ (∃ r, prngReg c r)
          ∗ iprop(semVal ((c : Thread nD τ), SemLoc.dma (wsem 0 0).sem) 0 ∗ semVal ((c : Thread nD τ), SemLoc.dma (wsem 0 1).sem) 0 ∗ semVal ((c : Thread nD τ), SemLoc.dma (wsem 1 0).sem) 0 ∗ semVal ((c : Thread nD τ), SemLoc.dma (wsem 1 1).sem) 0)
          ∗ iprop((w1M.view.loc (c : Thread nD τ) ↦{fullShare} V m c main_arg1) ∗ (w3M.view.loc (c : Thread nD τ) ↦{fullShare} V m c main_arg2))) := by
  rw [Pipeline.ΦD_eq, scopedRest0_eq, ownSems00_eq, hbmPts0_eq]; simp only [wbM, owns_whole]; try rfl

theorem PhiT0_eq (c : Dev nD) : (Pipeline.ΦT pre0 (tbl m) c : sProp 𝕄)
    = tabs c (V m c main_arg3) (V m c main_arg4) (V m c main_arg5) (V m c main_arg6) (V m c main_arg7) := by
  obtain rfl : c = 0 := Subsingleton.elim _ _
  unfold Pipeline.ΦT Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-! ## The invariant -/

/-- Between points: the tables, the generator register, the kept bf16 weights, and the weight slot. -/
def PhiI (c : Dev nD) (n : ℕ) : sProp 𝕄 :=
  iprop(tabs c (V m c main_arg3) (V m c main_arg4) (V m c main_arg5) (V m c main_arg6) (V m c main_arg7)
    ∗ (∃ r, prngReg c r)
    ∗ (∃ fb, ⌜Kept c (V m c main_arg3) (V m c main_arg4) (V m c main_arg1) (V m c main_arg2) n fb⌝ ∗ owns (c : Thread nD τ) wbM fullShare fb)
    ∗ slotAt c (V m c main_arg5) (V m c main_arg6) (V m c main_arg7) (V m c main_arg1) (V m c main_arg2) n)

/-- A part's elements. -/
theorem mem_part (k : Fin 2) (p : ℕ) (hp : p < 2) (y : S2x2x2048x1024.Idx) : y ∈ (wdst k p hp).view.set ↔ (y 0).val = k.val ∧ (y 1).val = p := by
  simp only [wdst, Memref.view_squeeze, View.set_reshape]
  refine (Eq.to_iff (congrArg (fun S => y ∈ S) (View.set_slice_whole _ _))).trans ?_
  rw [Rect.mem_set_unit]
  constructor
  · intro h
    have a0 : k.val ≤ (y 0).val ∧ (y 0).val < k.val + 1 := h 0
    have a1 : p ≤ (y 1).val ∧ (y 1).val < p + 1 := h 1
    omega
  · rintro ⟨e0, e1⟩ a
    fin_cases a
    · exact ⟨by show k.val ≤ (y 0).val; omega, by show (y 0).val < k.val + 1; omega⟩
    · exact ⟨by show p ≤ (y 1).val; omega, by show (y 1).val < p + 1; omega⟩
    · have h : (y 2).val < 2048 := (y 2).isLt
      exact ⟨Nat.zero_le _, by show (y 2).val < 0 + 2048; omega⟩
    · have h : (y 3).val < 1024 := (y 3).isLt
      exact ⟨Nat.zero_le _, by show (y 3).val < 0 + 1024; omega⟩

/-- The four parts: slot and matrix. -/
abbrev partK (q : Fin 4) : Fin 2 := ⟨q.val / 2, by omega⟩
abbrev partP (q : Fin 4) : ℕ := q.val % 2
theorem partP_lt (q : Fin 4) : partP q < 2 := Nat.mod_lt _ (by decide)
abbrev partJ (c : Dev nD) (q : Fin 4) : Finset (Idx ((c : Thread nD τ).loc cc0_scratch0)) := (wdst (partK q) (partP q) (partP_lt q)).view.set

theorem parts_disjoint (c : Dev nD) (q q' : Fin 4) (h : q ≠ q') : Disjoint (partJ c q) (partJ c q') :=
  Finset.disjoint_left.mpr fun y hy hy' => h (Fin.ext (by
    have e := (mem_part _ _ (partP_lt q) y).1 hy
    have e' := (mem_part _ _ (partP_lt q') y).1 hy'
    have a0 : (y 0).val = q.val / 2 := e.1
    have a1 : (y 1).val = q.val % 2 := e.2
    have b0 : (y 0).val = q'.val / 2 := e'.1
    have b1 : (y 1).val = q'.val % 2 := e'.2
    omega))
theorem parts_cover (c : Dev nD) : Finset.univ.biUnion (partJ c) = Finset.univ :=
  Finset.eq_univ_of_forall fun y => by
    have h0 : (y 0).val < 2 := (y 0).isLt
    have h1 : (y 1).val < 2 := (y 1).isLt
    refine Finset.mem_biUnion.mpr ⟨⟨2 * (y 0).val + (y 1).val, by omega⟩, Finset.mem_univ _, (mem_part _ _ (partP_lt _) y).2 ⟨?_, ?_⟩⟩
    · show (y 0).val = (2 * (y 0).val + (y 1).val) / 2; omega
    · show (y 1).val = (2 * (y 0).val + (y 1).val) % 2; omega

abbrev fourP (c : Dev nD) : sProp 𝕄 := iprop((∃ f, slotP c 0 0 f) ∗ (∃ f, slotP c 0 1 f) ∗ (∃ f, slotP c 1 0 f) ∗ (∃ f, slotP c 1 1 f))
theorem four_eq (c : Dev nD) : (bigSep Finset.univ (fun q : Fin 4 => iprop(∃ f, slotP c (partK q) (partP q) f (partP_lt q))) : sProp 𝕄) = fourP (F := F) c :=
  bigSep_univ_eq_bigSepL [(0 : Fin 4), 1, 2, 3] (by decide) (by decide) _
theorem slot_in (c : Dev nD) : (iprop(∃ f : Buf (Elt F) ((c : Thread nD τ).loc cc0_scratch0), ((c : Thread nD τ).loc cc0_scratch0) ↦{fullShare} f) : sProp 𝕄) ⊢ fourP c :=
  (Ring.pieces_split (partJ c) (parts_disjoint c) (parts_cover c) (fun q f => slotP c (partK q) (partP q) f (partP_lt q)) (fun _ _ => rfl)).trans
    (Entails.of_eq (four_eq c))
theorem slot_out (c : Dev nD) (f₀ : Buf (Elt F) ((c : Thread nD τ).loc cc0_scratch0)) :
    fourP c ⊢ (iprop(∃ f : Buf (Elt F) ((c : Thread nD τ).loc cc0_scratch0), ((c : Thread nD τ).loc cc0_scratch0) ↦{fullShare} f) : sProp 𝕄) :=
  (Entails.of_eq (four_eq c).symm).trans
    (Ring.pieces_join (partJ c) (parts_disjoint c) (parts_cover c) (fun q f => slotP c (partK q) (partP q) f (partP_lt q)) (fun _ _ => rfl) f₀)

/-- The weights' two shares. -/
theorem halves (c : Dev nD) (b : Ref sig .tc) (f : Buf (Elt F) ((c : Thread nD τ).loc b)) :
    (((c : Thread nD τ).loc b) ↦{fullShare} f : sProp 𝕄) ⊣⊢ iprop((((c : Thread nD τ).loc b) ↦{shr 0} f) ∗ ((c : Thread nD τ).loc b) ↦{shr 1} f) :=
  pointsTo_share (PosShare.mem_left_op_right fullShare)

/-- Both slots at rest. -/
theorem both_in (c : Dev nD) (w1 : Buf (Elt F) (w1M.view.loc (c : Thread nD τ))) (w3 : Buf (Elt F) (w3M.view.loc (c : Thread nD τ))) :
    iprop((∃ f : Buf (Elt F) ((c : Thread nD τ).loc cc0_scratch0), ((c : Thread nD τ).loc cc0_scratch0) ↦{fullShare} f) ∗ (semVal ((c : Thread nD τ), SemLoc.dma (wsem 0 0).sem) 0 ∗ semVal ((c : Thread nD τ), SemLoc.dma (wsem 0 1).sem) 0 ∗ semVal ((c : Thread nD τ), SemLoc.dma (wsem 1 0).sem) 0 ∗ semVal ((c : Thread nD τ), SemLoc.dma (wsem 1 1).sem) 0)
      ∗ (w1M.view.loc (c : Thread nD τ) ↦{fullShare} w1) ∗ (w3M.view.loc (c : Thread nD τ) ↦{fullShare} w3))
      ⊢ (iprop(idleS c w1 w3 0 ∗ idleS c w1 w3 1) : sProp 𝕄) := by
  iintro ⟨HF, ⟨S0, S1, S2, S3⟩, W1, W3⟩
  ihave HF := (slot_in c) $$ HF
  icases HF with ⟨⟨%f0, F0⟩, ⟨%f1, F1⟩, ⟨%f2, F2⟩, ⟨%f3, F3⟩⟩
  ihave W1 := (halves c main_arg1 w1).1 $$ W1
  icases W1 with ⟨A0, A1⟩
  ihave W3 := (halves c main_arg2 w3).1 $$ W3
  icases W3 with ⟨B0, B1⟩
  unfold idleS
  isplitl [F0 F1 A0 B0 S0 S1]
  · iexists f0; iexists f1
    isplitl [F0]; · iexact F0
    isplitl [F1]; · iexact F1
    isplitl [A0]; · iexact A0
    isplitl [B0]; · iexact B0
    isplitl [S0]; · iexact S0
    iexact S1
  iexists f2; iexists f3
  isplitl [F2]; · iexact F2
  isplitl [F3]; · iexact F3
  isplitl [A1]; · iexact A1
  isplitl [B1]; · iexact B1
  isplitl [S2]; · iexact S2
  iexact S3

theorem both_out (c : Dev nD) (w1 : Buf (Elt F) (w1M.view.loc (c : Thread nD τ))) (w3 : Buf (Elt F) (w3M.view.loc (c : Thread nD τ)))
    (f₀ : Buf (Elt F) ((c : Thread nD τ).loc cc0_scratch0)) :
    iprop(idleS c w1 w3 0 ∗ idleS c w1 w3 1)
      ⊢ (iprop((∃ f : Buf (Elt F) ((c : Thread nD τ).loc cc0_scratch0), ((c : Thread nD τ).loc cc0_scratch0) ↦{fullShare} f) ∗ (semVal ((c : Thread nD τ), SemLoc.dma (wsem 0 0).sem) 0 ∗ semVal ((c : Thread nD τ), SemLoc.dma (wsem 0 1).sem) 0 ∗ semVal ((c : Thread nD τ), SemLoc.dma (wsem 1 0).sem) 0 ∗ semVal ((c : Thread nD τ), SemLoc.dma (wsem 1 1).sem) 0)
      ∗ (w1M.view.loc (c : Thread nD τ) ↦{fullShare} w1) ∗ (w3M.view.loc (c : Thread nD τ) ↦{fullShare} w3)) : sProp 𝕄) := by
  unfold idleS
  iintro ⟨⟨%f0, %f1, F0, F1, A0, B0, S0, S1⟩, ⟨%f2, %f3, F2, F3, A1, B1, S2, S3⟩⟩
  isplitl [F0 F1 F2 F3]
  · iapply (slot_out c f₀)
    isplitl [F0]; · iexists f0; iexact F0
    isplitl [F1]; · iexists f1; iexact F1
    isplitl [F2]; · iexists f2; iexact F2
    iexists f3; iexact F3
  isplitl [S0 S1 S2 S3]
  · isplitl [S0]; · iexact S0
    isplitl [S1]; · iexact S1
    isplitl [S2]; · iexact S2
    iexact S3
  isplitl [A0 A1]
  · iapply (halves c main_arg1 w1).2
    isplitl [A0]; · iexact A0
    iexact A1
  iapply (halves c main_arg2 w3).2
  isplitl [B0]; · iexact B0
  iexact B1

theorem both_swap (c : Dev nD) (w1 : Buf (Elt F) (w1M.view.loc (c : Thread nD τ))) (w3 : Buf (Elt F) (w3M.view.loc (c : Thread nD τ))) (k : Fin 2) :
    (iprop(idleS c w1 w3 k ∗ idleS c w1 w3 (k + 1)) : sProp 𝕄) ⊢ iprop(idleS c w1 w3 0 ∗ idleS c w1 w3 1) := by
  have e : k = 0 ∨ k = 1 := by revert k; decide
  rcases e with rfl | rfl
  · exact .rfl
  · rw [show (1 : Fin 2) + 1 = 0 from rfl]
    iintro ⟨H, K⟩
    isplitl [K]; · iexact K
    iexact H

theorem phi_in (c : Dev nD) : iprop(Pipeline.ΦD osem0 spec0 H0 (V m) c ∗ Pipeline.ΦT pre0 (tbl m) c) ⊢ (PhiI m c 0 : sProp 𝕄) := by
  rw [PhiD0_eq, PhiT0_eq]
  unfold PhiI
  rw [show slotAt c (V m c main_arg5) (V m c main_arg6) (V m c main_arg7) (V m c main_arg1) (V m c main_arg2) 0
    = iprop(idleS c (V m c main_arg1) (V m c main_arg2) 1 ∗ idleS c (V m c main_arg1) (V m c main_arg2) 0) from rfl]
  iintro ⟨⟨⟨HF, ⟨%d, HB⟩⟩, Hg, Hs, Hw⟩, Ht⟩
  isplitl [Ht]; · iexact Ht
  isplitl [Hg]; · iexact Hg
  isplitl [HB]
  · iexists d; isplitr; · ipureintro; exact fun h => absurd rfl h
    iexact HB
  ihave H := (both_in c (V m c main_arg1) (V m c main_arg2)) $$ [HF Hs Hw]
  · isplitl [HF]; · iexact HF
    isplitl [Hs]; · iexact Hs
    iexact Hw
  icases H with ⟨H, K⟩
  isplitl [K]; · iexact K
  iexact H

theorem phi_out (hP : Planned m) (c : Dev nD) : (PhiI m c 504 : sProp 𝕄) ⊢ Pipeline.ΦD osem0 spec0 H0 (V m) c := by
  rw [PhiD0_eq]
  unfold PhiI slotAt
  rw [show slot (d4 (V m c main_arg5)) (d5 (V m c main_arg6)) (d6 (V m c main_arg7)) 504 = none from slot_end (hP c)]
  iintro ⟨Ht, Hg, ⟨%fb, -, HB⟩, HS⟩
  ihave HS := (both_swap c (V m c main_arg1) (V m c main_arg2) _) $$ [HS]
  · iexact HS
  ihave HS := (both_out c (V m c main_arg1) (V m c main_arg2) (V m c cc0_scratch0)) $$ HS
  icases HS with ⟨HF, Hs, Hw⟩
  isplitl [HF HB]
  · isplitl [HF]; · iexact HF
    iexists fb; iexact HB
  isplitl [Hg]; · iexact Hg
  isplitl [Hs]; · iexact Hs
  iexact Hw

/-! ## The pipeline's data -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The tokens' block point `t` multiplies. -/
abbrev xAt (c : Dev nD) (t : Fin (cfgM m).N) : Vec F S256x2048 .bf16 := iblk m c 0 t
/-- What point `t` leaves. -/
abbrev oAt (c : Dev nD) (t : Fin (cfgM m).N) : Vec F S256x1024 .bf16 := outAt c (V m c main_arg3) (V m c main_arg4) (V m c main_arg1) (V m c main_arg2) t.val (xAt m c t)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => oAt m c t
  Φ t := PhiI m c t.val
  q _ := fullShare
  owed _ := 0

theorem A_eq (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := by dsimp only [dats]; rfl
theorem after_1 (c : Dev nD) (t : Fin (cfgM m).N) : (dats m 0 c).after 1 t = oAt m c t := by dsimp only [dats]; rfl
theorem phi_eq (c : Dev nD) (n : Fin ((cfgM m).N + 1)) : (dats m 0 c).Φ n = PhiI m c n.val := by dsimp only [dats]
theorem owed_eq (c : Dev nD) (t) : (dats m 0 c).owed t = 0 := by dsimp only [dats]
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-! ## The body -/

abbrev ms0 (t : Fin (cfgM m).N) : Memref sig .tc .vmem S256x2048 .bf16 := spec0_0.stage ((cfgM m).slots t 0)
abbrev ms1 (t : Fin (cfgM m).N) : Memref sig .tc .vmem S256x1024 .bf16 := spec0_1.stage ((cfgM m).slots t 1)

def bodyAt (t : Fin (cfgM m).N) : Prog (TpuEff nD τ sig (Elt F) Λ₀ .tc) PUnit :=
  cc0_swiglu_up (grid0.coords t) te3 (Memref.isWhole_whole _) te4 (Memref.isWhole_whole _) te5 (Memref.isWhole_whole _) te6 (Memref.isWhole_whole _) te7 (Memref.isWhole_whole _)
    (ms0 m t) (hstage0_0 (((cfgM m).slots t 0).cast nbuf0_0)) w1M (Memref.isWhole_whole _) w3M (Memref.isWhole_whole _) (ms1 m t) (hstage0_1 (((cfgM m).slots t 1).cast nbuf0_1))
    wfM (Memref.isWhole_whole _) wbM (Memref.isWhole_whole _) cc0_scratch2

theorem defs₀_row (t : Fin (cfgM m).N) : defs₀ (F := F) .tc (cfgM m).body ((cfgM m).bodyArgs t ((cfgM m).slots t)) = bodyAt m t := by
  unfold defs₀; rw [Defs.onTc_tc]; rfl

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t))

theorem sound_body (hP : Planned m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0]
  rw [after_0, after_1, phi_eq, phi_eq, Fin.val_succ, Fin.val_castSucc]
  unfold Dat.owesAt Pipeline.owesWithin
  rw [owed_eq, owed_eq]
  unfold PhiI
  iintro ⟨⟨Ht, Hg, ⟨%fb, %hfb, HB⟩, HS⟩, ⟨%W, %hW, HO⟩, ⟨%d0, H0⟩, ⟨%d1, H1⟩⟩
  have ht : t.val < 504 := lt_of_lt_of_eq t.isLt N_0
  obtain ⟨h0, h1⟩ := coords_eq t
  obtain ⟨fb', hfb', run⟩ := runAt c (V m c main_arg3) (V m c main_arg4) (V m c main_arg5) (V m c main_arg6) (V m c main_arg7) (V m c main_arg1) (V m c main_arg2)
    (hP c) ht (grid0.coords t) h0 h1 (xAt m c t) fb hfb
  iapply (run (ms0 m t) (hstage0_0 (((cfgM m).slots t 0).cast nbuf0_0)) (ms1 m t) (hstage0_1 (((cfgM m).slots t 1).cast nbuf0_1)) W _)
  isplitl [Ht]; · iexact Ht
  isplitl [H0]; · iexact H0
  isplitl [H1]; · iexists _; iexact H1
  isplitl [HB]; · iexact HB
  isplitl [HO]; · iexact HO
  isplitl [HS]; · iexact HS
  iintro ⟨Ht, H0, H1, HB, ⟨%W', HO⟩, HS⟩
  isplitl [Ht Hg HB HS]
  · isplitl [Ht]; · iexact Ht
    isplitl [Hg]; · iexact Hg
    isplitl [HB]
    · iexists fb'; isplitr; · ipureintro; exact hfb'
      iexact HB
    iexact HS
  isplitl [HO]
  · iexists W'; isplitr; · ipureintro; exact fun _ _ => Or.inl trivial
    iexact HO
  isplitl [H0]; · iexact H0
  iexact H1

/-- A flag below 4 has the output stored. -/
theorem idle_word (w : BitVec 32) (h : w.toNat < 4) : (!(k0_cond4 w == 1#1) && !(k0_cond5 w == 1#1) && !(k0_cond6 w == 1#1)) = false := by
  rcases flag_cases h with rfl | rfl | rfl | rfl <;> decide

theorem idle_eq (hP : Planned m) (t : Fin (cfgM m).N) : (cfgM m).idle (1 : Fin 2) ((cfgM m).grid.coords t) = false := by
  obtain ⟨h0, h1⟩ := coords_eq t
  have e : (tbl m).atD 1 (k0_off1 (grid0.coords t)) = d3 (c := 0) (V m 0 main_arg4) (tile t.val) := by
    have hh : ∀ a, k0_off1 (grid0.coords t) a + 1 ≤ (pre0.ref 1).ty.shape.size a := fun a => by
      fin_cases a
      show (Scalar.indexCast (BitVec.ofNat 32 (grid0.coords t 1).val) : Index).toNat + 1 ≤ 72
      have e := idx_tile (tOf (grid0.coords t))
      have l := (tOf (grid0.coords t)).isLt
      exact lt_of_eq_of_lt e l
    refine (dif_pos hh).trans (congrArg (V m 0 main_arg4) (funext fun a => Fin.ext ?_))
    fin_cases a
    exact (idx_tile (tOf (grid0.coords t))).trans (congrArg Fin.val h1)
  show (!(k0_cond4 ((tbl m).atD 1 (k0_off1 (grid0.coords t))) == 1#1) && !(k0_cond5 ((tbl m).atD 1 (k0_off1 (grid0.coords t))) == 1#1) && !(k0_cond6 ((tbl m).atD 1 (k0_off1 (grid0.coords t))) == 1#1)) = false
  rw [e]
  exact idle_word _ ((hP 0).fl_lt (tile t.val))

theorem body_obligation (hP : Planned m) (c : Dev nD) :
    BodyObligation (dats (F := F) m 0 c) (defs₀ (F := F)) Variants.none () Set.univ := fun t => by
  have hi := idle_eq m hP t
  rw [bigSep_W0, bigSep_W0, defs₀_row]
  refine triple_restated (sound_body m hP c t) rfl .rfl fun _ => ?_
  unfold bodyPost
  rw [hi]

/-! ## The launch -/

theorem hmainD (𝒱₀ : Variants) :
    Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
set_option maxHeartbeats 800000 in
theorem run_main (hP : Planned m) :
    θ_run defs (onTc (τ := τ) (main (F := F))) (s₀ m ρ)
      (fun r => Pipeline.FramePost (Pipeline.pin (pcfgs (F := F)) (fun _ => adm m)) (dats m) 0 (V m) r ∧ r.2.sem = fun _ => 0) :=
  Pipeline.θ_run_frameP_dma (Q' := _) (pcfgs (F := F)) (fun _ => adm m) (dats m) (0 : Fin 1) launch0 osem0 defs₀ Variants.none ownSemFacts0 H0 H0_sub m ρ main
    (hbody := fun c => (body_obligation m hP c).loose) (hshare := fun c => (dats m 0 c).share_full fun _ => rfl)
    (howed := fun _ _ => rfl) (V := V m) (hmain := hmainD m Variants.none) (hA := A_eq m) (hpf := fun c k => V_pre m c k)
    (hin := fun c => phi_in m c) (hout := fun c => phi_out m hP c)

theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)
theorem rest_arg4 : main_arg4 ∈ Pipeline.restRefs sig spec0 := Pipeline.mem_restRefs_of main_arg4 (by decide) (by decide)
theorem rest_arg5 : main_arg5 ∈ Pipeline.restRefs sig spec0 := Pipeline.mem_restRefs_of main_arg5 (by decide) (by decide)
theorem rest_arg6 : main_arg6 ∈ Pipeline.restRefs sig spec0 := Pipeline.mem_restRefs_of main_arg6 (by decide) (by decide)
theorem rest_arg7 : main_arg7 ∈ Pipeline.restRefs sig spec0 := Pipeline.mem_restRefs_of main_arg7 (by decide) (by decide)

/-- The run leaves the arguments, the counters, and the output at the blocks the points left. -/
theorem run_out (hP : Planned m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v0) = (dats m 0 c).arrAt 1 (cfgM m).N) ∧ r.2.sem = fun _ => 0) :=
  (θ_run defs _ _).mono (fun r h => ⟨fun c => ⟨((h.1 c).1 0).trans (((dats m 0 c).arrAt_in 0 rfl _).trans (A_eq m c 0)),
      (h.1 c).2 main_arg1 rest_arg1,
      (h.1 c).2 main_arg2 rest_arg2,
      (h.1 c).2 main_arg3 rest_arg3,
      (h.1 c).2 main_arg4 rest_arg4,
      (h.1 c).2 main_arg5 rest_arg5,
      (h.1 c).2 main_arg6 rest_arg6,
      (h.1 c).2 main_arg7 rest_arg7,
      (h.1 c).1 1⟩, h.2⟩) (run_main m ρ hP)

end Cert.Kernel5Ideal.Up

end
-- ==== Proof.UpRef.lean ====
/- The experts' gate and up product: what its reference leaves, expert by expert. -/
module
public import proofs.«01_k».proof.Proof.Gen.Reference5Ideal.Run
public import proofs.«01_k».proof.Proof.DownRef
@[expose] public section
set_option maxRecDepth 16384
noncomputable section
namespace Cert.Up
open Idealize.ShloMosaic

/-- A gate value times its logistic, times the up value. -/
def gate (x y : EReal) : EReal := x * Ideal.div 1 (1 + Ideal.exp (-x)) * y

/-- Row `r` through column `q` of an expert's weights. -/
def along (a : (⟨2, ![18432, 2048]⟩ : Shape).Idx → EReal) (w : (⟨3, ![8, 2048, 7168]⟩ : Shape).Idx → EReal) (r : Fin 18432) (q : Fin 7168) (e : Fin 8) : EReal :=
  ∑ k : Fin 2048, a (ix2 r k) * w (ix3 e k q)

/-- Row `r` through the gate and up weights of its tile's expert; zero in a tile of padding. -/
def up (a : (⟨2, ![18432, 2048]⟩ : Shape).Idx → EReal) (w1 w3 : (⟨3, ![8, 2048, 7168]⟩ : Shape).Idx → EReal) (te fl : Fin 72 → BitVec 32)
    (r : Fin 18432) (q : Fin 7168) : EReal :=
  if fl ⟨r.val / 256, by omega⟩ &&& 1#32 = 1#32
    then gate (along a w1 r q (Fin.ofNat 8 (te ⟨r.val / 256, by omega⟩).toNat)) (along a w3 r q (Fin.ofNat 8 (te ⟨r.val / 256, by omega⟩).toNat)) else 0

end Cert.Up

namespace Cert.Reference5Ideal.Read
open Idealize.ShloMosaic Idealize.ShloMosaic.TcCoe Idealize.SL.Sem
open Cert.Reference5Ideal Cert.Reference5Ideal.Gen
open Cert.Up (gate along up)
open Cert.Reference4Ideal.Read (mask sum_experts)

theorem mat0_at (a : FVec Ideal S18432x2048 .bf16) (w : FVec Ideal S8x2048x7168 .f32) (r : Fin 18432) (q : Fin 7168) :
    Host.dotGeneral dot_S18432x2048_S2048x7168_S18432x7168_1_0_0_1_n_n none (extf .f32 a bitsLt_bf16_f32) (shapeCast _ (extractStridedSlice S1x2048x7168 ![0, 0, 0] w slices_S8x2048x7168_S1x2048x7168_0_0_0) shapeCasts_S1x2048x7168_S2048x7168) (ix2 r q)
      = along a w r q 0 := by
  unfold along
  pointwise
theorem mat1_at (a : FVec Ideal S18432x2048 .bf16) (w : FVec Ideal S8x2048x7168 .f32) (r : Fin 18432) (q : Fin 7168) :
    Host.dotGeneral dot_S18432x2048_S2048x7168_S18432x7168_1_0_0_1_n_n none (extf .f32 a bitsLt_bf16_f32) (shapeCast _ (extractStridedSlice S1x2048x7168 ![1, 0, 0] w slices_S8x2048x7168_S1x2048x7168_1_0_0) shapeCasts_S1x2048x7168_S2048x7168) (ix2 r q)
      = along a w r q 1 := by
  unfold along
  pointwise
theorem mat2_at (a : FVec Ideal S18432x2048 .bf16) (w : FVec Ideal S8x2048x7168 .f32) (r : Fin 18432) (q : Fin 7168) :
    Host.dotGeneral dot_S18432x2048_S2048x7168_S18432x7168_1_0_0_1_n_n none (extf .f32 a bitsLt_bf16_f32) (shapeCast _ (extractStridedSlice S1x2048x7168 ![2, 0, 0] w slices_S8x2048x7168_S1x2048x7168_2_0_0) shapeCasts_S1x2048x7168_S2048x7168) (ix2 r q)
      = along a w r q 2 := by
  unfold along
  pointwise
theorem mat3_at (a : FVec Ideal S18432x2048 .bf16) (w : FVec Ideal S8x2048x7168 .f32) (r : Fin 18432) (q : Fin 7168) :
    Host.dotGeneral dot_S18432x2048_S2048x7168_S18432x7168_1_0_0_1_n_n none (extf .f32 a bitsLt_bf16_f32) (shapeCast _ (extractStridedSlice S1x2048x7168 ![3, 0, 0] w slices_S8x2048x7168_S1x2048x7168_3_0_0) shapeCasts_S1x2048x7168_S2048x7168) (ix2 r q)
      = along a w r q 3 := by
  unfold along
  pointwise
theorem mat4_at (a : FVec Ideal S18432x2048 .bf16) (w : FVec Ideal S8x2048x7168 .f32) (r : Fin 18432) (q : Fin 7168) :
    Host.dotGeneral dot_S18432x2048_S2048x7168_S18432x7168_1_0_0_1_n_n none (extf .f32 a bitsLt_bf16_f32) (shapeCast _ (extractStridedSlice S1x2048x7168 ![4, 0, 0] w slices_S8x2048x7168_S1x2048x7168_4_0_0) shapeCasts_S1x2048x7168_S2048x7168) (ix2 r q)
      = along a w r q 4 := by
  unfold along
  pointwise
theorem mat5_at (a : FVec Ideal S18432x2048 .bf16) (w : FVec Ideal S8x2048x7168 .f32) (r : Fin 18432) (q : Fin 7168) :
    Host.dotGeneral dot_S18432x2048_S2048x7168_S18432x7168_1_0_0_1_n_n none (extf .f32 a bitsLt_bf16_f32) (shapeCast _ (extractStridedSlice S1x2048x7168 ![5, 0, 0] w slices_S8x2048x7168_S1x2048x7168_5_0_0) shapeCasts_S1x2048x7168_S2048x7168) (ix2 r q)
      = along a w r q 5 := by
  unfold along
  pointwise
theorem mat6_at (a : FVec Ideal S18432x2048 .bf16) (w : FVec Ideal S8x2048x7168 .f32) (r : Fin 18432) (q : Fin 7168) :
    Host.dotGeneral dot_S18432x2048_S2048x7168_S18432x7168_1_0_0_1_n_n none (extf .f32 a bitsLt_bf16_f32) (shapeCast _ (extractStridedSlice S1x2048x7168 ![6, 0, 0] w slices_S8x2048x7168_S1x2048x7168_6_0_0) shapeCasts_S1x2048x7168_S2048x7168) (ix2 r q)
      = along a w r q 6 := by
  unfold along
  pointwise
theorem mat7_at (a : FVec Ideal S18432x2048 .bf16) (w : FVec Ideal S8x2048x7168 .f32) (r : Fin 18432) (q : Fin 7168) :
    Host.dotGeneral dot_S18432x2048_S2048x7168_S18432x7168_1_0_0_1_n_n none (extf .f32 a bitsLt_bf16_f32) (shapeCast _ (extractStridedSlice S1x2048x7168 ![7, 0, 0] w slices_S8x2048x7168_S1x2048x7168_7_0_0) shapeCasts_S1x2048x7168_S2048x7168) (ix2 r q)
      = along a w r q 7 := by
  unfold along
  pointwise

theorem mask_at (te fl : IVec S72 32) (e : BitVec 32) (r : Fin 18432) (q : Fin 7168) :
    broadcastInDim S18432x7168 ![0, 1] bcast_S18432x1_S18432x7168_0_1 (broadcastInDim S18432x1 ![0] bcast_S18432_S18432x1_0 (andi (cmpi .eq (shapeCast _ (broadcastInDim S72x256 ![0] bcast_S72_S72x256_0 te) shapeCasts_S72x256_S18432) (broadcastInDim S18432 ![] bcast_S_S18432 (constantI S_ 32 e))) (cmpi .ne (shapeCast _ (broadcastInDim S72x256 ![0] bcast_S72_S72x256_0 (andi fl (broadcastInDim S72 ![] bcast_S_S72 (constantI S_ 32 1#32)))) shapeCasts_S72x256_S18432) (broadcastInDim S18432 ![] bcast_S_S18432 (constantI S_ 32 0#32))))) (ix2 r q)
      = mask te fl e r := by
  unfold mask
  pointwise

theorem gated_at (A B : FVec Ideal S18432x7168 .f32) (i : S18432x7168.Idx) (a b : EReal) (ha : A i = a) (hb : B i = b) :
    mulf (mulf A (Host.divf (broadcastInDim S18432x7168 ![] bcast_S_S18432x7168 (constant S_ .f32 0x3F800000#32)) (addf (broadcastInDim S18432x7168 ![] bcast_S_S18432x7168 (constant S_ .f32 0x3F800000#32)) (Host.exp (Host.negf A))))) B i
      = gate a b := by
  subst ha hb
  pointwise
  rfl

theorem step_at (acc M z : FVec Ideal S18432x7168 .f32) (b : IVec S18432x7168 1) (i : S18432x7168.Idx) (d : BitVec 1) (s v : EReal)
    (ha : acc i = s) (hb : b i = d) (hz : z i = 0) (hM : M i = v) : addf acc (select b M z) i = s + if d = 1#1 then v else 0 := by
  subst ha hb hM
  pointwise
  rw [hz]
  rfl

section Args
variable (V0 : Valuation τ sig (Elt Ideal))
abbrev rows : FVec Ideal S18432x2048 .bf16 := V0 (Proc.devRef .tc main_arg0)
abbrev gates : FVec Ideal S8x2048x7168 .f32 := V0 (Proc.devRef .tc main_arg1)
abbrev ups : FVec Ideal S8x2048x7168 .f32 := V0 (Proc.devRef .tc main_arg2)
abbrev owner : IVec S72 32 := V0 (Proc.devRef .tc main_arg3)
abbrev flags : IVec S72 32 := V0 (Proc.devRef .tc main_arg4)

/-- Row `r` through expert `e`. -/
def through (r : Fin 18432) (q : Fin 7168) (e : Fin 8) : EReal := gate (along (rows V0) (gates V0) r q e) (along (rows V0) (ups V0) r q e)

theorem res_at (r : Fin 18432) (q : Fin 7168) (h : ∀ k : Fin 72, (owner V0 (ix1 k)).toNat < 8) :
    (Value.res_main_v151 (F := Ideal) V0 : FVec Ideal S18432x7168 .bf16) (ix2 r q)
      = up (rows V0) (gates V0) (ups V0) (fun k => owner V0 (ix1 k)) (fun k => flags V0 (ix1 k)) r q := by
  have hz' : broadcastInDim S18432x7168 ![] bcast_S_S18432x7168 (constant (F := Ideal) S_ .f32 0x00000000#32) (ix2 r q) = 0 := by pointwise
  have hz : broadcastInDim S18432x7168 ![] bcast_S_S18432x7168 (id (constant (F := Ideal) S_ .f32 0x00000000#32)) (ix2 r q) = 0 := hz'
  unfold up
  refine Eq.trans ?_ (sum_experts (owner V0) (flags V0) r (through V0 r q) (h _))
  unfold Value.res_main_v151
  refine step_at _ _ _ _ (ix2 r q) _ _ _ ?_ (mask_at (owner V0) (flags V0) 7#32 r q) hz (gated_at _ _ (ix2 r q) _ _ (mat7_at (rows V0) (gates V0) r q) (mat7_at (rows V0) (ups V0) r q))
  refine step_at _ _ _ _ (ix2 r q) _ _ _ ?_ (mask_at (owner V0) (flags V0) 6#32 r q) hz (gated_at _ _ (ix2 r q) _ _ (mat6_at (rows V0) (gates V0) r q) (mat6_at (rows V0) (ups V0) r q))
  refine step_at _ _ _ _ (ix2 r q) _ _ _ ?_ (mask_at (owner V0) (flags V0) 5#32 r q) hz (gated_at _ _ (ix2 r q) _ _ (mat5_at (rows V0) (gates V0) r q) (mat5_at (rows V0) (ups V0) r q))
  refine step_at _ _ _ _ (ix2 r q) _ _ _ ?_ (mask_at (owner V0) (flags V0) 4#32 r q) hz (gated_at _ _ (ix2 r q) _ _ (mat4_at (rows V0) (gates V0) r q) (mat4_at (rows V0) (ups V0) r q))
  unfold Value.res_main_v78
  refine step_at _ _ _ _ (ix2 r q) _ _ _ ?_ (mask_at (owner V0) (flags V0) 3#32 r q) hz (gated_at _ _ (ix2 r q) _ _ (mat3_at (rows V0) (gates V0) r q) (mat3_at (rows V0) (ups V0) r q))
  refine step_at _ _ _ _ (ix2 r q) _ _ _ ?_ (mask_at (owner V0) (flags V0) 2#32 r q) hz (gated_at _ _ (ix2 r q) _ _ (mat2_at (rows V0) (gates V0) r q) (mat2_at (rows V0) (ups V0) r q))
  refine step_at _ _ _ _ (ix2 r q) _ _ _ ?_ (mask_at (owner V0) (flags V0) 1#32 r q) hz (gated_at _ _ (ix2 r q) _ _ (mat1_at (rows V0) (gates V0) r q) (mat1_at (rows V0) (ups V0) r q))
  refine step_at _ _ _ _ (ix2 r q) _ _ _ ?_ (mask_at (owner V0) (flags V0) 0#32 r q) hz (gated_at _ _ (ix2 r q) _ _ (mat0_at (rows V0) (gates V0) r q) (mat0_at (rows V0) (ups V0) r q))
  exact hz'
end Args

/-- The arguments end unchanged and every counter ends at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, sem_eq_zero_of_no_sems rfl r.2⟩) (Value.run m ρ)

end Cert.Reference5Ideal.Read
-- ==== Proof.UpVal.lean ====
/- The experts' gate and up product: what its kernel leaves, as sums over a row's features. -/
module
public import proofs.«01_k».proof.Proof.UpFrameI
public import proofs.«01_k».proof.Proof.UpRef
public import proofs.«01_k».proof.Proof.DownVal
@[expose] public section
set_option maxRecDepth 16384
noncomputable section
namespace Cert.Kernel5Ideal.Up
open Idealize.ShloMosaic Idealize.ShloMosaic.TcCoe Idealize.SL.Sem
open Cert.Kernel5Ideal Cert.Kernel5Ideal.Gen Cert.Up
open Cert.Down (tile flag_cases)
open Cert.Kernel4Ideal.Down (canon_blocks ix2_same)

/-! ## One step's values -/

theorem ldX (x : Vec Ideal S256x2048 .bf16) : View.ld x rX = x := by
  funext y
  refine congrArg x (funext fun a => Fin.ext ?_)
  fin_cases a
  · show 0 + 1 * (y 0).val = (y 0).val; omega
  · show 0 + 1 * (y 1).val = (y 1).val; omega

/-- A row of a block through a column of a chunk. -/
def thru (x : FVec Ideal S256x2048 .bf16) (u : FVec Ideal S1x1x2048x256 .f32) (l q : Fin 256) : EReal := ∑ k : Fin 2048, x (ix2 l k) * u (ix4 0 0 k q)

theorem pay6_at (x : FVec Ideal S256x2048 .bf16) (u v : FVec Ideal S1x1x2048x256 .f32) (l q : Fin 256) :
    k0_pay6 (F := Ideal) x u v (ix2 l q) = gate (thru x u l q) (thru x v l q) := by
  pointwise [k0_pay6, k0_pay2, k0_pay4]
  rw [zero_sub]
  rfl
theorem pay11_at (x : FVec Ideal S256x2048 .bf16) (u v : FVec Ideal S1x1x2048x256 .f32) (l q : Fin 256) :
    k0_pay11 (F := Ideal) x (k0_pay7 u) v (ix2 l q) = gate (thru x u l q) (thru x v l q) := by
  pointwise [k0_pay11, k0_pay7, k0_pay9]
  rw [zero_sub]
  rfl
theorem pay17_at (x : FVec Ideal S256x2048 .bf16) (u v : FVec Ideal S1x1x2048x256 .f32) (l q : Fin 256) :
    k0_pay17 (F := Ideal) x (k0_pay14 x u) v (ix2 l q) = gate (thru x u l q) (thru x v l q) := by
  pointwise [k0_pay17, k0_pay14, k0_pay12, k0_pay15]
  rw [zero_sub]
  rfl
theorem pay23_at (x : FVec Ideal S256x2048 .bf16) (u v : FVec Ideal S1x1x2048x256 .f32) (l q : Fin 256) :
    k0_pay23 (F := Ideal) x (k0_pay20 x u) (k0_pay21 v) (ix2 l q) = gate (thru x u l q) (thru x v l q) := by
  pointwise [k0_pay23, k0_pay20, k0_pay18, k0_pay21]
  rw [zero_sub]
  rfl
theorem pay24_at (x : FVec Ideal S256x2048 .bf16) (u v : FVec Ideal S1x2048x1024 .bf16) (l : Fin 256) (q : Fin 1024) :
    k0_pay24 (F := Ideal) x u v (ix2 l q) = gate (∑ k : Fin 2048, x (ix2 l k) * u (ix3 0 k q)) (∑ k : Fin 2048, x (ix2 l k) * v (ix3 0 k q)) := by
  pointwise [k0_pay24]
  rw [zero_sub]
  rfl
theorem pay3_at (u : FVec Ideal S1x1x2048x256 .f32) (k : Fin 2048) (q : Fin 256) : k0_pay3 (F := Ideal) u (ix3 0 k q) = u (ix4 0 0 k q) := by
  pointwise [k0_pay3, k0_pay2]
theorem pay5_at (u : FVec Ideal S1x1x2048x256 .f32) (k : Fin 2048) (q : Fin 256) : k0_pay5 (F := Ideal) u (ix3 0 k q) = u (ix4 0 0 k q) := by
  pointwise [k0_pay5, k0_pay4]
theorem pay8_at (u : FVec Ideal S1x1x2048x256 .f32) (k : Fin 2048) (q : Fin 256) : k0_pay8 (F := Ideal) (k0_pay7 u) (ix3 0 k q) = u (ix4 0 0 k q) := by
  pointwise [k0_pay8, k0_pay7]
theorem pay10_at (u : FVec Ideal S1x1x2048x256 .f32) (k : Fin 2048) (q : Fin 256) : k0_pay10 (F := Ideal) u (ix3 0 k q) = u (ix4 0 0 k q) := by
  pointwise [k0_pay10, k0_pay9]
theorem pay13_at (u : FVec Ideal S1x1x2048x256 .f32) (k : Fin 2048) (q : Fin 256) : k0_pay13 (F := Ideal) u (ix3 0 k q) = u (ix4 0 0 k q) := by
  pointwise [k0_pay13, k0_pay12]
theorem pay16_at (u : FVec Ideal S1x1x2048x256 .f32) (k : Fin 2048) (q : Fin 256) : k0_pay16 (F := Ideal) u (ix3 0 k q) = u (ix4 0 0 k q) := by
  pointwise [k0_pay16, k0_pay15]
theorem pay19_at (u : FVec Ideal S1x1x2048x256 .f32) (k : Fin 2048) (q : Fin 256) : k0_pay19 (F := Ideal) u (ix3 0 k q) = u (ix4 0 0 k q) := by
  pointwise [k0_pay19, k0_pay18]
theorem pay22_at (u : FVec Ideal S1x1x2048x256 .f32) (k : Fin 2048) (q : Fin 256) : k0_pay22 (F := Ideal) u (ix3 0 k q) = u (ix4 0 0 k q) := by
  pointwise [k0_pay22, k0_pay21]
theorem pay1_at (y : S256x1024.Idx) : k0_pay1 (F := Ideal) y = 0 := by
  pointwise [k0_pay1]

/-- A row of a block through a column of a column block of weights. -/
def dotc (x : FVec Ideal S256x2048 .bf16) (W : FVec Ideal S2048x1024 .f32) (l : Fin 256) (q : Fin 1024) : EReal := ∑ k : Fin 2048, x (ix2 l k) * W (ix2 k q)
/-- A block of rows through a column block of an expert's gate and up weights. -/
def prod (x : FVec Ideal S256x2048 .bf16) (A B : FVec Ideal S2048x1024 .f32) : S256x1024.Idx → Elt Ideal .bf16 := fun y =>
  (gate (dotc x A (y 0) (y 1)) (dotc x B (y 0) (y 1)) : EReal)
/-- The weights, on the kept buffer's axes. -/
def kept (A B : FVec Ideal S2048x1024 .f32) : S2x2048x1024.Idx → Elt Ideal .bf16 := fun y => if (y 0).val = 0 then A (ix2 (y 1) (y 2)) else B (ix2 (y 1) (y 2))

theorem chunk_at (W : FVec Ideal S2048x1024 .f32) (j : Fin 4) (k : Fin 2048) (q : Fin 256) (q' : Fin 1024) (h : q'.val = 256 * j.val + q.val) :
    chunk (F := Ideal) W j (ix4 0 0 k q) = W (ix2 k q') :=
  congrArg W (congrArg (ix2 k) (Fin.ext h.symm))

theorem thru_chunk (x : FVec Ideal S256x2048 .bf16) (W : FVec Ideal S2048x1024 .f32) (j : Fin 4) (l l' : Fin 256) (q : Fin 256) (q' : Fin 1024)
    (hl : l' = l) (h : q'.val = 256 * j.val + q.val) : thru x (chunk (F := Ideal) W j) l q = dotc x W l' q' := by
  subst hl
  unfold thru dotc
  exact Finset.sum_congr rfl fun k _ => congrArg₂ (· * ·) rfl (chunk_at W j k q q' h)

theorem col_prod (x : FVec Ideal S256x2048 .bf16) (A B : FVec Ideal S2048x1024 .f32) (j : Fin 4) (p : FVec Ideal S256x256 .bf16)
    (hp : ∀ l q : Fin 256, p (ix2 l q) = gate (thru x (chunk (F := Ideal) A j) l q) (thru x (chunk (F := Ideal) B j) l q)) (z : S256x256.Idx) (y : S256x1024.Idx)
    (h0 : (y 0).val = (z 0).val) (h1 : (y 1).val = 256 * j.val + (z 1).val) : p z = prod x A B y := by
  have e0 : (y 0 : Fin 256) = z 0 := Fin.ext h0
  refine (congrArg p (eq_ix2 z)).trans ((hp (z 0) (z 1)).trans ?_)
  unfold prod
  exact congrArg₂ gate (thru_chunk x A j (z 0) (y 0) (z 1) (y 1) e0 h1) (thru_chunk x B j (z 0) (y 0) (z 1) (y 1) e0 h1)

theorem outNew_eq (x : FVec Ideal S256x2048 .bf16) (A B : FVec Ideal S2048x1024 .f32) : outNew (F := Ideal) x A B = prod x A B := by
  funext y
  unfold outNew
  rw [ldX]
  refine canon_blocks (prod x A B) _ ?_ y (cover_out _ _ _ _ y)
  refine ⟨fun z => ?_, fun z => ?_, fun z => ?_, fun z => ?_, trivial⟩
  · refine col_prod x A B 3 _ (pay23_at x _ _) z _ ?_ ?_
    · show 0 + 1 * (z 0).val = (z 0).val; omega
    · show 768 + 1 * (z 1).val = 256 * 3 + (z 1).val; omega
  · refine col_prod x A B 2 _ (pay17_at x _ _) z _ ?_ ?_
    · show 0 + 1 * (z 0).val = (z 0).val; omega
    · show 512 + 1 * (z 1).val = 256 * 2 + (z 1).val; omega
  · refine col_prod x A B 1 _ (pay11_at x _ _) z _ ?_ ?_
    · show 0 + 1 * (z 0).val = (z 0).val; omega
    · show 256 + 1 * (z 1).val = 256 * 1 + (z 1).val; omega
  · refine col_prod x A B 0 _ (pay6_at x _ _) z _ ?_ ?_
    · show 0 + 1 * (z 0).val = (z 0).val; omega
    · show 0 + 1 * (z 1).val = 256 * 0 + (z 1).val; omega

theorem col_kept (W : FVec Ideal S2048x1024 .f32) (j : Fin 4) (p : FVec Ideal S1x2048x256 .bf16)
    (hp : ∀ (k : Fin 2048) (q : Fin 256), p (ix3 0 k q) = chunk (F := Ideal) W j (ix4 0 0 k q)) (z : S1x2048x256.Idx) (k : Fin 2048) (q : Fin 1024)
    (h1 : k.val = (z 1).val) (h2 : q.val = 256 * j.val + (z 2).val) : p z = W (ix2 k q) := by
  have e1 : (k : Fin 2048) = z 1 := Fin.ext h1
  have ez : z = ix3 0 (z 1) (z 2) := by
    refine (eq_ix3 z).trans ?_
    exact congrArg (fun i : Fin 1 => (ix3 i (z 1) (z 2) : S1x2048x256.Idx)) (Fin.ext (by have h : (z 0).val < 1 := (z 0).isLt; show (z 0).val = 0; omega) : (z 0 : Fin 1) = (0 : Fin 1))
  refine (congrArg p ez).trans ((hp (z 1) (z 2)).trans ((chunk_at W j (z 1) (z 2) q h2).trans ?_))
  exact congrArg (fun k : Fin 2048 => W (ix2 k q)) e1.symm
theorem keptA (A B : FVec Ideal S2048x1024 .f32) (j : Fin 4) (p : FVec Ideal S1x2048x256 .bf16)
    (hp : ∀ (k : Fin 2048) (q : Fin 256), p (ix3 0 k q) = chunk (F := Ideal) A j (ix4 0 0 k q)) (z : S1x2048x256.Idx) (y : S2x2048x1024.Idx)
    (h0 : (y 0).val = (z 0).val) (h1 : (y 1).val = (z 1).val) (h2 : (y 2).val = 256 * j.val + (z 2).val) : p z = kept A B y := by
  unfold kept
  rw [if_pos (by have h : (z 0).val < 1 := (z 0).isLt; omega)]
  exact col_kept A j p hp z (y 1) (y 2) h1 h2
theorem keptB (A B : FVec Ideal S2048x1024 .f32) (j : Fin 4) (p : FVec Ideal S1x2048x256 .bf16)
    (hp : ∀ (k : Fin 2048) (q : Fin 256), p (ix3 0 k q) = chunk (F := Ideal) B j (ix4 0 0 k q)) (z : S1x2048x256.Idx) (y : S2x2048x1024.Idx)
    (h0 : (y 0).val = 1 + (z 0).val) (h1 : (y 1).val = (z 1).val) (h2 : (y 2).val = 256 * j.val + (z 2).val) : p z = kept A B y := by
  unfold kept
  rw [if_neg (by omega)]
  exact col_kept B j p hp z (y 1) (y 2) h1 h2

theorem wbNew_eq (A B : FVec Ideal S2048x1024 .f32) : wbNew (F := Ideal) A B = kept A B := by
  funext y
  unfold wbNew
  refine canon_blocks (kept A B) _ ?_ y (cover_wb _ _ _ _ _ _ _ _ y)
  refine ⟨fun z => ?_, fun z => ?_, fun z => ?_, fun z => ?_, fun z => ?_, fun z => ?_, fun z => ?_, fun z => ?_, trivial⟩
  · refine keptB A B 3 _ (pay22_at _) z _ ?_ ?_ ?_
    · show 1 + 1 * (z 0).val = 1 + (z 0).val; omega
    · show 0 + 1 * (z 1).val = (z 1).val; omega
    · show 768 + 1 * (z 2).val = 256 * 3 + (z 2).val; omega
  · refine keptA A B 3 _ (pay19_at _) z _ ?_ ?_ ?_
    · show 0 + 1 * (z 0).val = (z 0).val; omega
    · show 0 + 1 * (z 1).val = (z 1).val; omega
    · show 768 + 1 * (z 2).val = 256 * 3 + (z 2).val; omega
  · refine keptB A B 2 _ (pay16_at _) z _ ?_ ?_ ?_
    · show 1 + 1 * (z 0).val = 1 + (z 0).val; omega
    · show 0 + 1 * (z 1).val = (z 1).val; omega
    · show 512 + 1 * (z 2).val = 256 * 2 + (z 2).val; omega
  · refine keptA A B 2 _ (pay13_at _) z _ ?_ ?_ ?_
    · show 0 + 1 * (z 0).val = (z 0).val; omega
    · show 0 + 1 * (z 1).val = (z 1).val; omega
    · show 512 + 1 * (z 2).val = 256 * 2 + (z 2).val; omega
  · refine keptB A B 1 _ (pay10_at _) z _ ?_ ?_ ?_
    · show 1 + 1 * (z 0).val = 1 + (z 0).val; omega
    · show 0 + 1 * (z 1).val = (z 1).val; omega
    · show 256 + 1 * (z 2).val = 256 * 1 + (z 2).val; omega
  · refine keptA A B 1 _ (pay8_at _) z _ ?_ ?_ ?_
    · show 0 + 1 * (z 0).val = (z 0).val; omega
    · show 0 + 1 * (z 1).val = (z 1).val; omega
    · show 256 + 1 * (z 2).val = 256 * 1 + (z 2).val; omega
  · refine keptB A B 0 _ (pay5_at _) z _ ?_ ?_ ?_
    · show 1 + 1 * (z 0).val = 1 + (z 0).val; omega
    · show 0 + 1 * (z 1).val = (z 1).val; omega
    · show 0 + 1 * (z 2).val = 256 * 0 + (z 2).val; omega
  · refine keptA A B 0 _ (pay3_at _) z _ ?_ ?_ ?_
    · show 0 + 1 * (z 0).val = (z 0).val; omega
    · show 0 + 1 * (z 1).val = (z 1).val; omega
    · show 0 + 1 * (z 2).val = 256 * 0 + (z 2).val; omega

theorem ldA (A B : FVec Ideal S2048x1024 .f32) (k : Fin 2048) (q : Fin 1024) : View.ld (kept A B) rWA (ix3 0 k q) = A (ix2 k q) := by
  show kept A B (rWA.emb (ix3 0 k q)) = _
  unfold kept
  rw [if_pos (by show 0 + 1 * 0 = 0; rfl)]
  refine congrArg A (funext fun a => Fin.ext ?_)
  fin_cases a
  · show 0 + 1 * k.val = k.val; omega
  · show 0 + 1 * q.val = q.val; omega
theorem ldB (A B : FVec Ideal S2048x1024 .f32) (k : Fin 2048) (q : Fin 1024) : View.ld (kept A B) rWB (ix3 0 k q) = B (ix2 k q) := by
  show kept A B (rWB.emb (ix3 0 k q)) = _
  unfold kept
  rw [if_neg (by show ¬ (1 + 1 * 0 = 0); decide)]
  refine congrArg B (funext fun a => Fin.ext ?_)
  fin_cases a
  · show 0 + 1 * k.val = k.val; omega
  · show 0 + 1 * q.val = q.val; omega

theorem outOld_eq (x : FVec Ideal S256x2048 .bf16) (A B : FVec Ideal S2048x1024 .f32) : outOld (F := Ideal) x (kept A B) = prod x A B := by
  funext y
  unfold outOld
  rw [ldX]
  refine canon_blocks (prod x A B) _ ?_ y (out_cover _ y)
  refine ⟨fun z => ?_, trivial⟩
  have e : rO.emb z = z := funext fun a => Fin.ext (by
    fin_cases a
    · show 0 + 1 * (z 0).val = (z 0).val; omega
    · show 0 + 1 * (z 1).val = (z 1).val; omega)
  rw [e]
  refine (congrArg _ (eq_ix2 z)).trans ((pay24_at x _ _ (z 0) (z 1)).trans ?_)
  unfold prod dotc
  exact congrArg₂ gate (Finset.sum_congr rfl fun k _ => congrArg₂ (· * ·) rfl (ldA A B k (z 1))) (Finset.sum_congr rfl fun k _ => congrArg₂ (· * ·) rfl (ldB A B k (z 1)))
theorem outPad_eq : outPad (F := Ideal) = fun _ => (0 : EReal) := by
  funext y
  unfold outPad
  refine canon_blocks (e := .bf16) (fun _ => (0 : EReal)) _ ?_ y (out_cover _ y)
  exact ⟨fun z => pay1_at z, trivial⟩

theorem wA_at (c : Dev nD) (w : Buf (Elt Ideal) (w1M.view.loc (c : Thread nD τ))) (e : Fin 8) (j : Fin 7) (k : Fin 2048) (q : Fin 1024) (q' : Fin 7168)
    (h : q'.val = 1024 * j.val + q.val) : wA (F := Ideal) c w e j (ix2 k q) = (w : FVec Ideal S8x2048x7168 .f32) (ix3 e k q') := by
  unfold wA wsrcA
  rw [Memref.read_squeeze_slice (hc := squeezes_S1x2048x1024_S2048x1024.numel_eq)]
  unfold shapeCast
  rw [ix2_same, ValueIdx.reshapeEquiv_ix2_1ab]
  refine congrArg w (funext fun a => Fin.ext ?_)
  fin_cases a
  · show e.val + 1 * 0 = e.val; omega
  · show 0 + 1 * k.val = k.val; omega
  · show 1024 * j.val + 1 * q.val = q'.val; omega

theorem wB_at (c : Dev nD) (w : Buf (Elt Ideal) (w3M.view.loc (c : Thread nD τ))) (e : Fin 8) (j : Fin 7) (k : Fin 2048) (q : Fin 1024) (q' : Fin 7168)
    (h : q'.val = 1024 * j.val + q.val) : wB (F := Ideal) c w e j (ix2 k q) = (w : FVec Ideal S8x2048x7168 .f32) (ix3 e k q') := by
  unfold wB wsrcB
  rw [Memref.read_squeeze_slice (hc := squeezes_S1x2048x1024_S2048x1024.numel_eq)]
  unfold shapeCast
  rw [ix2_same, ValueIdx.reshapeEquiv_ix2_1ab]
  refine congrArg w (funext fun a => Fin.ext ?_)
  fin_cases a
  · show e.val + 1 * 0 = e.val; omega
  · show 0 + 1 * k.val = k.val; omega
  · show 1024 * j.val + 1 * q.val = q'.val; omega

/-! ## The blocks' places -/

theorem places : ∀ t : Fin grid0.N, cc0_transform_0 (grid0.coords t) = ![t.val % 72, 0] ∧ cc0_transform_3 (grid0.coords t) = ![t.val % 72, t.val / 72] ∧ t.val < 504 := by
  decide +kernel

section Run
variable (m : (ℓ : Loc nD τ sig) → Buf (Elt Ideal) ℓ) (c : Dev nD)

/-- The rows' block index, -/
abbrev ixIn (t : Fin (cfgM m).N) : Fin 2 → ℕ := ((cfgM m).win 0).index t
/-- and the output's. -/
abbrev ixOut (t : Fin (cfgM m).N) : Fin 2 → ℕ := ((cfgM m).win 1).index t
theorem place0 (t : Fin (cfgM m).N) : ixIn m t = ![t.val % 72, 0] := (places t).1
theorem place1 (t : Fin (cfgM m).N) : ixOut m t = ![t.val % 72, t.val / 72] := (places t).2.1
theorem pt_lt (t : Fin (cfgM m).N) : t.val < 504 := (places t).2.2
/-- Where the output block's index lies in the array. -/
abbrev at1 (t : Fin (cfgM m).N) (y : S256x1024.Idx) : S18432x7168.Idx := (((cfgM m).win 1).blk t).view.emb y

theorem x_at (t : Fin (cfgM m).N) (l : Fin 256) (k : Fin 2048) (r : Fin 18432) (hr : r.val = 256 * (t.val % 72) + l.val) :
    (xAt (F := Ideal) m c t) (ix2 l k) = (m ((c : Thread nD τ).loc main_arg0) : FVec Ideal S18432x2048 .bf16) (ix2 r k) := by
  have e0 : ixIn m t (0 : Fin 2) = t.val % 72 := congrFun (place0 m t) 0
  have e1 : ixIn m t (1 : Fin 2) = 0 := congrFun (place0 m t) 1
  refine congrArg (m ((c : Thread nD τ).loc main_arg0)) (funext fun a => Fin.ext ?_)
  fin_cases a
  · show ixIn m t (0 : Fin 2) * 256 + 1 * l.val = r.val
    omega
  · show ixIn m t (1 : Fin 2) * 2048 + 1 * k.val = k.val
    omega

/-- The array the kernel leaves. -/
def R : Buf (Elt Ideal) ((c : Thread nD τ).loc main_v0) := fun i =>
  up (m ((c : Thread nD τ).loc main_arg0)) (m ((c : Thread nD τ).loc main_arg1)) (m ((c : Thread nD τ).loc main_arg2))
    (d2 (F := Ideal) (c := c) (m ((c : Thread nD τ).loc main_arg3))) (d3 (F := Ideal) (c := c) (m ((c : Thread nD τ).loc main_arg4))) (i 0) (i 1)

/-- A point's block, by its flag's low bit. -/
theorem out_eq (hP : Planned m) (t : ℕ) (x : FVec Ideal S256x2048 .bf16) :
    outAt c (V m c main_arg3) (V m c main_arg4) (V m c main_arg1) (V m c main_arg2) t x
      = if d3 (F := Ideal) (c := c) (m ((c : Thread nD τ).loc main_arg4)) (tile t) &&& 1#32 = 1#32
          then prod x (aAt c (V m c main_arg3) (V m c main_arg1) t) (bAt c (V m c main_arg3) (V m c main_arg2) t) else fun _ => (0 : EReal) := by
  unfold outAt
  rw [outNew_eq, wbNew_eq, outOld_eq, outPad_eq]
  have h := (hP c).fl_lt (tile t)
  rcases flag_cases h with e | e | e | e
  all_goals
    have e' : d3 (F := Ideal) (c := c) (m ((c : Thread nD τ).loc main_arg4)) (tile t) = _ := e
    simp only [e, e']
    rfl

theorem blk_at (hP : Planned m) (t : Fin (cfgM m).N) (l : Fin 256) (q : Fin 1024) (r : Fin 18432) (q' : Fin 7168)
    (hr : r.val = 256 * (t.val % 72) + l.val) (hq : q'.val = 1024 * (t.val / 72) + q.val) :
    oAt (F := Ideal) m c t (ix2 l q) = R m c (ix2 r q') := by
  have ht := pt_lt m t
  have ek : (⟨r.val / 256, by omega⟩ : Fin 72) = tile t.val := Fin.ext (by show r.val / 256 = t.val % 72; omega)
  have ej : (col t.val).val = t.val / 72 := by show t.val / 72 % 7 = t.val / 72; omega
  refine (congrFun (out_eq m c hP t.val (xAt m c t)) (ix2 l q)).trans ?_
  refine Eq.trans ?_ (show up (m ((c : Thread nD τ).loc main_arg0)) (m ((c : Thread nD τ).loc main_arg1)) (m ((c : Thread nD τ).loc main_arg2))
    (d2 (F := Ideal) (c := c) (m ((c : Thread nD τ).loc main_arg3))) (d3 (F := Ideal) (c := c) (m ((c : Thread nD τ).loc main_arg4))) r q' = _ from rfl)
  unfold up
  rw [ek]
  split
  · refine congrArg₂ gate (Finset.sum_congr rfl fun k _ => congrArg₂ (· * ·) (x_at m c t l k r hr) ?_) (Finset.sum_congr rfl fun k _ => congrArg₂ (· * ·) (x_at m c t l k r hr) ?_)
    · exact wA_at c _ _ (col t.val) k q q' (by rw [ej]; exact hq)
    · exact wB_at c _ _ (col t.val) k q q' (by rw [ej]; exact hq)
  · rfl

theorem flush_all (t : Fin (cfgM m).N) : ((cfgM m).win 1).flush t = true := by
  rw [Pipeline.Window.flush_eq_flushOf]
  exact (by decide +kernel : ∀ t : Fin grid0.N, Pipeline.Window.flushOf grid0 true cc0_transform_3 t = true) t

theorem point (hP : Planned m) (t : Fin (cfgM m).N) : (dats m 0 c).flushed 1 t = (((cfgM m).win 1).blk t).view.read (Elt Ideal) (R m c) := by
  show ((cfgM m).win 1).cut (grid0.coords t) ((dats m 0 c).after 1 t) = _
  rw [after_1]
  have e0 : ixOut m t (0 : Fin 2) = t.val % 72 := congrFun (place1 m t) 0
  have e1 : ixOut m t (1 : Fin 2) = t.val / 72 := congrFun (place1 m t) 1
  refine funext fun (y : S256x1024.Idx) => ?_
  have hb0 : (at1 m t y 0).val = ixOut m t (0 : Fin 2) * 256 + 1 * (y 0).val := rfl
  have hb1 : (at1 m t y 1).val = ixOut m t (1 : Fin 2) * 1024 + 1 * (y 1).val := rfl
  have hy : ((cfgM m).win 1).xinj (grid0.coords t) y = (ix2 (y 0) (y 1) : S256x1024.Idx) := by
    funext a; fin_cases a <;> rfl
  refine (congrArg (oAt (F := Ideal) m c t) hy).trans ?_
  refine (blk_at m c hP t (y 0) (y 1) (at1 m t y 0) (at1 m t y 1) (by omega) (by omega)).trans ?_
  exact congrArg (R m c) (eq_ix2 (at1 m t y)).symm

/-- The output block's rectangle. -/
abbrev rect1 (t : Fin (cfgM m).N) : Rect S18432x7168 := ((cfgM m).win 1).rect t
theorem mem_blk (t : Fin (cfgM m).N) (i : S18432x7168.Idx) :
    i ∈ (((cfgM m).win 1).blk t).view.set ↔ ∀ a : Fin 2, ixOut m t a * S256x1024.size a ≤ (i a).val
      ∧ (i a).val < ixOut m t a * S256x1024.size a + S256x1024.size a := by
  refine (Eq.to_iff (congrArg (fun s => i ∈ s) (View.set_slice_whole main_v0 (rect1 m t)))).trans ?_
  exact Rect.mem_set_unit

theorem cover_lt (i : S18432x7168.Idx) : 72 * ((i 1).val / 1024) + (i 0).val / 256 < (cfgM m).N := by
  have h0 : (i 0).val < 18432 := (i 0).isLt
  have h1 : (i 1).val < 7168 := (i 1).isLt
  have : (cfgM m).N = 504 := N_0
  omega

theorem final (hP : Planned m) : (dats m 0 c).arrAt 1 (cfgM m).N = R m c :=
  (dats m 0 c).arrAt_eq_of_cover 1 _ (fun t _ => point m c hP t) (fun (i : S18432x7168.Idx) => ⟨⟨_, cover_lt m i⟩, flush_all m _, by
    have h0 : (i 0).val < 18432 := (i 0).isLt
    have h1 : (i 1).val < 7168 := (i 1).isLt
    refine (mem_blk m _ i).2 fun a => ?_
    have e0 : ixOut m ⟨_, cover_lt m i⟩ (0 : Fin 2) = (72 * ((i 1).val / 1024) + (i 0).val / 256) % 72 := congrFun (place1 m ⟨_, cover_lt m i⟩) 0
    have e1 : ixOut m ⟨_, cover_lt m i⟩ (1 : Fin 2) = (72 * ((i 1).val / 1024) + (i 0).val / 256) / 72 := congrFun (place1 m ⟨_, cover_lt m i⟩) 1
    match a with
    | ⟨0, _⟩ => show ixOut m _ (0 : Fin 2) * 256 ≤ (i 0).val ∧ (i 0).val < ixOut m _ (0 : Fin 2) * 256 + 256; omega
    | ⟨1, _⟩ => show ixOut m _ (1 : Fin 2) * 1024 ≤ (i 1).val ∧ (i 1).val < ixOut m _ (1 : Fin 2) * 1024 + 1024; omega⟩)
end Run

end Cert.Kernel5Ideal.Up
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Pre_moe_tables
public import proofs.«01_k».proof.Proof.Gen.Reference4Ideal
public import proofs.«01_k».proof.Proof.Gen.Reference4Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Pre_up_tables
public import proofs.«01_k».proof.Proof.Steps
public import proofs.«01_k».proof.Proof.RefQuiet
public import proofs.«01_k».proof.Proof.Near
public import proofs.«01_k».proof.Proof.InProj
public import proofs.«01_k».proof.Proof.OutProj
public import proofs.«01_k».proof.Proof.DownFrame
public import proofs.«01_k».proof.Proof.DownPre
public import proofs.«01_k».proof.Proof.DownVal
public import proofs.«01_k».proof.Proof.UpFrame
public import proofs.«01_k».proof.Proof.UpPre
public import proofs.«01_k».proof.Proof.UpVal
public import Idealize.ShloMosaic.Lib.Claim

@[expose] public section

noncomputable section

namespace Cert.Proof

open Idealize.ShloMosaic Idealize.ShloMosaic.TcCoe Idealize.SL.Sem Cert.Ssd

/-- The kernel's result and the reference's are one array. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (A : Args)
    (hA : Cert.ReferenceIdeal.Read.argsR m' c = A) (hK : Cert.KernelIdeal.Chunk.argsK m c = A.split) (hI : A.sp = id) :
    (StableHlo.finalContents Cert.ReferenceIdeal.Value.condOps Cert.ReferenceIdeal.Value.preI Cert.ReferenceIdeal.Value.bodyI Cert.ReferenceIdeal.Value.postI 32 m' c
      (Proc.devRef .tc Cert.ReferenceIdeal.main_v119) : FVec Ideal ⟨2, ![8192, 1024]⟩ .bf16) = Cert.KernelIdeal.Value.G13 m c := by
  funext i
  rw [eq_ix2 i]
  exact (Cert.ReferenceIdeal.Read.ref_at m' c (i 0) (i 1)).trans (by rw [hA, ← out_split A hI, ← hK]; exact (Cert.KernelIdeal.Chunk.G13_at m c (i 0) (i 1)).symm)

/-- The state-space mixer's kernel and its reference end with equal results. -/
theorem mixer : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Value.G13 m c, Cert.KernelIdeal.Value.run m g, ?_⟩
  refine (θ_run Cert.ReferenceIdeal.defs _ _).mono (fun r h => fun c => ⟨(h c).1.trans ?_, (h c).2⟩) (Cert.ReferenceIdeal.Read.run m' g')
  obtain ⟨h0, h1, h2, h3, h4, h5, h6⟩ := hagree c
  refine results_eq m m' c _ rfl ?_ rfl
  unfold Cert.ReferenceIdeal.Read.argsR Cert.KernelIdeal.Chunk.argsK
  rw [h0, h1, h2, h3, h4, h5, h6]

/-- The input projection's kernel and its reference end with equal results. -/
theorem input : Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Read.R2 m c, fun c => Cert.Kernel2Ideal.Read.R3 m c, Cert.Kernel2Ideal.Read.run m g, ?_⟩
  refine (θ_run Cert.Reference2Ideal.defs _ _).mono (fun r h => fun c => ⟨(h c).1.trans ?_, (h c).2.1.trans ?_, (h c).2.2⟩) (Cert.Reference2Ideal.Value.run m' g')
  · obtain ⟨h0, h1⟩ := hagree c
    rw [h0, h1]
    funext i
    rw [eq_ix2 i]
    exact Cert.Reference2Ideal.Read.dot_at _ _ (i 0) (i 1)
  · obtain ⟨h0, h1⟩ := hagree c
    rw [h0, h1]
    funext i
    rw [eq_ix2 i]
    exact Cert.Reference2Ideal.Read.trunc_at _ _ (i 0) (i 1)

/-- The output projection's kernel and its reference end with equal results. -/
theorem output : Cert.algebraic_Kernel3Ideal_Reference3Ideal (hKernel3Ideal := Cert.Kernel3Ideal.Gen.facts) (hReference3Ideal := Cert.Reference3Ideal.Gen.facts) := by
  intro m g m' g' _ hagree
  refine ⟨fun c => Cert.Kernel3Ideal.Value.G8 m c, Cert.Kernel3Ideal.Value.run m g, ?_⟩
  refine (θ_run Cert.Reference3Ideal.defs _ _).mono (fun r h => fun c => ⟨(h c).1.trans ?_, (h c).2⟩) (Cert.Reference3Ideal.Value.run m' g')
  obtain ⟨h0, h1, h2, h3, h4, h5⟩ := hagree c
  rw [h0, h1, h2, h3, h4, h5]
  funext i
  rw [eq_ix2 i]
  exact (Cert.Reference3Ideal.Read.at_res _ _ _ _ _ _ (i 0) (i 1)).trans (Cert.Kernel3Ideal.Read.G8_at m c (i 0) (i 1)).symm

/-- The tables' precondition is the plan the experts' kernel runs on. -/
theorem planned (m : (ℓ : Loc Cert.Kernel4.nD Cert.Kernel4.τ Cert.Kernel4.sig) → Buf (Elt Bits) ℓ)
    (h : Cert.Pre_Kernel4 (hPre_moe_tables := Cert.Pre_moe_tables.Gen.facts) m) : Cert.Kernel4.Down.Planned m :=
  fun c => Cert.Down.plan_of_pre _ _ _ _ _ _ _ (h c)
theorem plannedI (m : (ℓ : Loc Cert.Kernel4Ideal.nD Cert.Kernel4Ideal.τ Cert.Kernel4Ideal.sig) → Buf (Elt Ideal) ℓ)
    (h : Cert.Pre_Kernel4Ideal (hPre_moe_tables := Cert.Pre_moe_tables.Gen.facts) m) : Cert.Kernel4Ideal.Down.Planned m :=
  fun c => Cert.Down.plan_of_pre _ _ _ _ _ _ _ (h c)

/-- The experts' down product runs and leaves its arguments and counters. -/
theorem downFrame : Cert.quiescent_Kernel4 (hKernel4 := Cert.Kernel4.Gen.facts) (hPre_moe_tables := Cert.Pre_moe_tables.Gen.facts) := fun m g h =>
  (θ_run Cert.Kernel4.defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.Kernel4.Down.run_out m g (planned m h))
theorem downFrameI : Cert.quiescent_Kernel4Ideal (hKernel4Ideal := Cert.Kernel4Ideal.Gen.facts) (hPre_moe_tables := Cert.Pre_moe_tables.Gen.facts) := fun m g h =>
  (θ_run Cert.Kernel4Ideal.defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.Kernel4Ideal.Down.run_out m g (plannedI m h))

/-- The experts' down product and its reference end with equal results. -/
theorem experts : Cert.algebraic_Kernel4Ideal_Reference4Ideal (hKernel4Ideal := Cert.Kernel4Ideal.Gen.facts) (hReference4Ideal := Cert.Reference4Ideal.Gen.facts)
    (hPre_moe_tables := Cert.Pre_moe_tables.Gen.facts) := by
  intro m g m' g' hpre hagree
  have hP := plannedI m hpre
  refine ⟨fun c => Cert.Kernel4Ideal.Down.R m c, ?_, ?_⟩
  · exact (θ_run Cert.Kernel4Ideal.defs _ _).mono (fun r h c => ⟨(h.1 c).2.2.2.2.2.2.2.trans (Cert.Kernel4Ideal.Down.final m c hP),
      (h.1 c).1, (h.1 c).2.1, (h.1 c).2.2.1, (h.1 c).2.2.2.1, (h.1 c).2.2.2.2.1, (h.1 c).2.2.2.2.2.1, (h.1 c).2.2.2.2.2.2.1⟩)
      (Cert.Kernel4Ideal.Down.run_out m g hP)
  · refine (θ_run Cert.Reference4Ideal.defs _ _).mono (fun r h => fun c => ⟨(h c).1.trans ?_, (h c).2⟩) (Cert.Reference4Ideal.Value.run m' g')
    obtain ⟨h0, h1, h2, h3, -, -, -⟩ := hagree c
    refine funext fun (i : Cert.Reference4Ideal.S18432x2048.Idx) => ?_
    have e1 : ∀ k : Fin 72, (ix1 k : (⟨1, ![72]⟩ : Shape).Idx) = ValueIdx.ix1 k := fun k => by funext d; match d with | ⟨0, _⟩ => rfl
    refine (congrArg _ (eq_ix2 i)).trans ((Cert.Reference4Ideal.Read.res_at m' c (i 0) (i 1) fun k => ?_).trans ?_)
    · rw [h2, e1]
      exact (hP c).te_lt k
    · rw [h0, h1, h2, h3]
      simp only [e1]
      rfl

theorem plannedUp (m : (ℓ : Loc Cert.Kernel5.nD Cert.Kernel5.τ Cert.Kernel5.sig) → Buf (Elt Bits) ℓ)
    (h : Cert.Pre_Kernel5 (hPre_up_tables := Cert.Pre_up_tables.Gen.facts) m) : Cert.Kernel5.Up.Planned m :=
  fun c => Cert.Up.plan_of_pre _ _ _ _ _ _ _ _ (h c)
theorem plannedUpI (m : (ℓ : Loc Cert.Kernel5Ideal.nD Cert.Kernel5Ideal.τ Cert.Kernel5Ideal.sig) → Buf (Elt Ideal) ℓ)
    (h : Cert.Pre_Kernel5Ideal (hPre_up_tables := Cert.Pre_up_tables.Gen.facts) m) : Cert.Kernel5Ideal.Up.Planned m :=
  fun c => Cert.Up.plan_of_pre _ _ _ _ _ _ _ _ (h c)

/-- The experts' gate and up product runs and leaves its arguments and counters. -/
theorem upFrame : Cert.quiescent_Kernel5 (hKernel5 := Cert.Kernel5.Gen.facts) (hPre_up_tables := Cert.Pre_up_tables.Gen.facts) := fun m g h =>
  (θ_run Cert.Kernel5.defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1⟩, h.2⟩)
    (Cert.Kernel5.Up.run_out m g (plannedUp m h))
theorem upFrameI : Cert.quiescent_Kernel5Ideal (hKernel5Ideal := Cert.Kernel5Ideal.Gen.facts) (hPre_up_tables := Cert.Pre_up_tables.Gen.facts) := fun m g h =>
  (θ_run Cert.Kernel5Ideal.defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1⟩, h.2⟩)
    (Cert.Kernel5Ideal.Up.run_out m g (plannedUpI m h))

/-- The experts' gate and up product and its reference end with equal results. -/
theorem gated : Cert.algebraic_Kernel5Ideal_Reference5Ideal (hKernel5Ideal := Cert.Kernel5Ideal.Gen.facts) (hReference5Ideal := Cert.Reference5Ideal.Gen.facts)
    (hPre_up_tables := Cert.Pre_up_tables.Gen.facts) := by
  intro m g m' g' hpre hagree
  have hP := plannedUpI m hpre
  refine ⟨fun c => Cert.Kernel5Ideal.Up.R m c, ?_, ?_⟩
  · exact (θ_run Cert.Kernel5Ideal.defs _ _).mono (fun r h c => ⟨(h.1 c).2.2.2.2.2.2.2.2.trans (Cert.Kernel5Ideal.Up.final m c hP),
      (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1⟩)
      (Cert.Kernel5Ideal.Up.run_out m g hP)
  · refine (θ_run Cert.Reference5Ideal.defs _ _).mono (fun r h => fun c => ⟨(h c).1.trans ?_, (h c).2⟩) (Cert.Reference5Ideal.Value.run m' g')
    obtain ⟨h0, h1, h2, h3, h4, -, -, -⟩ := hagree c
    refine funext fun (i : Cert.Reference5Ideal.S18432x7168.Idx) => ?_
    have e1 : ∀ k : Fin 72, (ix1 k : (⟨1, ![72]⟩ : Shape).Idx) = ValueIdx.ix1 k := fun k => by funext d; match d with | ⟨0, _⟩ => rfl
    refine (congrArg _ (eq_ix2 i)).trans ((Cert.Reference5Ideal.Read.res_at (StableHlo.launchContents m' c) (i 0) (i 1) fun k => ?_).trans ?_)
    · show ((m' ((c.tc : Thread Cert.Reference5Ideal.nD Cert.Reference5Ideal.τ).loc Cert.Reference5Ideal.main_arg3) : IVec Cert.Reference5Ideal.S72 32) (ix1 k)).toNat < 8
      rw [h3, e1]
      exact (hP c).te_lt k
    · show Cert.Up.up (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (fun k => (m' ((c.tc : Thread Cert.Reference5Ideal.nD Cert.Reference5Ideal.τ).loc Cert.Reference5Ideal.main_arg3) : IVec Cert.Reference5Ideal.S72 32) (ix1 k))
        (fun k => (m' ((c.tc : Thread Cert.Reference5Ideal.nD Cert.Reference5Ideal.τ).loc Cert.Reference5Ideal.main_arg4) : IVec Cert.Reference5Ideal.S72 32) (ix1 k)) (i 0) (i 1) = _
      rw [h0, h1, h2, h3, h4]
      simp only [e1]
      rfl

theorem claim : Cert.Claim := by
  refine ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Pre_moe_tables.Gen.facts, Cert.Pre_up_tables.Gen.facts, ?_⟩
  exact ⟨fun m g _ => Cert.Kernel.Gen.frame m g, fun m g _ => Cert.KernelIdeal.Gen.frame m g,
    fun m g _ => Cert.ReferenceIdeal.Read.frame m g, fun m g _ => Cert.Kernel2.Gen.frame m g, fun m g _ => Cert.Kernel2Ideal.Gen.frame m g,
    fun m g _ => Cert.Reference2Ideal.Read.frame m g, fun m g _ => Cert.Kernel3.Gen.frame m g, fun m g _ => Cert.Kernel3Ideal.Gen.frame m g,
    fun m g _ => Cert.Reference3Ideal.Read.frame m g, downFrame, downFrameI, fun m g _ => Cert.Reference4Ideal.Read.frame m g,
    fun m g _ => Cert.Reference4Ideal.Read.frame m g, upFrame, upFrameI, fun m g _ => Cert.Reference5Ideal.Read.frame m g,
    fun m g _ => Cert.Reference5Ideal.Read.frame m g, trivial, mixer, trivial, input, trivial, output, trivial, experts, trivial, gated⟩

end Cert.Proof

end
